-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)) (v1 : (c : Dev Cert.Kernel2Ideal.nD) → Buf (Elt Ideal) ((c.tc : Thread Cert.Kernel2Ideal.nD Cert.Kernel2Ideal.τ).loc Cert.Kernel2Ideal.main_v15)) (v2 : (c : Dev Cert.Kernel2Ideal.nD) → Buf (Elt Ideal) ((c.tc : Thread Cert.Kernel2Ideal.nD Cert.Kernel2Ideal.τ).loc Cert.Kernel2Ideal.main_v17)) (v3 : (c : Dev Cert.Kernel2Ideal.nD) → Buf (Elt Ideal) ((c.tc : Thread Cert.Kernel2Ideal.nD Cert.Kernel2Ideal.τ).loc Cert.Kernel2Ideal.main_v19)) (v4 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_v15) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_v19) = v3 c
          ∧ r.2.mem ((c.tc : Thread Cert.Kernel2Ideal.nD Cert.Kernel2Ideal.τ).loc Cert.Kernel2Ideal.main_v20) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v12) = v3 c
          ∧ r.2.mem ((c.tc : Thread Cert.Reference2Ideal.nD Cert.Reference2Ideal.τ).loc Cert.Reference2Ideal.main_v7) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v11)) (v2 : (c : Dev Cert.Kernel3Ideal.nD) → Buf (Elt Ideal) ((c.tc : Thread Cert.Kernel3Ideal.nD Cert.Kernel3Ideal.τ).loc Cert.Kernel3Ideal.main_v12)) (v3 : (c : Dev Cert.Kernel3Ideal.nD) → Buf (Elt Ideal) ((c.tc : Thread Cert.Kernel3Ideal.nD Cert.Kernel3Ideal.τ).loc Cert.Kernel3Ideal.main_v17)) (v4 : (c : Dev Cert.Kernel3Ideal.nD) → Buf (Elt Ideal) ((c.tc : Thread Cert.Kernel3Ideal.nD Cert.Kernel3Ideal.τ).loc Cert.Kernel3Ideal.main_v19)) (v5 : (c : Dev Cert.Kernel3Ideal.nD) → Buf (Elt Ideal) ((c.tc : Thread Cert.Kernel3Ideal.nD Cert.Kernel3Ideal.τ).loc Cert.Kernel3Ideal.main_v21)) (v6 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_v17) = v3 c
          ∧ r.2.mem ((c.tc : Thread Cert.Kernel3Ideal.nD Cert.Kernel3Ideal.τ).loc Cert.Kernel3Ideal.main_v19) = v4 c
          ∧ r.2.mem ((c.tc : Thread Cert.Kernel3Ideal.nD Cert.Kernel3Ideal.τ).loc Cert.Kernel3Ideal.main_v21) = v5 c
          ∧ r.2.mem ((c.tc : Thread Cert.Kernel3Ideal.nD Cert.Kernel3Ideal.τ).loc Cert.Kernel3Ideal.main_v23) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_v2) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_v4) = v4 c
          ∧ r.2.mem ((c.tc : Thread Cert.Reference3Ideal.nD Cert.Reference3Ideal.τ).loc Cert.Reference3Ideal.main_v7) = v5 c
          ∧ r.2.mem ((c.tc : Thread Cert.Reference3Ideal.nD Cert.Reference3Ideal.τ).loc Cert.Reference3Ideal.main_v10) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v11)) (v3 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v11) = v2 c
          ∧ r.2.mem ((c.tc : Thread Cert.Kernel4Ideal.nD Cert.Kernel4Ideal.τ).loc Cert.Kernel4Ideal.main_v12) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v6) = v2 c
          ∧ r.2.mem ((c.tc : Thread Cert.Reference4Ideal.nD Cert.Reference4Ideal.τ).loc Cert.Reference4Ideal.main_v7) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg5 : FVec F S4096x4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x4096 .f32) (main_arg1 : FVec F S4096x11008 .f32) (main_arg2 : FVec F S4096x11008 .f32) (main_arg3 : FVec F S11008x4096 .f32) (main_arg4 : FVec F S4096x4096 .f32) (main_arg5 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096x11008 .f32 := Host.absf main_arg2
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  let main_v14 : FVec F S11008x4096 .f32 := Host.absf main_arg3
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg5 main_v13 main_v16
-- ==== Kernel.lean ====
abbrev S2x2048x32x64 : Shape := ⟨4, ![2, 2048, 32, 64]⟩
abbrev S4096x2048 : Shape := ⟨2, ![4096, 2048]⟩
abbrev S1x2x2048x32x64 : Shape := ⟨5, ![1, 2, 2048, 32, 64]⟩
abbrev S2x2x2048x32x64 : Shape := ⟨5, ![2, 2, 2048, 32, 64]⟩
abbrev S2048x64x2x2x32 : Shape := ⟨5, ![2048, 64, 2, 2, 32]⟩
abbrev S2048x64x128 : Shape := ⟨3, ![2048, 64, 128]⟩
abbrev S2x2048x32x2x32 : Shape := ⟨5, ![2, 2048, 32, 2, 32]⟩
abbrev S2048x32x2x2x32 : Shape := ⟨5, ![2048, 32, 2, 2, 32]⟩
abbrev S2048x32x128 : Shape := ⟨3, ![2048, 32, 128]⟩
abbrev S128x17x32x64x128 : Shape := ⟨5, ![128, 17, 32, 64, 128]⟩
abbrev S16x64x128 : Shape := ⟨3, ![16, 64, 128]⟩
abbrev S16x32x128 : Shape := ⟨3, ![16, 32, 128]⟩
abbrev S1x17x32x64x128 : Shape := ⟨5, ![1, 17, 32, 64, 128]⟩
abbrev S32x64x128 : Shape := ⟨3, ![32, 64, 128]⟩
abbrev S1x1x32x64x128 : Shape := ⟨5, ![1, 1, 32, 64, 128]⟩
abbrev S1x64x128 : Shape := ⟨3, ![1, 64, 128]⟩
abbrev S64x128 : Shape := ⟨2, ![64, 128]⟩
abbrev S1x1x1x64x128 : Shape := ⟨5, ![1, 1, 1, 64, 128]⟩
abbrev S1x1x128 : Shape := ⟨3, ![1, 1, 128]⟩
abbrev S1x128 : Shape := ⟨2, ![1, 128]⟩
abbrev S128 : Shape := ⟨1, ![128]⟩
abbrev S2048x64x64 : Shape := ⟨3, ![2048, 64, 64]⟩
abbrev S2048x64x2x32 : Shape := ⟨4, ![2048, 64, 2, 32]⟩

abbrev nBuf : Space → Nat
  | .hbm => 82
  | .vmem => 50
  | .smem => 0
  | _ => 0

abbrev bufTy : (tb : Table) → Fin (tcTables nBuf tb) → BufTy
  | .hbm, ⟨0, _⟩ => ⟨S2x2048x32x64, .f32⟩
  | .hbm, ⟨1, _⟩ => ⟨S2x2048x32x64, .f32⟩
  | .hbm, ⟨2, _⟩ => ⟨S2x2048x32x64, .f32⟩
  | .hbm, ⟨3, _⟩ => ⟨S2x2048x32x64, .f32⟩
  | .hbm, ⟨4, _⟩ => ⟨S2x2048x32x64, .f32⟩
  | .hbm, ⟨5, _⟩ => ⟨S2x2048x32x64, .f32⟩
  | .hbm, ⟨6, _⟩ => ⟨S2x2048x32x64, .f32⟩
  | .hbm, ⟨7, _⟩ => ⟨S4096x2048, .f32⟩
  | .hbm, ⟨8, _⟩ => ⟨S1x2x2048x32x64, .f32⟩
  | .hbm, ⟨9, _⟩ => ⟨S2x2x2048x32x64, .f32⟩
  | .hbm, ⟨10, _⟩ => ⟨S2048x64x2x2x32, .f32⟩
  | .hbm, ⟨11, _⟩ => ⟨S2048x64x128, .f32⟩
  | .hbm, ⟨12, _⟩ => ⟨S4096x2048, .f32⟩
  | .hbm, ⟨13, _⟩ => ⟨S1x2x2048x32x64, .f32⟩
  | .hbm, ⟨14, _⟩ => ⟨S2x2x2048x32x64, .f32⟩
  | .hbm, ⟨15, _⟩ => ⟨S2048x64x2x2x32, .f32⟩
  | .hbm, ⟨16, _⟩ => ⟨S2048x64x128, .f32⟩
  | .hbm, ⟨17, _⟩ => ⟨S4096x2048, .f32⟩
  | .hbm, ⟨18, _⟩ => ⟨S1x2x2048x32x64, .f32⟩
  | .hbm, ⟨19, _⟩ => ⟨S2x2x2048x32x64, .f32⟩
  | .hbm, ⟨20, _⟩ => ⟨S2048x64x2x2x32, .f32⟩
  | .hbm, ⟨21, _⟩ => ⟨S2048x64x128, .f32⟩
  | .hbm, ⟨22, _⟩ => ⟨S4096x2048, .f32⟩
  | .hbm, ⟨23, _⟩ => ⟨S1x2x2048x32x64, .f32⟩
  | .hbm, ⟨24, _⟩ => ⟨S2x2x2048x32x64, .f32⟩
  | .hbm, ⟨25, _⟩ => ⟨S2048x64x2x2x32, .f32⟩
  | .hbm, ⟨26, _⟩ => ⟨S2048x64x128, .f32⟩
  | .hbm, ⟨27, _⟩ => ⟨S4096x2048, .f32⟩
  | .hbm, ⟨28, _⟩ => ⟨S1x2x2048x32x64, .f32⟩
  | .hbm, ⟨29, _⟩ => ⟨S2x2x2048x32x64, .f32⟩
  | .hbm, ⟨30, _⟩ => ⟨S2048x64x2x2x32, .f32⟩
  | .hbm, ⟨31, _⟩ => ⟨S2048x64x128, .f32⟩
  | .hbm, ⟨32, _⟩ => ⟨S4096x2048, .f32⟩
  | .hbm, ⟨33, _⟩ => ⟨S2x2048x32x2x32, .f32⟩
  | .hbm, ⟨34, _⟩ => ⟨S2048x32x2x2x32, .f32⟩
  | .hbm, ⟨35, _⟩ => ⟨S2048x32x128, .f32⟩
  | .hbm, ⟨36, _⟩ => ⟨S2048x32x128, .f32⟩
  | .hbm, ⟨37, _⟩ => ⟨S128x17x32x64x128, .f32⟩
  | .hbm, ⟨38, _⟩ => ⟨S2048x32x128, .f32⟩
  | .hbm, ⟨39, _⟩ => ⟨S4096x2048, .f32⟩
  | .hbm, ⟨40, _⟩ => ⟨S2x2048x32x2x32, .f32⟩
  | .hbm, ⟨41, _⟩ => ⟨S2048x32x2x2x32, .f32⟩
  | .hbm, ⟨42, _⟩ => ⟨S2048x32x128, .f32⟩
  | .hbm, ⟨43, _⟩ => ⟨S2048x64x128, .f32⟩
  | .hbm, ⟨44, _⟩ => ⟨S2048x64x128, .f32⟩
  | .hbm, ⟨45, _⟩ => ⟨S2048x64x128, .f32⟩
  | .hbm, ⟨46, _⟩ => ⟨S2048x64x128, .f32⟩
  | .hbm, ⟨47, _⟩ => ⟨S2048x64x128, .f32⟩
  | .hbm, ⟨48, _⟩ => ⟨S2048x32x128, .f32⟩
  | .hbm, ⟨49, _⟩ => ⟨S2048x32x2x2x32, .f32⟩
  | .hbm, ⟨50, _⟩ => ⟨S2x2048x32x2x32, .f32⟩
  | .hbm, ⟨51, _⟩ => ⟨S4096x2048, .f32⟩
  | .hbm, ⟨52, _⟩ => ⟨S2x2048x32x64, .f32⟩
  | .hbm, ⟨53, _⟩ => ⟨S2048x64x64, .f32⟩
  | .hbm, ⟨54, _⟩ => ⟨S2048x64x2x32, .f32⟩
  | .hbm, ⟨55, _⟩ => ⟨S2x2048x32x64, .f32⟩
  | .hbm, ⟨56, _⟩ => ⟨S4096x2048, .f32⟩
  | .hbm, ⟨57, _⟩ => ⟨S2x2048x32x64, .f32⟩
  | .hbm, ⟨58, _⟩ => ⟨S2048x64x64, .f32⟩
  | .hbm, ⟨59, _⟩ => ⟨S2048x64x2x32, .f32⟩
  | .hbm, ⟨60, _⟩ => ⟨S2x2048x32x64, .f32⟩
  | .hbm, ⟨61, _⟩ => ⟨S4096x2048, .f32⟩
  | .hbm, ⟨62, _⟩ => ⟨S2x2048x32x64, .f32⟩
  | .hbm, ⟨63, _⟩ => ⟨S2048x64x64, .f32⟩
  | .hbm, ⟨64, _⟩ => ⟨S2048x64x2x32, .f32⟩
  | .hbm, ⟨65, _⟩ => ⟨S2x2048x32x64, .f32⟩
  | .hbm, ⟨66, _⟩ => ⟨S4096x2048, .f32⟩
  | .hbm, ⟨67, _⟩ => ⟨S2x2048x32x64, .f32⟩
  | .hbm, ⟨68, _⟩ => ⟨S2048x32x2x2x32, .f32⟩
  | .hbm, ⟨69, _⟩ => ⟨S2x2048x32x2x32, .f32⟩
  | .hbm, ⟨70, _⟩ => ⟨S4096x2048, .f32⟩
  | .hbm, ⟨71, _⟩ => ⟨S2x2048x32x64, .f32⟩
  | .hbm, ⟨72, _⟩ => ⟨S2048x64x64, .f32⟩
  | .hbm, ⟨73, _⟩ => ⟨S2048x64x2x32, .f32⟩
  | .hbm, ⟨74, _⟩ => ⟨S2x2048x32x64, .f32⟩
  | .hbm, ⟨75, _⟩ => ⟨S4096x2048, .f32⟩
  | .hbm, ⟨76, _⟩ => ⟨S2x2048x32x64, .f32⟩
  | .hbm, ⟨77, _⟩ => ⟨S2048x64x64, .f32⟩
  | .hbm, ⟨78, _⟩ => ⟨S2048x64x2x32, .f32⟩
  | .hbm, ⟨79, _⟩ => ⟨S2x2048x32x64, .f32⟩
  | .hbm, ⟨80, _⟩ => ⟨S4096x2048, .f32⟩
  | .hbm, ⟨81, _⟩ => ⟨S2x2048x32x64, .f32⟩
  | .local _ .vmem, ⟨0, _⟩ => ⟨S16x64x128, .f32⟩
  | .local _ .vmem, ⟨1, _⟩ => ⟨S16x64x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S16x64x128, .f32⟩
  | .local _ .vmem, ⟨7, _⟩ => ⟨S16x64x128, .f32⟩
  | .local _ .vmem, ⟨8, _⟩ => ⟨S16x64x128, .f32⟩
  | .local _ .vmem, ⟨9, _⟩ => ⟨S16x64x128, .f32⟩
  | .local _ .vmem, ⟨10, _⟩ => ⟨S16x32x128, .f32⟩
  | .local _ .vmem, ⟨11, _⟩ => ⟨S16x32x128, .f32⟩
  | .local _ .vmem, ⟨12, _⟩ => ⟨S16x32x128, .f32⟩
  | .local _ .vmem, ⟨13, _⟩ => ⟨S16x32x128, .f32⟩
  | .local _ .vmem, ⟨14, _⟩ => ⟨S1x17x32x64x128, .f32⟩
  | .local _ .vmem, ⟨15, _⟩ => ⟨S1x17x32x64x128, .f32⟩
  | .local _ .vmem, ⟨16, _⟩ => ⟨S16x32x128, .f32⟩
  | .local _ .vmem, ⟨17, _⟩ => ⟨S16x32x128, .f32⟩
  | .local _ .vmem, ⟨18, _⟩ => ⟨S32x64x128, .f32⟩
  | .local _ .vmem, ⟨19, _⟩ => ⟨S16x64x128, .f32⟩
  | .local _ .vmem, ⟨20, _⟩ => ⟨S16x64x128, .f32⟩
  | .local _ .vmem, ⟨21, _⟩ => ⟨S16x64x128, .f32⟩
  | .local _ .vmem, ⟨22, _⟩ => ⟨S16x64x128, .f32⟩
  | .local _ .vmem, ⟨23, _⟩ => ⟨S16x64x128, .f32⟩
  | .local _ .vmem, ⟨24, _⟩ => ⟨S16x64x128, .f32⟩
  | .local _ .vmem, ⟨25, _⟩ => ⟨S16x64x128, .f32⟩
  | .local _ .vmem, ⟨26, _⟩ => ⟨S16x64x128, .f32⟩
  | .local _ .vmem, ⟨27, _⟩ => ⟨S16x64x128, .f32⟩
  | .local _ .vmem, ⟨28, _⟩ => ⟨S16x64x128, .f32⟩
  | .local _ .vmem, ⟨29, _⟩ => ⟨S16x32x128, .f32⟩
  | .local _ .vmem, ⟨30, _⟩ => ⟨S16x32x128, .f32⟩
  | .local _ .vmem, ⟨31, _⟩ => ⟨S16x32x128, .f32⟩
  | .local _ .vmem, ⟨32, _⟩ => ⟨S16x32x128, .f32⟩
  | .local _ .vmem, ⟨33, _⟩ => ⟨S1x17x32x64x128, .f32⟩
  | .local _ .vmem, ⟨34, _⟩ => ⟨S1x17x32x64x128, .f32⟩
  | .local _ .vmem, ⟨35, _⟩ => ⟨S16x32x128, .f32⟩
  | .local _ .vmem, ⟨36, _⟩ => ⟨S16x32x128, .f32⟩
  | .local _ .vmem, ⟨37, _⟩ => ⟨S16x64x128, .f32⟩
  | .local _ .vmem, ⟨38, _⟩ => ⟨S16x64x128, .f32⟩
  | .local _ .vmem, ⟨39, _⟩ => ⟨S16x64x128, .f32⟩
  | .local _ .vmem, ⟨40, _⟩ => ⟨S16x64x128, .f32⟩
  | .local _ .vmem, ⟨41, _⟩ => ⟨S16x64x128, .f32⟩
  | .local _ .vmem, ⟨42, _⟩ => ⟨S16x64x128, .f32⟩
  | .local _ .vmem, ⟨43, _⟩ => ⟨S16x64x128, .f32⟩
  | .local _ .vmem, ⟨44, _⟩ => ⟨S16x64x128, .f32⟩
  | .local _ .vmem, ⟨45, _⟩ => ⟨S16x64x128, .f32⟩
  | .local _ .vmem, ⟨46, _⟩ => ⟨S16x64x128, .f32⟩
  | .local _ .vmem, ⟨47, _⟩ => ⟨S16x32x128, .f32⟩
  | .local _ .vmem, ⟨48, _⟩ => ⟨S16x32x128, .f32⟩
  | .local _ .vmem, ⟨49, _⟩ => ⟨S32x64x128, .f32⟩
  | _, _ => ⟨S2x2048x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v34_2 : Ref sig .tc := ⟨.hbm, 45, rfl⟩
abbrev main_v34_3 : Ref sig .tc := ⟨.hbm, 46, rfl⟩
abbrev main_v34_4 : Ref sig .tc := ⟨.hbm, 47, rfl⟩
abbrev main_v34_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_stg14_0 : Ref sig .tc := ⟨.vmem, 47, rfl⟩
abbrev cc1_stg14_1 : Ref sig .tc := ⟨.vmem, 48, rfl⟩
abbrev cc1_scratch0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_8 : BitVec 32 := 0#32
  let c16_i32 : BitVec 32 := 16#32
  let v7 : BitVec 32 := Scalar.addi c0_i32_8 c16_i32
  let c1_i32 : BitVec 32 := 1#32
  ⟨c0_i32_8, v7, c1_i32⟩
def k0_off1 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v13 : Index := Scalar.indexCast arg11
  let c0_17 : Index := 0#32
  let c0_18 : Index := 0#32
  ![v13.toNat, 0, 0]
def k0_off2 (k0_t1 : Fin k0_t1_loop.trips) : Fin 5 → Nat :=
  let c0_27 : Index := 0#32
  let c0_i32_8 : BitVec 32 := 0#32
  let c1_i32 : BitVec 32 := 1#32
  let arg11 : BitVec 32 := Scf.iv c0_i32_8 c1_i32 k0_t1
  let v28 : Index := Scalar.indexCast arg11
  let c0_28 : Index := 0#32
  let c0_29 : Index := 0#32
  let c0_30 : Index := 0#32
  ![0, v28.toNat, 0, 0, 0]
def k0_off3 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v31 : Index := Scalar.indexCast arg11
  let c0_31 : Index := 0#32
  let c0_32 : Index := 0#32
  ![v31.toNat, 0, 0]
def k0_off4 (k0_t1 : Fin k0_t1_loop.trips) : Fin 5 → Nat :=
  let c0_34 : Index := 0#32
  let c0_i32_8 : BitVec 32 := 0#32
  let c1_i32 : BitVec 32 := 1#32
  let arg11 : BitVec 32 := Scf.iv c0_i32_8 c1_i32 k0_t1
  let c1_i32_33 : BitVec 32 := 1#32
  let v44 : BitVec 32 := Scalar.addi arg11 c1_i32_33
  let v45 : Index := Scalar.indexCast v44
  let c0_35 : Index := 0#32
  let c0_36 : Index := 0#32
  let c0_37 : Index := 0#32
  ![0, v45.toNat, 0, 0, 0]
def k0_off5 (k0_t1 : Fin k0_t1_loop.trips) : Fin 5 → Nat :=
  let c0_43 : Index := 0#32
  let c0_i32_8 : BitVec 32 := 0#32
  let c1_i32 : BitVec 32 := 1#32
  let arg11 : BitVec 32 := Scf.iv c0_i32_8 c1_i32 k0_t1
  let v60 : Index := Scalar.indexCast arg11
  let c1 : Index := 1#32
  let c0_44 : Index := 0#32
  let c0_45 : Index := 0#32
  ![0, v60.toNat, 1, 0, 0]
def k0_off6 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v63 : Index := Scalar.indexCast arg11
  let c1_46 : Index := 1#32
  let c0_47 : Index := 0#32
  ![v63.toNat, 1, 0]
def k0_off7 (k0_t1 : Fin k0_t1_loop.trips) : Fin 5 → Nat :=
  let c0_50 : Index := 0#32
  let c0_i32_8 : BitVec 32 := 0#32
  let c1_i32 : BitVec 32 := 1#32
  let arg11 : BitVec 32 := Scf.iv c0_i32_8 c1_i32 k0_t1
  let c1_i32_49 : BitVec 32 := 1#32
  let v76 : BitVec 32 := Scalar.addi arg11 c1_i32_49
  let v77 : Index := Scalar.indexCast v76
  let c1_51 : Index := 1#32
  let c0_52 : Index := 0#32
  let c0_53 : Index := 0#32
  ![0, v77.toNat, 1, 0, 0]
def k0_off8 (k0_t1 : Fin k0_t1_loop.trips) : Fin 5 → Nat :=
  let c0_59 : Index := 0#32
  let c0_i32_8 : BitVec 32 := 0#32
  let c1_i32 : BitVec 32 := 1#32
  let arg11 : BitVec 32 := Scf.iv c0_i32_8 c1_i32 k0_t1
  let v92 : Index := Scalar.indexCast arg11
  let c2 : Index := 2#32
  let c0_60 : Index := 0#32
  let c0_61 : Index := 0#32
  ![0, v92.toNat, 2, 0, 0]
def k0_off9 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v95 : Index := Scalar.indexCast arg11
  let c2_62 : Index := 2#32
  let c0_63 : Index := 0#32
  ![v95.toNat, 2, 0]
def k0_off10 (k0_t1 : Fin k0_t1_loop.trips) : Fin 5 → Nat :=
  let c0_66 : Index := 0#32
  let c0_i32_8 : BitVec 32 := 0#32
  let c1_i32 : BitVec 32 := 1#32
  let arg11 : BitVec 32 := Scf.iv c0_i32_8 c1_i32 k0_t1
  let c1_i32_65 : BitVec 32 := 1#32
  let v108 : BitVec 32 := Scalar.addi arg11 c1_i32_65
  let v109 : Index := Scalar.indexCast v108
  let c2_67 : Index := 2#32
  let c0_68 : Index := 0#32
  let c0_69 : Index := 0#32
  ![0, v109.toNat, 2, 0, 0]
def k0_off11 (k0_t1 : Fin k0_t1_loop.trips) : Fin 5 → Nat :=
  let c0_75 : Index := 0#32
  let c0_i32_8 : BitVec 32 := 0#32
  let c1_i32 : BitVec 32 := 1#32
  let arg11 : BitVec 32 := Scf.iv c0_i32_8 c1_i32 k0_t1
  let v124 : Index := Scalar.indexCast arg11
  let c3 : Index := 3#32
  let c0_76 : Index := 0#32
  let c0_77 : Index := 0#32
  ![0, v124.toNat, 3, 0, 0]
def k0_off12 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v127 : Index := Scalar.indexCast arg11
  let c3_78 : Index := 3#32
  let c0_79 : Index := 0#32
  ![v127.toNat, 3, 0]
def k0_off13 (k0_t1 : Fin k0_t1_loop.trips) : Fin 5 → Nat :=
  let c0_82 : Index := 0#32
  let c0_i32_8 : BitVec 32 := 0#32
  let c1_i32 : BitVec 32 := 1#32
  let arg11 : BitVec 32 := Scf.iv c0_i32_8 c1_i32 k0_t1
  let c1_i32_81 : BitVec 32 := 1#32
  let v140 : BitVec 32 := Scalar.addi arg11 c1_i32_81
  let v141 : Index := Scalar.indexCast v140
  let c3_83 : Index := 3#32
  let c0_84 : Index := 0#32
  let c0_85 : Index := 0#32
  ![0, v141.toNat, 3, 0, 0]
def k0_off14 (k0_t1 : Fin k0_t1_loop.trips) : Fin 5 → Nat :=
  let c0_91 : Index := 0#32
  let c0_i32_8 : BitVec 32 := 0#32
  let c1_i32 : BitVec 32 := 1#32
  let arg11 : BitVec 32 := Scf.iv c0_i32_8 c1_i32 k0_t1
  let v156 : Index := Scalar.indexCast arg11
  let c4 : Index := 4#32
  let c0_92 : Index := 0#32
  let c0_93 : Index := 0#32
  ![0, v156.toNat, 4, 0, 0]
def k0_off15 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v159 : Index := Scalar.indexCast arg11
  let c4_94 : Index := 4#32
  let c0_95 : Index := 0#32
  ![v159.toNat, 4, 0]
def k0_off16 (k0_t1 : Fin k0_t1_loop.trips) : Fin 5 → Nat :=
  let c0_98 : Index := 0#32
  let c0_i32_8 : BitVec 32 := 0#32
  let c1_i32 : BitVec 32 := 1#32
  let arg11 : BitVec 32 := Scf.iv c0_i32_8 c1_i32 k0_t1
  let c1_i32_97 : BitVec 32 := 1#32
  let v172 : BitVec 32 := Scalar.addi arg11 c1_i32_97
  let v173 : Index := Scalar.indexCast v172
  let c4_99 : Index := 4#32
  let c0_100 : Index := 0#32
  let c0_101 : Index := 0#32
  ![0, v173.toNat, 4, 0, 0]
def k0_off17 (k0_t1 : Fin k0_t1_loop.trips) : Fin 5 → Nat :=
  let c0_107 : Index := 0#32
  let c0_i32_8 : BitVec 32 := 0#32
  let c1_i32 : BitVec 32 := 1#32
  let arg11 : BitVec 32 := Scf.iv c0_i32_8 c1_i32 k0_t1
  let v188 : Index := Scalar.indexCast arg11
  let c5 : Index := 5#32
  let c0_108 : Index := 0#32
  let c0_109 : Index := 0#32
  ![0, v188.toNat, 5, 0, 0]
def k0_off18 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v191 : Index := Scalar.indexCast arg11
  let c5_110 : Index := 5#32
  let c0_111 : Index := 0#32
  ![v191.toNat, 5, 0]
def k0_off19 (k0_t1 : Fin k0_t1_loop.trips) : Fin 5 → Nat :=
  let c0_114 : Index := 0#32
  let c0_i32_8 : BitVec 32 := 0#32
  let c1_i32 : BitVec 32 := 1#32
  let arg11 : BitVec 32 := Scf.iv c0_i32_8 c1_i32 k0_t1
  let c1_i32_113 : BitVec 32 := 1#32
  let v204 : BitVec 32 := Scalar.addi arg11 c1_i32_113
  let v205 : Index := Scalar.indexCast v204
  let c5_115 : Index := 5#32
  let c0_116 : Index := 0#32
  let c0_117 : Index := 0#32
  ![0, v205.toNat, 5, 0, 0]
def k0_off20 (k0_t1 : Fin k0_t1_loop.trips) : Fin 5 → Nat :=
  let c0_123 : Index := 0#32
  let c0_i32_8 : BitVec 32 := 0#32
  let c1_i32 : BitVec 32 := 1#32
  let arg11 : BitVec 32 := Scf.iv c0_i32_8 c1_i32 k0_t1
  let v220 : Index := Scalar.indexCast arg11
  let c6 : Index := 6#32
  let c0_124 : Index := 0#32
  let c0_125 : Index := 0#32
  ![0, v220.toNat, 6, 0, 0]
def k0_off21 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v223 : Index := Scalar.indexCast arg11
  let c6_126 : Index := 6#32
  let c0_127 : Index := 0#32
  ![v223.toNat, 6, 0]
def k0_off22 (k0_t1 : Fin k0_t1_loop.trips) : Fin 5 → Nat :=
  let c0_130 : Index := 0#32
  let c0_i32_8 : BitVec 32 := 0#32
  let c1_i32 : BitVec 32 := 1#32
  let arg11 : BitVec 32 := Scf.iv c0_i32_8 c1_i32 k0_t1
  let c1_i32_129 : BitVec 32 := 1#32
  let v236 : BitVec 32 := Scalar.addi arg11 c1_i32_129
  let v237 : Index := Scalar.indexCast v236
  let c6_131 : Index := 6#32
  let c0_132 : Index := 0#32
  let c0_133 : Index := 0#32
  ![0, v237.toNat, 6, 0, 0]
def k0_off23 (k0_t1 : Fin k0_t1_loop.trips) : Fin 5 → Nat :=
  let c0_139 : Index := 0#32
  let c0_i32_8 : BitVec 32 := 0#32
  let c1_i32 : BitVec 32 := 1#32
  let arg11 : BitVec 32 := Scf.iv c0_i32_8 c1_i32 k0_t1
  let v252 : Index := Scalar.indexCast arg11
  let c7 : Index := 7#32
  let c0_140 : Index := 0#32
  let c0_141 : Index := 0#32
  ![0, v252.toNat, 7, 0, 0]
def k0_off24 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v255 : Index := Scalar.indexCast arg11
  let c7_142 : Index := 7#32
  let c0_143 : Index := 0#32
  ![v255.toNat, 7, 0]
def k0_off25 (k0_t1 : Fin k0_t1_loop.trips) : Fin 5 → Nat :=
  let c0_146 : Index := 0#32
  let c0_i32_8 : BitVec 32 := 0#32
  let c1_i32 : BitVec 32 := 1#32
  let arg11 : BitVec 32 := Scf.iv c0_i32_8 c1_i32 k0_t1
  let c1_i32_145 : BitVec 32 := 1#32
  let v268 : BitVec 32 := Scalar.addi arg11 c1_i32_145
  let v269 : Index := Scalar.indexCast v268
  let c7_147 : Index := 7#32
  let c0_148 : Index := 0#32
  let c0_149 : Index := 0#32
  ![0, v269.toNat, 7, 0, 0]
def k0_off26 (k0_t1 : Fin k0_t1_loop.trips) : Fin 5 → Nat :=
  let c0_155 : Index := 0#32
  let c0_i32_8 : BitVec 32 := 0#32
  let c1_i32 : BitVec 32 := 1#32
  let arg11 : BitVec 32 := Scf.iv c0_i32_8 c1_i32 k0_t1
  let v284 : Index := Scalar.indexCast arg11
  let c8 : Index := 8#32
  let c0_156 : Index := 0#32
  let c0_157 : Index := 0#32
  ![0, v284.toNat, 8, 0, 0]
def k0_off27 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v287 : Index := Scalar.indexCast arg11
  let c8_158 : Index := 8#32
  let c0_159 : Index := 0#32
  ![v287.toNat, 8, 0]
def k0_off28 (k0_t1 : Fin k0_t1_loop.trips) : Fin 5 → Nat :=
  let c0_162 : Index := 0#32
  let c0_i32_8 : BitVec 32 := 0#32
  let c1_i32 : BitVec 32 := 1#32
  let arg11 : BitVec 32 := Scf.iv c0_i32_8 c1_i32 k0_t1
  let c1_i32_161 : BitVec 32 := 1#32
  let v300 : BitVec 32 := Scalar.addi arg11 c1_i32_161
  let v301 : Index := Scalar.indexCast v300
  let c8_163 : Index := 8#32
  let c0_164 : Index := 0#32
  let c0_165 : Index := 0#32
  ![0, v301.toNat, 8, 0, 0]
def k0_off29 (k0_t1 : Fin k0_t1_loop.trips) : Fin 5 → Nat :=
  let c0_171 : Index := 0#32
  let c0_i32_8 : BitVec 32 := 0#32
  let c1_i32 : BitVec 32 := 1#32
  let arg11 : BitVec 32 := Scf.iv c0_i32_8 c1_i32 k0_t1
  let v316 : Index := Scalar.indexCast arg11
  let c9 : Index := 9#32
  let c0_172 : Index := 0#32
  let c0_173 : Index := 0#32
  ![0, v316.toNat, 9, 0, 0]
def k0_off30 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v319 : Index := Scalar.indexCast arg11
  let c9_174 : Index := 9#32
  let c0_175 : Index := 0#32
  ![v319.toNat, 9, 0]
def k0_off31 (k0_t1 : Fin k0_t1_loop.trips) : Fin 5 → Nat :=
  let c0_178 : Index := 0#32
  let c0_i32_8 : BitVec 32 := 0#32
  let c1_i32 : BitVec 32 := 1#32
  let arg11 : BitVec 32 := Scf.iv c0_i32_8 c1_i32 k0_t1
  let c1_i32_177 : BitVec 32 := 1#32
  let v332 : BitVec 32 := Scalar.addi arg11 c1_i32_177
  let v333 : Index := Scalar.indexCast v332
  let c9_179 : Index := 9#32
  let c0_180 : Index := 0#32
  let c0_181 : Index := 0#32
  ![0, v333.toNat, 9, 0, 0]
def k0_off32 (k0_t1 : Fin k0_t1_loop.trips) : Fin 5 → Nat :=
  let c0_187 : Index := 0#32
  let c0_i32_8 : BitVec 32 := 0#32
  let c1_i32 : BitVec 32 := 1#32
  let arg11 : BitVec 32 := Scf.iv c0_i32_8 c1_i32 k0_t1
  let v348 : Index := Scalar.indexCast arg11
  let c10 : Index := 10#32
  let c0_188 : Index := 0#32
  let c0_189 : Index := 0#32
  ![0, v348.toNat, 10, 0, 0]
def k0_off33 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v351 : Index := Scalar.indexCast arg11
  let c10_190 : Index := 10#32
  let c0_191 : Index := 0#32
  ![v351.toNat, 10, 0]
def k0_off34 (k0_t1 : Fin k0_t1_loop.trips) : Fin 5 → Nat :=
  let c0_194 : Index := 0#32
  let c0_i32_8 : BitVec 32 := 0#32
  let c1_i32 : BitVec 32 := 1#32
  let arg11 : BitVec 32 := Scf.iv c0_i32_8 c1_i32 k0_t1
  let c1_i32_193 : BitVec 32 := 1#32
  let v364 : BitVec 32 := Scalar.addi arg11 c1_i32_193
  let v365 : Index := Scalar.indexCast v364
  let c10_195 : Index := 10#32
  let c0_196 : Index := 0#32
  let c0_197 : Index := 0#32
  ![0, v365.toNat, 10, 0, 0]
def k0_off35 (k0_t1 : Fin k0_t1_loop.trips) : Fin 5 → Nat :=
  let c0_203 : Index := 0#32
  let c0_i32_8 : BitVec 32 := 0#32
  let c1_i32 : BitVec 32 := 1#32
  let arg11 : BitVec 32 := Scf.iv c0_i32_8 c1_i32 k0_t1
  let v380 : Index := Scalar.indexCast arg11
  let c11 : Index := 11#32
  let c0_204 : Index := 0#32
  let c0_205 : Index := 0#32
  ![0, v380.toNat, 11, 0, 0]
def k0_off36 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v383 : Index := Scalar.indexCast arg11
  let c11_206 : Index := 11#32
  let c0_207 : Index := 0#32
  ![v383.toNat, 11, 0]
def k0_off37 (k0_t1 : Fin k0_t1_loop.trips) : Fin 5 → Nat :=
  let c0_210 : Index := 0#32
  let c0_i32_8 : BitVec 32 := 0#32
  let c1_i32 : BitVec 32 := 1#32
  let arg11 : BitVec 32 := Scf.iv c0_i32_8 c1_i32 k0_t1
  let c1_i32_209 : BitVec 32 := 1#32
  let v396 : BitVec 32 := Scalar.addi arg11 c1_i32_209
  let v397 : Index := Scalar.indexCast v396
  let c11_211 : Index := 11#32
  let c0_212 : Index := 0#32
  let c0_213 : Index := 0#32
  ![0, v397.toNat, 11, 0, 0]
def k0_off38 (k0_t1 : Fin k0_t1_loop.trips) : Fin 5 → Nat :=
  let c0_219 : Index := 0#32
  let c0_i32_8 : BitVec 32 := 0#32
  let c1_i32 : BitVec 32 := 1#32
  let arg11 : BitVec 32 := Scf.iv c0_i32_8 c1_i32 k0_t1
  let v412 : Index := Scalar.indexCast arg11
  let c12 : Index := 12#32
  let c0_220 : Index := 0#32
  let c0_221 : Index := 0#32
  ![0, v412.toNat, 12, 0, 0]
def k0_off39 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v415 : Index := Scalar.indexCast arg11
  let c12_222 : Index := 12#32
  let c0_223 : Index := 0#32
  ![v415.toNat, 12, 0]
def k0_off40 (k0_t1 : Fin k0_t1_loop.trips) : Fin 5 → Nat :=
  let c0_226 : Index := 0#32
  let c0_i32_8 : BitVec 32 := 0#32
  let c1_i32 : BitVec 32 := 1#32
  let arg11 : BitVec 32 := Scf.iv c0_i32_8 c1_i32 k0_t1
  let c1_i32_225 : BitVec 32 := 1#32
  let v428 : BitVec 32 := Scalar.addi arg11 c1_i32_225
  let v429 : Index := Scalar.indexCast v428
  let c12_227 : Index := 12#32
  let c0_228 : Index := 0#32
  let c0_229 : Index := 0#32
  ![0, v429.toNat, 12, 0, 0]
def k0_off41 (k0_t1 : Fin k0_t1_loop.trips) : Fin 5 → Nat :=
  let c0_235 : Index := 0#32
  let c0_i32_8 : BitVec 32 := 0#32
  let c1_i32 : BitVec 32 := 1#32
  let arg11 : BitVec 32 := Scf.iv c0_i32_8 c1_i32 k0_t1
  let v444 : Index := Scalar.indexCast arg11
  let c13 : Index := 13#32
  let c0_236 : Index := 0#32
  let c0_237 : Index := 0#32
  ![0, v444.toNat, 13, 0, 0]
def k0_off42 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v447 : Index := Scalar.indexCast arg11
  let c13_238 : Index := 13#32
  let c0_239 : Index := 0#32
  ![v447.toNat, 13, 0]
def k0_off43 (k0_t1 : Fin k0_t1_loop.trips) : Fin 5 → Nat :=
  let c0_242 : Index := 0#32
  let c0_i32_8 : BitVec 32 := 0#32
  let c1_i32 : BitVec 32 := 1#32
  let arg11 : BitVec 32 := Scf.iv c0_i32_8 c1_i32 k0_t1
  let c1_i32_241 : BitVec 32 := 1#32
  let v460 : BitVec 32 := Scalar.addi arg11 c1_i32_241
  let v461 : Index := Scalar.indexCast v460
  let c13_243 : Index := 13#32
  let c0_244 : Index := 0#32
  let c0_245 : Index := 0#32
  ![0, v461.toNat, 13, 0, 0]
def k0_off44 (k0_t1 : Fin k0_t1_loop.trips) : Fin 5 → Nat :=
  let c0_251 : Index := 0#32
  let c0_i32_8 : BitVec 32 := 0#32
  let c1_i32 : BitVec 32 := 1#32
  let arg11 : BitVec 32 := Scf.iv c0_i32_8 c1_i32 k0_t1
  let v476 : Index := Scalar.indexCast arg11
  let c14 : Index := 14#32
  let c0_252 : Index := 0#32
  let c0_253 : Index := 0#32
  ![0, v476.toNat, 14, 0, 0]
def k0_off45 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v479 : Index := Scalar.indexCast arg11
  let c14_254 : Index := 14#32
  let c0_255 : Index := 0#32
  ![v479.toNat, 14, 0]
def k0_off46 (k0_t1 : Fin k0_t1_loop.trips) : Fin 5 → Nat :=
  let c0_258 : Index := 0#32
  let c0_i32_8 : BitVec 32 := 0#32
  let c1_i32 : BitVec 32 := 1#32
  let arg11 : BitVec 32 := Scf.iv c0_i32_8 c1_i32 k0_t1
  let c1_i32_257 : BitVec 32 := 1#32
  let v492 : BitVec 32 := Scalar.addi arg11 c1_i32_257
  let v493 : Index := Scalar.indexCast v492
  let c14_259 : Index := 14#32
  let c0_260 : Index := 0#32
  let c0_261 : Index := 0#32
  ![0, v493.toNat, 14, 0, 0]
def k0_off47 (k0_t1 : Fin k0_t1_loop.trips) : Fin 5 → Nat :=
  let c0_267 : Index := 0#32
  let c0_i32_8 : BitVec 32 := 0#32
  let c1_i32 : BitVec 32 := 1#32
  let arg11 : BitVec 32 := Scf.iv c0_i32_8 c1_i32 k0_t1
  let v508 : Index := Scalar.indexCast arg11
  let c15 : Index := 15#32
  let c0_268 : Index := 0#32
  let c0_269 : Index := 0#32
  ![0, v508.toNat, 15, 0, 0]
def k0_off48 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v511 : Index := Scalar.indexCast arg11
  let c15_270 : Index := 15#32
  let c0_271 : Index := 0#32
  ![v511.toNat, 15, 0]
def k0_off49 (k0_t1 : Fin k0_t1_loop.trips) : Fin 5 → Nat :=
  let c0_274 : Index := 0#32
  let c0_i32_8 : BitVec 32 := 0#32
  let c1_i32 : BitVec 32 := 1#32
  let arg11 : BitVec 32 := Scf.iv c0_i32_8 c1_i32 k0_t1
  let c1_i32_273 : BitVec 32 := 1#32
  let v524 : BitVec 32 := Scalar.addi arg11 c1_i32_273
  let v525 : Index := Scalar.indexCast v524
  let c15_275 : Index := 15#32
  let c0_276 : Index := 0#32
  let c0_277 : Index := 0#32
  ![0, v525.toNat, 15, 0, 0]
def k0_off50 (k0_t1 : Fin k0_t1_loop.trips) : Fin 5 → Nat :=
  let c0_283 : Index := 0#32
  let c0_i32_8 : BitVec 32 := 0#32
  let c1_i32 : BitVec 32 := 1#32
  let arg11 : BitVec 32 := Scf.iv c0_i32_8 c1_i32 k0_t1
  let v540 : Index := Scalar.indexCast arg11
  let c16_284 : Index := 16#32
  let c0_285 : Index := 0#32
  let c0_286 : Index := 0#32
  ![0, v540.toNat, 16, 0, 0]
def k0_off51 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v543 : Index := Scalar.indexCast arg11
  let c16_287 : Index := 16#32
  let c0_288 : Index := 0#32
  ![v543.toNat, 16, 0]
def k0_off52 (k0_t1 : Fin k0_t1_loop.trips) : Fin 5 → Nat :=
  let c0_291 : Index := 0#32
  let c0_i32_8 : BitVec 32 := 0#32
  let c1_i32 : BitVec 32 := 1#32
  let arg11 : BitVec 32 := Scf.iv c0_i32_8 c1_i32 k0_t1
  let c1_i32_290 : BitVec 32 := 1#32
  let v556 : BitVec 32 := Scalar.addi arg11 c1_i32_290
  let v557 : Index := Scalar.indexCast v556
  let c16_292 : Index := 16#32
  let c0_293 : Index := 0#32
  let c0_294 : Index := 0#32
  ![0, v557.toNat, 16, 0, 0]
def k0_off53 (k0_t1 : Fin k0_t1_loop.trips) : Fin 5 → Nat :=
  let c0_300 : Index := 0#32
  let c0_i32_8 : BitVec 32 := 0#32
  let c1_i32 : BitVec 32 := 1#32
  let arg11 : BitVec 32 := Scf.iv c0_i32_8 c1_i32 k0_t1
  let v572 : Index := Scalar.indexCast arg11
  let c17 : Index := 17#32
  let c0_301 : Index := 0#32
  let c0_302 : Index := 0#32
  ![0, v572.toNat, 17, 0, 0]
def k0_off54 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v575 : Index := Scalar.indexCast arg11
  let c17_303 : Index := 17#32
  let c0_304 : Index := 0#32
  ![v575.toNat, 17, 0]
def k0_off55 (k0_t1 : Fin k0_t1_loop.trips) : Fin 5 → Nat :=
  let c0_307 : Index := 0#32
  let c0_i32_8 : BitVec 32 := 0#32
  let c1_i32 : BitVec 32 := 1#32
  let arg11 : BitVec 32 := Scf.iv c0_i32_8 c1_i32 k0_t1
  let c1_i32_306 : BitVec 32 := 1#32
  let v588 : BitVec 32 := Scalar.addi arg11 c1_i32_306
  let v589 : Index := Scalar.indexCast v588
  let c17_308 : Index := 17#32
  let c0_309 : Index := 0#32
  let c0_310 : Index := 0#32
  ![0, v589.toNat, 17, 0, 0]
def k0_off56 (k0_t1 : Fin k0_t1_loop.trips) : Fin 5 → Nat :=
  let c0_316 : Index := 0#32
  let c0_i32_8 : BitVec 32 := 0#32
  let c1_i32 : BitVec 32 := 1#32
  let arg11 : BitVec 32 := Scf.iv c0_i32_8 c1_i32 k0_t1
  let v604 : Index := Scalar.indexCast arg11
  let c18 : Index := 18#32
  let c0_317 : Index := 0#32
  let c0_318 : Index := 0#32
  ![0, v604.toNat, 18, 0, 0]
def k0_off57 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v607 : Index := Scalar.indexCast arg11
  let c18_319 : Index := 18#32
  let c0_320 : Index := 0#32
  ![v607.toNat, 18, 0]
def k0_off58 (k0_t1 : Fin k0_t1_loop.trips) : Fin 5 → Nat :=
  let c0_323 : Index := 0#32
  let c0_i32_8 : BitVec 32 := 0#32
  let c1_i32 : BitVec 32 := 1#32
  let arg11 : BitVec 32 := Scf.iv c0_i32_8 c1_i32 k0_t1
  let c1_i32_322 : BitVec 32 := 1#32
  let v620 : BitVec 32 := Scalar.addi arg11 c1_i32_322
  let v621 : Index := Scalar.indexCast v620
  let c18_324 : Index := 18#32
  let c0_325 : Index := 0#32
  let c0_326 : Index := 0#32
  ![0, v621.toNat, 18, 0, 0]
def k0_off59 (k0_t1 : Fin k0_t1_loop.trips) : Fin 5 → Nat :=
  let c0_332 : Index := 0#32
  let c0_i32_8 : BitVec 32 := 0#32
  let c1_i32 : BitVec 32 := 1#32
  let arg11 : BitVec 32 := Scf.iv c0_i32_8 c1_i32 k0_t1
  let v636 : Index := Scalar.indexCast arg11
  let c19 : Index := 19#32
  let c0_333 : Index := 0#32
  let c0_334 : Index := 0#32
  ![0, v636.toNat, 19, 0, 0]
def k0_off60 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v639 : Index := Scalar.indexCast arg11
  let c19_335 : Index := 19#32
  let c0_336 : Index := 0#32
  ![v639.toNat, 19, 0]
def k0_off61 (k0_t1 : Fin k0_t1_loop.trips) : Fin 5 → Nat :=
  let c0_339 : Index := 0#32
  let c0_i32_8 : BitVec 32 := 0#32
  let c1_i32 : BitVec 32 := 1#32
  let arg11 : BitVec 32 := Scf.iv c0_i32_8 c1_i32 k0_t1
  let c1_i32_338 : BitVec 32 := 1#32
  let v652 : BitVec 32 := Scalar.addi arg11 c1_i32_338
  let v653 : Index := Scalar.indexCast v652
  let c19_340 : Index := 19#32
  let c0_341 : Index := 0#32
  let c0_342 : Index := 0#32
  ![0, v653.toNat, 19, 0, 0]
def k0_off62 (k0_t1 : Fin k0_t1_loop.trips) : Fin 5 → Nat :=
  let c0_348 : Index := 0#32
  let c0_i32_8 : BitVec 32 := 0#32
  let c1_i32 : BitVec 32 := 1#32
  let arg11 : BitVec 32 := Scf.iv c0_i32_8 c1_i32 k0_t1
  let v668 : Index := Scalar.indexCast arg11
  let c20 : Index := 20#32
  let c0_349 : Index := 0#32
  let c0_350 : Index := 0#32
  ![0, v668.toNat, 20, 0, 0]
def k0_off63 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v671 : Index := Scalar.indexCast arg11
  let c20_351 : Index := 20#32
  let c0_352 : Index := 0#32
  ![v671.toNat, 20, 0]
def k0_off64 (k0_t1 : Fin k0_t1_loop.trips) : Fin 5 → Nat :=
  let c0_355 : Index := 0#32
  let c0_i32_8 : BitVec 32 := 0#32
  let c1_i32 : BitVec 32 := 1#32
  let arg11 : BitVec 32 := Scf.iv c0_i32_8 c1_i32 k0_t1
  let c1_i32_354 : BitVec 32 := 1#32
  let v684 : BitVec 32 := Scalar.addi arg11 c1_i32_354
  let v685 : Index := Scalar.indexCast v684
  let c20_356 : Index := 20#32
  let c0_357 : Index := 0#32
  let c0_358 : Index := 0#32
  ![0, v685.toNat, 20, 0, 0]
def k0_off65 (k0_t1 : Fin k0_t1_loop.trips) : Fin 5 → Nat :=
  let c0_364 : Index := 0#32
  let c0_i32_8 : BitVec 32 := 0#32
  let c1_i32 : BitVec 32 := 1#32
  let arg11 : BitVec 32 := Scf.iv c0_i32_8 c1_i32 k0_t1
  let v700 : Index := Scalar.indexCast arg11
  let c21 : Index := 21#32
  let c0_365 : Index := 0#32
  let c0_366 : Index := 0#32
  ![0, v700.toNat, 21, 0, 0]
def k0_off66 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v703 : Index := Scalar.indexCast arg11
  let c21_367 : Index := 21#32
  let c0_368 : Index := 0#32
  ![v703.toNat, 21, 0]
def k0_off67 (k0_t1 : Fin k0_t1_loop.trips) : Fin 5 → Nat :=
  let c0_371 : Index := 0#32
  let c0_i32_8 : BitVec 32 := 0#32
  let c1_i32 : BitVec 32 := 1#32
  let arg11 : BitVec 32 := Scf.iv c0_i32_8 c1_i32 k0_t1
  let c1_i32_370 : BitVec 32 := 1#32
  let v716 : BitVec 32 := Scalar.addi arg11 c1_i32_370
  let v717 : Index := Scalar.indexCast v716
  let c21_372 : Index := 21#32
  let c0_373 : Index := 0#32
  let c0_374 : Index := 0#32
  ![0, v717.toNat, 21, 0, 0]
def k0_off68 (k0_t1 : Fin k0_t1_loop.trips) : Fin 5 → Nat :=
  let c0_380 : Index := 0#32
  let c0_i32_8 : BitVec 32 := 0#32
  let c1_i32 : BitVec 32 := 1#32
  let arg11 : BitVec 32 := Scf.iv c0_i32_8 c1_i32 k0_t1
  let v732 : Index := Scalar.indexCast arg11
  let c22 : Index := 22#32
  let c0_381 : Index := 0#32
  let c0_382 : Index := 0#32
  ![0, v732.toNat, 22, 0, 0]
def k0_off69 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v735 : Index := Scalar.indexCast arg11
  let c22_383 : Index := 22#32
  let c0_384 : Index := 0#32
  ![v735.toNat, 22, 0]
def k0_off70 (k0_t1 : Fin k0_t1_loop.trips) : Fin 5 → Nat :=
  let c0_387 : Index := 0#32
  let c0_i32_8 : BitVec 32 := 0#32
  let c1_i32 : BitVec 32 := 1#32
  let arg11 : BitVec 32 := Scf.iv c0_i32_8 c1_i32 k0_t1
  let c1_i32_386 : BitVec 32 := 1#32
  let v748 : BitVec 32 := Scalar.addi arg11 c1_i32_386
  let v749 : Index := Scalar.indexCast v748
  let c22_388 : Index := 22#32
  let c0_389 : Index := 0#32
  let c0_390 : Index := 0#32
  ![0, v749.toNat, 22, 0, 0]
def k0_off71 (k0_t1 : Fin k0_t1_loop.trips) : Fin 5 → Nat :=
  let c0_396 : Index := 0#32
  let c0_i32_8 : BitVec 32 := 0#32
  let c1_i32 : BitVec 32 := 1#32
  let arg11 : BitVec 32 := Scf.iv c0_i32_8 c1_i32 k0_t1
  let v764 : Index := Scalar.indexCast arg11
  let c23 : Index := 23#32
  let c0_397 : Index := 0#32
  let c0_398 : Index := 0#32
  ![0, v764.toNat, 23, 0, 0]
def k0_off72 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v767 : Index := Scalar.indexCast arg11
  let c23_399 : Index := 23#32
  let c0_400 : Index := 0#32
  ![v767.toNat, 23, 0]
def k0_off73 (k0_t1 : Fin k0_t1_loop.trips) : Fin 5 → Nat :=
  let c0_403 : Index := 0#32
  let c0_i32_8 : BitVec 32 := 0#32
  let c1_i32 : BitVec 32 := 1#32
  let arg11 : BitVec 32 := Scf.iv c0_i32_8 c1_i32 k0_t1
  let c1_i32_402 : BitVec 32 := 1#32
  let v780 : BitVec 32 := Scalar.addi arg11 c1_i32_402
  let v781 : Index := Scalar.indexCast v780
  let c23_404 : Index := 23#32
  let c0_405 : Index := 0#32
  let c0_406 : Index := 0#32
  ![0, v781.toNat, 23, 0, 0]
def k0_off74 (k0_t1 : Fin k0_t1_loop.trips) : Fin 5 → Nat :=
  let c0_412 : Index := 0#32
  let c0_i32_8 : BitVec 32 := 0#32
  let c1_i32 : BitVec 32 := 1#32
  let arg11 : BitVec 32 := Scf.iv c0_i32_8 c1_i32 k0_t1
  let v796 : Index := Scalar.indexCast arg11
  let c24 : Index := 24#32
  let c0_413 : Index := 0#32
  let c0_414 : Index := 0#32
  ![0, v796.toNat, 24, 0, 0]
def k0_off75 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v799 : Index := Scalar.indexCast arg11
  let c24_415 : Index := 24#32
  let c0_416 : Index := 0#32
  ![v799.toNat, 24, 0]
def k0_off76 (k0_t1 : Fin k0_t1_loop.trips) : Fin 5 → Nat :=
  let c0_419 : Index := 0#32
  let c0_i32_8 : BitVec 32 := 0#32
  let c1_i32 : BitVec 32 := 1#32
  let arg11 : BitVec 32 := Scf.iv c0_i32_8 c1_i32 k0_t1
  let c1_i32_418 : BitVec 32 := 1#32
  let v812 : BitVec 32 := Scalar.addi arg11 c1_i32_418
  let v813 : Index := Scalar.indexCast v812
  let c24_420 : Index := 24#32
  let c0_421 : Index := 0#32
  let c0_422 : Index := 0#32
  ![0, v813.toNat, 24, 0, 0]
def k0_off77 (k0_t1 : Fin k0_t1_loop.trips) : Fin 5 → Nat :=
  let c0_428 : Index := 0#32
  let c0_i32_8 : BitVec 32 := 0#32
  let c1_i32 : BitVec 32 := 1#32
  let arg11 : BitVec 32 := Scf.iv c0_i32_8 c1_i32 k0_t1
  let v828 : Index := Scalar.indexCast arg11
  let c25 : Index := 25#32
  let c0_429 : Index := 0#32
  let c0_430 : Index := 0#32
  ![0, v828.toNat, 25, 0, 0]
def k0_off78 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v831 : Index := Scalar.indexCast arg11
  let c25_431 : Index := 25#32
  let c0_432 : Index := 0#32
  ![v831.toNat, 25, 0]
def k0_off79 (k0_t1 : Fin k0_t1_loop.trips) : Fin 5 → Nat :=
  let c0_435 : Index := 0#32
  let c0_i32_8 : BitVec 32 := 0#32
  let c1_i32 : BitVec 32 := 1#32
  let arg11 : BitVec 32 := Scf.iv c0_i32_8 c1_i32 k0_t1
  let c1_i32_434 : BitVec 32 := 1#32
  let v844 : BitVec 32 := Scalar.addi arg11 c1_i32_434
  let v845 : Index := Scalar.indexCast v844
  let c25_436 : Index := 25#32
  let c0_437 : Index := 0#32
  let c0_438 : Index := 0#32
  ![0, v845.toNat, 25, 0, 0]
def k0_off80 (k0_t1 : Fin k0_t1_loop.trips) : Fin 5 → Nat :=
  let c0_444 : Index := 0#32
  let c0_i32_8 : BitVec 32 := 0#32
  let c1_i32 : BitVec 32 := 1#32
  let arg11 : BitVec 32 := Scf.iv c0_i32_8 c1_i32 k0_t1
  let v860 : Index := Scalar.indexCast arg11
  let c26 : Index := 26#32
  let c0_445 : Index := 0#32
  let c0_446 : Index := 0#32
  ![0, v860.toNat, 26, 0, 0]
def k0_off81 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v863 : Index := Scalar.indexCast arg11
  let c26_447 : Index := 26#32
  let c0_448 : Index := 0#32
  ![v863.toNat, 26, 0]
def k0_off82 (k0_t1 : Fin k0_t1_loop.trips) : Fin 5 → Nat :=
  let c0_451 : Index := 0#32
  let c0_i32_8 : BitVec 32 := 0#32
  let c1_i32 : BitVec 32 := 1#32
  let arg11 : BitVec 32 := Scf.iv c0_i32_8 c1_i32 k0_t1
  let c1_i32_450 : BitVec 32 := 1#32
  let v876 : BitVec 32 := Scalar.addi arg11 c1_i32_450
  let v877 : Index := Scalar.indexCast v876
  let c26_452 : Index := 26#32
  let c0_453 : Index := 0#32
  let c0_454 : Index := 0#32
  ![0, v877.toNat, 26, 0, 0]
def k0_off83 (k0_t1 : Fin k0_t1_loop.trips) : Fin 5 → Nat :=
  let c0_460 : Index := 0#32
  let c0_i32_8 : BitVec 32 := 0#32
  let c1_i32 : BitVec 32 := 1#32
  let arg11 : BitVec 32 := Scf.iv c0_i32_8 c1_i32 k0_t1
  let v892 : Index := Scalar.indexCast arg11
  let c27 : Index := 27#32
  let c0_461 : Index := 0#32
  let c0_462 : Index := 0#32
  ![0, v892.toNat, 27, 0, 0]
def k0_off84 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v895 : Index := Scalar.indexCast arg11
  let c27_463 : Index := 27#32
  let c0_464 : Index := 0#32
  ![v895.toNat, 27, 0]
def k0_off85 (k0_t1 : Fin k0_t1_loop.trips) : Fin 5 → Nat :=
  let c0_467 : Index := 0#32
  let c0_i32_8 : BitVec 32 := 0#32
  let c1_i32 : BitVec 32 := 1#32
  let arg11 : BitVec 32 := Scf.iv c0_i32_8 c1_i32 k0_t1
  let c1_i32_466 : BitVec 32 := 1#32
  let v908 : BitVec 32 := Scalar.addi arg11 c1_i32_466
  let v909 : Index := Scalar.indexCast v908
  let c27_468 : Index := 27#32
  let c0_469 : Index := 0#32
  let c0_470 : Index := 0#32
  ![0, v909.toNat, 27, 0, 0]
def k0_off86 (k0_t1 : Fin k0_t1_loop.trips) : Fin 5 → Nat :=
  let c0_476 : Index := 0#32
  let c0_i32_8 : BitVec 32 := 0#32
  let c1_i32 : BitVec 32 := 1#32
  let arg11 : BitVec 32 := Scf.iv c0_i32_8 c1_i32 k0_t1
  let v924 : Index := Scalar.indexCast arg11
  let c28 : Index := 28#32
  let c0_477 : Index := 0#32
  let c0_478 : Index := 0#32
  ![0, v924.toNat, 28, 0, 0]
def k0_off87 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v927 : Index := Scalar.indexCast arg11
  let c28_479 : Index := 28#32
  let c0_480 : Index := 0#32
  ![v927.toNat, 28, 0]
def k0_off88 (k0_t1 : Fin k0_t1_loop.trips) : Fin 5 → Nat :=
  let c0_483 : Index := 0#32
  let c0_i32_8 : BitVec 32 := 0#32
  let c1_i32 : BitVec 32 := 1#32
  let arg11 : BitVec 32 := Scf.iv c0_i32_8 c1_i32 k0_t1
  let c1_i32_482 : BitVec 32 := 1#32
  let v940 : BitVec 32 := Scalar.addi arg11 c1_i32_482
  let v941 : Index := Scalar.indexCast v940
  let c28_484 : Index := 28#32
  let c0_485 : Index := 0#32
  let c0_486 : Index := 0#32
  ![0, v941.toNat, 28, 0, 0]
def k0_off89 (k0_t1 : Fin k0_t1_loop.trips) : Fin 5 → Nat :=
  let c0_492 : Index := 0#32
  let c0_i32_8 : BitVec 32 := 0#32
  let c1_i32 : BitVec 32 := 1#32
  let arg11 : BitVec 32 := Scf.iv c0_i32_8 c1_i32 k0_t1
  let v956 : Index := Scalar.indexCast arg11
  let c29 : Index := 29#32
  let c0_493 : Index := 0#32
  let c0_494 : Index := 0#32
  ![0, v956.toNat, 29, 0, 0]
def k0_off90 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v959 : Index := Scalar.indexCast arg11
  let c29_495 : Index := 29#32
  let c0_496 : Index := 0#32
  ![v959.toNat, 29, 0]
def k0_off91 (k0_t1 : Fin k0_t1_loop.trips) : Fin 5 → Nat :=
  let c0_499 : Index := 0#32
  let c0_i32_8 : BitVec 32 := 0#32
  let c1_i32 : BitVec 32 := 1#32
  let arg11 : BitVec 32 := Scf.iv c0_i32_8 c1_i32 k0_t1
  let c1_i32_498 : BitVec 32 := 1#32
  let v972 : BitVec 32 := Scalar.addi arg11 c1_i32_498
  let v973 : Index := Scalar.indexCast v972
  let c29_500 : Index := 29#32
  let c0_501 : Index := 0#32
  let c0_502 : Index := 0#32
  ![0, v973.toNat, 29, 0, 0]
def k0_off92 (k0_t1 : Fin k0_t1_loop.trips) : Fin 5 → Nat :=
  let c0_508 : Index := 0#32
  let c0_i32_8 : BitVec 32 := 0#32
  let c1_i32 : BitVec 32 := 1#32
  let arg11 : BitVec 32 := Scf.iv c0_i32_8 c1_i32 k0_t1
  let v988 : Index := Scalar.indexCast arg11
  let c30 : Index := 30#32
  let c0_509 : Index := 0#32
  let c0_510 : Index := 0#32
  ![0, v988.toNat, 30, 0, 0]
def k0_off93 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v991 : Index := Scalar.indexCast arg11
  let c30_511 : Index := 30#32
  let c0_512 : Index := 0#32
  ![v991.toNat, 30, 0]
def k0_off94 (k0_t1 : Fin k0_t1_loop.trips) : Fin 5 → Nat :=
  let c0_515 : Index := 0#32
  let c0_i32_8 : BitVec 32 := 0#32
  let c1_i32 : BitVec 32 := 1#32
  let arg11 : BitVec 32 := Scf.iv c0_i32_8 c1_i32 k0_t1
  let c1_i32_514 : BitVec 32 := 1#32
  let v1004 : BitVec 32 := Scalar.addi arg11 c1_i32_514
  let v1005 : Index := Scalar.indexCast v1004
  let c30_516 : Index := 30#32
  let c0_517 : Index := 0#32
  let c0_518 : Index := 0#32
  ![0, v1005.toNat, 30, 0, 0]
def k0_off95 (k0_t1 : Fin k0_t1_loop.trips) : Fin 5 → Nat :=
  let c0_524 : Index := 0#32
  let c0_i32_8 : BitVec 32 := 0#32
  let c1_i32 : BitVec 32 := 1#32
  let arg11 : BitVec 32 := Scf.iv c0_i32_8 c1_i32 k0_t1
  let v1020 : Index := Scalar.indexCast arg11
  let c31 : Index := 31#32
  let c0_525 : Index := 0#32
  let c0_526 : Index := 0#32
  ![0, v1020.toNat, 31, 0, 0]
def k0_off96 (k0_t1 : Fin k0_t1_loop.trips) : Fin 3 → Nat :=
  let c0_i32_8 : BitVec 32 := 0#32
  let c1_i32 : BitVec 32 := 1#32
  let arg11 : BitVec 32 := Scf.iv c0_i32_8 c1_i32 k0_t1
  let v1023 : Index := Scalar.indexCast arg11
  let c31_527 : Index := 31#32
  let c0_528 : Index := 0#32
  ![v1023.toNat, 31, 0]
def k0_off97 (k0_t1 : Fin k0_t1_loop.trips) : Fin 5 → Nat :=
  let c0_531 : Index := 0#32
  let c0_i32_8 : BitVec 32 := 0#32
  let c1_i32 : BitVec 32 := 1#32
  let arg11 : BitVec 32 := Scf.iv c0_i32_8 c1_i32 k0_t1
  let c1_i32_530 : BitVec 32 := 1#32
  let v1036 : BitVec 32 := Scalar.addi arg11 c1_i32_530
  let v1037 : Index := Scalar.indexCast v1036
  let c31_532 : Index := 31#32
  let c0_533 : Index := 0#32
  let c0_534 : Index := 0#32
  ![0, v1037.toNat, 31, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x17x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

@[reducible] def k1_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k1_off1 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v5 : Index := Scalar.indexCast v4
  let c0 : Index := 0#32
  let c0_3 : Index := 0#32
  ![v5.toNat, 0, 0]
def k1_off2 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v21 : Index := Scalar.indexCast v4
  let c0_12 : Index := 0#32
  let c0_13 : Index := 0#32
  ![v21.toNat, 0, 0]
def k1_off3 (k1_t1 : Fin k1_t1_loop.trips) : Fin 5 → Nat :=
  let c0_15 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_14 : BitVec 32 := 1#32
  let v24 : BitVec 32 := Scalar.addi v4 c1_i32_14
  let v25 : Index := Scalar.indexCast v24
  let c0_16 : Index := 0#32
  let c0_17 : Index := 0#32
  let c0_18 : Index := 0#32
  ![0, v25.toNat, 0, 0, 0]
def k1_off4 (k1_t1 : Fin k1_t1_loop.trips) : Fin 5 → Nat :=
  let c0_19 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v28 : Index := Scalar.indexCast v4
  let c0_20 : Index := 0#32
  let c0_21 : Index := 0#32
  let c0_22 : Index := 0#32
  ![0, v28.toNat, 0, 0, 0]
def k1_off5 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v73 : Index := Scalar.indexCast v4
  let c1 : Index := 1#32
  let c0_37 : Index := 0#32
  ![v73.toNat, 1, 0]
def k1_off6 (k1_t1 : Fin k1_t1_loop.trips) : Fin 5 → Nat :=
  let c0_39 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_38 : BitVec 32 := 1#32
  let v76 : BitVec 32 := Scalar.addi v4 c1_i32_38
  let v77 : Index := Scalar.indexCast v76
  let c1_40 : Index := 1#32
  let c0_41 : Index := 0#32
  let c0_42 : Index := 0#32
  ![0, v77.toNat, 1, 0, 0]
def k1_off7 (k1_t1 : Fin k1_t1_loop.trips) : Fin 5 → Nat :=
  let c0_43 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v80 : Index := Scalar.indexCast v4
  let c1_44 : Index := 1#32
  let c0_45 : Index := 0#32
  let c0_46 : Index := 0#32
  ![0, v80.toNat, 1, 0, 0]
def k1_off8 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v125 : Index := Scalar.indexCast v4
  let c2 : Index := 2#32
  let c0_61 : Index := 0#32
  ![v125.toNat, 2, 0]
def k1_off9 (k1_t1 : Fin k1_t1_loop.trips) : Fin 5 → Nat :=
  let c0_63 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_62 : BitVec 32 := 1#32
  let v128 : BitVec 32 := Scalar.addi v4 c1_i32_62
  let v129 : Index := Scalar.indexCast v128
  let c2_64 : Index := 2#32
  let c0_65 : Index := 0#32
  let c0_66 : Index := 0#32
  ![0, v129.toNat, 2, 0, 0]
def k1_off10 (k1_t1 : Fin k1_t1_loop.trips) : Fin 5 → Nat :=
  let c0_67 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v132 : Index := Scalar.indexCast v4
  let c2_68 : Index := 2#32
  let c0_69 : Index := 0#32
  let c0_70 : Index := 0#32
  ![0, v132.toNat, 2, 0, 0]
def k1_off11 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v177 : Index := Scalar.indexCast v4
  let c3 : Index := 3#32
  let c0_85 : Index := 0#32
  ![v177.toNat, 3, 0]
def k1_off12 (k1_t1 : Fin k1_t1_loop.trips) : Fin 5 → Nat :=
  let c0_87 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_86 : BitVec 32 := 1#32
  let v180 : BitVec 32 := Scalar.addi v4 c1_i32_86
  let v181 : Index := Scalar.indexCast v180
  let c3_88 : Index := 3#32
  let c0_89 : Index := 0#32
  let c0_90 : Index := 0#32
  ![0, v181.toNat, 3, 0, 0]
def k1_off13 (k1_t1 : Fin k1_t1_loop.trips) : Fin 5 → Nat :=
  let c0_91 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v184 : Index := Scalar.indexCast v4
  let c3_92 : Index := 3#32
  let c0_93 : Index := 0#32
  let c0_94 : Index := 0#32
  ![0, v184.toNat, 3, 0, 0]
def k1_off14 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v229 : Index := Scalar.indexCast v4
  let c4 : Index := 4#32
  let c0_109 : Index := 0#32
  ![v229.toNat, 4, 0]
def k1_off15 (k1_t1 : Fin k1_t1_loop.trips) : Fin 5 → Nat :=
  let c0_111 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_110 : BitVec 32 := 1#32
  let v232 : BitVec 32 := Scalar.addi v4 c1_i32_110
  let v233 : Index := Scalar.indexCast v232
  let c4_112 : Index := 4#32
  let c0_113 : Index := 0#32
  let c0_114 : Index := 0#32
  ![0, v233.toNat, 4, 0, 0]
def k1_off16 (k1_t1 : Fin k1_t1_loop.trips) : Fin 5 → Nat :=
  let c0_115 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v236 : Index := Scalar.indexCast v4
  let c4_116 : Index := 4#32
  let c0_117 : Index := 0#32
  let c0_118 : Index := 0#32
  ![0, v236.toNat, 4, 0, 0]
def k1_off17 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v281 : Index := Scalar.indexCast v4
  let c5 : Index := 5#32
  let c0_133 : Index := 0#32
  ![v281.toNat, 5, 0]
def k1_off18 (k1_t1 : Fin k1_t1_loop.trips) : Fin 5 → Nat :=
  let c0_135 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_134 : BitVec 32 := 1#32
  let v284 : BitVec 32 := Scalar.addi v4 c1_i32_134
  let v285 : Index := Scalar.indexCast v284
  let c5_136 : Index := 5#32
  let c0_137 : Index := 0#32
  let c0_138 : Index := 0#32
  ![0, v285.toNat, 5, 0, 0]
def k1_off19 (k1_t1 : Fin k1_t1_loop.trips) : Fin 5 → Nat :=
  let c0_139 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v288 : Index := Scalar.indexCast v4
  let c5_140 : Index := 5#32
  let c0_141 : Index := 0#32
  let c0_142 : Index := 0#32
  ![0, v288.toNat, 5, 0, 0]
def k1_off20 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v333 : Index := Scalar.indexCast v4
  let c6 : Index := 6#32
  let c0_157 : Index := 0#32
  ![v333.toNat, 6, 0]
def k1_off21 (k1_t1 : Fin k1_t1_loop.trips) : Fin 5 → Nat :=
  let c0_159 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_158 : BitVec 32 := 1#32
  let v336 : BitVec 32 := Scalar.addi v4 c1_i32_158
  let v337 : Index := Scalar.indexCast v336
  let c6_160 : Index := 6#32
  let c0_161 : Index := 0#32
  let c0_162 : Index := 0#32
  ![0, v337.toNat, 6, 0, 0]
def k1_off22 (k1_t1 : Fin k1_t1_loop.trips) : Fin 5 → Nat :=
  let c0_163 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v340 : Index := Scalar.indexCast v4
  let c6_164 : Index := 6#32
  let c0_165 : Index := 0#32
  let c0_166 : Index := 0#32
  ![0, v340.toNat, 6, 0, 0]
def k1_off23 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v385 : Index := Scalar.indexCast v4
  let c7 : Index := 7#32
  let c0_181 : Index := 0#32
  ![v385.toNat, 7, 0]
def k1_off24 (k1_t1 : Fin k1_t1_loop.trips) : Fin 5 → Nat :=
  let c0_183 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_182 : BitVec 32 := 1#32
  let v388 : BitVec 32 := Scalar.addi v4 c1_i32_182
  let v389 : Index := Scalar.indexCast v388
  let c7_184 : Index := 7#32
  let c0_185 : Index := 0#32
  let c0_186 : Index := 0#32
  ![0, v389.toNat, 7, 0, 0]
def k1_off25 (k1_t1 : Fin k1_t1_loop.trips) : Fin 5 → Nat :=
  let c0_187 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v392 : Index := Scalar.indexCast v4
  let c7_188 : Index := 7#32
  let c0_189 : Index := 0#32
  let c0_190 : Index := 0#32
  ![0, v392.toNat, 7, 0, 0]
def k1_off26 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v437 : Index := Scalar.indexCast v4
  let c8 : Index := 8#32
  let c0_205 : Index := 0#32
  ![v437.toNat, 8, 0]
def k1_off27 (k1_t1 : Fin k1_t1_loop.trips) : Fin 5 → Nat :=
  let c0_207 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_206 : BitVec 32 := 1#32
  let v440 : BitVec 32 := Scalar.addi v4 c1_i32_206
  let v441 : Index := Scalar.indexCast v440
  let c8_208 : Index := 8#32
  let c0_209 : Index := 0#32
  let c0_210 : Index := 0#32
  ![0, v441.toNat, 8, 0, 0]
def k1_off28 (k1_t1 : Fin k1_t1_loop.trips) : Fin 5 → Nat :=
  let c0_211 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v444 : Index := Scalar.indexCast v4
  let c8_212 : Index := 8#32
  let c0_213 : Index := 0#32
  let c0_214 : Index := 0#32
  ![0, v444.toNat, 8, 0, 0]
def k1_off29 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v489 : Index := Scalar.indexCast v4
  let c9 : Index := 9#32
  let c0_229 : Index := 0#32
  ![v489.toNat, 9, 0]
def k1_off30 (k1_t1 : Fin k1_t1_loop.trips) : Fin 5 → Nat :=
  let c0_231 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_230 : BitVec 32 := 1#32
  let v492 : BitVec 32 := Scalar.addi v4 c1_i32_230
  let v493 : Index := Scalar.indexCast v492
  let c9_232 : Index := 9#32
  let c0_233 : Index := 0#32
  let c0_234 : Index := 0#32
  ![0, v493.toNat, 9, 0, 0]
def k1_off31 (k1_t1 : Fin k1_t1_loop.trips) : Fin 5 → Nat :=
  let c0_235 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v496 : Index := Scalar.indexCast v4
  let c9_236 : Index := 9#32
  let c0_237 : Index := 0#32
  let c0_238 : Index := 0#32
  ![0, v496.toNat, 9, 0, 0]
def k1_off32 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v541 : Index := Scalar.indexCast v4
  let c10 : Index := 10#32
  let c0_253 : Index := 0#32
  ![v541.toNat, 10, 0]
def k1_off33 (k1_t1 : Fin k1_t1_loop.trips) : Fin 5 → Nat :=
  let c0_255 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_254 : BitVec 32 := 1#32
  let v544 : BitVec 32 := Scalar.addi v4 c1_i32_254
  let v545 : Index := Scalar.indexCast v544
  let c10_256 : Index := 10#32
  let c0_257 : Index := 0#32
  let c0_258 : Index := 0#32
  ![0, v545.toNat, 10, 0, 0]
def k1_off34 (k1_t1 : Fin k1_t1_loop.trips) : Fin 5 → Nat :=
  let c0_259 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v548 : Index := Scalar.indexCast v4
  let c10_260 : Index := 10#32
  let c0_261 : Index := 0#32
  let c0_262 : Index := 0#32
  ![0, v548.toNat, 10, 0, 0]
def k1_off35 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v593 : Index := Scalar.indexCast v4
  let c11 : Index := 11#32
  let c0_277 : Index := 0#32
  ![v593.toNat, 11, 0]
def k1_off36 (k1_t1 : Fin k1_t1_loop.trips) : Fin 5 → Nat :=
  let c0_279 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_278 : BitVec 32 := 1#32
  let v596 : BitVec 32 := Scalar.addi v4 c1_i32_278
  let v597 : Index := Scalar.indexCast v596
  let c11_280 : Index := 11#32
  let c0_281 : Index := 0#32
  let c0_282 : Index := 0#32
  ![0, v597.toNat, 11, 0, 0]
def k1_off37 (k1_t1 : Fin k1_t1_loop.trips) : Fin 5 → Nat :=
  let c0_283 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v600 : Index := Scalar.indexCast v4
  let c11_284 : Index := 11#32
  let c0_285 : Index := 0#32
  let c0_286 : Index := 0#32
  ![0, v600.toNat, 11, 0, 0]
def k1_off38 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v645 : Index := Scalar.indexCast v4
  let c12 : Index := 12#32
  let c0_301 : Index := 0#32
  ![v645.toNat, 12, 0]
def k1_off39 (k1_t1 : Fin k1_t1_loop.trips) : Fin 5 → Nat :=
  let c0_303 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_302 : BitVec 32 := 1#32
  let v648 : BitVec 32 := Scalar.addi v4 c1_i32_302
  let v649 : Index := Scalar.indexCast v648
  let c12_304 : Index := 12#32
  let c0_305 : Index := 0#32
  let c0_306 : Index := 0#32
  ![0, v649.toNat, 12, 0, 0]
def k1_off40 (k1_t1 : Fin k1_t1_loop.trips) : Fin 5 → Nat :=
  let c0_307 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v652 : Index := Scalar.indexCast v4
  let c12_308 : Index := 12#32
  let c0_309 : Index := 0#32
  let c0_310 : Index := 0#32
  ![0, v652.toNat, 12, 0, 0]
def k1_off41 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v697 : Index := Scalar.indexCast v4
  let c13 : Index := 13#32
  let c0_325 : Index := 0#32
  ![v697.toNat, 13, 0]
def k1_off42 (k1_t1 : Fin k1_t1_loop.trips) : Fin 5 → Nat :=
  let c0_327 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_326 : BitVec 32 := 1#32
  let v700 : BitVec 32 := Scalar.addi v4 c1_i32_326
  let v701 : Index := Scalar.indexCast v700
  let c13_328 : Index := 13#32
  let c0_329 : Index := 0#32
  let c0_330 : Index := 0#32
  ![0, v701.toNat, 13, 0, 0]
def k1_off43 (k1_t1 : Fin k1_t1_loop.trips) : Fin 5 → Nat :=
  let c0_331 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v704 : Index := Scalar.indexCast v4
  let c13_332 : Index := 13#32
  let c0_333 : Index := 0#32
  let c0_334 : Index := 0#32
  ![0, v704.toNat, 13, 0, 0]
def k1_off44 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v749 : Index := Scalar.indexCast v4
  let c14 : Index := 14#32
  let c0_349 : Index := 0#32
  ![v749.toNat, 14, 0]
def k1_off45 (k1_t1 : Fin k1_t1_loop.trips) : Fin 5 → Nat :=
  let c0_351 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_350 : BitVec 32 := 1#32
  let v752 : BitVec 32 := Scalar.addi v4 c1_i32_350
  let v753 : Index := Scalar.indexCast v752
  let c14_352 : Index := 14#32
  let c0_353 : Index := 0#32
  let c0_354 : Index := 0#32
  ![0, v753.toNat, 14, 0, 0]
def k1_off46 (k1_t1 : Fin k1_t1_loop.trips) : Fin 5 → Nat :=
  let c0_355 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v756 : Index := Scalar.indexCast v4
  let c14_356 : Index := 14#32
  let c0_357 : Index := 0#32
  let c0_358 : Index := 0#32
  ![0, v756.toNat, 14, 0, 0]
def k1_off47 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v801 : Index := Scalar.indexCast v4
  let c15 : Index := 15#32
  let c0_373 : Index := 0#32
  ![v801.toNat, 15, 0]
def k1_off48 (k1_t1 : Fin k1_t1_loop.trips) : Fin 5 → Nat :=
  let c0_375 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_374 : BitVec 32 := 1#32
  let v804 : BitVec 32 := Scalar.addi v4 c1_i32_374
  let v805 : Index := Scalar.indexCast v804
  let c15_376 : Index := 15#32
  let c0_377 : Index := 0#32
  let c0_378 : Index := 0#32
  ![0, v805.toNat, 15, 0, 0]
def k1_off49 (k1_t1 : Fin k1_t1_loop.trips) : Fin 5 → Nat :=
  let c0_379 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v808 : Index := Scalar.indexCast v4
  let c15_380 : Index := 15#32
  let c0_381 : Index := 0#32
  let c0_382 : Index := 0#32
  ![0, v808.toNat, 15, 0, 0]
def k1_off50 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v853 : Index := Scalar.indexCast v4
  let c16 : Index := 16#32
  let c0_397 : Index := 0#32
  ![v853.toNat, 16, 0]
def k1_off51 (k1_t1 : Fin k1_t1_loop.trips) : Fin 5 → Nat :=
  let c0_399 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_398 : BitVec 32 := 1#32
  let v856 : BitVec 32 := Scalar.addi v4 c1_i32_398
  let v857 : Index := Scalar.indexCast v856
  let c16_400 : Index := 16#32
  let c0_401 : Index := 0#32
  let c0_402 : Index := 0#32
  ![0, v857.toNat, 16, 0, 0]
def k1_off52 (k1_t1 : Fin k1_t1_loop.trips) : Fin 5 → Nat :=
  let c0_403 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v860 : Index := Scalar.indexCast v4
  let c16_404 : Index := 16#32
  let c0_405 : Index := 0#32
  let c0_406 : Index := 0#32
  ![0, v860.toNat, 16, 0, 0]
def k1_off53 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v905 : Index := Scalar.indexCast v4
  let c17 : Index := 17#32
  let c0_421 : Index := 0#32
  ![v905.toNat, 17, 0]
def k1_off54 (k1_t1 : Fin k1_t1_loop.trips) : Fin 5 → Nat :=
  let c0_423 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_422 : BitVec 32 := 1#32
  let v908 : BitVec 32 := Scalar.addi v4 c1_i32_422
  let v909 : Index := Scalar.indexCast v908
  let c17_424 : Index := 17#32
  let c0_425 : Index := 0#32
  let c0_426 : Index := 0#32
  ![0, v909.toNat, 17, 0, 0]
def k1_off55 (k1_t1 : Fin k1_t1_loop.trips) : Fin 5 → Nat :=
  let c0_427 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v912 : Index := Scalar.indexCast v4
  let c17_428 : Index := 17#32
  let c0_429 : Index := 0#32
  let c0_430 : Index := 0#32
  ![0, v912.toNat, 17, 0, 0]
def k1_off56 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v957 : Index := Scalar.indexCast v4
  let c18 : Index := 18#32
  let c0_445 : Index := 0#32
  ![v957.toNat, 18, 0]
def k1_off57 (k1_t1 : Fin k1_t1_loop.trips) : Fin 5 → Nat :=
  let c0_447 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_446 : BitVec 32 := 1#32
  let v960 : BitVec 32 := Scalar.addi v4 c1_i32_446
  let v961 : Index := Scalar.indexCast v960
  let c18_448 : Index := 18#32
  let c0_449 : Index := 0#32
  let c0_450 : Index := 0#32
  ![0, v961.toNat, 18, 0, 0]
def k1_off58 (k1_t1 : Fin k1_t1_loop.trips) : Fin 5 → Nat :=
  let c0_451 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v964 : Index := Scalar.indexCast v4
  let c18_452 : Index := 18#32
  let c0_453 : Index := 0#32
  let c0_454 : Index := 0#32
  ![0, v964.toNat, 18, 0, 0]
def k1_off59 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1009 : Index := Scalar.indexCast v4
  let c19 : Index := 19#32
  let c0_469 : Index := 0#32
  ![v1009.toNat, 19, 0]
def k1_off60 (k1_t1 : Fin k1_t1_loop.trips) : Fin 5 → Nat :=
  let c0_471 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_470 : BitVec 32 := 1#32
  let v1012 : BitVec 32 := Scalar.addi v4 c1_i32_470
  let v1013 : Index := Scalar.indexCast v1012
  let c19_472 : Index := 19#32
  let c0_473 : Index := 0#32
  let c0_474 : Index := 0#32
  ![0, v1013.toNat, 19, 0, 0]
def k1_off61 (k1_t1 : Fin k1_t1_loop.trips) : Fin 5 → Nat :=
  let c0_475 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1016 : Index := Scalar.indexCast v4
  let c19_476 : Index := 19#32
  let c0_477 : Index := 0#32
  let c0_478 : Index := 0#32
  ![0, v1016.toNat, 19, 0, 0]
def k1_off62 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1061 : Index := Scalar.indexCast v4
  let c20 : Index := 20#32
  let c0_493 : Index := 0#32
  ![v1061.toNat, 20, 0]
def k1_off63 (k1_t1 : Fin k1_t1_loop.trips) : Fin 5 → Nat :=
  let c0_495 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_494 : BitVec 32 := 1#32
  let v1064 : BitVec 32 := Scalar.addi v4 c1_i32_494
  let v1065 : Index := Scalar.indexCast v1064
  let c20_496 : Index := 20#32
  let c0_497 : Index := 0#32
  let c0_498 : Index := 0#32
  ![0, v1065.toNat, 20, 0, 0]
def k1_off64 (k1_t1 : Fin k1_t1_loop.trips) : Fin 5 → Nat :=
  let c0_499 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1068 : Index := Scalar.indexCast v4
  let c20_500 : Index := 20#32
  let c0_501 : Index := 0#32
  let c0_502 : Index := 0#32
  ![0, v1068.toNat, 20, 0, 0]
def k1_off65 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1113 : Index := Scalar.indexCast v4
  let c21 : Index := 21#32
  let c0_517 : Index := 0#32
  ![v1113.toNat, 21, 0]
def k1_off66 (k1_t1 : Fin k1_t1_loop.trips) : Fin 5 → Nat :=
  let c0_519 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_518 : BitVec 32 := 1#32
  let v1116 : BitVec 32 := Scalar.addi v4 c1_i32_518
  let v1117 : Index := Scalar.indexCast v1116
  let c21_520 : Index := 21#32
  let c0_521 : Index := 0#32
  let c0_522 : Index := 0#32
  ![0, v1117.toNat, 21, 0, 0]
def k1_off67 (k1_t1 : Fin k1_t1_loop.trips) : Fin 5 → Nat :=
  let c0_523 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1120 : Index := Scalar.indexCast v4
  let c21_524 : Index := 21#32
  let c0_525 : Index := 0#32
  let c0_526 : Index := 0#32
  ![0, v1120.toNat, 21, 0, 0]
def k1_off68 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1165 : Index := Scalar.indexCast v4
  let c22 : Index := 22#32
  let c0_541 : Index := 0#32
  ![v1165.toNat, 22, 0]
def k1_off69 (k1_t1 : Fin k1_t1_loop.trips) : Fin 5 → Nat :=
  let c0_543 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_542 : BitVec 32 := 1#32
  let v1168 : BitVec 32 := Scalar.addi v4 c1_i32_542
  let v1169 : Index := Scalar.indexCast v1168
  let c22_544 : Index := 22#32
  let c0_545 : Index := 0#32
  let c0_546 : Index := 0#32
  ![0, v1169.toNat, 22, 0, 0]
def k1_off70 (k1_t1 : Fin k1_t1_loop.trips) : Fin 5 → Nat :=
  let c0_547 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1172 : Index := Scalar.indexCast v4
  let c22_548 : Index := 22#32
  let c0_549 : Index := 0#32
  let c0_550 : Index := 0#32
  ![0, v1172.toNat, 22, 0, 0]
def k1_off71 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1217 : Index := Scalar.indexCast v4
  let c23 : Index := 23#32
  let c0_565 : Index := 0#32
  ![v1217.toNat, 23, 0]
def k1_off72 (k1_t1 : Fin k1_t1_loop.trips) : Fin 5 → Nat :=
  let c0_567 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_566 : BitVec 32 := 1#32
  let v1220 : BitVec 32 := Scalar.addi v4 c1_i32_566
  let v1221 : Index := Scalar.indexCast v1220
  let c23_568 : Index := 23#32
  let c0_569 : Index := 0#32
  let c0_570 : Index := 0#32
  ![0, v1221.toNat, 23, 0, 0]
def k1_off73 (k1_t1 : Fin k1_t1_loop.trips) : Fin 5 → Nat :=
  let c0_571 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1224 : Index := Scalar.indexCast v4
  let c23_572 : Index := 23#32
  let c0_573 : Index := 0#32
  let c0_574 : Index := 0#32
  ![0, v1224.toNat, 23, 0, 0]
def k1_off74 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1269 : Index := Scalar.indexCast v4
  let c24 : Index := 24#32
  let c0_589 : Index := 0#32
  ![v1269.toNat, 24, 0]
def k1_off75 (k1_t1 : Fin k1_t1_loop.trips) : Fin 5 → Nat :=
  let c0_591 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_590 : BitVec 32 := 1#32
  let v1272 : BitVec 32 := Scalar.addi v4 c1_i32_590
  let v1273 : Index := Scalar.indexCast v1272
  let c24_592 : Index := 24#32
  let c0_593 : Index := 0#32
  let c0_594 : Index := 0#32
  ![0, v1273.toNat, 24, 0, 0]
def k1_off76 (k1_t1 : Fin k1_t1_loop.trips) : Fin 5 → Nat :=
  let c0_595 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1276 : Index := Scalar.indexCast v4
  let c24_596 : Index := 24#32
  let c0_597 : Index := 0#32
  let c0_598 : Index := 0#32
  ![0, v1276.toNat, 24, 0, 0]
def k1_off77 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1321 : Index := Scalar.indexCast v4
  let c25 : Index := 25#32
  let c0_613 : Index := 0#32
  ![v1321.toNat, 25, 0]
def k1_off78 (k1_t1 : Fin k1_t1_loop.trips) : Fin 5 → Nat :=
  let c0_615 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_614 : BitVec 32 := 1#32
  let v1324 : BitVec 32 := Scalar.addi v4 c1_i32_614
  let v1325 : Index := Scalar.indexCast v1324
  let c25_616 : Index := 25#32
  let c0_617 : Index := 0#32
  let c0_618 : Index := 0#32
  ![0, v1325.toNat, 25, 0, 0]
def k1_off79 (k1_t1 : Fin k1_t1_loop.trips) : Fin 5 → Nat :=
  let c0_619 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1328 : Index := Scalar.indexCast v4
  let c25_620 : Index := 25#32
  let c0_621 : Index := 0#32
  let c0_622 : Index := 0#32
  ![0, v1328.toNat, 25, 0, 0]
def k1_off80 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1373 : Index := Scalar.indexCast v4
  let c26 : Index := 26#32
  let c0_637 : Index := 0#32
  ![v1373.toNat, 26, 0]
def k1_off81 (k1_t1 : Fin k1_t1_loop.trips) : Fin 5 → Nat :=
  let c0_639 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_638 : BitVec 32 := 1#32
  let v1376 : BitVec 32 := Scalar.addi v4 c1_i32_638
  let v1377 : Index := Scalar.indexCast v1376
  let c26_640 : Index := 26#32
  let c0_641 : Index := 0#32
  let c0_642 : Index := 0#32
  ![0, v1377.toNat, 26, 0, 0]
def k1_off82 (k1_t1 : Fin k1_t1_loop.trips) : Fin 5 → Nat :=
  let c0_643 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1380 : Index := Scalar.indexCast v4
  let c26_644 : Index := 26#32
  let c0_645 : Index := 0#32
  let c0_646 : Index := 0#32
  ![0, v1380.toNat, 26, 0, 0]
def k1_off83 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1425 : Index := Scalar.indexCast v4
  let c27 : Index := 27#32
  let c0_661 : Index := 0#32
  ![v1425.toNat, 27, 0]
def k1_off84 (k1_t1 : Fin k1_t1_loop.trips) : Fin 5 → Nat :=
  let c0_663 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_662 : BitVec 32 := 1#32
  let v1428 : BitVec 32 := Scalar.addi v4 c1_i32_662
  let v1429 : Index := Scalar.indexCast v1428
  let c27_664 : Index := 27#32
  let c0_665 : Index := 0#32
  let c0_666 : Index := 0#32
  ![0, v1429.toNat, 27, 0, 0]
def k1_off85 (k1_t1 : Fin k1_t1_loop.trips) : Fin 5 → Nat :=
  let c0_667 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1432 : Index := Scalar.indexCast v4
  let c27_668 : Index := 27#32
  let c0_669 : Index := 0#32
  let c0_670 : Index := 0#32
  ![0, v1432.toNat, 27, 0, 0]
def k1_off86 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1477 : Index := Scalar.indexCast v4
  let c28 : Index := 28#32
  let c0_685 : Index := 0#32
  ![v1477.toNat, 28, 0]
def k1_off87 (k1_t1 : Fin k1_t1_loop.trips) : Fin 5 → Nat :=
  let c0_687 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_686 : BitVec 32 := 1#32
  let v1480 : BitVec 32 := Scalar.addi v4 c1_i32_686
  let v1481 : Index := Scalar.indexCast v1480
  let c28_688 : Index := 28#32
  let c0_689 : Index := 0#32
  let c0_690 : Index := 0#32
  ![0, v1481.toNat, 28, 0, 0]
def k1_off88 (k1_t1 : Fin k1_t1_loop.trips) : Fin 5 → Nat :=
  let c0_691 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1484 : Index := Scalar.indexCast v4
  let c28_692 : Index := 28#32
  let c0_693 : Index := 0#32
  let c0_694 : Index := 0#32
  ![0, v1484.toNat, 28, 0, 0]
def k1_off89 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1529 : Index := Scalar.indexCast v4
  let c29 : Index := 29#32
  let c0_709 : Index := 0#32
  ![v1529.toNat, 29, 0]
def k1_off90 (k1_t1 : Fin k1_t1_loop.trips) : Fin 5 → Nat :=
  let c0_711 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_710 : BitVec 32 := 1#32
  let v1532 : BitVec 32 := Scalar.addi v4 c1_i32_710
  let v1533 : Index := Scalar.indexCast v1532
  let c29_712 : Index := 29#32
  let c0_713 : Index := 0#32
  let c0_714 : Index := 0#32
  ![0, v1533.toNat, 29, 0, 0]
def k1_off91 (k1_t1 : Fin k1_t1_loop.trips) : Fin 5 → Nat :=
  let c0_715 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1536 : Index := Scalar.indexCast v4
  let c29_716 : Index := 29#32
  let c0_717 : Index := 0#32
  let c0_718 : Index := 0#32
  ![0, v1536.toNat, 29, 0, 0]
def k1_off92 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1581 : Index := Scalar.indexCast v4
  let c30 : Index := 30#32
  let c0_733 : Index := 0#32
  ![v1581.toNat, 30, 0]
def k1_off93 (k1_t1 : Fin k1_t1_loop.trips) : Fin 5 → Nat :=
  let c0_735 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_734 : BitVec 32 := 1#32
  let v1584 : BitVec 32 := Scalar.addi v4 c1_i32_734
  let v1585 : Index := Scalar.indexCast v1584
  let c30_736 : Index := 30#32
  let c0_737 : Index := 0#32
  let c0_738 : Index := 0#32
  ![0, v1585.toNat, 30, 0, 0]
def k1_off94 (k1_t1 : Fin k1_t1_loop.trips) : Fin 5 → Nat :=
  let c0_739 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1588 : Index := Scalar.indexCast v4
  let c30_740 : Index := 30#32
  let c0_741 : Index := 0#32
  let c0_742 : Index := 0#32
  ![0, v1588.toNat, 30, 0, 0]
def k1_off95 (k1_t1 : Fin k1_t1_loop.trips) : Fin 3 → Nat :=
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1633 : Index := Scalar.indexCast v4
  let c31 : Index := 31#32
  let c0_757 : Index := 0#32
  ![v1633.toNat, 31, 0]
def k1_off96 (k1_t1 : Fin k1_t1_loop.trips) : Fin 5 → Nat :=
  let c0_759 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let c1_i32_758 : BitVec 32 := 1#32
  let v1636 : BitVec 32 := Scalar.addi v4 c1_i32_758
  let v1637 : Index := Scalar.indexCast v1636
  let c31_760 : Index := 31#32
  let c0_761 : Index := 0#32
  let c0_762 : Index := 0#32
  ![0, v1637.toNat, 31, 0, 0]
def k1_off97 (k1_t1 : Fin k1_t1_loop.trips) : Fin 5 → Nat :=
  let c0_763 : Index := 0#32
  let c15_i32 : BitVec 32 := 15#32
  let c0_i32_1 : BitVec 32 := 0#32
  let c1_i32 : BitVec 32 := 1#32
  let arg17 : BitVec 32 := Scf.iv c0_i32_1 c1_i32 k1_t1
  let v4 : BitVec 32 := Scalar.subi c15_i32 arg17
  let v1640 : Index := Scalar.indexCast v4
  let c31_764 : Index := 31#32
  let c0_765 : Index := 0#32
  let c0_766 : Index := 0#32
  ![0, v1640.toNat, 31, 0, 0]
def cc1_transform_0 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_7 (i : grid1.Coords) : Fin 5 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc1_transform_8 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_9 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_10 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_11 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_12 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_13 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_14 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S16x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x32x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x17x32x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S16x32x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S16x64x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S16x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S16x64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S16x64x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S16x64x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S16x32x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== Kernel2.lean ====
abbrev S4096x4096 : Shape := ⟨2, ![4096, 4096]⟩
abbrev S4096x11008 : Shape := ⟨2, ![4096, 11008]⟩
abbrev S11008x4096 : Shape := ⟨2, ![11008, 4096]⟩
abbrev S1024x4096 : Shape := ⟨2, ![1024, 4096]⟩
abbrev S256x4096 : Shape := ⟨2, ![256, 4096]⟩
abbrev S1024x256 : Shape := ⟨2, ![1024, 256]⟩
abbrev S1024x11008 : Shape := ⟨2, ![1024, 11008]⟩
abbrev S11008x256 : Shape := ⟨2, ![11008, 256]⟩
abbrev S4096x256 : Shape := ⟨2, ![4096, 256]⟩
abbrev S4096x2048 : Shape := ⟨2, ![4096, 2048]⟩
abbrev S256x2048 : Shape := ⟨2, ![256, 2048]⟩
abbrev S512x11008 : Shape := ⟨2, ![512, 11008]⟩
abbrev S512x256 : Shape := ⟨2, ![512, 256]⟩

abbrev nBuf : Space → Nat
  | .hbm => 29
  | .vmem => 63
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S11008x4096, .f32⟩
  | .hbm, ⟨8, _⟩ => ⟨S11008x4096, .bf16⟩
  | .hbm, ⟨9, _⟩ => ⟨S11008x4096, .f32⟩
  | .hbm, ⟨10, _⟩ => ⟨S11008x4096, .bf16⟩
  | .hbm, ⟨11, _⟩ => ⟨S11008x4096, .bf16⟩
  | .hbm, ⟨12, _⟩ => ⟨S4096x4096, .bf16⟩
  | .hbm, ⟨13, _⟩ => ⟨S4096x11008, .f32⟩
  | .hbm, ⟨14, _⟩ => ⟨S4096x11008, .f32⟩
  | .hbm, ⟨15, _⟩ => ⟨S4096x11008, .bf16⟩
  | .hbm, ⟨16, _⟩ => ⟨S4096x4096, .f32⟩
  | .hbm, ⟨17, _⟩ => ⟨S4096x11008, .bf16⟩
  | .hbm, ⟨18, _⟩ => ⟨S4096x11008, .bf16⟩
  | .hbm, ⟨19, _⟩ => ⟨S11008x4096, .bf16⟩
  | .hbm, ⟨20, _⟩ => ⟨S11008x4096, .bf16⟩
  | .hbm, ⟨21, _⟩ => ⟨S11008x4096, .bf16⟩
  | .hbm, ⟨22, _⟩ => ⟨S4096x4096, .f32⟩
  | .hbm, ⟨23, _⟩ => ⟨S4096x4096, .f32⟩
  | .hbm, ⟨24, _⟩ => ⟨S11008x4096, .f32⟩
  | .hbm, ⟨25, _⟩ => ⟨S4096x11008, .f32⟩
  | .hbm, ⟨26, _⟩ => ⟨S11008x4096, .f32⟩
  | .hbm, ⟨27, _⟩ => ⟨S4096x11008, .f32⟩
  | .hbm, ⟨28, _⟩ => ⟨S11008x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1024x256, .f32⟩
  | .local _ .vmem, ⟨5, _⟩ => ⟨S1024x256, .f32⟩
  | .local _ .vmem, ⟨6, _⟩ => ⟨S1024x4096, .bf16⟩
  | .local _ .vmem, ⟨7, _⟩ => ⟨S1024x4096, .bf16⟩
  | .local _ .vmem, ⟨8, _⟩ => ⟨S256x4096, .bf16⟩
  | .local _ .vmem, ⟨9, _⟩ => ⟨S256x4096, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x11008, .bf16⟩
  | .local _ .vmem, ⟨17, _⟩ => ⟨S11008x256, .bf16⟩
  | .local _ .vmem, ⟨18, _⟩ => ⟨S11008x256, .bf16⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x4096, .bf16⟩
  | .local _ .vmem, ⟨24, _⟩ => ⟨S1024x4096, .bf16⟩
  | .local _ .vmem, ⟨25, _⟩ => ⟨S256x4096, .bf16⟩
  | .local _ .vmem, ⟨26, _⟩ => ⟨S256x4096, .bf16⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .bf16⟩
  | .local _ .vmem, ⟨32, _⟩ => ⟨S1024x256, .bf16⟩
  | .local _ .vmem, ⟨33, _⟩ => ⟨S1024x256, .bf16⟩
  | .local _ .vmem, ⟨34, _⟩ => ⟨S1024x256, .bf16⟩
  | .local _ .vmem, ⟨35, _⟩ => ⟨S4096x256, .bf16⟩
  | .local _ .vmem, ⟨36, _⟩ => ⟨S4096x256, .bf16⟩
  | .local _ .vmem, ⟨37, _⟩ => ⟨S4096x2048, .bf16⟩
  | .local _ .vmem, ⟨38, _⟩ => ⟨S256x2048, .bf16⟩
  | .local _ .vmem, ⟨39, _⟩ => ⟨S256x2048, .bf16⟩
  | .local _ .vmem, ⟨40, _⟩ => ⟨S4096x256, .bf16⟩
  | .local _ .vmem, ⟨41, _⟩ => ⟨S4096x256, .bf16⟩
  | .local _ .vmem, ⟨42, _⟩ => ⟨S4096x2048, .bf16⟩
  | .local _ .vmem, ⟨43, _⟩ => ⟨S256x2048, .bf16⟩
  | .local _ .vmem, ⟨44, _⟩ => ⟨S256x2048, .bf16⟩
  | .local _ .vmem, ⟨45, _⟩ => ⟨S4096x256, .bf16⟩
  | .local _ .vmem, ⟨46, _⟩ => ⟨S4096x256, .bf16⟩
  | .local _ .vmem, ⟨47, _⟩ => ⟨S4096x2048, .bf16⟩
  | .local _ .vmem, ⟨48, _⟩ => ⟨S256x2048, .bf16⟩
  | .local _ .vmem, ⟨49, _⟩ => ⟨S256x2048, .bf16⟩
  | .local _ .vmem, ⟨50, _⟩ => ⟨S512x11008, .bf16⟩
  | .local _ .vmem, ⟨51, _⟩ => ⟨S512x11008, .bf16⟩
  | .local _ .vmem, ⟨52, _⟩ => ⟨S11008x256, .bf16⟩
  | .local _ .vmem, ⟨53, _⟩ => ⟨S11008x256, .bf16⟩
  | .local _ .vmem, ⟨54, _⟩ => ⟨S512x256, .f32⟩
  | .local _ .vmem, ⟨55, _⟩ => ⟨S512x256, .f32⟩
  | .local _ .vmem, ⟨56, _⟩ => ⟨S1024x11008, .bf16⟩
  | .local _ .vmem, ⟨57, _⟩ => ⟨S11008x256, .bf16⟩
  | .local _ .vmem, ⟨58, _⟩ => ⟨S11008x256, .bf16⟩
  | .local _ .vmem, ⟨59, _⟩ => ⟨S1024x256, .f32⟩
  | .local _ .vmem, ⟨60, _⟩ => ⟨S1024x256, .f32⟩
  | .local _ .vmem, ⟨61, _⟩ => ⟨S1024x256, .f32⟩
  | .local _ .vmem, ⟨62, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg3_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc8_sem0_0 : DmaSem sig := 56
abbrev cc8_sem1_0 : DmaSem sig := 57
abbrev cc8_sem1_1 : DmaSem sig := 58
abbrev cc8_sem2_0 : DmaSem sig := 59
abbrev cc8_sem2_1 : DmaSem sig := 60
abbrev cc8_sem3_0 : DmaSem sig := 61
abbrev cc8_sem3_1 : DmaSem sig := 62

abbrev nD : Nat := 1
abbrev τ : Topo := Topo.v7x

variable {F : FTy → Type} [FloatOps F]

abbrev grid0 : Pipeline.Grid := ⟨3, ![4, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 43, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S1024x11008 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S11008x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 43, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1024x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![2, 43, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 1 → Memref sig .tc .vmem S4096x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false, true]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 43, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S4096x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 1 → Memref sig .tc .vmem S4096x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false, true]

abbrev stage5_2 : Fin 2 → Memref sig .tc .vmem S256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 43, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 1 → Memref sig .tc .vmem S4096x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false, true]

abbrev stage6_2 : Fin 2 → Memref sig .tc .vmem S256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 16, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x11008 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S11008x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 16, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S1024x11008 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S11008x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]
-- ==== Reference2Ideal.lean ====
abbrev S4096x4096 : Shape := ⟨2, ![4096, 4096]⟩
abbrev S4096x11008 : Shape := ⟨2, ![4096, 11008]⟩
abbrev S11008x4096 : Shape := ⟨2, ![11008, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x4096, .f32⟩
  | .hbm, ⟨5, _⟩ => ⟨S4096x4096, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S_, .f32⟩
  | .hbm, ⟨13, _⟩ => ⟨S4096x11008, .f32⟩
  | .hbm, ⟨14, _⟩ => ⟨S4096x11008, .f32⟩
  | .hbm, ⟨15, _⟩ => ⟨S_, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S4096x11008, .f32⟩
  | .hbm, ⟨21, _⟩ => ⟨S4096x11008, .f32⟩
  | .hbm, ⟨22, _⟩ => ⟨S4096x4096, .f32⟩
  | .hbm, ⟨23, _⟩ => ⟨S4096x4096, .f32⟩
  | .hbm, ⟨24, _⟩ => ⟨S4096x11008, .f32⟩
  | .hbm, ⟨25, _⟩ => ⟨S11008x4096, .f32⟩
  | .hbm, ⟨26, _⟩ => ⟨S4096x11008, .f32⟩
  | .hbm, ⟨27, _⟩ => ⟨S4096x11008, .f32⟩
  | .hbm, ⟨28, _⟩ => ⟨S4096x11008, .f32⟩
  | .hbm, ⟨29, _⟩ => ⟨S11008x4096, .f32⟩
  | .hbm, ⟨30, _⟩ => ⟨S4096x11008, .f32⟩
  | .hbm, ⟨31, _⟩ => ⟨S4096x4096, .f32⟩
  | .hbm, ⟨32, _⟩ => ⟨S4096x11008, .f32⟩
  | .hbm, ⟨33, _⟩ => ⟨S4096x11008, .f32⟩
  | .hbm, ⟨34, _⟩ => ⟨S4096x11008, .f32⟩
  | .hbm, ⟨35, _⟩ => ⟨S4096x11008, .f32⟩
  | .hbm, ⟨36, _⟩ => ⟨S11008x4096, .f32⟩
  | .hbm, ⟨37, _⟩ => ⟨S4096x11008, .f32⟩
  | .hbm, ⟨38, _⟩ => ⟨S4096x4096, .f32⟩
  | .hbm, ⟨39, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Kernel3.lean ====
abbrev S4096x4096 : Shape := ⟨2, ![4096, 4096]⟩
abbrev S4096x6144 : Shape := ⟨2, ![4096, 6144]⟩
abbrev S4096x512 : Shape := ⟨2, ![4096, 512]⟩
abbrev S6144x4096 : Shape := ⟨2, ![6144, 4096]⟩
abbrev S512x4096 : Shape := ⟨2, ![512, 4096]⟩
abbrev S1024x4096 : Shape := ⟨2, ![1024, 4096]⟩
abbrev S1024x512 : Shape := ⟨2, ![1024, 512]⟩
abbrev S4096x1024 : Shape := ⟨2, ![4096, 1024]⟩
abbrev S512x512 : Shape := ⟨2, ![512, 512]⟩

abbrev nBuf : Space → Nat
  | .hbm => 32
  | .vmem => 50
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S4096x4096, .f32⟩
  | .hbm, ⟨3, _⟩ => ⟨S4096x512, .f32⟩
  | .hbm, ⟨4, _⟩ => ⟨S4096x6144, .f32⟩
  | .hbm, ⟨5, _⟩ => ⟨S4096x4096, .f32⟩
  | .hbm, ⟨6, _⟩ => ⟨S4096x512, .f32⟩
  | .hbm, ⟨7, _⟩ => ⟨S4096x4096, .f32⟩
  | .hbm, ⟨8, _⟩ => ⟨S4096x4096, .bf16⟩
  | .hbm, ⟨9, _⟩ => ⟨S6144x4096, .f32⟩
  | .hbm, ⟨10, _⟩ => ⟨S6144x4096, .bf16⟩
  | .hbm, ⟨11, _⟩ => ⟨S4096x4096, .f32⟩
  | .hbm, ⟨12, _⟩ => ⟨S4096x4096, .bf16⟩
  | .hbm, ⟨13, _⟩ => ⟨S512x4096, .f32⟩
  | .hbm, ⟨14, _⟩ => ⟨S512x4096, .bf16⟩
  | .hbm, ⟨15, _⟩ => ⟨S4096x6144, .bf16⟩
  | .hbm, ⟨16, _⟩ => ⟨S4096x4096, .bf16⟩
  | .hbm, ⟨17, _⟩ => ⟨S4096x512, .bf16⟩
  | .hbm, ⟨18, _⟩ => ⟨S4096x6144, .f32⟩
  | .hbm, ⟨19, _⟩ => ⟨S4096x4096, .f32⟩
  | .hbm, ⟨20, _⟩ => ⟨S4096x512, .f32⟩
  | .hbm, ⟨21, _⟩ => ⟨S6144x4096, .bf16⟩
  | .hbm, ⟨22, _⟩ => ⟨S4096x4096, .bf16⟩
  | .hbm, ⟨23, _⟩ => ⟨S512x4096, .bf16⟩
  | .hbm, ⟨24, _⟩ => ⟨S4096x4096, .f32⟩
  | .hbm, ⟨25, _⟩ => ⟨S4096x4096, .f32⟩
  | .hbm, ⟨26, _⟩ => ⟨S6144x4096, .f32⟩
  | .hbm, ⟨27, _⟩ => ⟨S4096x6144, .f32⟩
  | .hbm, ⟨28, _⟩ => ⟨S4096x4096, .f32⟩
  | .hbm, ⟨29, _⟩ => ⟨S4096x4096, .f32⟩
  | .hbm, ⟨30, _⟩ => ⟨S512x4096, .f32⟩
  | .hbm, ⟨31, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x4096, .bf16⟩
  | .local _ .vmem, ⟨7, _⟩ => ⟨S1024x4096, .bf16⟩
  | .local _ .vmem, ⟨8, _⟩ => ⟨S512x4096, .bf16⟩
  | .local _ .vmem, ⟨9, _⟩ => ⟨S512x4096, .bf16⟩
  | .local _ .vmem, ⟨10, _⟩ => ⟨S1024x512, .f32⟩
  | .local _ .vmem, ⟨11, _⟩ => ⟨S1024x512, .f32⟩
  | .local _ .vmem, ⟨12, _⟩ => ⟨S1024x4096, .bf16⟩
  | .local _ .vmem, ⟨13, _⟩ => ⟨S1024x4096, .bf16⟩
  | .local _ .vmem, ⟨14, _⟩ => ⟨S512x4096, .bf16⟩
  | .local _ .vmem, ⟨15, _⟩ => ⟨S1024x512, .f32⟩
  | .local _ .vmem, ⟨16, _⟩ => ⟨S1024x512, .f32⟩
  | .local _ .vmem, ⟨17, _⟩ => ⟨S4096x1024, .bf16⟩
  | .local _ .vmem, ⟨18, _⟩ => ⟨S4096x1024, .bf16⟩
  | .local _ .vmem, ⟨19, _⟩ => ⟨S4096x512, .bf16⟩
  | .local _ .vmem, ⟨20, _⟩ => ⟨S4096x512, .bf16⟩
  | .local _ .vmem, ⟨21, _⟩ => ⟨S1024x512, .bf16⟩
  | .local _ .vmem, ⟨22, _⟩ => ⟨S1024x512, .bf16⟩
  | .local _ .vmem, ⟨23, _⟩ => ⟨S4096x1024, .bf16⟩
  | .local _ .vmem, ⟨24, _⟩ => ⟨S4096x1024, .bf16⟩
  | .local _ .vmem, ⟨25, _⟩ => ⟨S4096x512, .bf16⟩
  | .local _ .vmem, ⟨26, _⟩ => ⟨S4096x512, .bf16⟩
  | .local _ .vmem, ⟨27, _⟩ => ⟨S1024x512, .bf16⟩
  | .local _ .vmem, ⟨28, _⟩ => ⟨S1024x512, .bf16⟩
  | .local _ .vmem, ⟨29, _⟩ => ⟨S4096x512, .bf16⟩
  | .local _ .vmem, ⟨30, _⟩ => ⟨S4096x512, .bf16⟩
  | .local _ .vmem, ⟨31, _⟩ => ⟨S4096x512, .bf16⟩
  | .local _ .vmem, ⟨32, _⟩ => ⟨S512x512, .bf16⟩
  | .local _ .vmem, ⟨33, _⟩ => ⟨S512x512, .bf16⟩
  | .local _ .vmem, ⟨34, _⟩ => ⟨S1024x4096, .bf16⟩
  | .local _ .vmem, ⟨35, _⟩ => ⟨S1024x4096, .bf16⟩
  | .local _ .vmem, ⟨36, _⟩ => ⟨S4096x512, .bf16⟩
  | .local _ .vmem, ⟨37, _⟩ => ⟨S4096x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .bf16⟩
  | .local _ .vmem, ⟨43, _⟩ => ⟨S1024x512, .bf16⟩
  | .local _ .vmem, ⟨44, _⟩ => ⟨S512x512, .bf16⟩
  | .local _ .vmem, ⟨45, _⟩ => ⟨S512x512, .bf16⟩
  | .local _ .vmem, ⟨46, _⟩ => ⟨S1024x512, .f32⟩
  | .local _ .vmem, ⟨47, _⟩ => ⟨S1024x512, .f32⟩
  | .local _ .vmem, ⟨48, _⟩ => ⟨S1024x512, .f32⟩
  | .local _ .vmem, ⟨49, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg3_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem3_1 : DmaSem sig := 49

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![6, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![4, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Reference3Ideal.lean ====
abbrev S4096x4096 : Shape := ⟨2, ![4096, 4096]⟩
abbrev S4096x6144 : Shape := ⟨2, ![4096, 6144]⟩
abbrev S4096x512 : Shape := ⟨2, ![4096, 512]⟩
abbrev S6144x4096 : Shape := ⟨2, ![6144, 4096]⟩
abbrev S512x4096 : Shape := ⟨2, ![512, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S4096x4096, .f32⟩
  | .hbm, ⟨3, _⟩ => ⟨S4096x512, .f32⟩
  | .hbm, ⟨4, _⟩ => ⟨S4096x6144, .f32⟩
  | .hbm, ⟨5, _⟩ => ⟨S4096x4096, .f32⟩
  | .hbm, ⟨6, _⟩ => ⟨S4096x512, .f32⟩
  | .hbm, ⟨7, _⟩ => ⟨S4096x4096, .f32⟩
  | .hbm, ⟨8, _⟩ => ⟨S4096x6144, .f32⟩
  | .hbm, ⟨9, _⟩ => ⟨S4096x4096, .f32⟩
  | .hbm, ⟨10, _⟩ => ⟨S4096x512, .f32⟩
  | .hbm, ⟨11, _⟩ => ⟨S6144x4096, .f32⟩
  | .hbm, ⟨12, _⟩ => ⟨S4096x6144, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S512x4096, .f32⟩
  | .hbm, ⟨18, _⟩ => ⟨S4096x512, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel4.lean ====
abbrev S4096x2048 : Shape := ⟨2, ![4096, 2048]⟩
abbrev S4096x4096 : Shape := ⟨2, ![4096, 4096]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S1024x4096 : Shape := ⟨2, ![1024, 4096]⟩
abbrev S512x4096 : Shape := ⟨2, ![512, 4096]⟩
abbrev S4096x1024 : Shape := ⟨2, ![4096, 1024]⟩
abbrev S4096x512 : Shape := ⟨2, ![4096, 512]⟩

abbrev nBuf : Space → Nat
  | .hbm => 18
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x2048, .bf16⟩
  | .hbm, ⟨6, _⟩ => ⟨S4096x2048, .bf16⟩
  | .hbm, ⟨7, _⟩ => ⟨S4096x4096, .bf16⟩
  | .hbm, ⟨8, _⟩ => ⟨S4096x4096, .bf16⟩
  | .hbm, ⟨9, _⟩ => ⟨S2048x4096, .bf16⟩
  | .hbm, ⟨10, _⟩ => ⟨S4096x4096, .f32⟩
  | .hbm, ⟨11, _⟩ => ⟨S2048x4096, .bf16⟩
  | .hbm, ⟨12, _⟩ => ⟨S4096x4096, .f32⟩
  | .hbm, ⟨13, _⟩ => ⟨S4096x4096, .f32⟩
  | .hbm, ⟨14, _⟩ => ⟨S2048x4096, .bf16⟩
  | .hbm, ⟨15, _⟩ => ⟨S2048x4096, .bf16⟩
  | .hbm, ⟨16, _⟩ => ⟨S2048x4096, .f32⟩
  | .hbm, ⟨17, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .bf16⟩
  | .local _ .vmem, ⟨9, _⟩ => ⟨S1024x2048, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x4096, .bf16⟩
  | .local _ .vmem, ⟨17, _⟩ => ⟨S1024x4096, .bf16⟩
  | .local _ .vmem, ⟨18, _⟩ => ⟨S512x4096, .bf16⟩
  | .local _ .vmem, ⟨19, _⟩ => ⟨S512x4096, .bf16⟩
  | .local _ .vmem, ⟨20, _⟩ => ⟨S1024x512, .f32⟩
  | .local _ .vmem, ⟨21, _⟩ => ⟨S1024x512, .f32⟩
  | .local _ .vmem, ⟨22, _⟩ => ⟨S4096x1024, .bf16⟩
  | .local _ .vmem, ⟨23, _⟩ => ⟨S4096x1024, .bf16⟩
  | .local _ .vmem, ⟨24, _⟩ => ⟨S4096x512, .bf16⟩
  | .local _ .vmem, ⟨25, _⟩ => ⟨S4096x512, .bf16⟩
  | .local _ .vmem, ⟨26, _⟩ => ⟨S1024x512, .bf16⟩
  | .local _ .vmem, ⟨27, _⟩ => ⟨S1024x512, .bf16⟩
  | .local _ .vmem, ⟨28, _⟩ => ⟨S4096x1024, .bf16⟩
  | .local _ .vmem, ⟨29, _⟩ => ⟨S4096x1024, .bf16⟩
  | .local _ .vmem, ⟨30, _⟩ => ⟨S4096x512, .bf16⟩
  | .local _ .vmem, ⟨31, _⟩ => ⟨S4096x512, .bf16⟩
  | .local _ .vmem, ⟨32, _⟩ => ⟨S1024x512, .bf16⟩
  | .local _ .vmem, ⟨33, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference4Ideal.lean ====
abbrev S4096x2048 : Shape := ⟨2, ![4096, 2048]⟩
abbrev S4096x4096 : Shape := ⟨2, ![4096, 4096]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S2048x4096, .f32⟩
  | .hbm, ⟨12, _⟩ => ⟨S2048x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S6272x128 : Shape := ⟨2, ![6272, 128]⟩
abbrev S128x128 : Shape := ⟨2, ![128, 128]⟩

abbrev nBuf : Space → Nat
  | .hbm => 7
  | .vmem => 14
  | .smem => 0
  | _ => 0

abbrev bufTy : (tb : Table) → Fin (tcTables nBuf tb) → BufTy
  | .hbm, ⟨0, _⟩ => ⟨S6272x128, .f32⟩
  | .hbm, ⟨1, _⟩ => ⟨S6272x128, .f32⟩
  | .hbm, ⟨2, _⟩ => ⟨S6272x128, .f32⟩
  | .hbm, ⟨3, _⟩ => ⟨S6272x128, .f32⟩
  | .hbm, ⟨4, _⟩ => ⟨S6272x128, .f32⟩
  | .hbm, ⟨5, _⟩ => ⟨S6272x128, .f32⟩
  | .hbm, ⟨6, _⟩ => ⟨S6272x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S6272x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S6272x128 : Shape := ⟨2, ![6272, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6272x128, .f32⟩
  | .hbm, ⟨1, _⟩ => ⟨S6272x128, .f32⟩
  | .hbm, ⟨2, _⟩ => ⟨S6272x128, .f32⟩
  | .hbm, ⟨3, _⟩ => ⟨S6272x128, .f32⟩
  | .hbm, ⟨4, _⟩ => ⟨S_, .f32⟩
  | .hbm, ⟨5, _⟩ => ⟨S6272x128, .f32⟩
  | .hbm, ⟨6, _⟩ => ⟨S6272x128, .f32⟩
  | .hbm, ⟨7, _⟩ => ⟨S_, .f32⟩
  | .hbm, ⟨8, _⟩ => ⟨S6272x128, .f32⟩
  | .hbm, ⟨9, _⟩ => ⟨S6272x128, .f32⟩
  | .hbm, ⟨10, _⟩ => ⟨S6272x128, .f32⟩
  | .hbm, ⟨11, _⟩ => ⟨S_, .f32⟩
  | .hbm, ⟨12, _⟩ => ⟨S6272x128, .f32⟩
  | .hbm, ⟨13, _⟩ => ⟨S6272x128, .f32⟩
  | .hbm, ⟨14, _⟩ => ⟨S6272x128, .f32⟩
  | .hbm, ⟨15, _⟩ => ⟨S_, .f32⟩
  | .hbm, ⟨16, _⟩ => ⟨S6272x128, .f32⟩
  | .hbm, ⟨17, _⟩ => ⟨S6272x128, .f32⟩
  | .hbm, ⟨18, _⟩ => ⟨S6272x128, .f32⟩
  | .hbm, ⟨19, _⟩ => ⟨S_, .f32⟩
  | .hbm, ⟨20, _⟩ => ⟨S6272x128, .f32⟩
  | .hbm, ⟨21, _⟩ => ⟨S6272x128, .f32⟩
  | .hbm, ⟨22, _⟩ => ⟨S_, .f32⟩
  | .hbm, ⟨23, _⟩ => ⟨S6272x128, .f32⟩
  | .hbm, ⟨24, _⟩ => ⟨S6272x128, .f32⟩
  | .hbm, ⟨25, _⟩ => ⟨S6272x128, .f32⟩
  | .hbm, ⟨26, _⟩ => ⟨S_, .f32⟩
  | .hbm, ⟨27, _⟩ => ⟨S6272x128, .f32⟩
  | .hbm, ⟨28, _⟩ => ⟨S6272x128, .f32⟩
  | .hbm, ⟨29, _⟩ => ⟨S6272x128, .f32⟩
  | .hbm, ⟨30, _⟩ => ⟨S_, .f32⟩
  | .hbm, ⟨31, _⟩ => ⟨S6272x128, .f32⟩
  | .hbm, ⟨32, _⟩ => ⟨S6272x128, .f32⟩
  | .hbm, ⟨33, _⟩ => ⟨S6272x128, .f32⟩
  | .hbm, ⟨34, _⟩ => ⟨S_, .f32⟩
  | .hbm, ⟨35, _⟩ => ⟨S6272x128, .f32⟩
  | .hbm, ⟨36, _⟩ => ⟨S6272x128, .f32⟩
  | _, _ => ⟨S6272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S4096x6144 : Shape := ⟨2, ![4096, 6144]⟩
abbrev S6144x4096 : Shape := ⟨2, ![6144, 4096]⟩
abbrev S4096x4096 : Shape := ⟨2, ![4096, 4096]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S4096x6144, .f32⟩
  | .hbm, ⟨2, _⟩ => ⟨S6144x4096, .f32⟩
  | .hbm, ⟨3, _⟩ => ⟨S6144x4096, .bf16⟩
  | .hbm, ⟨4, _⟩ => ⟨S4096x6144, .bf16⟩
  | .hbm, ⟨5, _⟩ => ⟨S4096x4096, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x6144 : Shape := ⟨2, ![4096, 6144]⟩
abbrev S6144x4096 : Shape := ⟨2, ![6144, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x6144, .f32⟩
  | .hbm, ⟨2, _⟩ => ⟨S6144x4096, .f32⟩
  | .hbm, ⟨3, _⟩ => ⟨S4096x4096, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Sem.lean ====
/- What the recurrence computes, chunk by chunk, in the kernel's own vector operations (any float semantics `F`):
   one step of the state, the row sums, and how a load or a store of one row reads. -/
module

public import proofs.«01_k».proof.Proof.Gen.KernelIdeal.Skeleton
public import Idealize.ShloMosaic.Lib.Exec
public import Idealize.ShloMosaic.Lib.Tactic
public import Idealize.ShloMosaic.Lib.WritesUnit
public import Idealize.ShloMosaic.Lib.VecWindow
public import Idealize.ShloMosaic.Lib.Pointwise
public import Idealize.ShloMosaic.Lib.ValueLayout
public import Idealize.ShloMosaic.Lib.Pipeline.Kit

@[expose] public section

set_option maxRecDepth 8192

noncomputable section

namespace Cert.KernelIdeal.Hand

open Cert.KernelIdeal.Gen
open Idealize.ShloMosaic

variable {F : FTy → Type} [FloatOps F]

/-- The sum over the key axis, as the kernel takes it. -/
def colsum (x : FVec F S64x128 .f32) : FVec F S1x128 .f32 :=
  shapeCast S1x128 (multiReduction .add [0] S128 x 0x00000000#32 reduces_S64x128_S128 (.inl rfl) rfl) shapeCasts_S128_S1x128

/-- A row repeated along the key axis. -/
def spread (x : FVec F S1x128 .f32) : FVec F S64x128 .f32 := broadcastTo S64x128 x broadcasts_S1x128_S64x128

/-- One step of one value row of the state. -/
def newS (s a w b k : FVec F S64x128 .f32) (v : FVec F S1x128 .f32) : FVec F S64x128 .f32 :=
  addf (addf (mulf s w) (mulf (spread (colsum (mulf s a))) b)) (mulf (spread v) k)

/-- Time `t` of a chunk of keys. -/
def k64 (x : Vec F S16x64x128 .f32) (t : Fin 16) : FVec F S64x128 .f32 := fun y => x (ix3 t (y 0) (y 1))
/-- Row `i` at time `t` of a chunk of values. -/
def v128 (x : Vec F S16x32x128 .f32) (t : Fin 16) (i : Fin 32) : FVec F S1x128 .f32 := fun y => x (ix3 t i (y 1))
/-- Row `i` of the state at time `t` of a chunk. -/
def s64 (x : Vec F S1x17x32x64x128 .f32) (t : Fin 17) (i : Fin 32) : FVec F S64x128 .f32 := fun y => x (ix5 0 t i (y 0) (y 1))
/-- Row `i` of a carried state. -/
def c64 (x : Vec F S32x64x128 .f32) (i : Fin 32) : FVec F S64x128 .f32 := fun y => x (ix3 i (y 0) (y 1))

section Loads
variable {κ : Kind} {sp : Space}

theorem drop3 (x : Vec F S1x64x128 .f32) (c : Fin 64) (l : Fin 128) :
    shapeCast S64x128 x shapeCasts_S1x64x128_S64x128 (ix2 c l) = x (ix3 (0 : Fin 1) c l) :=
  shapeCast_apply x _ _ _ (by
    rw [Shape.rowMajor_val_three, Shape.rowMajor_val_two]
    show (0 * 64 + c.val) * 128 + l.val = c.val * 128 + l.val
    omega)

theorem drop5 (x : Vec F S1x1x1x64x128 .f32) (c : Fin 64) (l : Fin 128) :
    shapeCast S64x128 x shapeCasts_S1x1x1x64x128_S64x128 (ix2 c l) = x (ix5 (0 : Fin 1) (0 : Fin 1) (0 : Fin 1) c l) :=
  shapeCast_apply x _ _ _ (by
    rw [Shape.rowMajor_val_five, Shape.rowMajor_val_two]
    show (((0 * 1 + 0) * 1 + 0) * 64 + c.val) * 128 + l.val = c.val * 128 + l.val
    omega)

theorem k64_load (v : View sig κ sp S16x64x128 .f32) (f : v.ty.Contents (Elt F)) (t : Fin 16) {off : Fin 3 → ℕ}
    (inb : ∀ a, off a + S1x64x128.size a ≤ S16x64x128.size a) (h : off = ![t.val, 0, 0]) :
    shapeCast S64x128 (v.readAt (Elt F) (Rect.unit (s := S16x64x128) off S1x64x128.size inb).toLoadRect f : Vec F S1x64x128 .f32) shapeCasts_S1x64x128_S64x128
      = k64 (v.read (Elt F) f) t := by
  subst h
  funext y
  rw [eq_ix2 y]
  generalize (y 0 : Fin 64) = c
  generalize (y 1 : Fin 128) = l
  refine (drop3 _ c l).trans ?_
  refine congrArg (v.read (Elt F) f) (funext fun a => Fin.ext ?_)
  match a with
  | ⟨0, _⟩ => show t.val + 1 * 0 = t.val; omega
  | ⟨1, _⟩ => show 0 + 1 * c.val = c.val; omega
  | ⟨2, _⟩ => show 0 + 1 * l.val = l.val; omega

theorem v128_load (v : View sig κ sp S16x32x128 .f32) (f : v.ty.Contents (Elt F)) (t : Fin 16) (i : Fin 32) {off : Fin 3 → ℕ}
    (inb : ∀ a, off a + S1x1x128.size a ≤ S16x32x128.size a) (h : off = ![t.val, i.val, 0]) :
    shapeCast S1x128 (v.readAt (Elt F) (Rect.unit (s := S16x32x128) off S1x1x128.size inb).toLoadRect f : Vec F S1x1x128 .f32) shapeCasts_S1x1x128_S1x128
      = v128 (v.read (Elt F) f) t i := by
  subst h
  funext y
  unfold v128
  rw [View.readAt_unit v f inb rfl inb]
  pointwise
  unfold VecWindow.window
  refine congrArg _ (funext fun a => Fin.ext ?_)
  match a with
  | ⟨0, _⟩ => show t.val + 1 * 0 = t.val; omega
  | ⟨1, _⟩ => show i.val + 1 * _ = i.val; have := (y 0).isLt; simp
  | ⟨2, _⟩ => show 0 + 1 * (y 1).val = (y 1).val; omega

theorem s64_load (v : View sig κ sp S1x17x32x64x128 .f32) (f : v.ty.Contents (Elt F)) (t : Fin 17) (i : Fin 32) {off : Fin 5 → ℕ}
    (inb : ∀ a, off a + S1x1x1x64x128.size a ≤ S1x17x32x64x128.size a) (h : off = ![0, t.val, i.val, 0, 0]) :
    shapeCast S64x128 (v.readAt (Elt F) (Rect.unit (s := S1x17x32x64x128) off S1x1x1x64x128.size inb).toLoadRect f : Vec F S1x1x1x64x128 .f32) shapeCasts_S1x1x1x64x128_S64x128
      = s64 (v.read (Elt F) f) t i := by
  subst h
  funext y
  rw [eq_ix2 y]
  generalize (y 0 : Fin 64) = c
  generalize (y 1 : Fin 128) = l
  refine (drop5 _ c l).trans ?_
  refine congrArg (v.read (Elt F) f) (funext fun a => Fin.ext ?_)
  match a with
  | ⟨0, _⟩ => rfl
  | ⟨1, _⟩ => show t.val + 1 * 0 = t.val; omega
  | ⟨2, _⟩ => show i.val + 1 * 0 = i.val; omega
  | ⟨3, _⟩ => show 0 + 1 * c.val = c.val; omega
  | ⟨4, _⟩ => show 0 + 1 * l.val = l.val; omega

theorem c64_load (v : View sig κ sp S32x64x128 .f32) (f : v.ty.Contents (Elt F)) (i : Fin 32) {off : Fin 3 → ℕ}
    (inb : ∀ a, off a + S1x64x128.size a ≤ S32x64x128.size a) (h : off = ![i.val, 0, 0]) :
    shapeCast S64x128 (v.readAt (Elt F) (Rect.unit (s := S32x64x128) off S1x64x128.size inb).toLoadRect f : Vec F S1x64x128 .f32) shapeCasts_S1x64x128_S64x128
      = c64 (v.read (Elt F) f) i := by
  subst h
  funext y
  rw [eq_ix2 y]
  generalize (y 0 : Fin 64) = c
  generalize (y 1 : Fin 128) = l
  refine (drop3 _ c l).trans ?_
  refine congrArg (v.read (Elt F) f) (funext fun a => Fin.ext ?_)
  match a with
  | ⟨0, _⟩ => show i.val + 1 * 0 = i.val; omega
  | ⟨1, _⟩ => show 0 + 1 * c.val = c.val; omega
  | ⟨2, _⟩ => show 0 + 1 * l.val = l.val; omega

/-- Rows below `n` of time `t` stored, the rest as before. -/
def Rows3 (v : View sig κ sp S16x32x128 .f32) (f : v.ty.Contents (Elt F)) (t : Fin 16) (G : Fin 32 → FVec F S1x128 .f32) (n : ℕ)
    (L : List (View.Piece (Elt F) S16x32x128 .f32)) : Prop :=
  ∀ (u : Fin 16) (i : Fin 32) (l : Fin 128), v.read (Elt F) (v.writes (Elt F) f L) (ix3 u i l)
    = if u = t ∧ i.val < n then G i (ix2 0 l) else v.read (Elt F) f (ix3 u i l)

theorem Rows3.nil (v : View sig κ sp S16x32x128 .f32) (f : v.ty.Contents (Elt F)) (t : Fin 16) (G : Fin 32 → FVec F S1x128 .f32) :
    Rows3 v f t G 0 [] := fun u i l => by rw [View.writes_nil, if_neg (by omega)]

theorem Rows3.cons {v : View sig κ sp S16x32x128 .f32} {f : v.ty.Contents (Elt F)} {t : Fin 16} {G : Fin 32 → FVec F S1x128 .f32}
    {L : List (View.Piece (Elt F) S16x32x128 .f32)} (n : Fin 32) {off : Fin 3 → ℕ} (h : off = ![t.val, n.val, 0])
    {inb : ∀ a, off a + S1x1x128.size a ≤ S16x32x128.size a} {pay : FVec F S1x1x128 .f32}
    (hpay : pay = shapeCast S1x1x128 (G n) shapeCasts_S1x128_S1x1x128) (ih : Rows3 v f t G n.val L) :
    Rows3 v f t G (n.val + 1) (⟨Rect.unit (s := S16x32x128) off S1x1x128.size inb, pay⟩ :: L) := fun u i l => by
  subst h; subst hpay
  rw [View.read_writes_cons_unit v f inb _ L _ rfl]
  by_cases hm : u = t ∧ i = n
  · obtain ⟨rfl, rfl⟩ := hm
    rw [dif_pos (fun a => by
      match a with
      | ⟨0, _⟩ => exact ⟨Nat.le_refl _, Nat.lt_succ_self _⟩
      | ⟨1, _⟩ => exact ⟨Nat.le_refl _, Nat.lt_succ_self _⟩
      | ⟨2, _⟩ => exact ⟨Nat.zero_le _, by show l.val < 0 + 128; omega⟩), if_pos ⟨rfl, Nat.lt_succ_self _⟩]
    pointwise
    refine congrArg _ (funext fun a => Fin.ext ?_)
    match a with
    | ⟨0, _⟩ => simp [ix2]
    | ⟨1, _⟩ => rfl
  · rw [dif_neg (fun hall => hm ⟨Fin.ext (by
        have := hall 0; change t.val ≤ u.val ∧ u.val < t.val + 1 at this; omega), Fin.ext (by
        have := hall 1; change n.val ≤ i.val ∧ i.val < n.val + 1 at this; omega)⟩), ih u i l]
    by_cases hc : u = t ∧ i.val < n.val
    · rw [if_pos hc, if_pos ⟨hc.1, by omega⟩]
    · rw [if_neg hc, if_neg (fun hd => hc ⟨hd.1, by
        rcases Nat.lt_or_ge i.val n.val with h | h
        · exact h
        · exact absurd ⟨hd.1, Fin.ext (by omega)⟩ hm⟩)]

theorem Rows3.fin {v : View sig κ sp S16x32x128 .f32} {f : v.ty.Contents (Elt F)} {t : Fin 16} {G : Fin 32 → FVec F S1x128 .f32}
    {L : List (View.Piece (Elt F) S16x32x128 .f32)} (h : Rows3 v f t G 32 L) (u : Fin 16) (i : Fin 32) (l : Fin 128) :
    v.read (Elt F) (v.writes (Elt F) f L) (ix3 u i l) = if u = t then G i (ix2 0 l) else v.read (Elt F) f (ix3 u i l) :=
  (h u i l).trans (by simp only [i.isLt, and_true])

/-- Rows below `n` of the state at time `t` stored, the rest as before. -/
def Rows5 (v : View sig κ sp S1x17x32x64x128 .f32) (f : v.ty.Contents (Elt F)) (t : Fin 17) (G : Fin 32 → FVec F S64x128 .f32) (n : ℕ)
    (L : List (View.Piece (Elt F) S1x17x32x64x128 .f32)) : Prop :=
  ∀ (u : Fin 17) (i : Fin 32) (c : Fin 64) (l : Fin 128), v.read (Elt F) (v.writes (Elt F) f L) (ix5 0 u i c l)
    = if u = t ∧ i.val < n then G i (ix2 c l) else v.read (Elt F) f (ix5 0 u i c l)

theorem Rows5.nil (v : View sig κ sp S1x17x32x64x128 .f32) (f : v.ty.Contents (Elt F)) (t : Fin 17) (G : Fin 32 → FVec F S64x128 .f32) :
    Rows5 v f t G 0 [] := fun u i c l => by rw [View.writes_nil, if_neg (by omega)]

theorem Rows5.cons {v : View sig κ sp S1x17x32x64x128 .f32} {f : v.ty.Contents (Elt F)} {t : Fin 17} {G : Fin 32 → FVec F S64x128 .f32}
    {L : List (View.Piece (Elt F) S1x17x32x64x128 .f32)} (n : Fin 32) {off : Fin 5 → ℕ} (h : off = ![0, t.val, n.val, 0, 0])
    {inb : ∀ a, off a + S1x1x1x64x128.size a ≤ S1x17x32x64x128.size a} {pay : FVec F S1x1x1x64x128 .f32}
    (hpay : pay = shapeCast S1x1x1x64x128 (G n) shapeCasts_S64x128_S1x1x1x64x128) (ih : Rows5 v f t G n.val L) :
    Rows5 v f t G (n.val + 1) (⟨Rect.unit (s := S1x17x32x64x128) off S1x1x1x64x128.size inb, pay⟩ :: L) := fun u i c l => by
  subst h; subst hpay
  rw [View.read_writes_cons_unit v f inb _ L _ rfl]
  by_cases hm : u = t ∧ i = n
  · obtain ⟨rfl, rfl⟩ := hm
    rw [dif_pos (fun a => by
      match a with
      | ⟨0, _⟩ => exact ⟨Nat.le_refl _, Nat.lt_succ_self _⟩
      | ⟨1, _⟩ => exact ⟨Nat.le_refl _, Nat.lt_succ_self _⟩
      | ⟨2, _⟩ => exact ⟨Nat.le_refl _, Nat.lt_succ_self _⟩
      | ⟨3, _⟩ => exact ⟨Nat.zero_le _, by show c.val < 0 + 64; omega⟩
      | ⟨4, _⟩ => exact ⟨Nat.zero_le _, by show l.val < 0 + 128; omega⟩), if_pos ⟨rfl, Nat.lt_succ_self _⟩]
    pointwise
    refine congrArg _ (funext fun a => Fin.ext ?_)
    match a with
    | ⟨0, _⟩ => rfl
    | ⟨1, _⟩ => rfl
  · rw [dif_neg (fun hall => hm ⟨Fin.ext (by
        have := hall 1; change t.val ≤ u.val ∧ u.val < t.val + 1 at this; omega), Fin.ext (by
        have := hall 2; change n.val ≤ i.val ∧ i.val < n.val + 1 at this; omega)⟩), ih u i c l]
    by_cases hc : u = t ∧ i.val < n.val
    · rw [if_pos hc, if_pos ⟨hc.1, by omega⟩]
    · rw [if_neg hc, if_neg (fun hd => hc ⟨hd.1, by
        rcases Nat.lt_or_ge i.val n.val with h | h
        · exact h
        · exact absurd ⟨hd.1, Fin.ext (by omega)⟩ hm⟩)]

theorem Rows5.fin {v : View sig κ sp S1x17x32x64x128 .f32} {f : v.ty.Contents (Elt F)} {t : Fin 17} {G : Fin 32 → FVec F S64x128 .f32}
    {L : List (View.Piece (Elt F) S1x17x32x64x128 .f32)} (h : Rows5 v f t G 32 L) (u : Fin 17) (i : Fin 32) (c : Fin 64) (l : Fin 128) :
    v.read (Elt F) (v.writes (Elt F) f L) (ix5 0 u i c l) = if u = t then G i (ix2 c l) else v.read (Elt F) f (ix5 0 u i c l) :=
  (h u i c l).trans (by simp only [i.isLt, and_true])

/-- Rows below `n` of a carried state stored, the rest as before. -/
def RowsC (v : View sig κ sp S32x64x128 .f32) (f : v.ty.Contents (Elt F)) (G : Fin 32 → FVec F S64x128 .f32) (n : ℕ)
    (L : List (View.Piece (Elt F) S32x64x128 .f32)) : Prop :=
  ∀ (i : Fin 32) (c : Fin 64) (l : Fin 128), v.read (Elt F) (v.writes (Elt F) f L) (ix3 i c l)
    = if i.val < n then G i (ix2 c l) else v.read (Elt F) f (ix3 i c l)

theorem RowsC.nil (v : View sig κ sp S32x64x128 .f32) (f : v.ty.Contents (Elt F)) (G : Fin 32 → FVec F S64x128 .f32) :
    RowsC v f G 0 [] := fun i c l => by rw [View.writes_nil, if_neg (by omega)]

theorem RowsC.cons {v : View sig κ sp S32x64x128 .f32} {f : v.ty.Contents (Elt F)} {G : Fin 32 → FVec F S64x128 .f32}
    {L : List (View.Piece (Elt F) S32x64x128 .f32)} (n : Fin 32) {off : Fin 3 → ℕ} (h : off = ![n.val, 0, 0])
    {inb : ∀ a, off a + S1x64x128.size a ≤ S32x64x128.size a} {pay : FVec F S1x64x128 .f32}
    (hpay : pay = shapeCast S1x64x128 (G n) shapeCasts_S64x128_S1x64x128) (ih : RowsC v f G n.val L) :
    RowsC v f G (n.val + 1) (⟨Rect.unit (s := S32x64x128) off S1x64x128.size inb, pay⟩ :: L) := fun i c l => by
  subst h; subst hpay
  rw [View.read_writes_cons_unit v f inb _ L _ rfl]
  by_cases hm : i = n
  · subst hm
    rw [dif_pos (fun a => by
      match a with
      | ⟨0, _⟩ => exact ⟨Nat.le_refl _, Nat.lt_succ_self _⟩
      | ⟨1, _⟩ => exact ⟨Nat.zero_le _, by show c.val < 0 + 64; omega⟩
      | ⟨2, _⟩ => exact ⟨Nat.zero_le _, by show l.val < 0 + 128; omega⟩), if_pos (Nat.lt_succ_self _)]
    pointwise
    refine congrArg _ (funext fun a => Fin.ext ?_)
    match a with
    | ⟨0, _⟩ => rfl
    | ⟨1, _⟩ => rfl
  · rw [dif_neg (fun hall => hm (Fin.ext (by
        have := hall 0; change n.val ≤ i.val ∧ i.val < n.val + 1 at this; omega))), ih i c l]
    by_cases hc : i.val < n.val
    · rw [if_pos hc, if_pos (by omega)]
    · rw [if_neg hc, if_neg (fun hd => hm (Fin.ext (by omega)))]

theorem RowsC.fin {v : View sig κ sp S32x64x128 .f32} {f : v.ty.Contents (Elt F)} {G : Fin 32 → FVec F S64x128 .f32}
    {L : List (View.Piece (Elt F) S32x64x128 .f32)} (h : RowsC v f G 32 L) (i : Fin 32) (c : Fin 64) (l : Fin 128) :
    v.read (Elt F) (v.writes (Elt F) f L) (ix3 i c l) = G i (ix2 c l) :=
  (h i c l).trans (if_pos i.isLt)

/-- Time `t` of a chunk of keys stored whole. -/
theorem read_k64 (v : View sig κ sp S16x64x128 .f32) (f : v.ty.Contents (Elt F)) (t : Fin 16) (G : FVec F S64x128 .f32) {off : Fin 3 → ℕ} (h : off = ![t.val, 0, 0])
    (inb : ∀ a, off a + S1x64x128.size a ≤ S16x64x128.size a) (pay : FVec F S1x64x128 .f32)
    (hpay : pay = shapeCast S1x64x128 G shapeCasts_S64x128_S1x64x128) (u : Fin 16) (c : Fin 64) (l : Fin 128) :
    v.read (Elt F) (v.writes (Elt F) f [⟨Rect.unit (s := S16x64x128) off S1x64x128.size inb, pay⟩]) (ix3 u c l)
      = if u = t then G (ix2 c l) else v.read (Elt F) f (ix3 u c l) := by
  subst h; subst hpay
  rw [View.read_writes_cons_unit v f inb _ [] _ rfl]
  by_cases hm : u = t
  · subst hm
    rw [dif_pos (fun a => by
      match a with
      | ⟨0, _⟩ => exact ⟨Nat.le_refl _, Nat.lt_succ_self _⟩
      | ⟨1, _⟩ => exact ⟨Nat.zero_le _, by show c.val < 0 + 64; omega⟩
      | ⟨2, _⟩ => exact ⟨Nat.zero_le _, by show l.val < 0 + 128; omega⟩), if_pos rfl]
    pointwise
    refine congrArg _ (funext fun a => Fin.ext ?_)
    match a with
    | ⟨0, _⟩ => rfl
    | ⟨1, _⟩ => rfl
  · rw [dif_neg (fun hall => hm (Fin.ext (by
        have := hall 0; change t.val ≤ u.val ∧ u.val < t.val + 1 at this; omega))), View.writes_nil, if_neg hm]

end Loads

end Cert.KernelIdeal.Hand

end
-- ==== Proof.Trip0.lean ====
/- One trip of the forward scan's loop: what it leaves in the outputs, in the terms of Sem.lean. -/
module

public import proofs.«01_k».proof.Proof.Sem

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Time `k` of a chunk. -/
abbrev tm0 (k : Fin k0_t1_loop.trips) : Fin 16 := ⟨k.val, Nat.lt_of_lt_of_le k.isLt k0_t1_abs.2.1⟩

section Vals
variable (r w kk a b : Vec F S16x64x128 .f32) (v : Vec F S16x32x128 .f32) (t : Fin 16) (d8 : Vec F S1x17x32x64x128 .f32) (i : Fin 32)
/-- Row `i` of the state after time `t`, from the states stored so far. -/
def N8 : FVec F S64x128 .f32 := newS (s64 d8 t.castSucc i) (k64 a t) (k64 w t) (k64 b t) (k64 kk t) (v128 v t i)
/-- The row sum the step feeds back. -/
def N9 : FVec F S1x128 .f32 := colsum (mulf (s64 d8 t.castSucc i) (k64 a t))
/-- The row sum the step puts out. -/
def N7 : FVec F S1x128 .f32 := colsum (mulf (N8 w kk a b v t d8 i) (k64 r t))
end Vals

section Loads
variable {s1 s2 s3 s4 s5 s6 s8 : Space} {c1 c2 c3 c4 c5 c6 c8 : Kind}
variable (v1 : View sig c1 s1 S16x64x128 .f32) (v2 : View sig c2 s2 S16x64x128 .f32) (v3 : View sig c3 s3 S16x64x128 .f32)
  (v4 : View sig c4 s4 S16x64x128 .f32) (v5 : View sig c5 s5 S16x64x128 .f32) (v6 : View sig c6 s6 S16x32x128 .f32)
  (v8 : View sig c8 s8 S1x17x32x64x128 .f32)
variable (X1 : v1.ty.Contents (Elt F)) (X2 : v2.ty.Contents (Elt F)) (X3 : v3.ty.Contents (Elt F)) (X4 : v4.ty.Contents (Elt F))
  (X5 : v5.ty.Contents (Elt F)) (X6 : v6.ty.Contents (Elt F)) (f8 : v8.ty.Contents (Elt F))
variable (t : Fin 16) (i : Fin 32) {oK oV : Fin 3 → ℕ} {oS : Fin 5 → ℕ}
variable (hK : oK = ![t.val, 0, 0]) (hV : oV = ![t.val, i.val, 0]) (hS : oS = ![0, t.castSucc.val, i.val, 0, 0])
variable {iK : ∀ a, oK a + S1x64x128.size a ≤ S16x64x128.size a} {iV : ∀ a, oV a + S1x1x128.size a ≤ S16x32x128.size a}
  {iS : ∀ a, oS a + S1x1x1x64x128.size a ≤ S1x17x32x64x128.size a}
include hK hS

theorem ld9 :
    colsum (mulf (shapeCast S64x128 (v8.readAt (Elt F) (Rect.unit (s := S1x17x32x64x128) oS S1x1x1x64x128.size iS).toLoadRect f8 : Vec F S1x1x1x64x128 .f32) shapeCasts_S1x1x1x64x128_S64x128)
      (shapeCast S64x128 (v4.readAt (Elt F) (Rect.unit (s := S16x64x128) oK S1x64x128.size iK).toLoadRect X4 : Vec F S1x64x128 .f32) shapeCasts_S1x64x128_S64x128))
      = N9 (v4.read (Elt F) X4) t (v8.read (Elt F) f8) i := by
  rw [s64_load v8 f8 t.castSucc i iS hS, k64_load v4 X4 t iK hK]; rfl

include hV
theorem ld8 :
    newS (shapeCast S64x128 (v8.readAt (Elt F) (Rect.unit (s := S1x17x32x64x128) oS S1x1x1x64x128.size iS).toLoadRect f8 : Vec F S1x1x1x64x128 .f32) shapeCasts_S1x1x1x64x128_S64x128)
      (shapeCast S64x128 (v4.readAt (Elt F) (Rect.unit (s := S16x64x128) oK S1x64x128.size iK).toLoadRect X4 : Vec F S1x64x128 .f32) shapeCasts_S1x64x128_S64x128)
      (shapeCast S64x128 (v2.readAt (Elt F) (Rect.unit (s := S16x64x128) oK S1x64x128.size iK).toLoadRect X2 : Vec F S1x64x128 .f32) shapeCasts_S1x64x128_S64x128)
      (shapeCast S64x128 (v5.readAt (Elt F) (Rect.unit (s := S16x64x128) oK S1x64x128.size iK).toLoadRect X5 : Vec F S1x64x128 .f32) shapeCasts_S1x64x128_S64x128)
      (shapeCast S64x128 (v3.readAt (Elt F) (Rect.unit (s := S16x64x128) oK S1x64x128.size iK).toLoadRect X3 : Vec F S1x64x128 .f32) shapeCasts_S1x64x128_S64x128)
      (shapeCast S1x128 (v6.readAt (Elt F) (Rect.unit (s := S16x32x128) oV S1x1x128.size iV).toLoadRect X6 : Vec F S1x1x128 .f32) shapeCasts_S1x1x128_S1x128)
      = N8 (v2.read (Elt F) X2) (v3.read (Elt F) X3) (v4.read (Elt F) X4) (v5.read (Elt F) X5) (v6.read (Elt F) X6) t (v8.read (Elt F) f8) i := by
  rw [s64_load v8 f8 t.castSucc i iS hS, k64_load v4 X4 t iK hK, k64_load v2 X2 t iK hK, k64_load v5 X5 t iK hK, k64_load v3 X3 t iK hK,
    v128_load v6 X6 t i iV hV]; rfl

theorem ld7 :
    colsum (mulf (newS (shapeCast S64x128 (v8.readAt (Elt F) (Rect.unit (s := S1x17x32x64x128) oS S1x1x1x64x128.size iS).toLoadRect f8 : Vec F S1x1x1x64x128 .f32) shapeCasts_S1x1x1x64x128_S64x128)
      (shapeCast S64x128 (v4.readAt (Elt F) (Rect.unit (s := S16x64x128) oK S1x64x128.size iK).toLoadRect X4 : Vec F S1x64x128 .f32) shapeCasts_S1x64x128_S64x128)
      (shapeCast S64x128 (v2.readAt (Elt F) (Rect.unit (s := S16x64x128) oK S1x64x128.size iK).toLoadRect X2 : Vec F S1x64x128 .f32) shapeCasts_S1x64x128_S64x128)
      (shapeCast S64x128 (v5.readAt (Elt F) (Rect.unit (s := S16x64x128) oK S1x64x128.size iK).toLoadRect X5 : Vec F S1x64x128 .f32) shapeCasts_S1x64x128_S64x128)
      (shapeCast S64x128 (v3.readAt (Elt F) (Rect.unit (s := S16x64x128) oK S1x64x128.size iK).toLoadRect X3 : Vec F S1x64x128 .f32) shapeCasts_S1x64x128_S64x128)
      (shapeCast S1x128 (v6.readAt (Elt F) (Rect.unit (s := S16x32x128) oV S1x1x128.size iV).toLoadRect X6 : Vec F S1x1x128 .f32) shapeCasts_S1x1x128_S1x128))
      (shapeCast S64x128 (v1.readAt (Elt F) (Rect.unit (s := S16x64x128) oK S1x64x128.size iK).toLoadRect X1 : Vec F S1x64x128 .f32) shapeCasts_S1x64x128_S64x128))
      = N7 (v1.read (Elt F) X1) (v2.read (Elt F) X2) (v3.read (Elt F) X3) (v4.read (Elt F) X4) (v5.read (Elt F) X5) (v6.read (Elt F) X6) t (v8.read (Elt F) f8) i := by
  rw [ld8 v2 v3 v4 v5 v6 v8 X2 X3 X4 X5 X6 f8 t i hK hV hS, k64_load v1 X1 t iK hK]; rfl
end Loads

theorem trip0 (𝒱 : Variants) (c : Dev nD) (bd : Option 𝒱.V) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S32x64x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (k : Fin k0_t1_loop.trips) (E : Set ℕ) (f7 : BufTy.Contents (Elt F) arg7.view.ty) (f8 : BufTy.Contents (Elt F) arg8.view.ty) (f9 : BufTy.Contents (Elt F) arg9.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗
            (∃ g7, (arg7.view.loc (c : Thread nD τ) ↦[arg7.view.set]{fullShare} g7) ∗ ⌜∀ u i l, (arg7.view.read (Elt F) g7) (ix3 u i l) = if u = tm0 k then N7 (arg1.view.read (Elt F) X1) (arg2.view.read (Elt F) X2) (arg3.view.read (Elt F) X3) (arg4.view.read (Elt F) X4) (arg5.view.read (Elt F) X5) (arg6.view.read (Elt F) X6) (tm0 k) (arg8.view.read (Elt F) f8) i (ix2 0 l) else (arg7.view.read (Elt F) f7) (ix3 u i l)⌝) ∗
            (∃ g8, (arg8.view.loc (c : Thread nD τ) ↦[arg8.view.set]{fullShare} g8) ∗ ⌜∀ u i e l, (arg8.view.read (Elt F) g8) (ix5 0 u i e l) = if u = (tm0 k).succ then N8 (arg2.view.read (Elt F) X2) (arg3.view.read (Elt F) X3) (arg4.view.read (Elt F) X4) (arg5.view.read (Elt F) X5) (arg6.view.read (Elt F) X6) (tm0 k) (arg8.view.read (Elt F) f8) i (ix2 e l) else (arg8.view.read (Elt F) f8) (ix5 0 u i e l)⌝) ∗
            (∃ g9, (arg9.view.loc (c : Thread nD τ) ↦[arg9.view.set]{fullShare} g9) ∗ ⌜∀ u i l, (arg9.view.read (Elt F) g9) (ix3 u i l) = if u = tm0 k then N9 (arg4.view.read (Elt F) X4) (tm0 k) (arg8.view.read (Elt F) f8) i (ix2 0 l) else (arg9.view.read (Elt F) f9) (ix3 u i l)⌝))) := by
  have hk : k.val < 16 := Nat.lt_of_lt_of_le k.isLt k0_t1_abs.2.1
  unfold k0_t1_body
  iintro ⟨H1, H2, H3, H4, H5, H6, H7, H8, H9⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    refine Rows3.fin ?_
    exact (Rows3.cons ⟨31, by decide⟩ (k0_off96_eq k) (congrArg (fun z => shapeCast S1x1x128 z shapeCasts_S1x128_S1x1x128) (ld7 arg1.view arg2.view arg3.view arg4.view arg5.view arg6.view arg8.view X1 X2 X3 X4 X5 X6 f8 (tm0 k) ⟨31, by decide⟩ (k0_off1_eq k) (k0_off96_eq k) (k0_off95_eq k))) (Rows3.cons ⟨30, by decide⟩ (k0_off93_eq k) (congrArg (fun z => shapeCast S1x1x128 z shapeCasts_S1x128_S1x1x128) (ld7 arg1.view arg2.view arg3.view arg4.view arg5.view arg6.view arg8.view X1 X2 X3 X4 X5 X6 f8 (tm0 k) ⟨30, by decide⟩ (k0_off1_eq k) (k0_off93_eq k) (k0_off92_eq k))) (Rows3.cons ⟨29, by decide⟩ (k0_off90_eq k) (congrArg (fun z => shapeCast S1x1x128 z shapeCasts_S1x128_S1x1x128) (ld7 arg1.view arg2.view arg3.view arg4.view arg5.view arg6.view arg8.view X1 X2 X3 X4 X5 X6 f8 (tm0 k) ⟨29, by decide⟩ (k0_off1_eq k) (k0_off90_eq k) (k0_off89_eq k))) (Rows3.cons ⟨28, by decide⟩ (k0_off87_eq k) (congrArg (fun z => shapeCast S1x1x128 z shapeCasts_S1x128_S1x1x128) (ld7 arg1.view arg2.view arg3.view arg4.view arg5.view arg6.view arg8.view X1 X2 X3 X4 X5 X6 f8 (tm0 k) ⟨28, by decide⟩ (k0_off1_eq k) (k0_off87_eq k) (k0_off86_eq k))) (Rows3.cons ⟨27, by decide⟩ (k0_off84_eq k) (congrArg (fun z => shapeCast S1x1x128 z shapeCasts_S1x128_S1x1x128) (ld7 arg1.view arg2.view arg3.view arg4.view arg5.view arg6.view arg8.view X1 X2 X3 X4 X5 X6 f8 (tm0 k) ⟨27, by decide⟩ (k0_off1_eq k) (k0_off84_eq k) (k0_off83_eq k))) (Rows3.cons ⟨26, by decide⟩ (k0_off81_eq k) (congrArg (fun z => shapeCast S1x1x128 z shapeCasts_S1x128_S1x1x128) (ld7 arg1.view arg2.view arg3.view arg4.view arg5.view arg6.view arg8.view X1 X2 X3 X4 X5 X6 f8 (tm0 k) ⟨26, by decide⟩ (k0_off1_eq k) (k0_off81_eq k) (k0_off80_eq k))) (Rows3.cons ⟨25, by decide⟩ (k0_off78_eq k) (congrArg (fun z => shapeCast S1x1x128 z shapeCasts_S1x128_S1x1x128) (ld7 arg1.view arg2.view arg3.view arg4.view arg5.view arg6.view arg8.view X1 X2 X3 X4 X5 X6 f8 (tm0 k) ⟨25, by decide⟩ (k0_off1_eq k) (k0_off78_eq k) (k0_off77_eq k))) (Rows3.cons ⟨24, by decide⟩ (k0_off75_eq k) (congrArg (fun z => shapeCast S1x1x128 z shapeCasts_S1x128_S1x1x128) (ld7 arg1.view arg2.view arg3.view arg4.view arg5.view arg6.view arg8.view X1 X2 X3 X4 X5 X6 f8 (tm0 k) ⟨24, by decide⟩ (k0_off1_eq k) (k0_off75_eq k) (k0_off74_eq k))) (Rows3.cons ⟨23, by decide⟩ (k0_off72_eq k) (congrArg (fun z => shapeCast S1x1x128 z shapeCasts_S1x128_S1x1x128) (ld7 arg1.view arg2.view arg3.view arg4.view arg5.view arg6.view arg8.view X1 X2 X3 X4 X5 X6 f8 (tm0 k) ⟨23, by decide⟩ (k0_off1_eq k) (k0_off72_eq k) (k0_off71_eq k))) (Rows3.cons ⟨22, by decide⟩ (k0_off69_eq k) (congrArg (fun z => shapeCast S1x1x128 z shapeCasts_S1x128_S1x1x128) (ld7 arg1.view arg2.view arg3.view arg4.view arg5.view arg6.view arg8.view X1 X2 X3 X4 X5 X6 f8 (tm0 k) ⟨22, by decide⟩ (k0_off1_eq k) (k0_off69_eq k) (k0_off68_eq k))) (Rows3.cons ⟨21, by decide⟩ (k0_off66_eq k) (congrArg (fun z => shapeCast S1x1x128 z shapeCasts_S1x128_S1x1x128) (ld7 arg1.view arg2.view arg3.view arg4.view arg5.view arg6.view arg8.view X1 X2 X3 X4 X5 X6 f8 (tm0 k) ⟨21, by decide⟩ (k0_off1_eq k) (k0_off66_eq k) (k0_off65_eq k))) (Rows3.cons ⟨20, by decide⟩ (k0_off63_eq k) (congrArg (fun z => shapeCast S1x1x128 z shapeCasts_S1x128_S1x1x128) (ld7 arg1.view arg2.view arg3.view arg4.view arg5.view arg6.view arg8.view X1 X2 X3 X4 X5 X6 f8 (tm0 k) ⟨20, by decide⟩ (k0_off1_eq k) (k0_off63_eq k) (k0_off62_eq k))) (Rows3.cons ⟨19, by decide⟩ (k0_off60_eq k) (congrArg (fun z => shapeCast S1x1x128 z shapeCasts_S1x128_S1x1x128) (ld7 arg1.view arg2.view arg3.view arg4.view arg5.view arg6.view arg8.view X1 X2 X3 X4 X5 X6 f8 (tm0 k) ⟨19, by decide⟩ (k0_off1_eq k) (k0_off60_eq k) (k0_off59_eq k))) (Rows3.cons ⟨18, by decide⟩ (k0_off57_eq k) (congrArg (fun z => shapeCast S1x1x128 z shapeCasts_S1x128_S1x1x128) (ld7 arg1.view arg2.view arg3.view arg4.view arg5.view arg6.view arg8.view X1 X2 X3 X4 X5 X6 f8 (tm0 k) ⟨18, by decide⟩ (k0_off1_eq k) (k0_off57_eq k) (k0_off56_eq k))) (Rows3.cons ⟨17, by decide⟩ (k0_off54_eq k) (congrArg (fun z => shapeCast S1x1x128 z shapeCasts_S1x128_S1x1x128) (ld7 arg1.view arg2.view arg3.view arg4.view arg5.view arg6.view arg8.view X1 X2 X3 X4 X5 X6 f8 (tm0 k) ⟨17, by decide⟩ (k0_off1_eq k) (k0_off54_eq k) (k0_off53_eq k))) (Rows3.cons ⟨16, by decide⟩ (k0_off51_eq k) (congrArg (fun z => shapeCast S1x1x128 z shapeCasts_S1x128_S1x1x128) (ld7 arg1.view arg2.view arg3.view arg4.view arg5.view arg6.view arg8.view X1 X2 X3 X4 X5 X6 f8 (tm0 k) ⟨16, by decide⟩ (k0_off1_eq k) (k0_off51_eq k) (k0_off50_eq k))) (Rows3.cons ⟨15, by decide⟩ (k0_off48_eq k) (congrArg (fun z => shapeCast S1x1x128 z shapeCasts_S1x128_S1x1x128) (ld7 arg1.view arg2.view arg3.view arg4.view arg5.view arg6.view arg8.view X1 X2 X3 X4 X5 X6 f8 (tm0 k) ⟨15, by decide⟩ (k0_off1_eq k) (k0_off48_eq k) (k0_off47_eq k))) (Rows3.cons ⟨14, by decide⟩ (k0_off45_eq k) (congrArg (fun z => shapeCast S1x1x128 z shapeCasts_S1x128_S1x1x128) (ld7 arg1.view arg2.view arg3.view arg4.view arg5.view arg6.view arg8.view X1 X2 X3 X4 X5 X6 f8 (tm0 k) ⟨14, by decide⟩ (k0_off1_eq k) (k0_off45_eq k) (k0_off44_eq k))) (Rows3.cons ⟨13, by decide⟩ (k0_off42_eq k) (congrArg (fun z => shapeCast S1x1x128 z shapeCasts_S1x128_S1x1x128) (ld7 arg1.view arg2.view arg3.view arg4.view arg5.view arg6.view arg8.view X1 X2 X3 X4 X5 X6 f8 (tm0 k) ⟨13, by decide⟩ (k0_off1_eq k) (k0_off42_eq k) (k0_off41_eq k))) (Rows3.cons ⟨12, by decide⟩ (k0_off39_eq k) (congrArg (fun z => shapeCast S1x1x128 z shapeCasts_S1x128_S1x1x128) (ld7 arg1.view arg2.view arg3.view arg4.view arg5.view arg6.view arg8.view X1 X2 X3 X4 X5 X6 f8 (tm0 k) ⟨12, by decide⟩ (k0_off1_eq k) (k0_off39_eq k) (k0_off38_eq k))) (Rows3.cons ⟨11, by decide⟩ (k0_off36_eq k) (congrArg (fun z => shapeCast S1x1x128 z shapeCasts_S1x128_S1x1x128) (ld7 arg1.view arg2.view arg3.view arg4.view arg5.view arg6.view arg8.view X1 X2 X3 X4 X5 X6 f8 (tm0 k) ⟨11, by decide⟩ (k0_off1_eq k) (k0_off36_eq k) (k0_off35_eq k))) (Rows3.cons ⟨10, by decide⟩ (k0_off33_eq k) (congrArg (fun z => shapeCast S1x1x128 z shapeCasts_S1x128_S1x1x128) (ld7 arg1.view arg2.view arg3.view arg4.view arg5.view arg6.view arg8.view X1 X2 X3 X4 X5 X6 f8 (tm0 k) ⟨10, by decide⟩ (k0_off1_eq k) (k0_off33_eq k) (k0_off32_eq k))) (Rows3.cons ⟨9, by decide⟩ (k0_off30_eq k) (congrArg (fun z => shapeCast S1x1x128 z shapeCasts_S1x128_S1x1x128) (ld7 arg1.view arg2.view arg3.view arg4.view arg5.view arg6.view arg8.view X1 X2 X3 X4 X5 X6 f8 (tm0 k) ⟨9, by decide⟩ (k0_off1_eq k) (k0_off30_eq k) (k0_off29_eq k))) (Rows3.cons ⟨8, by decide⟩ (k0_off27_eq k) (congrArg (fun z => shapeCast S1x1x128 z shapeCasts_S1x128_S1x1x128) (ld7 arg1.view arg2.view arg3.view arg4.view arg5.view arg6.view arg8.view X1 X2 X3 X4 X5 X6 f8 (tm0 k) ⟨8, by decide⟩ (k0_off1_eq k) (k0_off27_eq k) (k0_off26_eq k))) (Rows3.cons ⟨7, by decide⟩ (k0_off24_eq k) (congrArg (fun z => shapeCast S1x1x128 z shapeCasts_S1x128_S1x1x128) (ld7 arg1.view arg2.view arg3.view arg4.view arg5.view arg6.view arg8.view X1 X2 X3 X4 X5 X6 f8 (tm0 k) ⟨7, by decide⟩ (k0_off1_eq k) (k0_off24_eq k) (k0_off23_eq k))) (Rows3.cons ⟨6, by decide⟩ (k0_off21_eq k) (congrArg (fun z => shapeCast S1x1x128 z shapeCasts_S1x128_S1x1x128) (ld7 arg1.view arg2.view arg3.view arg4.view arg5.view arg6.view arg8.view X1 X2 X3 X4 X5 X6 f8 (tm0 k) ⟨6, by decide⟩ (k0_off1_eq k) (k0_off21_eq k) (k0_off20_eq k))) (Rows3.cons ⟨5, by decide⟩ (k0_off18_eq k) (congrArg (fun z => shapeCast S1x1x128 z shapeCasts_S1x128_S1x1x128) (ld7 arg1.view arg2.view arg3.view arg4.view arg5.view arg6.view arg8.view X1 X2 X3 X4 X5 X6 f8 (tm0 k) ⟨5, by decide⟩ (k0_off1_eq k) (k0_off18_eq k) (k0_off17_eq k))) (Rows3.cons ⟨4, by decide⟩ (k0_off15_eq k) (congrArg (fun z => shapeCast S1x1x128 z shapeCasts_S1x128_S1x1x128) (ld7 arg1.view arg2.view arg3.view arg4.view arg5.view arg6.view arg8.view X1 X2 X3 X4 X5 X6 f8 (tm0 k) ⟨4, by decide⟩ (k0_off1_eq k) (k0_off15_eq k) (k0_off14_eq k))) (Rows3.cons ⟨3, by decide⟩ (k0_off12_eq k) (congrArg (fun z => shapeCast S1x1x128 z shapeCasts_S1x128_S1x1x128) (ld7 arg1.view arg2.view arg3.view arg4.view arg5.view arg6.view arg8.view X1 X2 X3 X4 X5 X6 f8 (tm0 k) ⟨3, by decide⟩ (k0_off1_eq k) (k0_off12_eq k) (k0_off11_eq k))) (Rows3.cons ⟨2, by decide⟩ (k0_off9_eq k) (congrArg (fun z => shapeCast S1x1x128 z shapeCasts_S1x128_S1x1x128) (ld7 arg1.view arg2.view arg3.view arg4.view arg5.view arg6.view arg8.view X1 X2 X3 X4 X5 X6 f8 (tm0 k) ⟨2, by decide⟩ (k0_off1_eq k) (k0_off9_eq k) (k0_off8_eq k))) (Rows3.cons ⟨1, by decide⟩ (k0_off6_eq k) (congrArg (fun z => shapeCast S1x1x128 z shapeCasts_S1x128_S1x1x128) (ld7 arg1.view arg2.view arg3.view arg4.view arg5.view arg6.view arg8.view X1 X2 X3 X4 X5 X6 f8 (tm0 k) ⟨1, by decide⟩ (k0_off1_eq k) (k0_off6_eq k) (k0_off5_eq k))) (Rows3.cons ⟨0, by decide⟩ (k0_off3_eq k) (congrArg (fun z => shapeCast S1x1x128 z shapeCasts_S1x128_S1x1x128) (ld7 arg1.view arg2.view arg3.view arg4.view arg5.view arg6.view arg8.view X1 X2 X3 X4 X5 X6 f8 (tm0 k) ⟨0, by decide⟩ (k0_off1_eq k) (k0_off3_eq k) (k0_off2_eq k))) (Rows3.nil _ _ _ _)))))))))))))))))))))))))))))))))
  isplitl [H8]
  · iexists _; isplitl [H8]; · iexact H8
    ipureintro
    refine Rows5.fin ?_
    exact (Rows5.cons ⟨31, by decide⟩ (k0_off97_eq k) (congrArg (fun z => shapeCast S1x1x1x64x128 z shapeCasts_S64x128_S1x1x1x64x128) (ld8 arg2.view arg3.view arg4.view arg5.view arg6.view arg8.view X2 X3 X4 X5 X6 f8 (tm0 k) ⟨31, by decide⟩ (k0_off1_eq k) (k0_off96_eq k) (k0_off95_eq k))) (Rows5.cons ⟨30, by decide⟩ (k0_off94_eq k) (congrArg (fun z => shapeCast S1x1x1x64x128 z shapeCasts_S64x128_S1x1x1x64x128) (ld8 arg2.view arg3.view arg4.view arg5.view arg6.view arg8.view X2 X3 X4 X5 X6 f8 (tm0 k) ⟨30, by decide⟩ (k0_off1_eq k) (k0_off93_eq k) (k0_off92_eq k))) (Rows5.cons ⟨29, by decide⟩ (k0_off91_eq k) (congrArg (fun z => shapeCast S1x1x1x64x128 z shapeCasts_S64x128_S1x1x1x64x128) (ld8 arg2.view arg3.view arg4.view arg5.view arg6.view arg8.view X2 X3 X4 X5 X6 f8 (tm0 k) ⟨29, by decide⟩ (k0_off1_eq k) (k0_off90_eq k) (k0_off89_eq k))) (Rows5.cons ⟨28, by decide⟩ (k0_off88_eq k) (congrArg (fun z => shapeCast S1x1x1x64x128 z shapeCasts_S64x128_S1x1x1x64x128) (ld8 arg2.view arg3.view arg4.view arg5.view arg6.view arg8.view X2 X3 X4 X5 X6 f8 (tm0 k) ⟨28, by decide⟩ (k0_off1_eq k) (k0_off87_eq k) (k0_off86_eq k))) (Rows5.cons ⟨27, by decide⟩ (k0_off85_eq k) (congrArg (fun z => shapeCast S1x1x1x64x128 z shapeCasts_S64x128_S1x1x1x64x128) (ld8 arg2.view arg3.view arg4.view arg5.view arg6.view arg8.view X2 X3 X4 X5 X6 f8 (tm0 k) ⟨27, by decide⟩ (k0_off1_eq k) (k0_off84_eq k) (k0_off83_eq k))) (Rows5.cons ⟨26, by decide⟩ (k0_off82_eq k) (congrArg (fun z => shapeCast S1x1x1x64x128 z shapeCasts_S64x128_S1x1x1x64x128) (ld8 arg2.view arg3.view arg4.view arg5.view arg6.view arg8.view X2 X3 X4 X5 X6 f8 (tm0 k) ⟨26, by decide⟩ (k0_off1_eq k) (k0_off81_eq k) (k0_off80_eq k))) (Rows5.cons ⟨25, by decide⟩ (k0_off79_eq k) (congrArg (fun z => shapeCast S1x1x1x64x128 z shapeCasts_S64x128_S1x1x1x64x128) (ld8 arg2.view arg3.view arg4.view arg5.view arg6.view arg8.view X2 X3 X4 X5 X6 f8 (tm0 k) ⟨25, by decide⟩ (k0_off1_eq k) (k0_off78_eq k) (k0_off77_eq k))) (Rows5.cons ⟨24, by decide⟩ (k0_off76_eq k) (congrArg (fun z => shapeCast S1x1x1x64x128 z shapeCasts_S64x128_S1x1x1x64x128) (ld8 arg2.view arg3.view arg4.view arg5.view arg6.view arg8.view X2 X3 X4 X5 X6 f8 (tm0 k) ⟨24, by decide⟩ (k0_off1_eq k) (k0_off75_eq k) (k0_off74_eq k))) (Rows5.cons ⟨23, by decide⟩ (k0_off73_eq k) (congrArg (fun z => shapeCast S1x1x1x64x128 z shapeCasts_S64x128_S1x1x1x64x128) (ld8 arg2.view arg3.view arg4.view arg5.view arg6.view arg8.view X2 X3 X4 X5 X6 f8 (tm0 k) ⟨23, by decide⟩ (k0_off1_eq k) (k0_off72_eq k) (k0_off71_eq k))) (Rows5.cons ⟨22, by decide⟩ (k0_off70_eq k) (congrArg (fun z => shapeCast S1x1x1x64x128 z shapeCasts_S64x128_S1x1x1x64x128) (ld8 arg2.view arg3.view arg4.view arg5.view arg6.view arg8.view X2 X3 X4 X5 X6 f8 (tm0 k) ⟨22, by decide⟩ (k0_off1_eq k) (k0_off69_eq k) (k0_off68_eq k))) (Rows5.cons ⟨21, by decide⟩ (k0_off67_eq k) (congrArg (fun z => shapeCast S1x1x1x64x128 z shapeCasts_S64x128_S1x1x1x64x128) (ld8 arg2.view arg3.view arg4.view arg5.view arg6.view arg8.view X2 X3 X4 X5 X6 f8 (tm0 k) ⟨21, by decide⟩ (k0_off1_eq k) (k0_off66_eq k) (k0_off65_eq k))) (Rows5.cons ⟨20, by decide⟩ (k0_off64_eq k) (congrArg (fun z => shapeCast S1x1x1x64x128 z shapeCasts_S64x128_S1x1x1x64x128) (ld8 arg2.view arg3.view arg4.view arg5.view arg6.view arg8.view X2 X3 X4 X5 X6 f8 (tm0 k) ⟨20, by decide⟩ (k0_off1_eq k) (k0_off63_eq k) (k0_off62_eq k))) (Rows5.cons ⟨19, by decide⟩ (k0_off61_eq k) (congrArg (fun z => shapeCast S1x1x1x64x128 z shapeCasts_S64x128_S1x1x1x64x128) (ld8 arg2.view arg3.view arg4.view arg5.view arg6.view arg8.view X2 X3 X4 X5 X6 f8 (tm0 k) ⟨19, by decide⟩ (k0_off1_eq k) (k0_off60_eq k) (k0_off59_eq k))) (Rows5.cons ⟨18, by decide⟩ (k0_off58_eq k) (congrArg (fun z => shapeCast S1x1x1x64x128 z shapeCasts_S64x128_S1x1x1x64x128) (ld8 arg2.view arg3.view arg4.view arg5.view arg6.view arg8.view X2 X3 X4 X5 X6 f8 (tm0 k) ⟨18, by decide⟩ (k0_off1_eq k) (k0_off57_eq k) (k0_off56_eq k))) (Rows5.cons ⟨17, by decide⟩ (k0_off55_eq k) (congrArg (fun z => shapeCast S1x1x1x64x128 z shapeCasts_S64x128_S1x1x1x64x128) (ld8 arg2.view arg3.view arg4.view arg5.view arg6.view arg8.view X2 X3 X4 X5 X6 f8 (tm0 k) ⟨17, by decide⟩ (k0_off1_eq k) (k0_off54_eq k) (k0_off53_eq k))) (Rows5.cons ⟨16, by decide⟩ (k0_off52_eq k) (congrArg (fun z => shapeCast S1x1x1x64x128 z shapeCasts_S64x128_S1x1x1x64x128) (ld8 arg2.view arg3.view arg4.view arg5.view arg6.view arg8.view X2 X3 X4 X5 X6 f8 (tm0 k) ⟨16, by decide⟩ (k0_off1_eq k) (k0_off51_eq k) (k0_off50_eq k))) (Rows5.cons ⟨15, by decide⟩ (k0_off49_eq k) (congrArg (fun z => shapeCast S1x1x1x64x128 z shapeCasts_S64x128_S1x1x1x64x128) (ld8 arg2.view arg3.view arg4.view arg5.view arg6.view arg8.view X2 X3 X4 X5 X6 f8 (tm0 k) ⟨15, by decide⟩ (k0_off1_eq k) (k0_off48_eq k) (k0_off47_eq k))) (Rows5.cons ⟨14, by decide⟩ (k0_off46_eq k) (congrArg (fun z => shapeCast S1x1x1x64x128 z shapeCasts_S64x128_S1x1x1x64x128) (ld8 arg2.view arg3.view arg4.view arg5.view arg6.view arg8.view X2 X3 X4 X5 X6 f8 (tm0 k) ⟨14, by decide⟩ (k0_off1_eq k) (k0_off45_eq k) (k0_off44_eq k))) (Rows5.cons ⟨13, by decide⟩ (k0_off43_eq k) (congrArg (fun z => shapeCast S1x1x1x64x128 z shapeCasts_S64x128_S1x1x1x64x128) (ld8 arg2.view arg3.view arg4.view arg5.view arg6.view arg8.view X2 X3 X4 X5 X6 f8 (tm0 k) ⟨13, by decide⟩ (k0_off1_eq k) (k0_off42_eq k) (k0_off41_eq k))) (Rows5.cons ⟨12, by decide⟩ (k0_off40_eq k) (congrArg (fun z => shapeCast S1x1x1x64x128 z shapeCasts_S64x128_S1x1x1x64x128) (ld8 arg2.view arg3.view arg4.view arg5.view arg6.view arg8.view X2 X3 X4 X5 X6 f8 (tm0 k) ⟨12, by decide⟩ (k0_off1_eq k) (k0_off39_eq k) (k0_off38_eq k))) (Rows5.cons ⟨11, by decide⟩ (k0_off37_eq k) (congrArg (fun z => shapeCast S1x1x1x64x128 z shapeCasts_S64x128_S1x1x1x64x128) (ld8 arg2.view arg3.view arg4.view arg5.view arg6.view arg8.view X2 X3 X4 X5 X6 f8 (tm0 k) ⟨11, by decide⟩ (k0_off1_eq k) (k0_off36_eq k) (k0_off35_eq k))) (Rows5.cons ⟨10, by decide⟩ (k0_off34_eq k) (congrArg (fun z => shapeCast S1x1x1x64x128 z shapeCasts_S64x128_S1x1x1x64x128) (ld8 arg2.view arg3.view arg4.view arg5.view arg6.view arg8.view X2 X3 X4 X5 X6 f8 (tm0 k) ⟨10, by decide⟩ (k0_off1_eq k) (k0_off33_eq k) (k0_off32_eq k))) (Rows5.cons ⟨9, by decide⟩ (k0_off31_eq k) (congrArg (fun z => shapeCast S1x1x1x64x128 z shapeCasts_S64x128_S1x1x1x64x128) (ld8 arg2.view arg3.view arg4.view arg5.view arg6.view arg8.view X2 X3 X4 X5 X6 f8 (tm0 k) ⟨9, by decide⟩ (k0_off1_eq k) (k0_off30_eq k) (k0_off29_eq k))) (Rows5.cons ⟨8, by decide⟩ (k0_off28_eq k) (congrArg (fun z => shapeCast S1x1x1x64x128 z shapeCasts_S64x128_S1x1x1x64x128) (ld8 arg2.view arg3.view arg4.view arg5.view arg6.view arg8.view X2 X3 X4 X5 X6 f8 (tm0 k) ⟨8, by decide⟩ (k0_off1_eq k) (k0_off27_eq k) (k0_off26_eq k))) (Rows5.cons ⟨7, by decide⟩ (k0_off25_eq k) (congrArg (fun z => shapeCast S1x1x1x64x128 z shapeCasts_S64x128_S1x1x1x64x128) (ld8 arg2.view arg3.view arg4.view arg5.view arg6.view arg8.view X2 X3 X4 X5 X6 f8 (tm0 k) ⟨7, by decide⟩ (k0_off1_eq k) (k0_off24_eq k) (k0_off23_eq k))) (Rows5.cons ⟨6, by decide⟩ (k0_off22_eq k) (congrArg (fun z => shapeCast S1x1x1x64x128 z shapeCasts_S64x128_S1x1x1x64x128) (ld8 arg2.view arg3.view arg4.view arg5.view arg6.view arg8.view X2 X3 X4 X5 X6 f8 (tm0 k) ⟨6, by decide⟩ (k0_off1_eq k) (k0_off21_eq k) (k0_off20_eq k))) (Rows5.cons ⟨5, by decide⟩ (k0_off19_eq k) (congrArg (fun z => shapeCast S1x1x1x64x128 z shapeCasts_S64x128_S1x1x1x64x128) (ld8 arg2.view arg3.view arg4.view arg5.view arg6.view arg8.view X2 X3 X4 X5 X6 f8 (tm0 k) ⟨5, by decide⟩ (k0_off1_eq k) (k0_off18_eq k) (k0_off17_eq k))) (Rows5.cons ⟨4, by decide⟩ (k0_off16_eq k) (congrArg (fun z => shapeCast S1x1x1x64x128 z shapeCasts_S64x128_S1x1x1x64x128) (ld8 arg2.view arg3.view arg4.view arg5.view arg6.view arg8.view X2 X3 X4 X5 X6 f8 (tm0 k) ⟨4, by decide⟩ (k0_off1_eq k) (k0_off15_eq k) (k0_off14_eq k))) (Rows5.cons ⟨3, by decide⟩ (k0_off13_eq k) (congrArg (fun z => shapeCast S1x1x1x64x128 z shapeCasts_S64x128_S1x1x1x64x128) (ld8 arg2.view arg3.view arg4.view arg5.view arg6.view arg8.view X2 X3 X4 X5 X6 f8 (tm0 k) ⟨3, by decide⟩ (k0_off1_eq k) (k0_off12_eq k) (k0_off11_eq k))) (Rows5.cons ⟨2, by decide⟩ (k0_off10_eq k) (congrArg (fun z => shapeCast S1x1x1x64x128 z shapeCasts_S64x128_S1x1x1x64x128) (ld8 arg2.view arg3.view arg4.view arg5.view arg6.view arg8.view X2 X3 X4 X5 X6 f8 (tm0 k) ⟨2, by decide⟩ (k0_off1_eq k) (k0_off9_eq k) (k0_off8_eq k))) (Rows5.cons ⟨1, by decide⟩ (k0_off7_eq k) (congrArg (fun z => shapeCast S1x1x1x64x128 z shapeCasts_S64x128_S1x1x1x64x128) (ld8 arg2.view arg3.view arg4.view arg5.view arg6.view arg8.view X2 X3 X4 X5 X6 f8 (tm0 k) ⟨1, by decide⟩ (k0_off1_eq k) (k0_off6_eq k) (k0_off5_eq k))) (Rows5.cons ⟨0, by decide⟩ (k0_off4_eq k) (congrArg (fun z => shapeCast S1x1x1x64x128 z shapeCasts_S64x128_S1x1x1x64x128) (ld8 arg2.view arg3.view arg4.view arg5.view arg6.view arg8.view X2 X3 X4 X5 X6 f8 (tm0 k) ⟨0, by decide⟩ (k0_off1_eq k) (k0_off3_eq k) (k0_off2_eq k))) (Rows5.nil _ _ _ _)))))))))))))))))))))))))))))))))
  iexists _; isplitl [H9]; · iexact H9
  ipureintro
  refine Rows3.fin ?_
  exact (Rows3.cons ⟨31, by decide⟩ (k0_off96_eq k) (congrArg (fun z => shapeCast S1x1x128 z shapeCasts_S1x128_S1x1x128) (ld9 arg4.view arg8.view X4 f8 (tm0 k) ⟨31, by decide⟩ (k0_off1_eq k) (k0_off95_eq k))) (Rows3.cons ⟨30, by decide⟩ (k0_off93_eq k) (congrArg (fun z => shapeCast S1x1x128 z shapeCasts_S1x128_S1x1x128) (ld9 arg4.view arg8.view X4 f8 (tm0 k) ⟨30, by decide⟩ (k0_off1_eq k) (k0_off92_eq k))) (Rows3.cons ⟨29, by decide⟩ (k0_off90_eq k) (congrArg (fun z => shapeCast S1x1x128 z shapeCasts_S1x128_S1x1x128) (ld9 arg4.view arg8.view X4 f8 (tm0 k) ⟨29, by decide⟩ (k0_off1_eq k) (k0_off89_eq k))) (Rows3.cons ⟨28, by decide⟩ (k0_off87_eq k) (congrArg (fun z => shapeCast S1x1x128 z shapeCasts_S1x128_S1x1x128) (ld9 arg4.view arg8.view X4 f8 (tm0 k) ⟨28, by decide⟩ (k0_off1_eq k) (k0_off86_eq k))) (Rows3.cons ⟨27, by decide⟩ (k0_off84_eq k) (congrArg (fun z => shapeCast S1x1x128 z shapeCasts_S1x128_S1x1x128) (ld9 arg4.view arg8.view X4 f8 (tm0 k) ⟨27, by decide⟩ (k0_off1_eq k) (k0_off83_eq k))) (Rows3.cons ⟨26, by decide⟩ (k0_off81_eq k) (congrArg (fun z => shapeCast S1x1x128 z shapeCasts_S1x128_S1x1x128) (ld9 arg4.view arg8.view X4 f8 (tm0 k) ⟨26, by decide⟩ (k0_off1_eq k) (k0_off80_eq k))) (Rows3.cons ⟨25, by decide⟩ (k0_off78_eq k) (congrArg (fun z => shapeCast S1x1x128 z shapeCasts_S1x128_S1x1x128) (ld9 arg4.view arg8.view X4 f8 (tm0 k) ⟨25, by decide⟩ (k0_off1_eq k) (k0_off77_eq k))) (Rows3.cons ⟨24, by decide⟩ (k0_off75_eq k) (congrArg (fun z => shapeCast S1x1x128 z shapeCasts_S1x128_S1x1x128) (ld9 arg4.view arg8.view X4 f8 (tm0 k) ⟨24, by decide⟩ (k0_off1_eq k) (k0_off74_eq k))) (Rows3.cons ⟨23, by decide⟩ (k0_off72_eq k) (congrArg (fun z => shapeCast S1x1x128 z shapeCasts_S1x128_S1x1x128) (ld9 arg4.view arg8.view X4 f8 (tm0 k) ⟨23, by decide⟩ (k0_off1_eq k) (k0_off71_eq k))) (Rows3.cons ⟨22, by decide⟩ (k0_off69_eq k) (congrArg (fun z => shapeCast S1x1x128 z shapeCasts_S1x128_S1x1x128) (ld9 arg4.view arg8.view X4 f8 (tm0 k) ⟨22, by decide⟩ (k0_off1_eq k) (k0_off68_eq k))) (Rows3.cons ⟨21, by decide⟩ (k0_off66_eq k) (congrArg (fun z => shapeCast S1x1x128 z shapeCasts_S1x128_S1x1x128) (ld9 arg4.view arg8.view X4 f8 (tm0 k) ⟨21, by decide⟩ (k0_off1_eq k) (k0_off65_eq k))) (Rows3.cons ⟨20, by decide⟩ (k0_off63_eq k) (congrArg (fun z => shapeCast S1x1x128 z shapeCasts_S1x128_S1x1x128) (ld9 arg4.view arg8.view X4 f8 (tm0 k) ⟨20, by decide⟩ (k0_off1_eq k) (k0_off62_eq k))) (Rows3.cons ⟨19, by decide⟩ (k0_off60_eq k) (congrArg (fun z => shapeCast S1x1x128 z shapeCasts_S1x128_S1x1x128) (ld9 arg4.view arg8.view X4 f8 (tm0 k) ⟨19, by decide⟩ (k0_off1_eq k) (k0_off59_eq k))) (Rows3.cons ⟨18, by decide⟩ (k0_off57_eq k) (congrArg (fun z => shapeCast S1x1x128 z shapeCasts_S1x128_S1x1x128) (ld9 arg4.view arg8.view X4 f8 (tm0 k) ⟨18, by decide⟩ (k0_off1_eq k) (k0_off56_eq k))) (Rows3.cons ⟨17, by decide⟩ (k0_off54_eq k) (congrArg (fun z => shapeCast S1x1x128 z shapeCasts_S1x128_S1x1x128) (ld9 arg4.view arg8.view X4 f8 (tm0 k) ⟨17, by decide⟩ (k0_off1_eq k) (k0_off53_eq k))) (Rows3.cons ⟨16, by decide⟩ (k0_off51_eq k) (congrArg (fun z => shapeCast S1x1x128 z shapeCasts_S1x128_S1x1x128) (ld9 arg4.view arg8.view X4 f8 (tm0 k) ⟨16, by decide⟩ (k0_off1_eq k) (k0_off50_eq k))) (Rows3.cons ⟨15, by decide⟩ (k0_off48_eq k) (congrArg (fun z => shapeCast S1x1x128 z shapeCasts_S1x128_S1x1x128) (ld9 arg4.view arg8.view X4 f8 (tm0 k) ⟨15, by decide⟩ (k0_off1_eq k) (k0_off47_eq k))) (Rows3.cons ⟨14, by decide⟩ (k0_off45_eq k) (congrArg (fun z => shapeCast S1x1x128 z shapeCasts_S1x128_S1x1x128) (ld9 arg4.view arg8.view X4 f8 (tm0 k) ⟨14, by decide⟩ (k0_off1_eq k) (k0_off44_eq k))) (Rows3.cons ⟨13, by decide⟩ (k0_off42_eq k) (congrArg (fun z => shapeCast S1x1x128 z shapeCasts_S1x128_S1x1x128) (ld9 arg4.view arg8.view X4 f8 (tm0 k) ⟨13, by decide⟩ (k0_off1_eq k) (k0_off41_eq k))) (Rows3.cons ⟨12, by decide⟩ (k0_off39_eq k) (congrArg (fun z => shapeCast S1x1x128 z shapeCasts_S1x128_S1x1x128) (ld9 arg4.view arg8.view X4 f8 (tm0 k) ⟨12, by decide⟩ (k0_off1_eq k) (k0_off38_eq k))) (Rows3.cons ⟨11, by decide⟩ (k0_off36_eq k) (congrArg (fun z => shapeCast S1x1x128 z shapeCasts_S1x128_S1x1x128) (ld9 arg4.view arg8.view X4 f8 (tm0 k) ⟨11, by decide⟩ (k0_off1_eq k) (k0_off35_eq k))) (Rows3.cons ⟨10, by decide⟩ (k0_off33_eq k) (congrArg (fun z => shapeCast S1x1x128 z shapeCasts_S1x128_S1x1x128) (ld9 arg4.view arg8.view X4 f8 (tm0 k) ⟨10, by decide⟩ (k0_off1_eq k) (k0_off32_eq k))) (Rows3.cons ⟨9, by decide⟩ (k0_off30_eq k) (congrArg (fun z => shapeCast S1x1x128 z shapeCasts_S1x128_S1x1x128) (ld9 arg4.view arg8.view X4 f8 (tm0 k) ⟨9, by decide⟩ (k0_off1_eq k) (k0_off29_eq k))) (Rows3.cons ⟨8, by decide⟩ (k0_off27_eq k) (congrArg (fun z => shapeCast S1x1x128 z shapeCasts_S1x128_S1x1x128) (ld9 arg4.view arg8.view X4 f8 (tm0 k) ⟨8, by decide⟩ (k0_off1_eq k) (k0_off26_eq k))) (Rows3.cons ⟨7, by decide⟩ (k0_off24_eq k) (congrArg (fun z => shapeCast S1x1x128 z shapeCasts_S1x128_S1x1x128) (ld9 arg4.view arg8.view X4 f8 (tm0 k) ⟨7, by decide⟩ (k0_off1_eq k) (k0_off23_eq k))) (Rows3.cons ⟨6, by decide⟩ (k0_off21_eq k) (congrArg (fun z => shapeCast S1x1x128 z shapeCasts_S1x128_S1x1x128) (ld9 arg4.view arg8.view X4 f8 (tm0 k) ⟨6, by decide⟩ (k0_off1_eq k) (k0_off20_eq k))) (Rows3.cons ⟨5, by decide⟩ (k0_off18_eq k) (congrArg (fun z => shapeCast S1x1x128 z shapeCasts_S1x128_S1x1x128) (ld9 arg4.view arg8.view X4 f8 (tm0 k) ⟨5, by decide⟩ (k0_off1_eq k) (k0_off17_eq k))) (Rows3.cons ⟨4, by decide⟩ (k0_off15_eq k) (congrArg (fun z => shapeCast S1x1x128 z shapeCasts_S1x128_S1x1x128) (ld9 arg4.view arg8.view X4 f8 (tm0 k) ⟨4, by decide⟩ (k0_off1_eq k) (k0_off14_eq k))) (Rows3.cons ⟨3, by decide⟩ (k0_off12_eq k) (congrArg (fun z => shapeCast S1x1x128 z shapeCasts_S1x128_S1x1x128) (ld9 arg4.view arg8.view X4 f8 (tm0 k) ⟨3, by decide⟩ (k0_off1_eq k) (k0_off11_eq k))) (Rows3.cons ⟨2, by decide⟩ (k0_off9_eq k) (congrArg (fun z => shapeCast S1x1x128 z shapeCasts_S1x128_S1x1x128) (ld9 arg4.view arg8.view X4 f8 (tm0 k) ⟨2, by decide⟩ (k0_off1_eq k) (k0_off8_eq k))) (Rows3.cons ⟨1, by decide⟩ (k0_off6_eq k) (congrArg (fun z => shapeCast S1x1x128 z shapeCasts_S1x128_S1x1x128) (ld9 arg4.view arg8.view X4 f8 (tm0 k) ⟨1, by decide⟩ (k0_off1_eq k) (k0_off5_eq k))) (Rows3.cons ⟨0, by decide⟩ (k0_off3_eq k) (congrArg (fun z => shapeCast S1x1x128 z shapeCasts_S1x128_S1x1x128) (ld9 arg4.view arg8.view X4 f8 (tm0 k) ⟨0, by decide⟩ (k0_off1_eq k) (k0_off2_eq k))) (Rows3.nil _ _ _ _)))))))))))))))))))))))))))))))))

end Cert.KernelIdeal.Hand

end
-- ==== Proof.Fwd.lean ====
/- The forward scan over one chunk of 16 times: the states it goes through, its loop by an invariant, and its body at a grid point. -/
module

public import proofs.«01_k».proof.Proof.Trip0

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄G" => MT nD τ sig Unit (Elt F) ℕ (UR sig nD τ) ℕ

/-- The arrays of one chunk of 16 times. -/
structure Chunk (F : FTy → Type) where
  r : Vec F S16x64x128 .f32
  w : Vec F S16x64x128 .f32
  k : Vec F S16x64x128 .f32
  a : Vec F S16x64x128 .f32
  b : Vec F S16x64x128 .f32
  v : Vec F S16x32x128 .f32

/-- A time within a chunk. -/
abbrev ft (j : ℕ) : Fin 16 := ⟨j % 16, Nat.mod_lt _ (by decide)⟩

/-- The state's rows after `j` times of a chunk, from `s0`. -/
def st (X : Chunk F) (s0 : Fin 32 → FVec F S64x128 .f32) : ℕ → Fin 32 → FVec F S64x128 .f32
  | 0, i => s0 i
  | j + 1, i => newS (st X s0 j i) (k64 X.a (ft j)) (k64 X.w (ft j)) (k64 X.b (ft j)) (k64 X.k (ft j)) (v128 X.v (ft j) i)
/-- The row sum fed back at time `j`. -/
def saV (X : Chunk F) (s0 : Fin 32 → FVec F S64x128 .f32) (j : ℕ) (i : Fin 32) : FVec F S1x128 .f32 := colsum (mulf (st X s0 j i) (k64 X.a (ft j)))
/-- The row sum put out at time `j`. -/
def yV (X : Chunk F) (s0 : Fin 32 → FVec F S64x128 .f32) (j : ℕ) (i : Fin 32) : FVec F S1x128 .f32 := colsum (mulf (st X s0 (j + 1) i) (k64 X.r (ft j)))

/-- What the chunk leaves: the outputs, the states and the row sums. -/
def yOut (X : Chunk F) (s0 : Fin 32 → FVec F S64x128 .f32) : Vec F S16x32x128 .f32 := fun y => yV X s0 (y 0).val (y 1) (ix2 0 (y 2))
def stOut (X : Chunk F) (s0 : Fin 32 → FVec F S64x128 .f32) : Vec F S1x17x32x64x128 .f32 := fun y => st X s0 (y 1).val (y 2) (ix2 (y 3) (y 4))
def saOut (X : Chunk F) (s0 : Fin 32 → FVec F S64x128 .f32) : Vec F S16x32x128 .f32 := fun y => saV X s0 (y 0).val (y 1) (ix2 0 (y 2))
/-- The state carried on. -/
def scOut (X : Chunk F) (s0 : Fin 32 → FVec F S64x128 .f32) : Vec F S32x64x128 .f32 := fun y => st X s0 16 (y 0) (ix2 (y 1) (y 2))

theorem c64_scOut (X : Chunk F) (s0 : Fin 32 → FVec F S64x128 .f32) : c64 (scOut X s0) = st X s0 16 := by
  funext i y
  exact congrArg (st X s0 16 i) (eq_ix2 y).symm

/-- The buffers before time `k` of a chunk. -/
structure Inv0 (X : Chunk F) (s0 : Fin 32 → FVec F S64x128 .f32) (k : ℕ) (d7 : Vec F S16x32x128 .f32) (d8 : Vec F S1x17x32x64x128 .f32)
    (d9 : Vec F S16x32x128 .f32) : Prop where
  h7 : ∀ (u : Fin 16) (i : Fin 32) (l : Fin 128), u.val < k → d7 (ix3 u i l) = yV X s0 u.val i (ix2 0 l)
  h8 : ∀ (u : Fin 17) (i : Fin 32) (e : Fin 64) (l : Fin 128), u.val ≤ k → d8 (ix5 0 u i e l) = st X s0 u.val i (ix2 e l)
  h9 : ∀ (u : Fin 16) (i : Fin 32) (l : Fin 128), u.val < k → d9 (ix3 u i l) = saV X s0 u.val i (ix2 0 l)

theorem Inv0.s64_eq {X : Chunk F} {s0 : Fin 32 → FVec F S64x128 .f32} {k : ℕ} {d7 d8 d9} (h : Inv0 X s0 k d7 d8 d9) (t : Fin 16) (ht : t.val = k) (i : Fin 32) :
    s64 d8 t.castSucc i = st X s0 k i := by
  funext y
  show d8 (ix5 0 t.castSucc i (y 0) (y 1)) = _
  rw [h.h8 t.castSucc i (y 0) (y 1) (le_of_eq ht)]
  show st X s0 t.val i (ix2 (y 0) (y 1)) = _
  rw [ht, ← eq_ix2 y]

theorem Inv0.step {X : Chunk F} {s0 : Fin 32 → FVec F S64x128 .f32} {k : ℕ} {d7 d8 d9} (h : Inv0 X s0 k d7 d8 d9) (t : Fin 16) (ht : t.val = k) {g7 g8 g9}
    (e7 : ∀ u i l, g7 (ix3 u i l) = if u = t then N7 X.r X.w X.k X.a X.b X.v t d8 i (ix2 0 l) else d7 (ix3 u i l))
    (e8 : ∀ u i e l, g8 (ix5 0 u i e l) = if u = t.succ then N8 X.w X.k X.a X.b X.v t d8 i (ix2 e l) else d8 (ix5 0 u i e l))
    (e9 : ∀ u i l, g9 (ix3 u i l) = if u = t then N9 X.a t d8 i (ix2 0 l) else d9 (ix3 u i l)) :
    Inv0 X s0 (k + 1) g7 g8 g9 := by
  have hs := h.s64_eq t ht
  have hft : ft k = t := Fin.ext (by show k % 16 = t.val; have := t.isLt; omega)
  have hN : ∀ i, N8 X.w X.k X.a X.b X.v t d8 i = st X s0 (k + 1) i := fun i => by
    unfold N8; rw [hs i]
    show _ = newS (st X s0 k i) (k64 X.a (ft k)) (k64 X.w (ft k)) (k64 X.b (ft k)) (k64 X.k (ft k)) (v128 X.v (ft k) i)
    rw [hft]
  refine ⟨fun u i l hu => ?_, fun u i e l hu => ?_, fun u i l hu => ?_⟩
  · rw [e7]
    by_cases hut : u = t
    · rw [if_pos hut]; unfold N7; rw [hN i, hut]; unfold yV; rw [ht, hft]
    · rw [if_neg hut]; exact h.h7 u i l (by have : u.val ≠ t.val := fun e => hut (Fin.ext e); omega)
  · rw [e8]
    by_cases hut : u = t.succ
    · rw [if_pos hut, hN i, hut]; show _ = st X s0 (t.val + 1) i _; rw [ht]
    · rw [if_neg hut]; exact h.h8 u i e l (by have : u.val ≠ t.val + 1 := fun e => hut (Fin.ext e); omega)
  · rw [e9]
    by_cases hut : u = t
    · rw [if_pos hut]; unfold N9; rw [hs i, hut]; unfold saV; rw [ht, hft]
    · rw [if_neg hut]; exact h.h9 u i l (by have : u.val ≠ t.val := fun e => hut (Fin.ext e); omega)

theorem Inv0.out {X : Chunk F} {s0 : Fin 32 → FVec F S64x128 .f32} {d7 d8 d9} (h : Inv0 X s0 16 d7 d8 d9) :
    d7 = yOut X s0 ∧ d8 = stOut X s0 ∧ d9 = saOut X s0 := by
  refine ⟨funext fun y => ?_, funext fun y => ?_, funext fun y => ?_⟩
  · rw [eq_ix3 y]; exact h.h7 _ _ _ (Fin.isLt _)
  · have h0 : (y 0 : Fin 1) = (0 : Fin 1) := Fin.ext (by have : (y 0 : Fin 1).val < 1 := Fin.isLt _; show (y 0 : Fin 1).val = 0; omega)
    rw [eq_ix5 y, h0]; exact h.h8 _ _ _ _ (Nat.le_of_lt_succ (Fin.isLt _))
  · rw [eq_ix3 y]; exact h.h9 _ _ _ (Fin.isLt _)

theorem trips0 : k0_t1_loop.trips = 16 := by decide +kernel

section Rule
universe u v
variable {w : ℕ} {E : Type → Type v} {M : Type u} [URA M] {Mask : Sort*} (Fr : Mask → sProp M) (we : Mask → ∀ ⦃β : Type⦄, E β → sWPT M β) (Es : Mask)
variable [∀ ⦃β : Type⦄ (e : E β), sWPT.Frameable (we Es e)]
/-- A loop that carries nothing, by an invariant. -/
theorem loop_rule (l : Scf.Loop w) (hok : l.OK) (body : Fin l.trips → Unit → Prog E Unit) (I : ℕ → sProp M) (n : ℕ) (hn : l.trips = n) (P : sProp M)
    (hP : P ⊢ I 0) (hb : ∀ (k : Fin l.trips) (acc : Unit), I k.val ⊢ wp Fr we Es (body k acc) (fun _ => I (k.val + 1))) :
    P ⊢ wp Fr we Es (Scf.Loop.for l hok () body) (fun _ => I n) := by
  subst hn
  iintro HP
  iapply (Scf.wp_for Fr we Es l.lb l.ub l.st hok () body (fun k _ => I k) hb)
  isplitl [HP]
  · iapply hP; iexact HP
  · iintro %_ H; iexact H
end Rule

/-- What the loop over a chunk's times holds before time `k`. -/
def inv0 (c : Dev nD) (arg1 : Memref sig .tc .vmem S16x64x128 .f32) (arg2 : Memref sig .tc .vmem S16x64x128 .f32) (arg3 : Memref sig .tc .vmem S16x64x128 .f32) (arg4 : Memref sig .tc .vmem S16x64x128 .f32) (arg5 : Memref sig .tc .vmem S16x64x128 .f32) (arg6 : Memref sig .tc .vmem S16x32x128 .f32) (arg7 : Memref sig .tc .vmem S16x32x128 .f32) (arg8 : Memref sig .tc .vmem S1x17x32x64x128 .f32) (arg9 : Memref sig .tc .vmem S16x32x128 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (s0 : Fin 32 → FVec F S64x128 .f32) (k : ℕ) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ ∃ g7 g8 g9, (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ ⌜Inv0 (F := F) ⟨(arg1.view.read (Elt F) X1), (arg2.view.read (Elt F) X2), (arg3.view.read (Elt F) X3), (arg4.view.read (Elt F) X4), (arg5.view.read (Elt F) X5), (arg6.view.read (Elt F) X6)⟩ s0 k (arg7.view.read (Elt F) g7) (arg8.view.read (Elt F) g8) (arg9.view.read (Elt F) g9)⌝)

theorem step0 (𝒱 : Variants) (c : Dev nD) (bd : Option 𝒱.V) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S32x64x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (s0 : Fin 32 → FVec F S64x128 .f32)
    (E : Set ℕ) (k : Fin k0_t1_loop.trips) (acc : Unit) :
    inv0 (F := F) c arg1 arg2 arg3 arg4 arg5 arg6 arg7 arg8 arg9 X1 X2 X3 X4 X5 X6 s0 k.val
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k acc) (fun _ => inv0 (F := F) c arg1 arg2 arg3 arg4 arg5 arg6 arg7 arg8 arg9 X1 X2 X3 X4 X5 X6 s0 (k.val + 1)) := by
  unfold inv0
  iintro ⟨H1, H2, H3, H4, H5, H6, %g7, %g8, %g9, H7, H8, H9, %hI⟩
  iapply (wp_wand_r frame (wpE (defs₀ (F := F)) 𝒱 (c : Thread nD τ) bd) E)
  isplitl [H1 H2 H3 H4 H5 H6 H7 H8 H9]
  · iapply (trip0 𝒱 c bd i arg1 harg1 arg2 harg2 arg3 harg3 arg4 harg4 arg5 harg5 arg6 harg6 arg7 harg7 arg8 harg8 arg9 harg9 arg10 harg10 X1 X2 X3 X4 X5 X6 k E g7 g8 g9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨H1, H2, H3, H4, H5, H6, ⟨%p7, H7, %e7⟩, ⟨%p8, H8, %e8⟩, ⟨%p9, H9, %e9⟩⟩
    isplitl [H1]; · iexact H1
    isplitl [H2]; · iexact H2
    isplitl [H3]; · iexact H3
    isplitl [H4]; · iexact H4
    isplitl [H5]; · iexact H5
    isplitl [H6]; · iexact H6
    iexists p7; iexists p8; iexists p9
    isplitl [H7]; · iexact H7
    isplitl [H8]; · iexact H8
    isplitl [H9]; · iexact H9
    ipureintro
    exact hI.step (tm0 k) rfl e7 e8 e9

/-- The loop over a chunk's times, from any outputs and states that begin at `s0`. -/
theorem loop0 (𝒱 : Variants) (c : Dev nD) (bd : Option 𝒱.V) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S32x64x128 .f32) (harg10 : arg10.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (s0 : Fin 32 → FVec F S64x128 .f32)
    (E : Set ℕ) (f7 : BufTy.Contents (Elt F) arg7.view.ty) (f8 : BufTy.Contents (Elt F) arg8.view.ty) (f9 : BufTy.Contents (Elt F) arg9.view.ty) (hs : Inv0 (F := F) ⟨(arg1.view.read (Elt F) X1), (arg2.view.read (Elt F) X2), (arg3.view.read (Elt F) X3), (arg4.view.read (Elt F) X4), (arg5.view.read (Elt F) X5), (arg6.view.read (Elt F) X6)⟩ s0 0 (arg7.view.read (Elt F) f7) (arg8.view.read (Elt F) f8) (arg9.view.read (Elt F) f9)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
      ⊢ wp frame (wpE (defs₀ (F := F)) 𝒱 (c : Thread nD τ) bd) E (Scf.Loop.for k0_t1_loop k0_t1_ok () (k0_t1_body (F := F) i arg1 harg1 arg2 harg2 arg3 harg3 arg4 harg4 arg5 harg5 arg6 harg6 arg7 harg7 arg8 harg8 arg9 harg9 arg10 harg10))
          (fun _ => inv0 (F := F) c arg1 arg2 arg3 arg4 arg5 arg6 arg7 arg8 arg9 X1 X2 X3 X4 X5 X6 s0 16) := by
  refine loop_rule frame (wpE (defs₀ (F := F)) 𝒱 (c : Thread nD τ) bd) E k0_t1_loop k0_t1_ok (k0_t1_body (F := F) i arg1 harg1 arg2 harg2 arg3 harg3 arg4 harg4 arg5 harg5 arg6 harg6 arg7 harg7 arg8 harg8 arg9 harg9 arg10 harg10)
    (inv0 (F := F) c arg1 arg2 arg3 arg4 arg5 arg6 arg7 arg8 arg9 X1 X2 X3 X4 X5 X6 s0) 16 trips0 _ ?_ (step0 𝒱 c bd i arg1 harg1 arg2 harg2 arg3 harg3 arg4 harg4 arg5 harg5 arg6 harg6 arg7 harg7 arg8 harg8 arg9 harg9 arg10 harg10 X1 X2 X3 X4 X5 X6 s0 E)
  unfold inv0
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  iexists f7; iexists f8; iexists f9
  isplitl [H7]; · iexact H7
  isplitl [H8]; · iexact H8
  isplitl [H9]; · iexact H9
  ipureintro; exact hs

end Cert.KernelIdeal.Hand

end
-- ==== Proof.Body0.lean ====
/- The forward scan at a grid point: the body run on its staging buffers. -/
module

public import proofs.«01_k».proof.Proof.Fwd
public import Idealize.ShloMosaic.Lib.VecWindow

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄G" => MT nD τ sig Unit (Elt F) ℕ (UR sig nD τ) ℕ

theorem pay2_at (x : Vec F S32x64x128 .f32) (i : Fin 32) (e : Fin 64) (l : Fin 128) :
    (k0_pay2 x : Vec F S1x1x32x64x128 .f32) (ix5 (0 : Fin 1) (0 : Fin 1) i e l) = x (ix3 i e l) :=
  shapeCast_apply x _ _ _ (by
    rw [Shape.rowMajor_val_three, Shape.rowMajor_val_five]
    show (i.val * 64 + e.val) * 128 + l.val = (((0 * 1 + 0) * 32 + i.val) * 64 + e.val) * 128 + l.val
    omega)

theorem pay4_at (x : Vec F S1x1x32x64x128 .f32) (i : Fin 32) (e : Fin 64) (l : Fin 128) :
    (k0_pay4 x : Vec F S32x64x128 .f32) (ix3 i e l) = x (ix5 (0 : Fin 1) (0 : Fin 1) i e l) := by
  unfold k0_pay4
  refine (congrFun (shapeCast_self _ _) _).trans ?_
  exact shapeCast_apply x _ _ _ (by
    rw [Shape.rowMajor_val_three, Shape.rowMajor_val_five]
    show (((0 * 1 + 0) * 32 + i.val) * 64 + e.val) * 128 + l.val = (i.val * 64 + e.val) * 128 + l.val
    omega)

section Pieces
variable {κ : Kind} {sp : Space}
/-- The state stored at time 0 of a chunk. -/
theorem read_first (v : View sig κ sp S1x17x32x64x128 .f32) (f : v.ty.Contents (Elt F)) (x : Vec F S32x64x128 .f32)
    (inb : ∀ a, (![0, 0, 0, 0, 0] : Fin 5 → ℕ) a + S1x1x32x64x128.size a ≤ S1x17x32x64x128.size a) (i : Fin 32) (e : Fin 64) (l : Fin 128) :
    v.read (Elt F) (v.writes (Elt F) f [⟨Rect.unit (s := S1x17x32x64x128) ![0, 0, 0, 0, 0] S1x1x32x64x128.size inb, k0_pay2 x⟩]) (ix5 0 0 i e l) = x (ix3 i e l) := by
  refine (View.read_writes_cons_unit_of_mem v f inb _ [] (ix5 0 0 i e l) (ix5 (0 : Fin 1) (0 : Fin 1) i e l) rfl ?_).trans (pay2_at x i e l)
  intro a
  match a with
  | ⟨0, _⟩ => rfl
  | ⟨1, _⟩ => rfl
  | ⟨2, _⟩ => exact (Nat.zero_add _).symm
  | ⟨3, _⟩ => exact (Nat.zero_add _).symm
  | ⟨4, _⟩ => exact (Nat.zero_add _).symm

/-- The state carried to the next chunk: the last one stored. -/
theorem read_last (v : View sig κ sp S1x17x32x64x128 .f32) (f : v.ty.Contents (Elt F))
    (inb : ∀ a, (![0, 16, 0, 0, 0] : Fin 5 → ℕ) a + S1x1x32x64x128.size a ≤ S1x17x32x64x128.size a) (y : S32x64x128.Idx) :
    (k0_pay4 (v.readAt (Elt F) (Rect.unit (s := S1x17x32x64x128) ![0, 16, 0, 0, 0] S1x1x32x64x128.size inb).toLoadRect f) : Vec F S32x64x128 .f32) y
      = v.read (Elt F) f (ix5 0 16 (y 0) (y 1) (y 2)) := by
  rw [eq_ix3 y]
  generalize (y 0 : Fin 32) = i
  generalize (y 1 : Fin 64) = e
  generalize (y 2 : Fin 128) = l
  refine (pay4_at _ i e l).trans ?_
  refine congrArg (v.read (Elt F) f) (funext fun a => Fin.ext ?_)
  match a with
  | ⟨0, _⟩ => rfl
  | ⟨1, _⟩ => rfl
  | ⟨2, _⟩ => show 0 + 1 * i.val = i.val; omega
  | ⟨3, _⟩ => show 0 + 1 * e.val = e.val; omega
  | ⟨4, _⟩ => show 0 + 1 * l.val = l.val; omega
end Pieces

/-- The loop begins with the state just stored. -/
theorem start0 {κ : Kind} {sp : Space} (X : Chunk F) (s0 : Fin 32 → FVec F S64x128 .f32) (d7 d9 : Vec F S16x32x128 .f32) (v : View sig κ sp S1x17x32x64x128 .f32) (f : v.ty.Contents (Elt F)) (x : Vec F S32x64x128 .f32)
    (inb : ∀ a, (![0, 0, 0, 0, 0] : Fin 5 → ℕ) a + S1x1x32x64x128.size a ≤ S1x17x32x64x128.size a) (hs : c64 x = s0) :
    Inv0 X s0 0 d7 (v.read (Elt F) (v.writes (Elt F) f [⟨Rect.unit (s := S1x17x32x64x128) ![0, 0, 0, 0, 0] S1x1x32x64x128.size inb, k0_pay2 x⟩])) d9 where
  h7 u i l h := absurd h (Nat.not_lt_zero _)
  h9 u i l h := absurd h (Nat.not_lt_zero _)
  h8 u i e l h := by
    obtain rfl : u = (0 : Fin 17) := Fin.ext (Nat.le_zero.1 h)
    rw [read_first v f x inb i e l, ← hs]
    rfl

/-- Whether the point is the grid's first. -/
abbrev first0 (i : grid0.Coords) : Prop := (Scalar.cmpi .ne (Scalar.extui (Scalar.cmpi .eq (BitVec.ofNat 32 (i 0).val) 0#32)) 0#32) = 1#1

/-- The body at the grid's first point. -/
theorem body0_A (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S32x64x128 .f32) (harg10 : arg10.IsWhole) (hc0 : first0 i) (x1 : Vec F S16x64x128 .f32) (x2 : Vec F S16x64x128 .f32) (x3 : Vec F S16x64x128 .f32) (x4 : Vec F S16x64x128 .f32) (x5 : Vec F S16x64x128 .f32) (x6 : Vec F S16x32x128 .f32)  (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (yOut (F := F) ⟨x1, x2, x3, x4, x5, x6⟩ (c64 (k0_pay1 (F := F)))) ∗ owns (c : Thread nD τ) arg8 fullShare (stOut (F := F) ⟨x1, x2, x3, x4, x5, x6⟩ (c64 (k0_pay1 (F := F)))) ∗ owns (c : Thread nD τ) arg9 fullShare (saOut (F := F) ⟨x1, x2, x3, x4, x5, x6⟩ (c64 (k0_pay1 (F := F)))) ∗ owns (c : Thread nD τ) arg10 fullShare (scOut (F := F) ⟨x1, x2, x3, x4, x5, x6⟩ (c64 (k0_pay1 (F := F))))) -∗ K ⟨⟩))
      ⊢ wp frame (wpE (defs₀ (F := F)) Variants.none c none) E (cc0_rwkv_scan (F := F) i arg1 harg1 arg2 harg2 arg3 harg3 arg4 harg4 arg5 harg5 arg6 harg6 arg7 harg7 arg8 harg8 arg9 harg9 arg10 harg10) K := by
  simp only [cc0_rwkv_scan_eq_skeleton]; unfold cc0_rwkv_scan_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0)
  rw [wp_bind]
  iapply (wp_wand_r frame (wpE (defs₀ (F := F)) Variants.none c none) E)
  isplitl [H1 H2 H3 H4 H5 H6 H7 H8 H9]
  · iapply (loop0 Variants.none c none i arg1 harg1 arg2 harg2 arg3 harg3 arg4 harg4 arg5 harg5 arg6 harg6 arg7 harg7 arg8 harg8 arg9 harg9 arg10 harg10 _ _ _ _ _ _ _ E f7 _ f9 (start0 _ _ _ _ arg8.view f8 _ _ rfl))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  unfold inv0
  iintro %_ ⟨H1, H2, H3, H4, H5, H6, %g7, %g8, %g9, H7, H8, H9, %hI⟩
  rw [hf1, hf2, hf3, hf4, hf5, hf6] at hI
  rw [show body0_A.sl.v3 c arg10 = k0_pay1 (F := F) from View.readCov_full _ _ _ _ _] at hI
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hI.out.1
    iexact H7
  isplitl [H8]
  · iexists _; isplitr; · ipureintro; exact hI.out.2.1
    iexact H8
  isplitl [H9]
  · iexists _; isplitr; · ipureintro; exact hI.out.2.2
    iexact H9
  iexists _; isplitr
  rotate_left
  · iexact H10
  · ipureintro
    refine (View.read_writes_full _ _ _ _ _).trans (funext fun y => (read_last _ _ _ y).trans ?_)
    rw [hI.out.2.1]; rfl

/-- The body at a later point. -/
theorem body0_B (c : Dev nD) (i : grid0.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S32x64x128 .f32) (harg10 : arg10.IsWhole) (hc0 : ¬ first0 i) (x1 : Vec F S16x64x128 .f32) (x2 : Vec F S16x64x128 .f32) (x3 : Vec F S16x64x128 .f32) (x4 : Vec F S16x64x128 .f32) (x5 : Vec F S16x64x128 .f32) (x6 : Vec F S16x32x128 .f32) (x10 : Vec F S32x64x128 .f32) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x10
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (yOut (F := F) ⟨x1, x2, x3, x4, x5, x6⟩ (c64 x10)) ∗ owns (c : Thread nD τ) arg8 fullShare (stOut (F := F) ⟨x1, x2, x3, x4, x5, x6⟩ (c64 x10)) ∗ owns (c : Thread nD τ) arg9 fullShare (saOut (F := F) ⟨x1, x2, x3, x4, x5, x6⟩ (c64 x10)) ∗ owns (c : Thread nD τ) arg10 fullShare (scOut (F := F) ⟨x1, x2, x3, x4, x5, x6⟩ (c64 x10))) -∗ K ⟨⟩))
      ⊢ wp frame (wpE (defs₀ (F := F)) Variants.none c none) E (cc0_rwkv_scan (F := F) i arg1 harg1 arg2 harg2 arg3 harg3 arg4 harg4 arg5 harg5 arg6 harg6 arg7 harg7 arg8 harg8 arg9 harg9 arg10 harg10) K := by
  simp only [cc0_rwkv_scan_eq_skeleton]; unfold cc0_rwkv_scan_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hf10
  sl_exec (disch := first | sl_exact hc0)
  rw [wp_bind]
  iapply (wp_wand_r frame (wpE (defs₀ (F := F)) Variants.none c none) E)
  isplitl [H1 H2 H3 H4 H5 H6 H7 H8 H9]
  · iapply (loop0 Variants.none c none i arg1 harg1 arg2 harg2 arg3 harg3 arg4 harg4 arg5 harg5 arg6 harg6 arg7 harg7 arg8 harg8 arg9 harg9 arg10 harg10 _ _ _ _ _ _ (c64 x10) E f7 _ f9 (start0 _ _ _ _ arg8.view f8 _ _ (congrArg c64 ((View.readAt_full _ _ _).trans hf10))))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  unfold inv0
  iintro %_ ⟨H1, H2, H3, H4, H5, H6, %g7, %g8, %g9, H7, H8, H9, %hI⟩
  rw [hf1, hf2, hf3, hf4, hf5, hf6] at hI
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hI.out.1
    iexact H7
  isplitl [H8]
  · iexists _; isplitr; · ipureintro; exact hI.out.2.1
    iexact H8
  isplitl [H9]
  · iexists _; isplitr; · ipureintro; exact hI.out.2.2
    iexact H9
  iexists _; isplitr
  rotate_left
  · iexact H10
  · ipureintro
    refine (View.read_writes_full _ _ _ _ _).trans (funext fun y => (read_last _ _ _ y).trans ?_)
    rw [hI.out.2.1]; rfl

end Cert.KernelIdeal.Hand

end
-- ==== Proof.Dat0.lean ====
/- The pipeline proof data of the forward scan: what each grid point finds and leaves, and the body obligation. -/
module

public import proofs.«01_k».proof.Proof.Body0
public import proofs.«01_k».proof.Proof.Gen.KernelIdeal.Points
public import proofs.«01_k».proof.Proof.Gen.KernelIdeal.Launch
public import Idealize.ShloMosaic.Lib.WordCmp
public import Idealize.ShloMosaic.Lib.Pipeline.FrameBody

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄G" => MT nD τ sig Unit (Elt F) ℕ (UR sig nD τ) ℕ

namespace D0

/-- A window's block at point `t`, read off its array as the region finds it. -/
def iblk (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (V : (c : Dev nD) → (b : Ref sig .tc) → Buf (Elt F) ((c : Thread nD τ).loc b))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The grid point of a number. -/
abbrev pt (n : ℕ) : Fin cfg0.N := ⟨n % 128, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The chunk's arrays at point `t`. -/
def X (c : Dev nD) (t : Fin cfg0.N) : Chunk F := ⟨iblk V c 0 t, iblk V c 1 t, iblk V c 2 t, iblk V c 3 t, iblk V c 4 t, iblk V c 5 t⟩

/-- What the scratch holds before point `n`. -/
def carry (c : Dev nD) : ℕ → Vec F S32x64x128 .f32
  | 0 => k0_pay1
  | n + 1 => scOut (X V c (pt n)) (c64 (carry c n))

theorem carry_succ (c : Dev nD) (t : Fin cfg0.N) : carry V c (t.val + 1) = scOut (X V c t) (c64 (carry V c t.val)) := by
  show scOut (X V c (pt t.val)) _ = _
  rw [pt_val]

/-- The scratch's memref. -/
abbrev scM : Memref sig .tc .vmem S32x64x128 .f32 := Memref.whole cc0_scratch0

theorem rest_split (c : Dev nD) :
    (Pipeline.scopedRest spec0 c : sProp 𝕄G)
      = iprop(iprop((∃ f : Buf (Elt F) ((c : Thread nD τ).loc cc0_scratch0), ((c : Thread nD τ).loc cc0_scratch0) ↦{fullShare} f))
          ∗ Pipeline.scopedRestBut spec0 c [cc0_scratch0]) :=
  Pipeline.scopedRest_split_of_list spec0 c [cc0_scratch0] (by decide) (by decide)

/-- The invariant before point `n`: the scratch at its contents (at any before the first), the other buffers and the generator register. -/
def PhiS (c : Dev nD) : (n : ℕ) → n ≤ cfg0.N → sProp 𝕄G
  | 0, _ => iprop(Pipeline.scopedRest spec0 c ∗ ∃ r, prngReg c r)
  | n + 1, _ => iprop((owns (c : Thread nD τ) scM fullShare (carry V c (n + 1)) ∗ Pipeline.scopedRestBut spec0 c [cc0_scratch0]) ∗ ∃ r, prngReg c r)

theorem PhiS_zero (c : Dev nD) (n : ℕ) (h : n ≤ cfg0.N) (hz : n = 0) : PhiS V c n h = iprop(Pipeline.scopedRest spec0 c ∗ ∃ r, prngReg c r) := by
  subst hz; rfl
theorem PhiS_pos (c : Dev nD) (n : ℕ) (h : n ≤ cfg0.N) (hz : n ≠ 0) :
    PhiS V c n h = iprop((owns (c : Thread nD τ) scM fullShare (carry V c n) ∗ Pipeline.scopedRestBut spec0 c [cc0_scratch0]) ∗ ∃ r, prngReg c r) := by
  cases n with
  | zero => exact absurd rfl hz
  | succ n => rfl

/-- The proof data of the region's pipeline. -/
def dat (c : Dev nD) : Dat τ (Elt F) Unit ℕ (UR sig nD τ) ℕ cfg0 c where
  A w := V c (Pipeline.arrRef spec0 w)
  after w t := match w with

    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => yOut (X V c t) (c64 (carry V c t.val))
    | ⟨7, _⟩ => stOut (X V c t) (c64 (carry V c t.val))
    | ⟨8, _⟩ => saOut (X V c t) (c64 (carry V c t.val))
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = yOut (X V c t) (c64 (carry V c t.val)) := by dsimp only [dat]
theorem after7 (c : Dev nD) (t : Fin cfg0.N) : (dat V c).after 7 t = stOut (X V c t) (c64 (carry V c t.val)) := by dsimp only [dat]
theorem after8 (c : Dev nD) (t : Fin cfg0.N) : (dat V c).after 8 t = saOut (X V c t) (c64 (carry V c t.val)) := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-- What the body is called with. -/
def bodyPre (c : Dev nD) (t : Fin cfg0.N) : sProp 𝕄G :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d))
    ∗ (∃ d, owns (c : Thread nD τ) (win0_6.stage (cfg0.slots t 6)) fullShare ((dat V c).before 6 t d))
    ∗ (∃ d, owns (c : Thread nD τ) (win0_7.stage (cfg0.slots t 7)) fullShare ((dat V c).before 7 t d))
    ∗ (∃ d, owns (c : Thread nD τ) (win0_8.stage (cfg0.slots t 8)) fullShare ((dat V c).before 8 t d)))
/-- What it returns. -/
def bodyPost (c : Dev nD) (t : Fin cfg0.N) : sProp 𝕄G :=
  iprop((dat V c).Φ t.succ ∗ (dat V c).owesAt () t.succ
    ∗ owns (c : Thread nD τ) (win0_0.stage (cfg0.slots t 0)) fullShare ((dat V c).after 0 t)
    ∗ owns (c : Thread nD τ) (win0_1.stage (cfg0.slots t 1)) fullShare ((dat V c).after 1 t)
    ∗ owns (c : Thread nD τ) (win0_2.stage (cfg0.slots t 2)) fullShare ((dat V c).after 2 t)
    ∗ owns (c : Thread nD τ) (win0_3.stage (cfg0.slots t 3)) fullShare ((dat V c).after 3 t)
    ∗ owns (c : Thread nD τ) (win0_4.stage (cfg0.slots t 4)) fullShare ((dat V c).after 4 t)
    ∗ owns (c : Thread nD τ) (win0_5.stage (cfg0.slots t 5)) fullShare ((dat V c).after 5 t)
    ∗ owns (c : Thread nD τ) (win0_6.stage (cfg0.slots t 6)) fullShare ((dat V c).after 6 t)
    ∗ owns (c : Thread nD τ) (win0_7.stage (cfg0.slots t 7)) fullShare ((dat V c).after 7 t)
    ∗ owns (c : Thread nD τ) (win0_8.stage (cfg0.slots t 8)) fullShare ((dat V c).after 8 t))

theorem hfirst : ∀ t : Fin cfg0.N, first0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [first0, e0]
    word_cmp
   : ∀ t : Fin grid0.N, first0 (grid0.coords t) ↔ t.val % 128 = 0)

set_option maxHeartbeats 12800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl,
    after0, after1, after2, after3, after4, after5, after6, after7, after8]
  rw [show (dat V c).Φ t.succ = PhiS V c (t.val + 1) t.isLt from rfl, PhiS_pos V c _ _ (Nat.succ_ne_zero _), carry_succ]
  have hN : t.val < 128 := lt_of_lt_of_eq t.isLt (show cfg0.N = 128 from N_0)
  by_cases hz : t.val = 0
  ·
    rw [PhiS_castSucc V c t, PhiS_zero V c _ _ hz, rest_split, hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scM (Memref.isWhole_whole _) ((hfirst t).mpr (by rw [hz])) (iblk V c 0 t) (iblk V c 1 t) (iblk V c 2 t) (iblk V c 3 t) (iblk V c 4 t) (iblk V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]
    · icases HS with ⟨%f, HS⟩
      iexists f; rw [owns_whole]; iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ·
    rw [PhiS_castSucc V c t, PhiS_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scM (Memref.isWhole_whole _) (fun h => hz (by have := (hfirst t).mp h; omega)) (iblk V c 0 t) (iblk V c 1 t) (iblk V c 2 t) (iblk V c 3 t) (iblk V c 4 t) (iblk V c 5 t) (carry V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

theorem hin (c : Dev nD) : iprop(Pipeline.scopedRest spec0 c ∗ ∃ r, prngReg c r) ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg0.N) ⊢ iprop(Pipeline.scopedRest spec0 c ∗ ∃ r, prngReg c r) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), rest_split, owns_whole]
  iintro ⟨⟨HS, HR⟩, Hg⟩
  isplitl [HS HR]
  · isplitl [HS]
    · iexists _; iexact HS
    iexact HR
  iexact Hg

end D0

end Cert.KernelIdeal.Hand

end
-- ==== Proof.Trip1.lean ====
/- One trip of the backward scan's loop: what it leaves in the outputs, in the terms of Sem.lean. -/
module

public import proofs.«01_k».proof.Proof.Sem

@[expose] public section

set_option maxRecDepth 8192
set_option maxHeartbeats 8000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The time trip `k` works on: the chunk is walked from its end. -/
abbrev tm1 (k : Fin k1_t1_loop.trips) : Fin 16 := ⟨15 - k.val, by omega⟩

/-- The gradient of a row of the state, what came back so far plus what the output's row gives. -/
def fD (c r : FVec F S64x128 .f32) (dy : FVec F S1x128 .f32) : FVec F S64x128 .f32 := addf c (mulf (spread dy) r)
/-- Zero. -/
def zero64 : FVec F S64x128 .f32 := broadcast S64x128 (Scalar.ofBits .f32 0x00000000#32)
/-- The first `n` of the rows' terms, added to zero in order. -/
def acc (g : Fin 32 → FVec F S64x128 .f32) : ℕ → FVec F S64x128 .f32
  | 0 => zero64
  | n + 1 => addf (acc g n) (if h : n < 32 then g ⟨n, h⟩ else zero64)
/-- The two halves of the lanes added. -/
def both (x : FVec F S64x128 .f32) : FVec F S64x128 .f32 := addf x (dynamicRotate 1 64#32 none x rotates_S64x128_d1)

theorem acc.cons {g : Fin 32 → FVec F S64x128 .f32} {a x : FVec F S64x128 .f32} (n : Fin 32) (hx : x = g n) (ih : a = acc g n.val) :
    addf a x = acc g (n.val + 1) := by subst hx; subst ih; rw [acc]; rw [dif_pos n.isLt]

section Vals
variable (r w kk a b : Vec F S16x64x128 .f32) (v dy : Vec F S16x32x128 .f32) (st : Vec F S1x17x32x64x128 .f32) (sa : Vec F S16x32x128 .f32)
  (ds : Vec F S32x64x128 .f32) (t : Fin 16) (i : Fin 32)
/-- The gradient of row `i` of the state after time `t`. -/
def dD : FVec F S64x128 .f32 := fD (c64 ds i) (k64 r t) (v128 dy t i)
/-- The gradient of the row sum fed back. -/
def eSa : FVec F S1x128 .f32 := colsum (mulf (dD r dy ds t i) (k64 b t))
/-- Row `i`'s term of the gradient of `r`. -/
def gR : FVec F S64x128 .f32 := mulf (s64 st t.succ i) (spread (v128 dy t i))
/-- Row `i`'s term of the gradient of `w`. -/
def gW : FVec F S64x128 .f32 := mulf (dD r dy ds t i) (s64 st t.castSucc i)
/-- Row `i`'s term of the gradient of `k`. -/
def gK : FVec F S64x128 .f32 := mulf (dD r dy ds t i) (spread (v128 v t i))
/-- Row `i`'s term of the gradient of `a`. -/
def gA : FVec F S64x128 .f32 := mulf (s64 st t.castSucc i) (spread (eSa r b dy ds t i))
/-- Row `i`'s term of the gradient of `b`. -/
def gB : FVec F S64x128 .f32 := mulf (dD r dy ds t i) (spread (v128 sa t i))
/-- Row `i` of the gradient of `v`. -/
def gV : FVec F S1x128 .f32 := colsum (mulf (dD r dy ds t i) (k64 kk t))
/-- What goes back to the time before. -/
def dN : FVec F S64x128 .f32 := addf (mulf (dD r dy ds t i) (k64 w t)) (mulf (spread (eSa r b dy ds t i)) (k64 a t))
end Vals

section Loads
variable {s1 s2 s3 s4 s5 s6 s7 s8 s9 s16 : Space} {c1 c2 c3 c4 c5 c6 c7 c8 c9 c16 : Kind}
variable (v1 : View sig c1 s1 S16x64x128 .f32) (v2 : View sig c2 s2 S16x64x128 .f32) (v3 : View sig c3 s3 S16x64x128 .f32)
  (v4 : View sig c4 s4 S16x64x128 .f32) (v5 : View sig c5 s5 S16x64x128 .f32) (v6 : View sig c6 s6 S16x32x128 .f32)
  (v7 : View sig c7 s7 S16x32x128 .f32) (v8 : View sig c8 s8 S1x17x32x64x128 .f32) (v9 : View sig c9 s9 S16x32x128 .f32) (v16 : View sig c16 s16 S32x64x128 .f32)
variable (X1 : v1.ty.Contents (Elt F)) (X2 : v2.ty.Contents (Elt F)) (X3 : v3.ty.Contents (Elt F)) (X4 : v4.ty.Contents (Elt F))
  (X5 : v5.ty.Contents (Elt F)) (X6 : v6.ty.Contents (Elt F)) (X7 : v7.ty.Contents (Elt F)) (X8 : v8.ty.Contents (Elt F)) (X9 : v9.ty.Contents (Elt F))
  (f16 : v16.ty.Contents (Elt F))
variable (t : Fin 16) (i : Fin 32) {oK oV oC : Fin 3 → ℕ} {oP oT : Fin 5 → ℕ}
variable (hK : oK = ![t.val, 0, 0]) (hV : oV = ![t.val, i.val, 0]) (hC : oC = ![i.val, 0, 0])
  (hT : oT = ![0, t.succ.val, i.val, 0, 0]) (hP : oP = ![0, t.castSucc.val, i.val, 0, 0])
variable {iK : ∀ a, oK a + S1x64x128.size a ≤ S16x64x128.size a} {iV : ∀ a, oV a + S1x1x128.size a ≤ S16x32x128.size a}
  {iC : ∀ a, oC a + S1x64x128.size a ≤ S32x64x128.size a}
  {iP : ∀ a, oP a + S1x1x1x64x128.size a ≤ S1x17x32x64x128.size a} {iT : ∀ a, oT a + S1x1x1x64x128.size a ≤ S1x17x32x64x128.size a}

include hK hV hC in
theorem ldD : (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) = dD (v1.read (Elt F) X1) (v7.read (Elt F) X7) (v16.read (Elt F) f16) t i := by
  rw [c64_load v16 f16 i iC hC, k64_load v1 X1 t iK hK, v128_load v7 X7 t i iV hV]; rfl

include hK hV hC in
theorem ldE : colsum (mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (shapeCast S64x128 (v5.readAt (Elt F) (Rect.unit (s := S16x64x128) oK S1x64x128.size iK).toLoadRect X5 : Vec F S1x64x128 .f32) shapeCasts_S1x64x128_S64x128))
    = eSa (v1.read (Elt F) X1) (v5.read (Elt F) X5) (v7.read (Elt F) X7) (v16.read (Elt F) f16) t i := by
  rw [ldD v1 v7 v16 X1 X7 f16 t i hK hV hC, k64_load v5 X5 t iK hK]; rfl

include hV hT in
theorem ldR : mulf (shapeCast S64x128 (v8.readAt (Elt F) (Rect.unit (s := S1x17x32x64x128) oT S1x1x1x64x128.size iT).toLoadRect X8 : Vec F S1x1x1x64x128 .f32) shapeCasts_S1x1x1x64x128_S64x128) (spread (shapeCast S1x128 (v7.readAt (Elt F) (Rect.unit (s := S16x32x128) oV S1x1x128.size iV).toLoadRect X7 : Vec F S1x1x128 .f32) shapeCasts_S1x1x128_S1x128)) = gR (v7.read (Elt F) X7) (v8.read (Elt F) X8) t i := by
  rw [s64_load v8 X8 t.succ i iT hT, v128_load v7 X7 t i iV hV]; rfl

include hK hV hC hP in
theorem ldW : mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (shapeCast S64x128 (v8.readAt (Elt F) (Rect.unit (s := S1x17x32x64x128) oP S1x1x1x64x128.size iP).toLoadRect X8 : Vec F S1x1x1x64x128 .f32) shapeCasts_S1x1x1x64x128_S64x128) = gW (v1.read (Elt F) X1) (v7.read (Elt F) X7) (v8.read (Elt F) X8) (v16.read (Elt F) f16) t i := by
  rw [ldD v1 v7 v16 X1 X7 f16 t i hK hV hC, s64_load v8 X8 t.castSucc i iP hP]; rfl

include hK hV hC in
theorem ldK : mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (spread (shapeCast S1x128 (v6.readAt (Elt F) (Rect.unit (s := S16x32x128) oV S1x1x128.size iV).toLoadRect X6 : Vec F S1x1x128 .f32) shapeCasts_S1x1x128_S1x128)) = gK (v1.read (Elt F) X1) (v6.read (Elt F) X6) (v7.read (Elt F) X7) (v16.read (Elt F) f16) t i := by
  rw [ldD v1 v7 v16 X1 X7 f16 t i hK hV hC, v128_load v6 X6 t i iV hV]; rfl

include hK hV hC hP in
theorem ldA : mulf (shapeCast S64x128 (v8.readAt (Elt F) (Rect.unit (s := S1x17x32x64x128) oP S1x1x1x64x128.size iP).toLoadRect X8 : Vec F S1x1x1x64x128 .f32) shapeCasts_S1x1x1x64x128_S64x128) (spread (colsum (mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (shapeCast S64x128 (v5.readAt (Elt F) (Rect.unit (s := S16x64x128) oK S1x64x128.size iK).toLoadRect X5 : Vec F S1x64x128 .f32) shapeCasts_S1x64x128_S64x128))))
    = gA (v1.read (Elt F) X1) (v5.read (Elt F) X5) (v7.read (Elt F) X7) (v8.read (Elt F) X8) (v16.read (Elt F) f16) t i := by
  rw [ldE v1 v5 v7 v16 X1 X5 X7 f16 t i hK hV hC, s64_load v8 X8 t.castSucc i iP hP]; rfl

include hK hV hC in
theorem ldB : mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (spread (shapeCast S1x128 (v9.readAt (Elt F) (Rect.unit (s := S16x32x128) oV S1x1x128.size iV).toLoadRect X9 : Vec F S1x1x128 .f32) shapeCasts_S1x1x128_S1x128)) = gB (v1.read (Elt F) X1) (v7.read (Elt F) X7) (v9.read (Elt F) X9) (v16.read (Elt F) f16) t i := by
  rw [ldD v1 v7 v16 X1 X7 f16 t i hK hV hC, v128_load v9 X9 t i iV hV]; rfl

include hK hV hC in
theorem ldV : colsum (mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (shapeCast S64x128 (v3.readAt (Elt F) (Rect.unit (s := S16x64x128) oK S1x64x128.size iK).toLoadRect X3 : Vec F S1x64x128 .f32) shapeCasts_S1x64x128_S64x128))
    = gV (v1.read (Elt F) X1) (v3.read (Elt F) X3) (v7.read (Elt F) X7) (v16.read (Elt F) f16) t i := by
  rw [ldD v1 v7 v16 X1 X7 f16 t i hK hV hC, k64_load v3 X3 t iK hK]; rfl

include hK hV hC in
theorem ldN : addf (mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (shapeCast S64x128 (v2.readAt (Elt F) (Rect.unit (s := S16x64x128) oK S1x64x128.size iK).toLoadRect X2 : Vec F S1x64x128 .f32) shapeCasts_S1x64x128_S64x128)) (mulf (spread (colsum (mulf (fD (shapeCast S64x128 (v16.readAt (Elt F) (Rect.unit (s := S32x64x128) oC S1x64x128.size iC).toLoadRect f16 : Vec F S1x64x128 .f32) shapeCasts_S1x64x128_S64x128) (shapeCast S64x128 (v1.readAt (Elt F) (Rect.unit (s := S16x64x128) oK S1x64x128.size iK).toLoadRect X1 : Vec F S1x64x128 .f32) shapeCasts_S1x64x128_S64x128) (shapeCast S1x128 (v7.readAt (Elt F) (Rect.unit (s := S16x32x128) oV S1x1x128.size iV).toLoadRect X7 : Vec F S1x1x128 .f32) shapeCasts_S1x1x128_S1x128)) (shapeCast S64x128 (v5.readAt (Elt F) (Rect.unit (s := S16x64x128) oK S1x64x128.size iK).toLoadRect X5 : Vec F S1x64x128 .f32) shapeCasts_S1x64x128_S64x128)))) (shapeCast S64x128 (v4.readAt (Elt F) (Rect.unit (s := S16x64x128) oK S1x64x128.size iK).toLoadRect X4 : Vec F S1x64x128 .f32) shapeCasts_S1x64x128_S64x128))
    = dN (v1.read (Elt F) X1) (v2.read (Elt F) X2) (v4.read (Elt F) X4) (v5.read (Elt F) X5) (v7.read (Elt F) X7) (v16.read (Elt F) f16) t i := by
  rw [ldE v1 v5 v7 v16 X1 X5 X7 f16 t i hK hV hC, ldD v1 v7 v16 X1 X7 f16 t i hK hV hC, k64_load v2 X2 t iK hK, k64_load v4 X4 t iK hK]; rfl
end Loads

theorem off_succ {k : Fin k1_t1_loop.trips} {i : ℕ} {off : Fin 5 → ℕ} (h : off = ![0, 16 - k.val, i, 0, 0]) :
    off = ![0, (tm1 k).succ.val, i, 0, 0] := by
  have hk : k.val < 16 := Nat.lt_of_lt_of_le k.isLt k1_t1_abs.2.1
  rw [h, show 16 - k.val = (tm1 k).succ.val by show _ = 15 - k.val + 1; omega]

theorem trip1 (𝒱 : Variants) (c : Dev nD) (bd : Option 𝒱.V) (i : grid1.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S16x64x128 .f32) (harg10 : arg10.IsWhole) (arg11 : Memref sig .tc .vmem S16x64x128 .f32) (harg11 : arg11.IsWhole) (arg12 : Memref sig .tc .vmem S16x64x128 .f32) (harg12 : arg12.IsWhole) (arg13 : Memref sig .tc .vmem S16x64x128 .f32) (harg13 : arg13.IsWhole) (arg14 : Memref sig .tc .vmem S16x64x128 .f32) (harg14 : arg14.IsWhole) (arg15 : Memref sig .tc .vmem S16x32x128 .f32) (harg15 : arg15.IsWhole) (arg16 : Memref sig .tc .vmem S32x64x128 .f32) (harg16 : arg16.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (k : Fin k1_t1_loop.trips) (E : Set ℕ) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄G)
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗
            (∃ g10, (arg10.view.loc (c : Thread nD τ) ↦[arg10.view.set]{fullShare} g10) ∗ ⌜∀ u e l, (arg10.view.read (Elt F) g10) (ix3 u e l) = if u = tm1 k then both (acc (gR (arg7.view.read (Elt F) X7) (arg8.view.read (Elt F) X8) (tm1 k)) 32) (ix2 e l) else (arg10.view.read (Elt F) f10) (ix3 u e l)⌝) ∗
            (∃ g11, (arg11.view.loc (c : Thread nD τ) ↦[arg11.view.set]{fullShare} g11) ∗ ⌜∀ u e l, (arg11.view.read (Elt F) g11) (ix3 u e l) = if u = tm1 k then both (acc (gW (arg1.view.read (Elt F) X1) (arg7.view.read (Elt F) X7) (arg8.view.read (Elt F) X8) (arg16.view.read (Elt F) f16) (tm1 k)) 32) (ix2 e l) else (arg11.view.read (Elt F) f11) (ix3 u e l)⌝) ∗
            (∃ g12, (arg12.view.loc (c : Thread nD τ) ↦[arg12.view.set]{fullShare} g12) ∗ ⌜∀ u e l, (arg12.view.read (Elt F) g12) (ix3 u e l) = if u = tm1 k then both (acc (gK (arg1.view.read (Elt F) X1) (arg6.view.read (Elt F) X6) (arg7.view.read (Elt F) X7) (arg16.view.read (Elt F) f16) (tm1 k)) 32) (ix2 e l) else (arg12.view.read (Elt F) f12) (ix3 u e l)⌝) ∗
            (∃ g13, (arg13.view.loc (c : Thread nD τ) ↦[arg13.view.set]{fullShare} g13) ∗ ⌜∀ u e l, (arg13.view.read (Elt F) g13) (ix3 u e l) = if u = tm1 k then both (acc (gA (arg1.view.read (Elt F) X1) (arg5.view.read (Elt F) X5) (arg7.view.read (Elt F) X7) (arg8.view.read (Elt F) X8) (arg16.view.read (Elt F) f16) (tm1 k)) 32) (ix2 e l) else (arg13.view.read (Elt F) f13) (ix3 u e l)⌝) ∗
            (∃ g14, (arg14.view.loc (c : Thread nD τ) ↦[arg14.view.set]{fullShare} g14) ∗ ⌜∀ u e l, (arg14.view.read (Elt F) g14) (ix3 u e l) = if u = tm1 k then both (acc (gB (arg1.view.read (Elt F) X1) (arg7.view.read (Elt F) X7) (arg9.view.read (Elt F) X9) (arg16.view.read (Elt F) f16) (tm1 k)) 32) (ix2 e l) else (arg14.view.read (Elt F) f14) (ix3 u e l)⌝) ∗
            (∃ g15, (arg15.view.loc (c : Thread nD τ) ↦[arg15.view.set]{fullShare} g15) ∗ ⌜∀ u i l, (arg15.view.read (Elt F) g15) (ix3 u i l) = if u = tm1 k then gV (arg1.view.read (Elt F) X1) (arg3.view.read (Elt F) X3) (arg7.view.read (Elt F) X7) (arg16.view.read (Elt F) f16) (tm1 k) i (ix2 0 l) else (arg15.view.read (Elt F) f15) (ix3 u i l)⌝) ∗
            (∃ g16, (arg16.view.loc (c : Thread nD τ) ↦[arg16.view.set]{fullShare} g16) ∗ ⌜∀ i e l, (arg16.view.read (Elt F) g16) (ix3 i e l) = dN (arg1.view.read (Elt F) X1) (arg2.view.read (Elt F) X2) (arg4.view.read (Elt F) X4) (arg5.view.read (Elt F) X5) (arg7.view.read (Elt F) X7) (arg16.view.read (Elt F) f16) (tm1 k) i (ix2 e l)⌝))) := by
  have hk : k.val < 16 := Nat.lt_of_lt_of_le k.isLt k1_t1_abs.2.1
  unfold k1_t1_body
  iintro ⟨H1, H2, H3, H4, H5, H6, H7, H8, H9, H10, H11, H12, H13, H14, H15, H16⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitl [H10]; · iexact H10
    ipureintro
    exact read_k64 _ _ (tm1 k) (both (acc (gR (arg7.view.read (Elt F) X7) (arg8.view.read (Elt F) X8) (tm1 k)) 32)) (k1_off1_eq k) _ _ (congrArg (fun z => shapeCast S1x64x128 (both z) shapeCasts_S64x128_S1x64x128) (acc.cons ⟨31, by decide⟩ (ldR arg7.view arg8.view X7 X8 (tm1 k) ⟨31, by decide⟩ (k1_off95_eq k) (off_succ (k1_off96_eq k))) (acc.cons ⟨30, by decide⟩ (ldR arg7.view arg8.view X7 X8 (tm1 k) ⟨30, by decide⟩ (k1_off92_eq k) (off_succ (k1_off93_eq k))) (acc.cons ⟨29, by decide⟩ (ldR arg7.view arg8.view X7 X8 (tm1 k) ⟨29, by decide⟩ (k1_off89_eq k) (off_succ (k1_off90_eq k))) (acc.cons ⟨28, by decide⟩ (ldR arg7.view arg8.view X7 X8 (tm1 k) ⟨28, by decide⟩ (k1_off86_eq k) (off_succ (k1_off87_eq k))) (acc.cons ⟨27, by decide⟩ (ldR arg7.view arg8.view X7 X8 (tm1 k) ⟨27, by decide⟩ (k1_off83_eq k) (off_succ (k1_off84_eq k))) (acc.cons ⟨26, by decide⟩ (ldR arg7.view arg8.view X7 X8 (tm1 k) ⟨26, by decide⟩ (k1_off80_eq k) (off_succ (k1_off81_eq k))) (acc.cons ⟨25, by decide⟩ (ldR arg7.view arg8.view X7 X8 (tm1 k) ⟨25, by decide⟩ (k1_off77_eq k) (off_succ (k1_off78_eq k))) (acc.cons ⟨24, by decide⟩ (ldR arg7.view arg8.view X7 X8 (tm1 k) ⟨24, by decide⟩ (k1_off74_eq k) (off_succ (k1_off75_eq k))) (acc.cons ⟨23, by decide⟩ (ldR arg7.view arg8.view X7 X8 (tm1 k) ⟨23, by decide⟩ (k1_off71_eq k) (off_succ (k1_off72_eq k))) (acc.cons ⟨22, by decide⟩ (ldR arg7.view arg8.view X7 X8 (tm1 k) ⟨22, by decide⟩ (k1_off68_eq k) (off_succ (k1_off69_eq k))) (acc.cons ⟨21, by decide⟩ (ldR arg7.view arg8.view X7 X8 (tm1 k) ⟨21, by decide⟩ (k1_off65_eq k) (off_succ (k1_off66_eq k))) (acc.cons ⟨20, by decide⟩ (ldR arg7.view arg8.view X7 X8 (tm1 k) ⟨20, by decide⟩ (k1_off62_eq k) (off_succ (k1_off63_eq k))) (acc.cons ⟨19, by decide⟩ (ldR arg7.view arg8.view X7 X8 (tm1 k) ⟨19, by decide⟩ (k1_off59_eq k) (off_succ (k1_off60_eq k))) (acc.cons ⟨18, by decide⟩ (ldR arg7.view arg8.view X7 X8 (tm1 k) ⟨18, by decide⟩ (k1_off56_eq k) (off_succ (k1_off57_eq k))) (acc.cons ⟨17, by decide⟩ (ldR arg7.view arg8.view X7 X8 (tm1 k) ⟨17, by decide⟩ (k1_off53_eq k) (off_succ (k1_off54_eq k))) (acc.cons ⟨16, by decide⟩ (ldR arg7.view arg8.view X7 X8 (tm1 k) ⟨16, by decide⟩ (k1_off50_eq k) (off_succ (k1_off51_eq k))) (acc.cons ⟨15, by decide⟩ (ldR arg7.view arg8.view X7 X8 (tm1 k) ⟨15, by decide⟩ (k1_off47_eq k) (off_succ (k1_off48_eq k))) (acc.cons ⟨14, by decide⟩ (ldR arg7.view arg8.view X7 X8 (tm1 k) ⟨14, by decide⟩ (k1_off44_eq k) (off_succ (k1_off45_eq k))) (acc.cons ⟨13, by decide⟩ (ldR arg7.view arg8.view X7 X8 (tm1 k) ⟨13, by decide⟩ (k1_off41_eq k) (off_succ (k1_off42_eq k))) (acc.cons ⟨12, by decide⟩ (ldR arg7.view arg8.view X7 X8 (tm1 k) ⟨12, by decide⟩ (k1_off38_eq k) (off_succ (k1_off39_eq k))) (acc.cons ⟨11, by decide⟩ (ldR arg7.view arg8.view X7 X8 (tm1 k) ⟨11, by decide⟩ (k1_off35_eq k) (off_succ (k1_off36_eq k))) (acc.cons ⟨10, by decide⟩ (ldR arg7.view arg8.view X7 X8 (tm1 k) ⟨10, by decide⟩ (k1_off32_eq k) (off_succ (k1_off33_eq k))) (acc.cons ⟨9, by decide⟩ (ldR arg7.view arg8.view X7 X8 (tm1 k) ⟨9, by decide⟩ (k1_off29_eq k) (off_succ (k1_off30_eq k))) (acc.cons ⟨8, by decide⟩ (ldR arg7.view arg8.view X7 X8 (tm1 k) ⟨8, by decide⟩ (k1_off26_eq k) (off_succ (k1_off27_eq k))) (acc.cons ⟨7, by decide⟩ (ldR arg7.view arg8.view X7 X8 (tm1 k) ⟨7, by decide⟩ (k1_off23_eq k) (off_succ (k1_off24_eq k))) (acc.cons ⟨6, by decide⟩ (ldR arg7.view arg8.view X7 X8 (tm1 k) ⟨6, by decide⟩ (k1_off20_eq k) (off_succ (k1_off21_eq k))) (acc.cons ⟨5, by decide⟩ (ldR arg7.view arg8.view X7 X8 (tm1 k) ⟨5, by decide⟩ (k1_off17_eq k) (off_succ (k1_off18_eq k))) (acc.cons ⟨4, by decide⟩ (ldR arg7.view arg8.view X7 X8 (tm1 k) ⟨4, by decide⟩ (k1_off14_eq k) (off_succ (k1_off15_eq k))) (acc.cons ⟨3, by decide⟩ (ldR arg7.view arg8.view X7 X8 (tm1 k) ⟨3, by decide⟩ (k1_off11_eq k) (off_succ (k1_off12_eq k))) (acc.cons ⟨2, by decide⟩ (ldR arg7.view arg8.view X7 X8 (tm1 k) ⟨2, by decide⟩ (k1_off8_eq k) (off_succ (k1_off9_eq k))) (acc.cons ⟨1, by decide⟩ (ldR arg7.view arg8.view X7 X8 (tm1 k) ⟨1, by decide⟩ (k1_off5_eq k) (off_succ (k1_off6_eq k))) (acc.cons ⟨0, by decide⟩ (ldR arg7.view arg8.view X7 X8 (tm1 k) ⟨0, by decide⟩ (k1_off2_eq k) (off_succ (k1_off3_eq k))) rfl)))))))))))))))))))))))))))))))))
  isplitl [H11]
  · iexists _; isplitl [H11]; · iexact H11
    ipureintro
    exact read_k64 _ _ (tm1 k) (both (acc (gW (arg1.view.read (Elt F) X1) (arg7.view.read (Elt F) X7) (arg8.view.read (Elt F) X8) (arg16.view.read (Elt F) f16) (tm1 k)) 32)) (k1_off1_eq k) _ _ (congrArg (fun z => shapeCast S1x64x128 (both z) shapeCasts_S64x128_S1x64x128) (acc.cons ⟨31, by decide⟩ (ldW arg1.view arg7.view arg8.view arg16.view X1 X7 X8 f16 (tm1 k) ⟨31, by decide⟩ (k1_off1_eq k) (k1_off95_eq k) rfl (k1_off97_eq k)) (acc.cons ⟨30, by decide⟩ (ldW arg1.view arg7.view arg8.view arg16.view X1 X7 X8 f16 (tm1 k) ⟨30, by decide⟩ (k1_off1_eq k) (k1_off92_eq k) rfl (k1_off94_eq k)) (acc.cons ⟨29, by decide⟩ (ldW arg1.view arg7.view arg8.view arg16.view X1 X7 X8 f16 (tm1 k) ⟨29, by decide⟩ (k1_off1_eq k) (k1_off89_eq k) rfl (k1_off91_eq k)) (acc.cons ⟨28, by decide⟩ (ldW arg1.view arg7.view arg8.view arg16.view X1 X7 X8 f16 (tm1 k) ⟨28, by decide⟩ (k1_off1_eq k) (k1_off86_eq k) rfl (k1_off88_eq k)) (acc.cons ⟨27, by decide⟩ (ldW arg1.view arg7.view arg8.view arg16.view X1 X7 X8 f16 (tm1 k) ⟨27, by decide⟩ (k1_off1_eq k) (k1_off83_eq k) rfl (k1_off85_eq k)) (acc.cons ⟨26, by decide⟩ (ldW arg1.view arg7.view arg8.view arg16.view X1 X7 X8 f16 (tm1 k) ⟨26, by decide⟩ (k1_off1_eq k) (k1_off80_eq k) rfl (k1_off82_eq k)) (acc.cons ⟨25, by decide⟩ (ldW arg1.view arg7.view arg8.view arg16.view X1 X7 X8 f16 (tm1 k) ⟨25, by decide⟩ (k1_off1_eq k) (k1_off77_eq k) rfl (k1_off79_eq k)) (acc.cons ⟨24, by decide⟩ (ldW arg1.view arg7.view arg8.view arg16.view X1 X7 X8 f16 (tm1 k) ⟨24, by decide⟩ (k1_off1_eq k) (k1_off74_eq k) rfl (k1_off76_eq k)) (acc.cons ⟨23, by decide⟩ (ldW arg1.view arg7.view arg8.view arg16.view X1 X7 X8 f16 (tm1 k) ⟨23, by decide⟩ (k1_off1_eq k) (k1_off71_eq k) rfl (k1_off73_eq k)) (acc.cons ⟨22, by decide⟩ (ldW arg1.view arg7.view arg8.view arg16.view X1 X7 X8 f16 (tm1 k) ⟨22, by decide⟩ (k1_off1_eq k) (k1_off68_eq k) rfl (k1_off70_eq k)) (acc.cons ⟨21, by decide⟩ (ldW arg1.view arg7.view arg8.view arg16.view X1 X7 X8 f16 (tm1 k) ⟨21, by decide⟩ (k1_off1_eq k) (k1_off65_eq k) rfl (k1_off67_eq k)) (acc.cons ⟨20, by decide⟩ (ldW arg1.view arg7.view arg8.view arg16.view X1 X7 X8 f16 (tm1 k) ⟨20, by decide⟩ (k1_off1_eq k) (k1_off62_eq k) rfl (k1_off64_eq k)) (acc.cons ⟨19, by decide⟩ (ldW arg1.view arg7.view arg8.view arg16.view X1 X7 X8 f16 (tm1 k) ⟨19, by decide⟩ (k1_off1_eq k) (k1_off59_eq k) rfl (k1_off61_eq k)) (acc.cons ⟨18, by decide⟩ (ldW arg1.view arg7.view arg8.view arg16.view X1 X7 X8 f16 (tm1 k) ⟨18, by decide⟩ (k1_off1_eq k) (k1_off56_eq k) rfl (k1_off58_eq k)) (acc.cons ⟨17, by decide⟩ (ldW arg1.view arg7.view arg8.view arg16.view X1 X7 X8 f16 (tm1 k) ⟨17, by decide⟩ (k1_off1_eq k) (k1_off53_eq k) rfl (k1_off55_eq k)) (acc.cons ⟨16, by decide⟩ (ldW arg1.view arg7.view arg8.view arg16.view X1 X7 X8 f16 (tm1 k) ⟨16, by decide⟩ (k1_off1_eq k) (k1_off50_eq k) rfl (k1_off52_eq k)) (acc.cons ⟨15, by decide⟩ (ldW arg1.view arg7.view arg8.view arg16.view X1 X7 X8 f16 (tm1 k) ⟨15, by decide⟩ (k1_off1_eq k) (k1_off47_eq k) rfl (k1_off49_eq k)) (acc.cons ⟨14, by decide⟩ (ldW arg1.view arg7.view arg8.view arg16.view X1 X7 X8 f16 (tm1 k) ⟨14, by decide⟩ (k1_off1_eq k) (k1_off44_eq k) rfl (k1_off46_eq k)) (acc.cons ⟨13, by decide⟩ (ldW arg1.view arg7.view arg8.view arg16.view X1 X7 X8 f16 (tm1 k) ⟨13, by decide⟩ (k1_off1_eq k) (k1_off41_eq k) rfl (k1_off43_eq k)) (acc.cons ⟨12, by decide⟩ (ldW arg1.view arg7.view arg8.view arg16.view X1 X7 X8 f16 (tm1 k) ⟨12, by decide⟩ (k1_off1_eq k) (k1_off38_eq k) rfl (k1_off40_eq k)) (acc.cons ⟨11, by decide⟩ (ldW arg1.view arg7.view arg8.view arg16.view X1 X7 X8 f16 (tm1 k) ⟨11, by decide⟩ (k1_off1_eq k) (k1_off35_eq k) rfl (k1_off37_eq k)) (acc.cons ⟨10, by decide⟩ (ldW arg1.view arg7.view arg8.view arg16.view X1 X7 X8 f16 (tm1 k) ⟨10, by decide⟩ (k1_off1_eq k) (k1_off32_eq k) rfl (k1_off34_eq k)) (acc.cons ⟨9, by decide⟩ (ldW arg1.view arg7.view arg8.view arg16.view X1 X7 X8 f16 (tm1 k) ⟨9, by decide⟩ (k1_off1_eq k) (k1_off29_eq k) rfl (k1_off31_eq k)) (acc.cons ⟨8, by decide⟩ (ldW arg1.view arg7.view arg8.view arg16.view X1 X7 X8 f16 (tm1 k) ⟨8, by decide⟩ (k1_off1_eq k) (k1_off26_eq k) rfl (k1_off28_eq k)) (acc.cons ⟨7, by decide⟩ (ldW arg1.view arg7.view arg8.view arg16.view X1 X7 X8 f16 (tm1 k) ⟨7, by decide⟩ (k1_off1_eq k) (k1_off23_eq k) rfl (k1_off25_eq k)) (acc.cons ⟨6, by decide⟩ (ldW arg1.view arg7.view arg8.view arg16.view X1 X7 X8 f16 (tm1 k) ⟨6, by decide⟩ (k1_off1_eq k) (k1_off20_eq k) rfl (k1_off22_eq k)) (acc.cons ⟨5, by decide⟩ (ldW arg1.view arg7.view arg8.view arg16.view X1 X7 X8 f16 (tm1 k) ⟨5, by decide⟩ (k1_off1_eq k) (k1_off17_eq k) rfl (k1_off19_eq k)) (acc.cons ⟨4, by decide⟩ (ldW arg1.view arg7.view arg8.view arg16.view X1 X7 X8 f16 (tm1 k) ⟨4, by decide⟩ (k1_off1_eq k) (k1_off14_eq k) rfl (k1_off16_eq k)) (acc.cons ⟨3, by decide⟩ (ldW arg1.view arg7.view arg8.view arg16.view X1 X7 X8 f16 (tm1 k) ⟨3, by decide⟩ (k1_off1_eq k) (k1_off11_eq k) rfl (k1_off13_eq k)) (acc.cons ⟨2, by decide⟩ (ldW arg1.view arg7.view arg8.view arg16.view X1 X7 X8 f16 (tm1 k) ⟨2, by decide⟩ (k1_off1_eq k) (k1_off8_eq k) rfl (k1_off10_eq k)) (acc.cons ⟨1, by decide⟩ (ldW arg1.view arg7.view arg8.view arg16.view X1 X7 X8 f16 (tm1 k) ⟨1, by decide⟩ (k1_off1_eq k) (k1_off5_eq k) rfl (k1_off7_eq k)) (acc.cons ⟨0, by decide⟩ (ldW arg1.view arg7.view arg8.view arg16.view X1 X7 X8 f16 (tm1 k) ⟨0, by decide⟩ (k1_off1_eq k) (k1_off2_eq k) rfl (k1_off4_eq k)) rfl)))))))))))))))))))))))))))))))))
  isplitl [H12]
  · iexists _; isplitl [H12]; · iexact H12
    ipureintro
    exact read_k64 _ _ (tm1 k) (both (acc (gK (arg1.view.read (Elt F) X1) (arg6.view.read (Elt F) X6) (arg7.view.read (Elt F) X7) (arg16.view.read (Elt F) f16) (tm1 k)) 32)) (k1_off1_eq k) _ _ (congrArg (fun z => shapeCast S1x64x128 (both z) shapeCasts_S64x128_S1x64x128) (acc.cons ⟨31, by decide⟩ (ldK arg1.view arg6.view arg7.view arg16.view X1 X6 X7 f16 (tm1 k) ⟨31, by decide⟩ (k1_off1_eq k) (k1_off95_eq k) rfl) (acc.cons ⟨30, by decide⟩ (ldK arg1.view arg6.view arg7.view arg16.view X1 X6 X7 f16 (tm1 k) ⟨30, by decide⟩ (k1_off1_eq k) (k1_off92_eq k) rfl) (acc.cons ⟨29, by decide⟩ (ldK arg1.view arg6.view arg7.view arg16.view X1 X6 X7 f16 (tm1 k) ⟨29, by decide⟩ (k1_off1_eq k) (k1_off89_eq k) rfl) (acc.cons ⟨28, by decide⟩ (ldK arg1.view arg6.view arg7.view arg16.view X1 X6 X7 f16 (tm1 k) ⟨28, by decide⟩ (k1_off1_eq k) (k1_off86_eq k) rfl) (acc.cons ⟨27, by decide⟩ (ldK arg1.view arg6.view arg7.view arg16.view X1 X6 X7 f16 (tm1 k) ⟨27, by decide⟩ (k1_off1_eq k) (k1_off83_eq k) rfl) (acc.cons ⟨26, by decide⟩ (ldK arg1.view arg6.view arg7.view arg16.view X1 X6 X7 f16 (tm1 k) ⟨26, by decide⟩ (k1_off1_eq k) (k1_off80_eq k) rfl) (acc.cons ⟨25, by decide⟩ (ldK arg1.view arg6.view arg7.view arg16.view X1 X6 X7 f16 (tm1 k) ⟨25, by decide⟩ (k1_off1_eq k) (k1_off77_eq k) rfl) (acc.cons ⟨24, by decide⟩ (ldK arg1.view arg6.view arg7.view arg16.view X1 X6 X7 f16 (tm1 k) ⟨24, by decide⟩ (k1_off1_eq k) (k1_off74_eq k) rfl) (acc.cons ⟨23, by decide⟩ (ldK arg1.view arg6.view arg7.view arg16.view X1 X6 X7 f16 (tm1 k) ⟨23, by decide⟩ (k1_off1_eq k) (k1_off71_eq k) rfl) (acc.cons ⟨22, by decide⟩ (ldK arg1.view arg6.view arg7.view arg16.view X1 X6 X7 f16 (tm1 k) ⟨22, by decide⟩ (k1_off1_eq k) (k1_off68_eq k) rfl) (acc.cons ⟨21, by decide⟩ (ldK arg1.view arg6.view arg7.view arg16.view X1 X6 X7 f16 (tm1 k) ⟨21, by decide⟩ (k1_off1_eq k) (k1_off65_eq k) rfl) (acc.cons ⟨20, by decide⟩ (ldK arg1.view arg6.view arg7.view arg16.view X1 X6 X7 f16 (tm1 k) ⟨20, by decide⟩ (k1_off1_eq k) (k1_off62_eq k) rfl) (acc.cons ⟨19, by decide⟩ (ldK arg1.view arg6.view arg7.view arg16.view X1 X6 X7 f16 (tm1 k) ⟨19, by decide⟩ (k1_off1_eq k) (k1_off59_eq k) rfl) (acc.cons ⟨18, by decide⟩ (ldK arg1.view arg6.view arg7.view arg16.view X1 X6 X7 f16 (tm1 k) ⟨18, by decide⟩ (k1_off1_eq k) (k1_off56_eq k) rfl) (acc.cons ⟨17, by decide⟩ (ldK arg1.view arg6.view arg7.view arg16.view X1 X6 X7 f16 (tm1 k) ⟨17, by decide⟩ (k1_off1_eq k) (k1_off53_eq k) rfl) (acc.cons ⟨16, by decide⟩ (ldK arg1.view arg6.view arg7.view arg16.view X1 X6 X7 f16 (tm1 k) ⟨16, by decide⟩ (k1_off1_eq k) (k1_off50_eq k) rfl) (acc.cons ⟨15, by decide⟩ (ldK arg1.view arg6.view arg7.view arg16.view X1 X6 X7 f16 (tm1 k) ⟨15, by decide⟩ (k1_off1_eq k) (k1_off47_eq k) rfl) (acc.cons ⟨14, by decide⟩ (ldK arg1.view arg6.view arg7.view arg16.view X1 X6 X7 f16 (tm1 k) ⟨14, by decide⟩ (k1_off1_eq k) (k1_off44_eq k) rfl) (acc.cons ⟨13, by decide⟩ (ldK arg1.view arg6.view arg7.view arg16.view X1 X6 X7 f16 (tm1 k) ⟨13, by decide⟩ (k1_off1_eq k) (k1_off41_eq k) rfl) (acc.cons ⟨12, by decide⟩ (ldK arg1.view arg6.view arg7.view arg16.view X1 X6 X7 f16 (tm1 k) ⟨12, by decide⟩ (k1_off1_eq k) (k1_off38_eq k) rfl) (acc.cons ⟨11, by decide⟩ (ldK arg1.view arg6.view arg7.view arg16.view X1 X6 X7 f16 (tm1 k) ⟨11, by decide⟩ (k1_off1_eq k) (k1_off35_eq k) rfl) (acc.cons ⟨10, by decide⟩ (ldK arg1.view arg6.view arg7.view arg16.view X1 X6 X7 f16 (tm1 k) ⟨10, by decide⟩ (k1_off1_eq k) (k1_off32_eq k) rfl) (acc.cons ⟨9, by decide⟩ (ldK arg1.view arg6.view arg7.view arg16.view X1 X6 X7 f16 (tm1 k) ⟨9, by decide⟩ (k1_off1_eq k) (k1_off29_eq k) rfl) (acc.cons ⟨8, by decide⟩ (ldK arg1.view arg6.view arg7.view arg16.view X1 X6 X7 f16 (tm1 k) ⟨8, by decide⟩ (k1_off1_eq k) (k1_off26_eq k) rfl) (acc.cons ⟨7, by decide⟩ (ldK arg1.view arg6.view arg7.view arg16.view X1 X6 X7 f16 (tm1 k) ⟨7, by decide⟩ (k1_off1_eq k) (k1_off23_eq k) rfl) (acc.cons ⟨6, by decide⟩ (ldK arg1.view arg6.view arg7.view arg16.view X1 X6 X7 f16 (tm1 k) ⟨6, by decide⟩ (k1_off1_eq k) (k1_off20_eq k) rfl) (acc.cons ⟨5, by decide⟩ (ldK arg1.view arg6.view arg7.view arg16.view X1 X6 X7 f16 (tm1 k) ⟨5, by decide⟩ (k1_off1_eq k) (k1_off17_eq k) rfl) (acc.cons ⟨4, by decide⟩ (ldK arg1.view arg6.view arg7.view arg16.view X1 X6 X7 f16 (tm1 k) ⟨4, by decide⟩ (k1_off1_eq k) (k1_off14_eq k) rfl) (acc.cons ⟨3, by decide⟩ (ldK arg1.view arg6.view arg7.view arg16.view X1 X6 X7 f16 (tm1 k) ⟨3, by decide⟩ (k1_off1_eq k) (k1_off11_eq k) rfl) (acc.cons ⟨2, by decide⟩ (ldK arg1.view arg6.view arg7.view arg16.view X1 X6 X7 f16 (tm1 k) ⟨2, by decide⟩ (k1_off1_eq k) (k1_off8_eq k) rfl) (acc.cons ⟨1, by decide⟩ (ldK arg1.view arg6.view arg7.view arg16.view X1 X6 X7 f16 (tm1 k) ⟨1, by decide⟩ (k1_off1_eq k) (k1_off5_eq k) rfl) (acc.cons ⟨0, by decide⟩ (ldK arg1.view arg6.view arg7.view arg16.view X1 X6 X7 f16 (tm1 k) ⟨0, by decide⟩ (k1_off1_eq k) (k1_off2_eq k) rfl) rfl)))))))))))))))))))))))))))))))))
  isplitl [H13]
  · iexists _; isplitl [H13]; · iexact H13
    ipureintro
    exact read_k64 _ _ (tm1 k) (both (acc (gA (arg1.view.read (Elt F) X1) (arg5.view.read (Elt F) X5) (arg7.view.read (Elt F) X7) (arg8.view.read (Elt F) X8) (arg16.view.read (Elt F) f16) (tm1 k)) 32)) (k1_off1_eq k) _ _ (congrArg (fun z => shapeCast S1x64x128 (both z) shapeCasts_S64x128_S1x64x128) (acc.cons ⟨31, by decide⟩ (ldA arg1.view arg5.view arg7.view arg8.view arg16.view X1 X5 X7 X8 f16 (tm1 k) ⟨31, by decide⟩ (k1_off1_eq k) (k1_off95_eq k) rfl (k1_off97_eq k)) (acc.cons ⟨30, by decide⟩ (ldA arg1.view arg5.view arg7.view arg8.view arg16.view X1 X5 X7 X8 f16 (tm1 k) ⟨30, by decide⟩ (k1_off1_eq k) (k1_off92_eq k) rfl (k1_off94_eq k)) (acc.cons ⟨29, by decide⟩ (ldA arg1.view arg5.view arg7.view arg8.view arg16.view X1 X5 X7 X8 f16 (tm1 k) ⟨29, by decide⟩ (k1_off1_eq k) (k1_off89_eq k) rfl (k1_off91_eq k)) (acc.cons ⟨28, by decide⟩ (ldA arg1.view arg5.view arg7.view arg8.view arg16.view X1 X5 X7 X8 f16 (tm1 k) ⟨28, by decide⟩ (k1_off1_eq k) (k1_off86_eq k) rfl (k1_off88_eq k)) (acc.cons ⟨27, by decide⟩ (ldA arg1.view arg5.view arg7.view arg8.view arg16.view X1 X5 X7 X8 f16 (tm1 k) ⟨27, by decide⟩ (k1_off1_eq k) (k1_off83_eq k) rfl (k1_off85_eq k)) (acc.cons ⟨26, by decide⟩ (ldA arg1.view arg5.view arg7.view arg8.view arg16.view X1 X5 X7 X8 f16 (tm1 k) ⟨26, by decide⟩ (k1_off1_eq k) (k1_off80_eq k) rfl (k1_off82_eq k)) (acc.cons ⟨25, by decide⟩ (ldA arg1.view arg5.view arg7.view arg8.view arg16.view X1 X5 X7 X8 f16 (tm1 k) ⟨25, by decide⟩ (k1_off1_eq k) (k1_off77_eq k) rfl (k1_off79_eq k)) (acc.cons ⟨24, by decide⟩ (ldA arg1.view arg5.view arg7.view arg8.view arg16.view X1 X5 X7 X8 f16 (tm1 k) ⟨24, by decide⟩ (k1_off1_eq k) (k1_off74_eq k) rfl (k1_off76_eq k)) (acc.cons ⟨23, by decide⟩ (ldA arg1.view arg5.view arg7.view arg8.view arg16.view X1 X5 X7 X8 f16 (tm1 k) ⟨23, by decide⟩ (k1_off1_eq k) (k1_off71_eq k) rfl (k1_off73_eq k)) (acc.cons ⟨22, by decide⟩ (ldA arg1.view arg5.view arg7.view arg8.view arg16.view X1 X5 X7 X8 f16 (tm1 k) ⟨22, by decide⟩ (k1_off1_eq k) (k1_off68_eq k) rfl (k1_off70_eq k)) (acc.cons ⟨21, by decide⟩ (ldA arg1.view arg5.view arg7.view arg8.view arg16.view X1 X5 X7 X8 f16 (tm1 k) ⟨21, by decide⟩ (k1_off1_eq k) (k1_off65_eq k) rfl (k1_off67_eq k)) (acc.cons ⟨20, by decide⟩ (ldA arg1.view arg5.view arg7.view arg8.view arg16.view X1 X5 X7 X8 f16 (tm1 k) ⟨20, by decide⟩ (k1_off1_eq k) (k1_off62_eq k) rfl (k1_off64_eq k)) (acc.cons ⟨19, by decide⟩ (ldA arg1.view arg5.view arg7.view arg8.view arg16.view X1 X5 X7 X8 f16 (tm1 k) ⟨19, by decide⟩ (k1_off1_eq k) (k1_off59_eq k) rfl (k1_off61_eq k)) (acc.cons ⟨18, by decide⟩ (ldA arg1.view arg5.view arg7.view arg8.view arg16.view X1 X5 X7 X8 f16 (tm1 k) ⟨18, by decide⟩ (k1_off1_eq k) (k1_off56_eq k) rfl (k1_off58_eq k)) (acc.cons ⟨17, by decide⟩ (ldA arg1.view arg5.view arg7.view arg8.view arg16.view X1 X5 X7 X8 f16 (tm1 k) ⟨17, by decide⟩ (k1_off1_eq k) (k1_off53_eq k) rfl (k1_off55_eq k)) (acc.cons ⟨16, by decide⟩ (ldA arg1.view arg5.view arg7.view arg8.view arg16.view X1 X5 X7 X8 f16 (tm1 k) ⟨16, by decide⟩ (k1_off1_eq k) (k1_off50_eq k) rfl (k1_off52_eq k)) (acc.cons ⟨15, by decide⟩ (ldA arg1.view arg5.view arg7.view arg8.view arg16.view X1 X5 X7 X8 f16 (tm1 k) ⟨15, by decide⟩ (k1_off1_eq k) (k1_off47_eq k) rfl (k1_off49_eq k)) (acc.cons ⟨14, by decide⟩ (ldA arg1.view arg5.view arg7.view arg8.view arg16.view X1 X5 X7 X8 f16 (tm1 k) ⟨14, by decide⟩ (k1_off1_eq k) (k1_off44_eq k) rfl (k1_off46_eq k)) (acc.cons ⟨13, by decide⟩ (ldA arg1.view arg5.view arg7.view arg8.view arg16.view X1 X5 X7 X8 f16 (tm1 k) ⟨13, by decide⟩ (k1_off1_eq k) (k1_off41_eq k) rfl (k1_off43_eq k)) (acc.cons ⟨12, by decide⟩ (ldA arg1.view arg5.view arg7.view arg8.view arg16.view X1 X5 X7 X8 f16 (tm1 k) ⟨12, by decide⟩ (k1_off1_eq k) (k1_off38_eq k) rfl (k1_off40_eq k)) (acc.cons ⟨11, by decide⟩ (ldA arg1.view arg5.view arg7.view arg8.view arg16.view X1 X5 X7 X8 f16 (tm1 k) ⟨11, by decide⟩ (k1_off1_eq k) (k1_off35_eq k) rfl (k1_off37_eq k)) (acc.cons ⟨10, by decide⟩ (ldA arg1.view arg5.view arg7.view arg8.view arg16.view X1 X5 X7 X8 f16 (tm1 k) ⟨10, by decide⟩ (k1_off1_eq k) (k1_off32_eq k) rfl (k1_off34_eq k)) (acc.cons ⟨9, by decide⟩ (ldA arg1.view arg5.view arg7.view arg8.view arg16.view X1 X5 X7 X8 f16 (tm1 k) ⟨9, by decide⟩ (k1_off1_eq k) (k1_off29_eq k) rfl (k1_off31_eq k)) (acc.cons ⟨8, by decide⟩ (ldA arg1.view arg5.view arg7.view arg8.view arg16.view X1 X5 X7 X8 f16 (tm1 k) ⟨8, by decide⟩ (k1_off1_eq k) (k1_off26_eq k) rfl (k1_off28_eq k)) (acc.cons ⟨7, by decide⟩ (ldA arg1.view arg5.view arg7.view arg8.view arg16.view X1 X5 X7 X8 f16 (tm1 k) ⟨7, by decide⟩ (k1_off1_eq k) (k1_off23_eq k) rfl (k1_off25_eq k)) (acc.cons ⟨6, by decide⟩ (ldA arg1.view arg5.view arg7.view arg8.view arg16.view X1 X5 X7 X8 f16 (tm1 k) ⟨6, by decide⟩ (k1_off1_eq k) (k1_off20_eq k) rfl (k1_off22_eq k)) (acc.cons ⟨5, by decide⟩ (ldA arg1.view arg5.view arg7.view arg8.view arg16.view X1 X5 X7 X8 f16 (tm1 k) ⟨5, by decide⟩ (k1_off1_eq k) (k1_off17_eq k) rfl (k1_off19_eq k)) (acc.cons ⟨4, by decide⟩ (ldA arg1.view arg5.view arg7.view arg8.view arg16.view X1 X5 X7 X8 f16 (tm1 k) ⟨4, by decide⟩ (k1_off1_eq k) (k1_off14_eq k) rfl (k1_off16_eq k)) (acc.cons ⟨3, by decide⟩ (ldA arg1.view arg5.view arg7.view arg8.view arg16.view X1 X5 X7 X8 f16 (tm1 k) ⟨3, by decide⟩ (k1_off1_eq k) (k1_off11_eq k) rfl (k1_off13_eq k)) (acc.cons ⟨2, by decide⟩ (ldA arg1.view arg5.view arg7.view arg8.view arg16.view X1 X5 X7 X8 f16 (tm1 k) ⟨2, by decide⟩ (k1_off1_eq k) (k1_off8_eq k) rfl (k1_off10_eq k)) (acc.cons ⟨1, by decide⟩ (ldA arg1.view arg5.view arg7.view arg8.view arg16.view X1 X5 X7 X8 f16 (tm1 k) ⟨1, by decide⟩ (k1_off1_eq k) (k1_off5_eq k) rfl (k1_off7_eq k)) (acc.cons ⟨0, by decide⟩ (ldA arg1.view arg5.view arg7.view arg8.view arg16.view X1 X5 X7 X8 f16 (tm1 k) ⟨0, by decide⟩ (k1_off1_eq k) (k1_off2_eq k) rfl (k1_off4_eq k)) rfl)))))))))))))))))))))))))))))))))
  isplitl [H14]
  · iexists _; isplitl [H14]; · iexact H14
    ipureintro
    exact read_k64 _ _ (tm1 k) (both (acc (gB (arg1.view.read (Elt F) X1) (arg7.view.read (Elt F) X7) (arg9.view.read (Elt F) X9) (arg16.view.read (Elt F) f16) (tm1 k)) 32)) (k1_off1_eq k) _ _ (congrArg (fun z => shapeCast S1x64x128 (both z) shapeCasts_S64x128_S1x64x128) (acc.cons ⟨31, by decide⟩ (ldB arg1.view arg7.view arg9.view arg16.view X1 X7 X9 f16 (tm1 k) ⟨31, by decide⟩ (k1_off1_eq k) (k1_off95_eq k) rfl) (acc.cons ⟨30, by decide⟩ (ldB arg1.view arg7.view arg9.view arg16.view X1 X7 X9 f16 (tm1 k) ⟨30, by decide⟩ (k1_off1_eq k) (k1_off92_eq k) rfl) (acc.cons ⟨29, by decide⟩ (ldB arg1.view arg7.view arg9.view arg16.view X1 X7 X9 f16 (tm1 k) ⟨29, by decide⟩ (k1_off1_eq k) (k1_off89_eq k) rfl) (acc.cons ⟨28, by decide⟩ (ldB arg1.view arg7.view arg9.view arg16.view X1 X7 X9 f16 (tm1 k) ⟨28, by decide⟩ (k1_off1_eq k) (k1_off86_eq k) rfl) (acc.cons ⟨27, by decide⟩ (ldB arg1.view arg7.view arg9.view arg16.view X1 X7 X9 f16 (tm1 k) ⟨27, by decide⟩ (k1_off1_eq k) (k1_off83_eq k) rfl) (acc.cons ⟨26, by decide⟩ (ldB arg1.view arg7.view arg9.view arg16.view X1 X7 X9 f16 (tm1 k) ⟨26, by decide⟩ (k1_off1_eq k) (k1_off80_eq k) rfl) (acc.cons ⟨25, by decide⟩ (ldB arg1.view arg7.view arg9.view arg16.view X1 X7 X9 f16 (tm1 k) ⟨25, by decide⟩ (k1_off1_eq k) (k1_off77_eq k) rfl) (acc.cons ⟨24, by decide⟩ (ldB arg1.view arg7.view arg9.view arg16.view X1 X7 X9 f16 (tm1 k) ⟨24, by decide⟩ (k1_off1_eq k) (k1_off74_eq k) rfl) (acc.cons ⟨23, by decide⟩ (ldB arg1.view arg7.view arg9.view arg16.view X1 X7 X9 f16 (tm1 k) ⟨23, by decide⟩ (k1_off1_eq k) (k1_off71_eq k) rfl) (acc.cons ⟨22, by decide⟩ (ldB arg1.view arg7.view arg9.view arg16.view X1 X7 X9 f16 (tm1 k) ⟨22, by decide⟩ (k1_off1_eq k) (k1_off68_eq k) rfl) (acc.cons ⟨21, by decide⟩ (ldB arg1.view arg7.view arg9.view arg16.view X1 X7 X9 f16 (tm1 k) ⟨21, by decide⟩ (k1_off1_eq k) (k1_off65_eq k) rfl) (acc.cons ⟨20, by decide⟩ (ldB arg1.view arg7.view arg9.view arg16.view X1 X7 X9 f16 (tm1 k) ⟨20, by decide⟩ (k1_off1_eq k) (k1_off62_eq k) rfl) (acc.cons ⟨19, by decide⟩ (ldB arg1.view arg7.view arg9.view arg16.view X1 X7 X9 f16 (tm1 k) ⟨19, by decide⟩ (k1_off1_eq k) (k1_off59_eq k) rfl) (acc.cons ⟨18, by decide⟩ (ldB arg1.view arg7.view arg9.view arg16.view X1 X7 X9 f16 (tm1 k) ⟨18, by decide⟩ (k1_off1_eq k) (k1_off56_eq k) rfl) (acc.cons ⟨17, by decide⟩ (ldB arg1.view arg7.view arg9.view arg16.view X1 X7 X9 f16 (tm1 k) ⟨17, by decide⟩ (k1_off1_eq k) (k1_off53_eq k) rfl) (acc.cons ⟨16, by decide⟩ (ldB arg1.view arg7.view arg9.view arg16.view X1 X7 X9 f16 (tm1 k) ⟨16, by decide⟩ (k1_off1_eq k) (k1_off50_eq k) rfl) (acc.cons ⟨15, by decide⟩ (ldB arg1.view arg7.view arg9.view arg16.view X1 X7 X9 f16 (tm1 k) ⟨15, by decide⟩ (k1_off1_eq k) (k1_off47_eq k) rfl) (acc.cons ⟨14, by decide⟩ (ldB arg1.view arg7.view arg9.view arg16.view X1 X7 X9 f16 (tm1 k) ⟨14, by decide⟩ (k1_off1_eq k) (k1_off44_eq k) rfl) (acc.cons ⟨13, by decide⟩ (ldB arg1.view arg7.view arg9.view arg16.view X1 X7 X9 f16 (tm1 k) ⟨13, by decide⟩ (k1_off1_eq k) (k1_off41_eq k) rfl) (acc.cons ⟨12, by decide⟩ (ldB arg1.view arg7.view arg9.view arg16.view X1 X7 X9 f16 (tm1 k) ⟨12, by decide⟩ (k1_off1_eq k) (k1_off38_eq k) rfl) (acc.cons ⟨11, by decide⟩ (ldB arg1.view arg7.view arg9.view arg16.view X1 X7 X9 f16 (tm1 k) ⟨11, by decide⟩ (k1_off1_eq k) (k1_off35_eq k) rfl) (acc.cons ⟨10, by decide⟩ (ldB arg1.view arg7.view arg9.view arg16.view X1 X7 X9 f16 (tm1 k) ⟨10, by decide⟩ (k1_off1_eq k) (k1_off32_eq k) rfl) (acc.cons ⟨9, by decide⟩ (ldB arg1.view arg7.view arg9.view arg16.view X1 X7 X9 f16 (tm1 k) ⟨9, by decide⟩ (k1_off1_eq k) (k1_off29_eq k) rfl) (acc.cons ⟨8, by decide⟩ (ldB arg1.view arg7.view arg9.view arg16.view X1 X7 X9 f16 (tm1 k) ⟨8, by decide⟩ (k1_off1_eq k) (k1_off26_eq k) rfl) (acc.cons ⟨7, by decide⟩ (ldB arg1.view arg7.view arg9.view arg16.view X1 X7 X9 f16 (tm1 k) ⟨7, by decide⟩ (k1_off1_eq k) (k1_off23_eq k) rfl) (acc.cons ⟨6, by decide⟩ (ldB arg1.view arg7.view arg9.view arg16.view X1 X7 X9 f16 (tm1 k) ⟨6, by decide⟩ (k1_off1_eq k) (k1_off20_eq k) rfl) (acc.cons ⟨5, by decide⟩ (ldB arg1.view arg7.view arg9.view arg16.view X1 X7 X9 f16 (tm1 k) ⟨5, by decide⟩ (k1_off1_eq k) (k1_off17_eq k) rfl) (acc.cons ⟨4, by decide⟩ (ldB arg1.view arg7.view arg9.view arg16.view X1 X7 X9 f16 (tm1 k) ⟨4, by decide⟩ (k1_off1_eq k) (k1_off14_eq k) rfl) (acc.cons ⟨3, by decide⟩ (ldB arg1.view arg7.view arg9.view arg16.view X1 X7 X9 f16 (tm1 k) ⟨3, by decide⟩ (k1_off1_eq k) (k1_off11_eq k) rfl) (acc.cons ⟨2, by decide⟩ (ldB arg1.view arg7.view arg9.view arg16.view X1 X7 X9 f16 (tm1 k) ⟨2, by decide⟩ (k1_off1_eq k) (k1_off8_eq k) rfl) (acc.cons ⟨1, by decide⟩ (ldB arg1.view arg7.view arg9.view arg16.view X1 X7 X9 f16 (tm1 k) ⟨1, by decide⟩ (k1_off1_eq k) (k1_off5_eq k) rfl) (acc.cons ⟨0, by decide⟩ (ldB arg1.view arg7.view arg9.view arg16.view X1 X7 X9 f16 (tm1 k) ⟨0, by decide⟩ (k1_off1_eq k) (k1_off2_eq k) rfl) rfl)))))))))))))))))))))))))))))))))
  isplitl [H15]
  · iexists _; isplitl [H15]; · iexact H15
    ipureintro
    refine Rows3.fin ?_
    exact (Rows3.cons ⟨31, by decide⟩ (k1_off95_eq k) (congrArg (fun z => shapeCast S1x1x128 z shapeCasts_S1x128_S1x1x128) (ldV arg1.view arg3.view arg7.view arg16.view X1 X3 X7 f16 (tm1 k) ⟨31, by decide⟩ (k1_off1_eq k) (k1_off95_eq k) rfl)) (Rows3.cons ⟨30, by decide⟩ (k1_off92_eq k) (congrArg (fun z => shapeCast S1x1x128 z shapeCasts_S1x128_S1x1x128) (ldV arg1.view arg3.view arg7.view arg16.view X1 X3 X7 f16 (tm1 k) ⟨30, by decide⟩ (k1_off1_eq k) (k1_off92_eq k) rfl)) (Rows3.cons ⟨29, by decide⟩ (k1_off89_eq k) (congrArg (fun z => shapeCast S1x1x128 z shapeCasts_S1x128_S1x1x128) (ldV arg1.view arg3.view arg7.view arg16.view X1 X3 X7 f16 (tm1 k) ⟨29, by decide⟩ (k1_off1_eq k) (k1_off89_eq k) rfl)) (Rows3.cons ⟨28, by decide⟩ (k1_off86_eq k) (congrArg (fun z => shapeCast S1x1x128 z shapeCasts_S1x128_S1x1x128) (ldV arg1.view arg3.view arg7.view arg16.view X1 X3 X7 f16 (tm1 k) ⟨28, by decide⟩ (k1_off1_eq k) (k1_off86_eq k) rfl)) (Rows3.cons ⟨27, by decide⟩ (k1_off83_eq k) (congrArg (fun z => shapeCast S1x1x128 z shapeCasts_S1x128_S1x1x128) (ldV arg1.view arg3.view arg7.view arg16.view X1 X3 X7 f16 (tm1 k) ⟨27, by decide⟩ (k1_off1_eq k) (k1_off83_eq k) rfl)) (Rows3.cons ⟨26, by decide⟩ (k1_off80_eq k) (congrArg (fun z => shapeCast S1x1x128 z shapeCasts_S1x128_S1x1x128) (ldV arg1.view arg3.view arg7.view arg16.view X1 X3 X7 f16 (tm1 k) ⟨26, by decide⟩ (k1_off1_eq k) (k1_off80_eq k) rfl)) (Rows3.cons ⟨25, by decide⟩ (k1_off77_eq k) (congrArg (fun z => shapeCast S1x1x128 z shapeCasts_S1x128_S1x1x128) (ldV arg1.view arg3.view arg7.view arg16.view X1 X3 X7 f16 (tm1 k) ⟨25, by decide⟩ (k1_off1_eq k) (k1_off77_eq k) rfl)) (Rows3.cons ⟨24, by decide⟩ (k1_off74_eq k) (congrArg (fun z => shapeCast S1x1x128 z shapeCasts_S1x128_S1x1x128) (ldV arg1.view arg3.view arg7.view arg16.view X1 X3 X7 f16 (tm1 k) ⟨24, by decide⟩ (k1_off1_eq k) (k1_off74_eq k) rfl)) (Rows3.cons ⟨23, by decide⟩ (k1_off71_eq k) (congrArg (fun z => shapeCast S1x1x128 z shapeCasts_S1x128_S1x1x128) (ldV arg1.view arg3.view arg7.view arg16.view X1 X3 X7 f16 (tm1 k) ⟨23, by decide⟩ (k1_off1_eq k) (k1_off71_eq k) rfl)) (Rows3.cons ⟨22, by decide⟩ (k1_off68_eq k) (congrArg (fun z => shapeCast S1x1x128 z shapeCasts_S1x128_S1x1x128) (ldV arg1.view arg3.view arg7.view arg16.view X1 X3 X7 f16 (tm1 k) ⟨22, by decide⟩ (k1_off1_eq k) (k1_off68_eq k) rfl)) (Rows3.cons ⟨21, by decide⟩ (k1_off65_eq k) (congrArg (fun z => shapeCast S1x1x128 z shapeCasts_S1x128_S1x1x128) (ldV arg1.view arg3.view arg7.view arg16.view X1 X3 X7 f16 (tm1 k) ⟨21, by decide⟩ (k1_off1_eq k) (k1_off65_eq k) rfl)) (Rows3.cons ⟨20, by decide⟩ (k1_off62_eq k) (congrArg (fun z => shapeCast S1x1x128 z shapeCasts_S1x128_S1x1x128) (ldV arg1.view arg3.view arg7.view arg16.view X1 X3 X7 f16 (tm1 k) ⟨20, by decide⟩ (k1_off1_eq k) (k1_off62_eq k) rfl)) (Rows3.cons ⟨19, by decide⟩ (k1_off59_eq k) (congrArg (fun z => shapeCast S1x1x128 z shapeCasts_S1x128_S1x1x128) (ldV arg1.view arg3.view arg7.view arg16.view X1 X3 X7 f16 (tm1 k) ⟨19, by decide⟩ (k1_off1_eq k) (k1_off59_eq k) rfl)) (Rows3.cons ⟨18, by decide⟩ (k1_off56_eq k) (congrArg (fun z => shapeCast S1x1x128 z shapeCasts_S1x128_S1x1x128) (ldV arg1.view arg3.view arg7.view arg16.view X1 X3 X7 f16 (tm1 k) ⟨18, by decide⟩ (k1_off1_eq k) (k1_off56_eq k) rfl)) (Rows3.cons ⟨17, by decide⟩ (k1_off53_eq k) (congrArg (fun z => shapeCast S1x1x128 z shapeCasts_S1x128_S1x1x128) (ldV arg1.view arg3.view arg7.view arg16.view X1 X3 X7 f16 (tm1 k) ⟨17, by decide⟩ (k1_off1_eq k) (k1_off53_eq k) rfl)) (Rows3.cons ⟨16, by decide⟩ (k1_off50_eq k) (congrArg (fun z => shapeCast S1x1x128 z shapeCasts_S1x128_S1x1x128) (ldV arg1.view arg3.view arg7.view arg16.view X1 X3 X7 f16 (tm1 k) ⟨16, by decide⟩ (k1_off1_eq k) (k1_off50_eq k) rfl)) (Rows3.cons ⟨15, by decide⟩ (k1_off47_eq k) (congrArg (fun z => shapeCast S1x1x128 z shapeCasts_S1x128_S1x1x128) (ldV arg1.view arg3.view arg7.view arg16.view X1 X3 X7 f16 (tm1 k) ⟨15, by decide⟩ (k1_off1_eq k) (k1_off47_eq k) rfl)) (Rows3.cons ⟨14, by decide⟩ (k1_off44_eq k) (congrArg (fun z => shapeCast S1x1x128 z shapeCasts_S1x128_S1x1x128) (ldV arg1.view arg3.view arg7.view arg16.view X1 X3 X7 f16 (tm1 k) ⟨14, by decide⟩ (k1_off1_eq k) (k1_off44_eq k) rfl)) (Rows3.cons ⟨13, by decide⟩ (k1_off41_eq k) (congrArg (fun z => shapeCast S1x1x128 z shapeCasts_S1x128_S1x1x128) (ldV arg1.view arg3.view arg7.view arg16.view X1 X3 X7 f16 (tm1 k) ⟨13, by decide⟩ (k1_off1_eq k) (k1_off41_eq k) rfl)) (Rows3.cons ⟨12, by decide⟩ (k1_off38_eq k) (by unfold trip1.sl.r_106; exact congrArg (fun z => shapeCast S1x1x128 z shapeCasts_S1x128_S1x1x128) (ldV arg1.view arg3.view arg7.view arg16.view X1 X3 X7 f16 (tm1 k) ⟨12, by decide⟩ (k1_off1_eq k) (k1_off38_eq k) rfl)) (Rows3.cons ⟨11, by decide⟩ (k1_off35_eq k) (congrArg (fun z => shapeCast S1x1x128 z shapeCasts_S1x128_S1x1x128) (ldV arg1.view arg3.view arg7.view arg16.view X1 X3 X7 f16 (tm1 k) ⟨11, by decide⟩ (k1_off1_eq k) (k1_off35_eq k) rfl)) (Rows3.cons ⟨10, by decide⟩ (k1_off32_eq k) (congrArg (fun z => shapeCast S1x1x128 z shapeCasts_S1x128_S1x1x128) (ldV arg1.view arg3.view arg7.view arg16.view X1 X3 X7 f16 (tm1 k) ⟨10, by decide⟩ (k1_off1_eq k) (k1_off32_eq k) rfl)) (Rows3.cons ⟨9, by decide⟩ (k1_off29_eq k) (congrArg (fun z => shapeCast S1x1x128 z shapeCasts_S1x128_S1x1x128) (ldV arg1.view arg3.view arg7.view arg16.view X1 X3 X7 f16 (tm1 k) ⟨9, by decide⟩ (k1_off1_eq k) (k1_off29_eq k) rfl)) (Rows3.cons ⟨8, by decide⟩ (k1_off26_eq k) (congrArg (fun z => shapeCast S1x1x128 z shapeCasts_S1x128_S1x1x128) (ldV arg1.view arg3.view arg7.view arg16.view X1 X3 X7 f16 (tm1 k) ⟨8, by decide⟩ (k1_off1_eq k) (k1_off26_eq k) rfl)) (Rows3.cons ⟨7, by decide⟩ (k1_off23_eq k) (congrArg (fun z => shapeCast S1x1x128 z shapeCasts_S1x128_S1x1x128) (ldV arg1.view arg3.view arg7.view arg16.view X1 X3 X7 f16 (tm1 k) ⟨7, by decide⟩ (k1_off1_eq k) (k1_off23_eq k) rfl)) (Rows3.cons ⟨6, by decide⟩ (k1_off20_eq k) (congrArg (fun z => shapeCast S1x1x128 z shapeCasts_S1x128_S1x1x128) (ldV arg1.view arg3.view arg7.view arg16.view X1 X3 X7 f16 (tm1 k) ⟨6, by decide⟩ (k1_off1_eq k) (k1_off20_eq k) rfl)) (Rows3.cons ⟨5, by decide⟩ (k1_off17_eq k) (congrArg (fun z => shapeCast S1x1x128 z shapeCasts_S1x128_S1x1x128) (ldV arg1.view arg3.view arg7.view arg16.view X1 X3 X7 f16 (tm1 k) ⟨5, by decide⟩ (k1_off1_eq k) (k1_off17_eq k) rfl)) (Rows3.cons ⟨4, by decide⟩ (k1_off14_eq k) (congrArg (fun z => shapeCast S1x1x128 z shapeCasts_S1x128_S1x1x128) (ldV arg1.view arg3.view arg7.view arg16.view X1 X3 X7 f16 (tm1 k) ⟨4, by decide⟩ (k1_off1_eq k) (k1_off14_eq k) rfl)) (Rows3.cons ⟨3, by decide⟩ (k1_off11_eq k) (congrArg (fun z => shapeCast S1x1x128 z shapeCasts_S1x128_S1x1x128) (ldV arg1.view arg3.view arg7.view arg16.view X1 X3 X7 f16 (tm1 k) ⟨3, by decide⟩ (k1_off1_eq k) (k1_off11_eq k) rfl)) (Rows3.cons ⟨2, by decide⟩ (k1_off8_eq k) (congrArg (fun z => shapeCast S1x1x128 z shapeCasts_S1x128_S1x1x128) (ldV arg1.view arg3.view arg7.view arg16.view X1 X3 X7 f16 (tm1 k) ⟨2, by decide⟩ (k1_off1_eq k) (k1_off8_eq k) rfl)) (Rows3.cons ⟨1, by decide⟩ (k1_off5_eq k) (congrArg (fun z => shapeCast S1x1x128 z shapeCasts_S1x128_S1x1x128) (ldV arg1.view arg3.view arg7.view arg16.view X1 X3 X7 f16 (tm1 k) ⟨1, by decide⟩ (k1_off1_eq k) (k1_off5_eq k) rfl)) (Rows3.cons ⟨0, by decide⟩ (k1_off2_eq k) (congrArg (fun z => shapeCast S1x1x128 z shapeCasts_S1x128_S1x1x128) (ldV arg1.view arg3.view arg7.view arg16.view X1 X3 X7 f16 (tm1 k) ⟨0, by decide⟩ (k1_off1_eq k) (k1_off2_eq k) rfl)) (Rows3.nil _ _ _ _)))))))))))))))))))))))))))))))))
  iexists _; isplitl [H16]; · iexact H16
  ipureintro
  refine RowsC.fin ?_
  exact (RowsC.cons ⟨31, by decide⟩ rfl (congrArg (fun z => shapeCast S1x64x128 z shapeCasts_S64x128_S1x64x128) (ldN arg1.view arg2.view arg4.view arg5.view arg7.view arg16.view X1 X2 X4 X5 X7 f16 (tm1 k) ⟨31, by decide⟩ (k1_off1_eq k) (k1_off95_eq k) rfl)) (RowsC.cons ⟨30, by decide⟩ rfl (congrArg (fun z => shapeCast S1x64x128 z shapeCasts_S64x128_S1x64x128) (ldN arg1.view arg2.view arg4.view arg5.view arg7.view arg16.view X1 X2 X4 X5 X7 f16 (tm1 k) ⟨30, by decide⟩ (k1_off1_eq k) (k1_off92_eq k) rfl)) (RowsC.cons ⟨29, by decide⟩ rfl (congrArg (fun z => shapeCast S1x64x128 z shapeCasts_S64x128_S1x64x128) (ldN arg1.view arg2.view arg4.view arg5.view arg7.view arg16.view X1 X2 X4 X5 X7 f16 (tm1 k) ⟨29, by decide⟩ (k1_off1_eq k) (k1_off89_eq k) rfl)) (RowsC.cons ⟨28, by decide⟩ rfl (congrArg (fun z => shapeCast S1x64x128 z shapeCasts_S64x128_S1x64x128) (ldN arg1.view arg2.view arg4.view arg5.view arg7.view arg16.view X1 X2 X4 X5 X7 f16 (tm1 k) ⟨28, by decide⟩ (k1_off1_eq k) (k1_off86_eq k) rfl)) (RowsC.cons ⟨27, by decide⟩ rfl (congrArg (fun z => shapeCast S1x64x128 z shapeCasts_S64x128_S1x64x128) (ldN arg1.view arg2.view arg4.view arg5.view arg7.view arg16.view X1 X2 X4 X5 X7 f16 (tm1 k) ⟨27, by decide⟩ (k1_off1_eq k) (k1_off83_eq k) rfl)) (RowsC.cons ⟨26, by decide⟩ rfl (congrArg (fun z => shapeCast S1x64x128 z shapeCasts_S64x128_S1x64x128) (ldN arg1.view arg2.view arg4.view arg5.view arg7.view arg16.view X1 X2 X4 X5 X7 f16 (tm1 k) ⟨26, by decide⟩ (k1_off1_eq k) (k1_off80_eq k) rfl)) (RowsC.cons ⟨25, by decide⟩ rfl (congrArg (fun z => shapeCast S1x64x128 z shapeCasts_S64x128_S1x64x128) (ldN arg1.view arg2.view arg4.view arg5.view arg7.view arg16.view X1 X2 X4 X5 X7 f16 (tm1 k) ⟨25, by decide⟩ (k1_off1_eq k) (k1_off77_eq k) rfl)) (RowsC.cons ⟨24, by decide⟩ rfl (congrArg (fun z => shapeCast S1x64x128 z shapeCasts_S64x128_S1x64x128) (ldN arg1.view arg2.view arg4.view arg5.view arg7.view arg16.view X1 X2 X4 X5 X7 f16 (tm1 k) ⟨24, by decide⟩ (k1_off1_eq k) (k1_off74_eq k) rfl)) (RowsC.cons ⟨23, by decide⟩ rfl (congrArg (fun z => shapeCast S1x64x128 z shapeCasts_S64x128_S1x64x128) (ldN arg1.view arg2.view arg4.view arg5.view arg7.view arg16.view X1 X2 X4 X5 X7 f16 (tm1 k) ⟨23, by decide⟩ (k1_off1_eq k) (k1_off71_eq k) rfl)) (RowsC.cons ⟨22, by decide⟩ rfl (congrArg (fun z => shapeCast S1x64x128 z shapeCasts_S64x128_S1x64x128) (ldN arg1.view arg2.view arg4.view arg5.view arg7.view arg16.view X1 X2 X4 X5 X7 f16 (tm1 k) ⟨22, by decide⟩ (k1_off1_eq k) (k1_off68_eq k) rfl)) (RowsC.cons ⟨21, by decide⟩ rfl (congrArg (fun z => shapeCast S1x64x128 z shapeCasts_S64x128_S1x64x128) (ldN arg1.view arg2.view arg4.view arg5.view arg7.view arg16.view X1 X2 X4 X5 X7 f16 (tm1 k) ⟨21, by decide⟩ (k1_off1_eq k) (k1_off65_eq k) rfl)) (RowsC.cons ⟨20, by decide⟩ rfl (congrArg (fun z => shapeCast S1x64x128 z shapeCasts_S64x128_S1x64x128) (ldN arg1.view arg2.view arg4.view arg5.view arg7.view arg16.view X1 X2 X4 X5 X7 f16 (tm1 k) ⟨20, by decide⟩ (k1_off1_eq k) (k1_off62_eq k) rfl)) (RowsC.cons ⟨19, by decide⟩ rfl (congrArg (fun z => shapeCast S1x64x128 z shapeCasts_S64x128_S1x64x128) (ldN arg1.view arg2.view arg4.view arg5.view arg7.view arg16.view X1 X2 X4 X5 X7 f16 (tm1 k) ⟨19, by decide⟩ (k1_off1_eq k) (k1_off59_eq k) rfl)) (RowsC.cons ⟨18, by decide⟩ rfl (congrArg (fun z => shapeCast S1x64x128 z shapeCasts_S64x128_S1x64x128) (ldN arg1.view arg2.view arg4.view arg5.view arg7.view arg16.view X1 X2 X4 X5 X7 f16 (tm1 k) ⟨18, by decide⟩ (k1_off1_eq k) (k1_off56_eq k) rfl)) (RowsC.cons ⟨17, by decide⟩ rfl (congrArg (fun z => shapeCast S1x64x128 z shapeCasts_S64x128_S1x64x128) (ldN arg1.view arg2.view arg4.view arg5.view arg7.view arg16.view X1 X2 X4 X5 X7 f16 (tm1 k) ⟨17, by decide⟩ (k1_off1_eq k) (k1_off53_eq k) rfl)) (RowsC.cons ⟨16, by decide⟩ rfl (congrArg (fun z => shapeCast S1x64x128 z shapeCasts_S64x128_S1x64x128) (ldN arg1.view arg2.view arg4.view arg5.view arg7.view arg16.view X1 X2 X4 X5 X7 f16 (tm1 k) ⟨16, by decide⟩ (k1_off1_eq k) (k1_off50_eq k) rfl)) (RowsC.cons ⟨15, by decide⟩ rfl (congrArg (fun z => shapeCast S1x64x128 z shapeCasts_S64x128_S1x64x128) (ldN arg1.view arg2.view arg4.view arg5.view arg7.view arg16.view X1 X2 X4 X5 X7 f16 (tm1 k) ⟨15, by decide⟩ (k1_off1_eq k) (k1_off47_eq k) rfl)) (RowsC.cons ⟨14, by decide⟩ rfl (congrArg (fun z => shapeCast S1x64x128 z shapeCasts_S64x128_S1x64x128) (ldN arg1.view arg2.view arg4.view arg5.view arg7.view arg16.view X1 X2 X4 X5 X7 f16 (tm1 k) ⟨14, by decide⟩ (k1_off1_eq k) (k1_off44_eq k) rfl)) (RowsC.cons ⟨13, by decide⟩ rfl (congrArg (fun z => shapeCast S1x64x128 z shapeCasts_S64x128_S1x64x128) (ldN arg1.view arg2.view arg4.view arg5.view arg7.view arg16.view X1 X2 X4 X5 X7 f16 (tm1 k) ⟨13, by decide⟩ (k1_off1_eq k) (k1_off41_eq k) rfl)) (RowsC.cons ⟨12, by decide⟩ rfl (congrArg (fun z => shapeCast S1x64x128 z shapeCasts_S64x128_S1x64x128) (ldN arg1.view arg2.view arg4.view arg5.view arg7.view arg16.view X1 X2 X4 X5 X7 f16 (tm1 k) ⟨12, by decide⟩ (k1_off1_eq k) (k1_off38_eq k) rfl)) (RowsC.cons ⟨11, by decide⟩ rfl (congrArg (fun z => shapeCast S1x64x128 z shapeCasts_S64x128_S1x64x128) (ldN arg1.view arg2.view arg4.view arg5.view arg7.view arg16.view X1 X2 X4 X5 X7 f16 (tm1 k) ⟨11, by decide⟩ (k1_off1_eq k) (k1_off35_eq k) rfl)) (RowsC.cons ⟨10, by decide⟩ rfl (congrArg (fun z => shapeCast S1x64x128 z shapeCasts_S64x128_S1x64x128) (ldN arg1.view arg2.view arg4.view arg5.view arg7.view arg16.view X1 X2 X4 X5 X7 f16 (tm1 k) ⟨10, by decide⟩ (k1_off1_eq k) (k1_off32_eq k) rfl)) (RowsC.cons ⟨9, by decide⟩ rfl (congrArg (fun z => shapeCast S1x64x128 z shapeCasts_S64x128_S1x64x128) (ldN arg1.view arg2.view arg4.view arg5.view arg7.view arg16.view X1 X2 X4 X5 X7 f16 (tm1 k) ⟨9, by decide⟩ (k1_off1_eq k) (k1_off29_eq k) rfl)) (RowsC.cons ⟨8, by decide⟩ rfl (congrArg (fun z => shapeCast S1x64x128 z shapeCasts_S64x128_S1x64x128) (ldN arg1.view arg2.view arg4.view arg5.view arg7.view arg16.view X1 X2 X4 X5 X7 f16 (tm1 k) ⟨8, by decide⟩ (k1_off1_eq k) (k1_off26_eq k) rfl)) (RowsC.cons ⟨7, by decide⟩ rfl (congrArg (fun z => shapeCast S1x64x128 z shapeCasts_S64x128_S1x64x128) (ldN arg1.view arg2.view arg4.view arg5.view arg7.view arg16.view X1 X2 X4 X5 X7 f16 (tm1 k) ⟨7, by decide⟩ (k1_off1_eq k) (k1_off23_eq k) rfl)) (RowsC.cons ⟨6, by decide⟩ rfl (congrArg (fun z => shapeCast S1x64x128 z shapeCasts_S64x128_S1x64x128) (ldN arg1.view arg2.view arg4.view arg5.view arg7.view arg16.view X1 X2 X4 X5 X7 f16 (tm1 k) ⟨6, by decide⟩ (k1_off1_eq k) (k1_off20_eq k) rfl)) (RowsC.cons ⟨5, by decide⟩ rfl (congrArg (fun z => shapeCast S1x64x128 z shapeCasts_S64x128_S1x64x128) (ldN arg1.view arg2.view arg4.view arg5.view arg7.view arg16.view X1 X2 X4 X5 X7 f16 (tm1 k) ⟨5, by decide⟩ (k1_off1_eq k) (k1_off17_eq k) rfl)) (RowsC.cons ⟨4, by decide⟩ rfl (congrArg (fun z => shapeCast S1x64x128 z shapeCasts_S64x128_S1x64x128) (ldN arg1.view arg2.view arg4.view arg5.view arg7.view arg16.view X1 X2 X4 X5 X7 f16 (tm1 k) ⟨4, by decide⟩ (k1_off1_eq k) (k1_off14_eq k) rfl)) (RowsC.cons ⟨3, by decide⟩ rfl (congrArg (fun z => shapeCast S1x64x128 z shapeCasts_S64x128_S1x64x128) (ldN arg1.view arg2.view arg4.view arg5.view arg7.view arg16.view X1 X2 X4 X5 X7 f16 (tm1 k) ⟨3, by decide⟩ (k1_off1_eq k) (k1_off11_eq k) rfl)) (RowsC.cons ⟨2, by decide⟩ rfl (congrArg (fun z => shapeCast S1x64x128 z shapeCasts_S64x128_S1x64x128) (ldN arg1.view arg2.view arg4.view arg5.view arg7.view arg16.view X1 X2 X4 X5 X7 f16 (tm1 k) ⟨2, by decide⟩ (k1_off1_eq k) (k1_off8_eq k) rfl)) (RowsC.cons ⟨1, by decide⟩ rfl (congrArg (fun z => shapeCast S1x64x128 z shapeCasts_S64x128_S1x64x128) (ldN arg1.view arg2.view arg4.view arg5.view arg7.view arg16.view X1 X2 X4 X5 X7 f16 (tm1 k) ⟨1, by decide⟩ (k1_off1_eq k) (k1_off5_eq k) rfl)) (RowsC.cons ⟨0, by decide⟩ rfl (congrArg (fun z => shapeCast S1x64x128 z shapeCasts_S64x128_S1x64x128) (ldN arg1.view arg2.view arg4.view arg5.view arg7.view arg16.view X1 X2 X4 X5 X7 f16 (tm1 k) ⟨0, by decide⟩ (k1_off1_eq k) (k1_off2_eq k) rfl)) (RowsC.nil _ _ _)))))))))))))))))))))))))))))))))

end Cert.KernelIdeal.Hand

end
-- ==== Proof.Bwd.lean ====
/- The backward scan over one chunk of 16 times: the gradients it goes through, its loop by an invariant, and its body at a grid point. -/
module

public import proofs.«01_k».proof.Proof.Trip1
public import proofs.«01_k».proof.Proof.Body0

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄G" => MT nD τ sig Unit (Elt F) ℕ (UR sig nD τ) ℕ

/-- The arrays of one chunk of 16 times, with the output's gradient and what the forward scan left. -/
structure BChunk (F : FTy → Type) where
  r : Vec F S16x64x128 .f32
  w : Vec F S16x64x128 .f32
  k : Vec F S16x64x128 .f32
  a : Vec F S16x64x128 .f32
  b : Vec F S16x64x128 .f32
  v : Vec F S16x32x128 .f32
  dy : Vec F S16x32x128 .f32
  st : Vec F S1x17x32x64x128 .f32
  sa : Vec F S16x32x128 .f32

/-- The time the `n`-th step back works on. -/
abbrev bt (n : ℕ) : Fin 16 := ⟨15 - n, by omega⟩

/-- The state's gradient after `n` steps back through a chunk, from `d0`. -/
def dsn (X : BChunk F) (d0 : Vec F S32x64x128 .f32) : ℕ → Vec F S32x64x128 .f32
  | 0 => d0
  | n + 1 => fun y => dN X.r X.w X.a X.b X.dy (dsn X d0 n) (bt n) (y 0) (ix2 (y 1) (y 2))

section Outs
variable (X : BChunk F) (d0 : Vec F S32x64x128 .f32)
/-- The state's gradient that time `u` starts from. -/
abbrev dAt (u : Fin 16) : Vec F S32x64x128 .f32 := dsn X d0 (15 - u.val)
/-- The gradient of `r`. -/
def drOut : Vec F S16x64x128 .f32 := fun y => both (acc (gR X.dy X.st (y 0)) 32) (ix2 (y 1) (y 2))
/-- The gradient of `w`. -/
def dwOut : Vec F S16x64x128 .f32 := fun y => both (acc (gW X.r X.dy X.st (dAt X d0 (y 0)) (y 0)) 32) (ix2 (y 1) (y 2))
/-- The gradient of `k`. -/
def dkOut : Vec F S16x64x128 .f32 := fun y => both (acc (gK X.r X.v X.dy (dAt X d0 (y 0)) (y 0)) 32) (ix2 (y 1) (y 2))
/-- The gradient of `a`. -/
def daOut : Vec F S16x64x128 .f32 := fun y => both (acc (gA X.r X.b X.dy X.st (dAt X d0 (y 0)) (y 0)) 32) (ix2 (y 1) (y 2))
/-- The gradient of `b`. -/
def dbOut : Vec F S16x64x128 .f32 := fun y => both (acc (gB X.r X.dy X.sa (dAt X d0 (y 0)) (y 0)) 32) (ix2 (y 1) (y 2))
/-- The gradient of `v`. -/
def dvOut : Vec F S16x32x128 .f32 := fun y => gV X.r X.k X.dy (dAt X d0 (y 0)) (y 0) (y 1) (ix2 0 (y 2))
/-- The state's gradient handed to the chunk before. -/
def dsOut : Vec F S32x64x128 .f32 := dsn X d0 16
end Outs

/-- What the loop holds before step `k`. -/
structure Inv1 (X : BChunk F) (d0 : Vec F S32x64x128 .f32) (k : ℕ) (d10 d11 d12 d13 d14 : Vec F S16x64x128 .f32) (d15 : Vec F S16x32x128 .f32)
    (d16 : Vec F S32x64x128 .f32) : Prop where

  h10 : ∀ (u : Fin 16) (e : Fin 64) (l : Fin 128), 16 - k ≤ u.val → d10 (ix3 u e l) = drOut X (ix3 u e l)
  h11 : ∀ (u : Fin 16) (e : Fin 64) (l : Fin 128), 16 - k ≤ u.val → d11 (ix3 u e l) = dwOut X d0 (ix3 u e l)
  h12 : ∀ (u : Fin 16) (e : Fin 64) (l : Fin 128), 16 - k ≤ u.val → d12 (ix3 u e l) = dkOut X d0 (ix3 u e l)
  h13 : ∀ (u : Fin 16) (e : Fin 64) (l : Fin 128), 16 - k ≤ u.val → d13 (ix3 u e l) = daOut X d0 (ix3 u e l)
  h14 : ∀ (u : Fin 16) (e : Fin 64) (l : Fin 128), 16 - k ≤ u.val → d14 (ix3 u e l) = dbOut X d0 (ix3 u e l)
  h15 : ∀ (u : Fin 16) (i : Fin 32) (l : Fin 128), 16 - k ≤ u.val → d15 (ix3 u i l) = dvOut X d0 (ix3 u i l)
  h16 : d16 = dsn X d0 k

theorem Inv1.step {X : BChunk F} {d0 : Vec F S32x64x128 .f32} {k : ℕ} {d10 d11 d12 d13 d14 d15 d16} (h : Inv1 X d0 k d10 d11 d12 d13 d14 d15 d16) (hk : k < 16)
    (t : Fin 16) (ht : t.val = 15 - k) {g10 g11 g12 g13 g14 g15 g16}
    (e10 : ∀ u e l, g10 (ix3 u e l) = if u = t then both (acc (gR X.dy X.st t) 32) (ix2 e l) else d10 (ix3 u e l))
    (e11 : ∀ u e l, g11 (ix3 u e l) = if u = t then both (acc (gW X.r X.dy X.st d16 t) 32) (ix2 e l) else d11 (ix3 u e l))
    (e12 : ∀ u e l, g12 (ix3 u e l) = if u = t then both (acc (gK X.r X.v X.dy d16 t) 32) (ix2 e l) else d12 (ix3 u e l))
    (e13 : ∀ u e l, g13 (ix3 u e l) = if u = t then both (acc (gA X.r X.b X.dy X.st d16 t) 32) (ix2 e l) else d13 (ix3 u e l))
    (e14 : ∀ u e l, g14 (ix3 u e l) = if u = t then both (acc (gB X.r X.dy X.sa d16 t) 32) (ix2 e l) else d14 (ix3 u e l))
    (e15 : ∀ u i l, g15 (ix3 u i l) = if u = t then gV X.r X.k X.dy d16 t i (ix2 0 l) else d15 (ix3 u i l))
    (e16 : ∀ i e l, g16 (ix3 i e l) = dN X.r X.w X.a X.b X.dy d16 t i (ix2 e l)) :
    Inv1 X d0 (k + 1) g10 g11 g12 g13 g14 g15 g16 := by
  have hd : d16 = dAt X d0 t := by rw [h.h16]; show _ = dsn X d0 (15 - t.val); rw [ht]; congr 1; omega
  have hbt : bt k = t := Fin.ext ht.symm
  refine ⟨fun u e l hu => ?_, fun u e l hu => ?_, fun u e l hu => ?_, fun u e l hu => ?_, fun u e l hu => ?_, fun u e l hu => ?_, ?_⟩
  · rw [e10]
    by_cases hut : u = t
    · rw [if_pos hut, hut]; rfl
    · rw [if_neg hut]; exact h.h10 u e l (by have : u.val ≠ t.val := fun e => hut (Fin.ext e); omega)
  · rw [e11]
    by_cases hut : u = t
    · rw [if_pos hut, hut, hd]; rfl
    · rw [if_neg hut]; exact h.h11 u e l (by have : u.val ≠ t.val := fun e => hut (Fin.ext e); omega)
  · rw [e12]
    by_cases hut : u = t
    · rw [if_pos hut, hut, hd]; rfl
    · rw [if_neg hut]; exact h.h12 u e l (by have : u.val ≠ t.val := fun e => hut (Fin.ext e); omega)
  · rw [e13]
    by_cases hut : u = t
    · rw [if_pos hut, hut, hd]; rfl
    · rw [if_neg hut]; exact h.h13 u e l (by have : u.val ≠ t.val := fun e => hut (Fin.ext e); omega)
  · rw [e14]
    by_cases hut : u = t
    · rw [if_pos hut, hut, hd]; rfl
    · rw [if_neg hut]; exact h.h14 u e l (by have : u.val ≠ t.val := fun e => hut (Fin.ext e); omega)
  · rw [e15]
    by_cases hut : u = t
    · rw [if_pos hut, hut, hd]; rfl
    · rw [if_neg hut]; exact h.h15 u e l (by have : u.val ≠ t.val := fun e => hut (Fin.ext e); omega)
  · funext y
    rw [eq_ix3 y]
    refine (e16 _ _ _).trans ?_
    rw [h.h16, ← hbt]; rfl

theorem Inv1.out {X : BChunk F} {d0 : Vec F S32x64x128 .f32} {d10 d11 d12 d13 d14 d15 d16} (h : Inv1 X d0 16 d10 d11 d12 d13 d14 d15 d16) :
    d10 = drOut X ∧ d11 = dwOut X d0 ∧ d12 = dkOut X d0 ∧ d13 = daOut X d0 ∧ d14 = dbOut X d0 ∧ d15 = dvOut X d0 ∧ d16 = dsOut X d0 := by
  refine ⟨funext fun y => ?_, funext fun y => ?_, funext fun y => ?_, funext fun y => ?_, funext fun y => ?_, funext fun y => ?_, h.h16⟩
  · rw [eq_ix3 y]; exact h.h10 _ _ _ (Nat.zero_le _)
  · rw [eq_ix3 y]; exact h.h11 _ _ _ (Nat.zero_le _)
  · rw [eq_ix3 y]; exact h.h12 _ _ _ (Nat.zero_le _)
  · rw [eq_ix3 y]; exact h.h13 _ _ _ (Nat.zero_le _)
  · rw [eq_ix3 y]; exact h.h14 _ _ _ (Nat.zero_le _)
  · rw [eq_ix3 y]; exact h.h15 _ _ _ (Nat.zero_le _)

theorem Inv1.start (X : BChunk F) (d0 : Vec F S32x64x128 .f32) (d10 d11 d12 d13 d14 : Vec F S16x64x128 .f32) (d15 : Vec F S16x32x128 .f32) :
    Inv1 X d0 0 d10 d11 d12 d13 d14 d15 d0 where
  h10 u e l hu := absurd u.isLt (by omega)
  h11 u e l hu := absurd u.isLt (by omega)
  h12 u e l hu := absurd u.isLt (by omega)
  h13 u e l hu := absurd u.isLt (by omega)
  h14 u e l hu := absurd u.isLt (by omega)
  h15 u e l hu := absurd u.isLt (by omega)
  h16 := rfl

theorem trips1 : k1_t1_loop.trips = 16 := by decide +kernel

/-- What the loop over a chunk's times holds before step `k`. -/
def inv1 (c : Dev nD) (arg1 : Memref sig .tc .vmem S16x64x128 .f32) (arg2 : Memref sig .tc .vmem S16x64x128 .f32) (arg3 : Memref sig .tc .vmem S16x64x128 .f32) (arg4 : Memref sig .tc .vmem S16x64x128 .f32) (arg5 : Memref sig .tc .vmem S16x64x128 .f32) (arg6 : Memref sig .tc .vmem S16x32x128 .f32) (arg7 : Memref sig .tc .vmem S16x32x128 .f32) (arg8 : Memref sig .tc .vmem S1x17x32x64x128 .f32) (arg9 : Memref sig .tc .vmem S16x32x128 .f32) (arg10 : Memref sig .tc .vmem S16x64x128 .f32) (arg11 : Memref sig .tc .vmem S16x64x128 .f32) (arg12 : Memref sig .tc .vmem S16x64x128 .f32) (arg13 : Memref sig .tc .vmem S16x64x128 .f32) (arg14 : Memref sig .tc .vmem S16x64x128 .f32) (arg15 : Memref sig .tc .vmem S16x32x128 .f32) (arg16 : Memref sig .tc .vmem S32x64x128 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (d0 : Vec F S32x64x128 .f32) (k : ℕ) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ∃ g10 g11 g12 g13 g14 g15 g16, (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ ⌜Inv1 (F := F) ⟨(arg1.view.read (Elt F) X1), (arg2.view.read (Elt F) X2), (arg3.view.read (Elt F) X3), (arg4.view.read (Elt F) X4), (arg5.view.read (Elt F) X5), (arg6.view.read (Elt F) X6), (arg7.view.read (Elt F) X7), (arg8.view.read (Elt F) X8), (arg9.view.read (Elt F) X9)⟩ d0 k (arg10.view.read (Elt F) g10) (arg11.view.read (Elt F) g11) (arg12.view.read (Elt F) g12) (arg13.view.read (Elt F) g13) (arg14.view.read (Elt F) g14) (arg15.view.read (Elt F) g15) (arg16.view.read (Elt F) g16)⌝)

theorem step1 (𝒱 : Variants) (c : Dev nD) (bd : Option 𝒱.V) (i : grid1.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S16x64x128 .f32) (harg10 : arg10.IsWhole) (arg11 : Memref sig .tc .vmem S16x64x128 .f32) (harg11 : arg11.IsWhole) (arg12 : Memref sig .tc .vmem S16x64x128 .f32) (harg12 : arg12.IsWhole) (arg13 : Memref sig .tc .vmem S16x64x128 .f32) (harg13 : arg13.IsWhole) (arg14 : Memref sig .tc .vmem S16x64x128 .f32) (harg14 : arg14.IsWhole) (arg15 : Memref sig .tc .vmem S16x32x128 .f32) (harg15 : arg15.IsWhole) (arg16 : Memref sig .tc .vmem S32x64x128 .f32) (harg16 : arg16.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (d0 : Vec F S32x64x128 .f32)
    (E : Set ℕ) (k : Fin k1_t1_loop.trips) (acc : Unit) :
    inv1 (F := F) c arg1 arg2 arg3 arg4 arg5 arg6 arg7 arg8 arg9 arg10 arg11 arg12 arg13 arg14 arg15 arg16 X1 X2 X3 X4 X5 X6 X7 X8 X9 d0 k.val
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k acc) (fun _ => inv1 (F := F) c arg1 arg2 arg3 arg4 arg5 arg6 arg7 arg8 arg9 arg10 arg11 arg12 arg13 arg14 arg15 arg16 X1 X2 X3 X4 X5 X6 X7 X8 X9 d0 (k.val + 1)) := by
  unfold inv1
  iintro ⟨H1, H2, H3, H4, H5, H6, H7, H8, H9, %g10, %g11, %g12, %g13, %g14, %g15, %g16, H10, H11, H12, H13, H14, H15, H16, %hI⟩
  iapply (wp_wand_r frame (wpE (defs₀ (F := F)) 𝒱 (c : Thread nD τ) bd) E)
  isplitl [H1 H2 H3 H4 H5 H6 H7 H8 H9 H10 H11 H12 H13 H14 H15 H16]
  · iapply (trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k E (X1 := X1) (X2 := X2) (X3 := X3) (X4 := X4) (X5 := X5) (X6 := X6) (X7 := X7) (X8 := X8) (X9 := X9) (f10 := g10) (f11 := g11) (f12 := g12) (f13 := g13) (f14 := g14) (f15 := g15) (f16 := g16))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iintro %_ ⟨H1, H2, H3, H4, H5, H6, H7, H8, H9, ⟨%p10, H10, %e10⟩, ⟨%p11, H11, %e11⟩, ⟨%p12, H12, %e12⟩, ⟨%p13, H13, %e13⟩, ⟨%p14, H14, %e14⟩, ⟨%p15, H15, %e15⟩, ⟨%p16, H16, %e16⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists p10; iexists p11; iexists p12; iexists p13; iexists p14; iexists p15; iexists p16
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact hI.step (Nat.lt_of_lt_of_eq k.isLt trips1) (tm1 k) rfl e10 e11 e12 e13 e14 e15 e16

/-- The loop over a chunk's times, from any outputs. -/
theorem loop1 (𝒱 : Variants) (c : Dev nD) (bd : Option 𝒱.V) (i : grid1.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S16x64x128 .f32) (harg10 : arg10.IsWhole) (arg11 : Memref sig .tc .vmem S16x64x128 .f32) (harg11 : arg11.IsWhole) (arg12 : Memref sig .tc .vmem S16x64x128 .f32) (harg12 : arg12.IsWhole) (arg13 : Memref sig .tc .vmem S16x64x128 .f32) (harg13 : arg13.IsWhole) (arg14 : Memref sig .tc .vmem S16x64x128 .f32) (harg14 : arg14.IsWhole) (arg15 : Memref sig .tc .vmem S16x32x128 .f32) (harg15 : arg15.IsWhole) (arg16 : Memref sig .tc .vmem S32x64x128 .f32) (harg16 : arg16.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (d0 : Vec F S32x64x128 .f32)
    (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (hs : (arg16.view.read (Elt F) f16) = d0) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄G)
      ⊢ wp frame (wpE (defs₀ (F := F)) 𝒱 (c : Thread nD τ) bd) E (Scf.Loop.for k1_t1_loop k1_t1_ok () (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16))
          (fun _ => inv1 (F := F) c arg1 arg2 arg3 arg4 arg5 arg6 arg7 arg8 arg9 arg10 arg11 arg12 arg13 arg14 arg15 arg16 X1 X2 X3 X4 X5 X6 X7 X8 X9 d0 16) := by
  refine loop_rule frame (wpE (defs₀ (F := F)) 𝒱 (c : Thread nD τ) bd) E k1_t1_loop k1_t1_ok (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
    (inv1 (F := F) c arg1 arg2 arg3 arg4 arg5 arg6 arg7 arg8 arg9 arg10 arg11 arg12 arg13 arg14 arg15 arg16 X1 X2 X3 X4 X5 X6 X7 X8 X9 d0) 16 trips1 _ ?_ (step1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 X8 X9 d0 E)
  unfold inv1
  iintro ⟨H1, H2, H3, H4, H5, H6, H7, H8, H9, H10, H11, H12, H13, H14, H15, H16⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists f10; iexists f11; iexists f12; iexists f13; iexists f14; iexists f15; iexists f16
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro; rw [hs]; exact Inv1.start _ _ _ _ _ _ _ _

/-- Whether the point is the grid's first. -/
abbrev first1 (i : grid1.Coords) : Prop := (Scalar.cmpi .ne (Scalar.extui (Scalar.cmpi .eq (BitVec.ofNat 32 (i 0).val) 0#32)) 0#32) = 1#1

/-- The body at the grid's first point. -/
theorem body1_A (c : Dev nD) (i : grid1.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S16x64x128 .f32) (harg10 : arg10.IsWhole) (arg11 : Memref sig .tc .vmem S16x64x128 .f32) (harg11 : arg11.IsWhole) (arg12 : Memref sig .tc .vmem S16x64x128 .f32) (harg12 : arg12.IsWhole) (arg13 : Memref sig .tc .vmem S16x64x128 .f32) (harg13 : arg13.IsWhole) (arg14 : Memref sig .tc .vmem S16x64x128 .f32) (harg14 : arg14.IsWhole) (arg15 : Memref sig .tc .vmem S16x32x128 .f32) (harg15 : arg15.IsWhole) (arg16 : Memref sig .tc .vmem S32x64x128 .f32) (harg16 : arg16.IsWhole) (hc0 : first1 i) (x1 : Vec F S16x64x128 .f32) (x2 : Vec F S16x64x128 .f32) (x3 : Vec F S16x64x128 .f32) (x4 : Vec F S16x64x128 .f32) (x5 : Vec F S16x64x128 .f32) (x6 : Vec F S16x32x128 .f32) (x7 : Vec F S16x32x128 .f32) (x8 : Vec F S1x17x32x64x128 .f32) (x9 : Vec F S16x32x128 .f32)  (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (drOut (F := F) ⟨x1, x2, x3, x4, x5, x6, x7, x8, x9⟩) ∗ owns (c : Thread nD τ) arg11 fullShare (dwOut (F := F) ⟨x1, x2, x3, x4, x5, x6, x7, x8, x9⟩ (k1_pay1 (F := F))) ∗ owns (c : Thread nD τ) arg12 fullShare (dkOut (F := F) ⟨x1, x2, x3, x4, x5, x6, x7, x8, x9⟩ (k1_pay1 (F := F))) ∗ owns (c : Thread nD τ) arg13 fullShare (daOut (F := F) ⟨x1, x2, x3, x4, x5, x6, x7, x8, x9⟩ (k1_pay1 (F := F))) ∗ owns (c : Thread nD τ) arg14 fullShare (dbOut (F := F) ⟨x1, x2, x3, x4, x5, x6, x7, x8, x9⟩ (k1_pay1 (F := F))) ∗ owns (c : Thread nD τ) arg15 fullShare (dvOut (F := F) ⟨x1, x2, x3, x4, x5, x6, x7, x8, x9⟩ (k1_pay1 (F := F))) ∗ owns (c : Thread nD τ) arg16 fullShare (dsOut (F := F) ⟨x1, x2, x3, x4, x5, x6, x7, x8, x9⟩ (k1_pay1 (F := F)))) -∗ K ⟨⟩))
      ⊢ wp frame (wpE (defs₀ (F := F)) Variants.none c none) E (cc1_rwkv_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_rwkv_scan_bwd_eq_skeleton]; unfold cc1_rwkv_scan_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  try rw [wp_bind]
  iapply (wp_wand_r frame (wpE (defs₀ (F := F)) Variants.none c none) E)
  isplitl [H1 H2 H3 H4 H5 H6 H7 H8 H9 H10 H11 H12 H13 H14 H15 H16]
  · iapply (loop1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ (k1_pay1 (F := F)) E f10 f11 f12 f13 f14 f15 _ (View.read_writes_full _ _ _ _ _))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  unfold inv1
  iintro %_ ⟨H1, H2, H3, H4, H5, H6, H7, H8, H9, %g10, %g11, %g12, %g13, %g14, %g15, %g16, H10, H11, H12, H13, H14, H15, H16, %hI⟩
  rw [hf1, hf2, hf3, hf4, hf5, hf6, hf7, hf8, hf9] at hI
  try sl_exec
  try sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hI.out.1
    iexact H10
  isplitl [H11]
  · iexists _; isplitr; · ipureintro; exact hI.out.2.1
    iexact H11
  isplitl [H12]
  · iexists _; isplitr; · ipureintro; exact hI.out.2.2.1
    iexact H12
  isplitl [H13]
  · iexists _; isplitr; · ipureintro; exact hI.out.2.2.2.1
    iexact H13
  isplitl [H14]
  · iexists _; isplitr; · ipureintro; exact hI.out.2.2.2.2.1
    iexact H14
  isplitl [H15]
  · iexists _; isplitr; · ipureintro; exact hI.out.2.2.2.2.2.1
    iexact H15
  iexists _; isplitr; · ipureintro; exact hI.out.2.2.2.2.2.2
  iexact H16

/-- The body at a later point. -/
theorem body1_B (c : Dev nD) (i : grid1.Coords) (arg1 : Memref sig .tc .vmem S16x64x128 .f32) (harg1 : arg1.IsWhole) (arg2 : Memref sig .tc .vmem S16x64x128 .f32) (harg2 : arg2.IsWhole) (arg3 : Memref sig .tc .vmem S16x64x128 .f32) (harg3 : arg3.IsWhole) (arg4 : Memref sig .tc .vmem S16x64x128 .f32) (harg4 : arg4.IsWhole) (arg5 : Memref sig .tc .vmem S16x64x128 .f32) (harg5 : arg5.IsWhole) (arg6 : Memref sig .tc .vmem S16x32x128 .f32) (harg6 : arg6.IsWhole) (arg7 : Memref sig .tc .vmem S16x32x128 .f32) (harg7 : arg7.IsWhole) (arg8 : Memref sig .tc .vmem S1x17x32x64x128 .f32) (harg8 : arg8.IsWhole) (arg9 : Memref sig .tc .vmem S16x32x128 .f32) (harg9 : arg9.IsWhole) (arg10 : Memref sig .tc .vmem S16x64x128 .f32) (harg10 : arg10.IsWhole) (arg11 : Memref sig .tc .vmem S16x64x128 .f32) (harg11 : arg11.IsWhole) (arg12 : Memref sig .tc .vmem S16x64x128 .f32) (harg12 : arg12.IsWhole) (arg13 : Memref sig .tc .vmem S16x64x128 .f32) (harg13 : arg13.IsWhole) (arg14 : Memref sig .tc .vmem S16x64x128 .f32) (harg14 : arg14.IsWhole) (arg15 : Memref sig .tc .vmem S16x32x128 .f32) (harg15 : arg15.IsWhole) (arg16 : Memref sig .tc .vmem S32x64x128 .f32) (harg16 : arg16.IsWhole) (hc0 : ¬ first1 i) (x1 : Vec F S16x64x128 .f32) (x2 : Vec F S16x64x128 .f32) (x3 : Vec F S16x64x128 .f32) (x4 : Vec F S16x64x128 .f32) (x5 : Vec F S16x64x128 .f32) (x6 : Vec F S16x32x128 .f32) (x7 : Vec F S16x32x128 .f32) (x8 : Vec F S1x17x32x64x128 .f32) (x9 : Vec F S16x32x128 .f32) (x16 : Vec F S32x64x128 .f32) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (drOut (F := F) ⟨x1, x2, x3, x4, x5, x6, x7, x8, x9⟩) ∗ owns (c : Thread nD τ) arg11 fullShare (dwOut (F := F) ⟨x1, x2, x3, x4, x5, x6, x7, x8, x9⟩ x16) ∗ owns (c : Thread nD τ) arg12 fullShare (dkOut (F := F) ⟨x1, x2, x3, x4, x5, x6, x7, x8, x9⟩ x16) ∗ owns (c : Thread nD τ) arg13 fullShare (daOut (F := F) ⟨x1, x2, x3, x4, x5, x6, x7, x8, x9⟩ x16) ∗ owns (c : Thread nD τ) arg14 fullShare (dbOut (F := F) ⟨x1, x2, x3, x4, x5, x6, x7, x8, x9⟩ x16) ∗ owns (c : Thread nD τ) arg15 fullShare (dvOut (F := F) ⟨x1, x2, x3, x4, x5, x6, x7, x8, x9⟩ x16) ∗ owns (c : Thread nD τ) arg16 fullShare (dsOut (F := F) ⟨x1, x2, x3, x4, x5, x6, x7, x8, x9⟩ x16)) -∗ K ⟨⟩))
      ⊢ wp frame (wpE (defs₀ (F := F)) Variants.none c none) E (cc1_rwkv_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_rwkv_scan_bwd_eq_skeleton]; unfold cc1_rwkv_scan_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg16.eq_unread hf16
  sl_exec (disch := first | sl_exact hc0)
  try rw [wp_bind]
  iapply (wp_wand_r frame (wpE (defs₀ (F := F)) Variants.none c none) E)
  isplitl [H1 H2 H3 H4 H5 H6 H7 H8 H9 H10 H11 H12 H13 H14 H15 H16]
  · iapply (loop1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ x16 E f10 f11 f12 f13 f14 f15 _ hf16)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  unfold inv1
  iintro %_ ⟨H1, H2, H3, H4, H5, H6, H7, H8, H9, %g10, %g11, %g12, %g13, %g14, %g15, %g16, H10, H11, H12, H13, H14, H15, H16, %hI⟩
  rw [hf1, hf2, hf3, hf4, hf5, hf6, hf7, hf8, hf9] at hI
  try sl_exec
  try sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hI.out.1
    iexact H10
  isplitl [H11]
  · iexists _; isplitr; · ipureintro; exact hI.out.2.1
    iexact H11
  isplitl [H12]
  · iexists _; isplitr; · ipureintro; exact hI.out.2.2.1
    iexact H12
  isplitl [H13]
  · iexists _; isplitr; · ipureintro; exact hI.out.2.2.2.1
    iexact H13
  isplitl [H14]
  · iexists _; isplitr; · ipureintro; exact hI.out.2.2.2.2.1
    iexact H14
  isplitl [H15]
  · iexists _; isplitr; · ipureintro; exact hI.out.2.2.2.2.2.1
    iexact H15
  iexists _; isplitr; · ipureintro; exact hI.out.2.2.2.2.2.2
  iexact H16

end Cert.KernelIdeal.Hand

end
-- ==== Proof.Dat1.lean ====
/- The pipeline proof data of the backward scan: what each grid point finds and leaves, and the body obligation. -/
module

public import proofs.«01_k».proof.Proof.Bwd
public import proofs.«01_k».proof.Proof.Gen.KernelIdeal.Points
public import proofs.«01_k».proof.Proof.Gen.KernelIdeal.Launch
public import Idealize.ShloMosaic.Lib.WordCmp
public import Idealize.ShloMosaic.Lib.Pipeline.FrameBody

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄G" => MT nD τ sig Unit (Elt F) ℕ (UR sig nD τ) ℕ

namespace D1

/-- A window's block at point `t`, read off its array as the region finds it. -/
def iblk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

variable (V : (c : Dev nD) → (b : Ref sig .tc) → Buf (Elt F) ((c : Thread nD τ).loc b))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The grid point of a number. -/
abbrev pt (n : ℕ) : Fin cfg1.N := ⟨n % 128, Nat.lt_of_lt_of_eq (Nat.mod_lt _ (by decide)) N_1.symm⟩

theorem pt_val (t : Fin cfg1.N) : pt t.val = t :=
  Fin.ext (Nat.mod_eq_of_lt (Nat.lt_of_lt_of_eq t.isLt N_1))

/-- The chunk's arrays at point `t`. -/
def X (c : Dev nD) (t : Fin cfg1.N) : BChunk F := ⟨iblk V c 0 t, iblk V c 1 t, iblk V c 2 t, iblk V c 3 t, iblk V c 4 t, iblk V c 5 t, iblk V c 6 t, iblk V c 7 t, iblk V c 8 t⟩

/-- What the scratch holds before point `n`. -/
def carry (c : Dev nD) : ℕ → Vec F S32x64x128 .f32
  | 0 => k1_pay1
  | n + 1 => dsOut (X V c (pt n)) (carry c n)

theorem carry_succ (c : Dev nD) (t : Fin cfg1.N) : carry V c (t.val + 1) = dsOut (X V c t) (carry V c t.val) := by
  show dsOut (X V c (pt t.val)) _ = _
  rw [pt_val]

/-- The scratch's memref. -/
abbrev scM : Memref sig .tc .vmem S32x64x128 .f32 := Memref.whole cc1_scratch0

theorem rest_split (c : Dev nD) :
    (Pipeline.scopedRest spec1 c : sProp 𝕄G)
      = iprop(iprop((∃ f : Buf (Elt F) ((c : Thread nD τ).loc cc1_scratch0), ((c : Thread nD τ).loc cc1_scratch0) ↦{fullShare} f))
          ∗ Pipeline.scopedRestBut spec1 c [cc1_scratch0]) :=
  Pipeline.scopedRest_split_of_list spec1 c [cc1_scratch0] (by decide) (by decide)

/-- The invariant before point `n`: the scratch at its contents (at any before the first), the other buffers and the generator register. -/
def PhiS (c : Dev nD) : (n : ℕ) → n ≤ cfg1.N → sProp 𝕄G
  | 0, _ => iprop(Pipeline.scopedRest spec1 c ∗ ∃ r, prngReg c r)
  | n + 1, _ => iprop((owns (c : Thread nD τ) scM fullShare (carry V c (n + 1)) ∗ Pipeline.scopedRestBut spec1 c [cc1_scratch0]) ∗ ∃ r, prngReg c r)

theorem PhiS_zero (c : Dev nD) (n : ℕ) (h : n ≤ cfg1.N) (hz : n = 0) : PhiS V c n h = iprop(Pipeline.scopedRest spec1 c ∗ ∃ r, prngReg c r) := by
  subst hz; rfl
theorem PhiS_pos (c : Dev nD) (n : ℕ) (h : n ≤ cfg1.N) (hz : n ≠ 0) :
    PhiS V c n h = iprop((owns (c : Thread nD τ) scM fullShare (carry V c n) ∗ Pipeline.scopedRestBut spec1 c [cc1_scratch0]) ∗ ∃ r, prngReg c r) := by
  cases n with
  | zero => exact absurd rfl hz
  | succ n => rfl

/-- The proof data of the region's pipeline. -/
def dat (c : Dev nD) : Dat τ (Elt F) Unit ℕ (UR sig nD τ) ℕ cfg1 c where
  A w := V c (Pipeline.arrRef spec1 w)
  after w t := match w with

    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => drOut (X V c t)
    | ⟨10, _⟩ => dwOut (X V c t) (carry V c t.val)
    | ⟨11, _⟩ => dkOut (X V c t) (carry V c t.val)
    | ⟨12, _⟩ => daOut (X V c t) (carry V c t.val)
    | ⟨13, _⟩ => dbOut (X V c t) (carry V c t.val)
    | ⟨14, _⟩ => dvOut (X V c t) (carry V c t.val)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = iblk V c 8 t := by dsimp only [dat]
theorem after9 (c : Dev nD) (t : Fin cfg1.N) : (dat V c).after 9 t = drOut (X V c t) := by dsimp only [dat]
theorem after10 (c : Dev nD) (t : Fin cfg1.N) : (dat V c).after 10 t = dwOut (X V c t) (carry V c t.val) := by dsimp only [dat]
theorem after11 (c : Dev nD) (t : Fin cfg1.N) : (dat V c).after 11 t = dkOut (X V c t) (carry V c t.val) := by dsimp only [dat]
theorem after12 (c : Dev nD) (t : Fin cfg1.N) : (dat V c).after 12 t = daOut (X V c t) (carry V c t.val) := by dsimp only [dat]
theorem after13 (c : Dev nD) (t : Fin cfg1.N) : (dat V c).after 13 t = dbOut (X V c t) (carry V c t.val) := by dsimp only [dat]
theorem after14 (c : Dev nD) (t : Fin cfg1.N) : (dat V c).after 14 t = dvOut (X V c t) (carry V c t.val) := by dsimp only [dat]
theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d
theorem before6 (c : Dev nD) (t : Fin cfg1.N) (d) : (dat V c).before 6 t d = iblk V c 6 t :=
  before6_of V (dat V c) (A_eq V c 6) (after6 V c) t d
theorem before7 (c : Dev nD) (t : Fin cfg1.N) (d) : (dat V c).before 7 t d = iblk V c 7 t :=
  before7_of V (dat V c) (A_eq V c 7) (after7 V c) t d
theorem before8 (c : Dev nD) (t : Fin cfg1.N) (d) : (dat V c).before 8 t d = iblk V c 8 t :=
  before8_of V (dat V c) (A_eq V c 8) (after8 V c) t d

/-- What the body is called with. -/
def bodyPre (c : Dev nD) (t : Fin cfg1.N) : sProp 𝕄G :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d))
    ∗ (∃ d, owns (c : Thread nD τ) (win1_7.stage (cfg1.slots t 7)) fullShare ((dat V c).before 7 t d))
    ∗ (∃ d, owns (c : Thread nD τ) (win1_8.stage (cfg1.slots t 8)) fullShare ((dat V c).before 8 t d))
    ∗ (∃ d, owns (c : Thread nD τ) (win1_9.stage (cfg1.slots t 9)) fullShare ((dat V c).before 9 t d))
    ∗ (∃ d, owns (c : Thread nD τ) (win1_10.stage (cfg1.slots t 10)) fullShare ((dat V c).before 10 t d))
    ∗ (∃ d, owns (c : Thread nD τ) (win1_11.stage (cfg1.slots t 11)) fullShare ((dat V c).before 11 t d))
    ∗ (∃ d, owns (c : Thread nD τ) (win1_12.stage (cfg1.slots t 12)) fullShare ((dat V c).before 12 t d))
    ∗ (∃ d, owns (c : Thread nD τ) (win1_13.stage (cfg1.slots t 13)) fullShare ((dat V c).before 13 t d))
    ∗ (∃ d, owns (c : Thread nD τ) (win1_14.stage (cfg1.slots t 14)) fullShare ((dat V c).before 14 t d)))
/-- What it returns. -/
def bodyPost (c : Dev nD) (t : Fin cfg1.N) : sProp 𝕄G :=
  iprop((dat V c).Φ t.succ ∗ (dat V c).owesAt () t.succ
    ∗ owns (c : Thread nD τ) (win1_0.stage (cfg1.slots t 0)) fullShare ((dat V c).after 0 t)
    ∗ owns (c : Thread nD τ) (win1_1.stage (cfg1.slots t 1)) fullShare ((dat V c).after 1 t)
    ∗ owns (c : Thread nD τ) (win1_2.stage (cfg1.slots t 2)) fullShare ((dat V c).after 2 t)
    ∗ owns (c : Thread nD τ) (win1_3.stage (cfg1.slots t 3)) fullShare ((dat V c).after 3 t)
    ∗ owns (c : Thread nD τ) (win1_4.stage (cfg1.slots t 4)) fullShare ((dat V c).after 4 t)
    ∗ owns (c : Thread nD τ) (win1_5.stage (cfg1.slots t 5)) fullShare ((dat V c).after 5 t)
    ∗ owns (c : Thread nD τ) (win1_6.stage (cfg1.slots t 6)) fullShare ((dat V c).after 6 t)
    ∗ owns (c : Thread nD τ) (win1_7.stage (cfg1.slots t 7)) fullShare ((dat V c).after 7 t)
    ∗ owns (c : Thread nD τ) (win1_8.stage (cfg1.slots t 8)) fullShare ((dat V c).after 8 t)
    ∗ owns (c : Thread nD τ) (win1_9.stage (cfg1.slots t 9)) fullShare ((dat V c).after 9 t)
    ∗ owns (c : Thread nD τ) (win1_10.stage (cfg1.slots t 10)) fullShare ((dat V c).after 10 t)
    ∗ owns (c : Thread nD τ) (win1_11.stage (cfg1.slots t 11)) fullShare ((dat V c).after 11 t)
    ∗ owns (c : Thread nD τ) (win1_12.stage (cfg1.slots t 12)) fullShare ((dat V c).after 12 t)
    ∗ owns (c : Thread nD τ) (win1_13.stage (cfg1.slots t 13)) fullShare ((dat V c).after 13 t)
    ∗ owns (c : Thread nD τ) (win1_14.stage (cfg1.slots t 14)) fullShare ((dat V c).after 14 t))

theorem hfirst : ∀ t : Fin cfg1.N, first1 (grid1.coords t) ↔ t.val % 128 = 0 :=
  (fun t => by
    have ht : t.val < 128 := Nat.lt_of_lt_of_eq t.isLt N_1
    have e0 : (grid1.coords t 0).val = t.val / 1 % 128 := Pipeline.Grid.coords_val t 0 (by decide) rfl
    simp only [first1, e0]
    word_cmp
   : ∀ t : Fin grid1.N, first1 (grid1.coords t) ↔ t.val % 128 = 0)

set_option maxHeartbeats 12800000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8]
  rw [show (dat V c).owesAt () t.succ = (dat V c).owesAt () t.castSucc from rfl,
    after0, after1, after2, after3, after4, after5, after6, after7, after8, after9, after10, after11, after12, after13, after14]
  rw [show (dat V c).Φ t.succ = PhiS V c (t.val + 1) t.isLt from rfl, PhiS_pos V c _ _ (Nat.succ_ne_zero _), carry_succ]
  have hN : t.val < 128 := lt_of_lt_of_eq t.isLt (show cfg1.N = 128 from N_1)
  by_cases hz : t.val = 0
  ·
    rw [PhiS_castSucc V c t, PhiS_zero V c _ _ hz, rest_split, hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body1_A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) scM (Memref.isWhole_whole _) ((hfirst t).mpr (by rw [hz])) (iblk V c 0 t) (iblk V c 1 t) (iblk V c 2 t) (iblk V c 3 t) (iblk V c 4 t) (iblk V c 5 t) (iblk V c 6 t) (iblk V c 7 t) (iblk V c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS]
    · icases HS with ⟨%f, HS⟩
      iexists f; rw [owns_whole]; iexact HS
    iintro ⟨H0, H1, H2, H3, H4, H5, H6, H7, H8, H9, H10, H11, H12, H13, H14, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  ·
    rw [PhiS_castSucc V c t, PhiS_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body1_B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) scM (Memref.isWhole_whole _) (fun h => hz (by have := (hfirst t).mp h; omega)) (iblk V c 0 t) (iblk V c 1 t) (iblk V c 2 t) (iblk V c 3 t) (iblk V c 4 t) (iblk V c 5 t) (iblk V c 6 t) (iblk V c 7 t) (iblk V c 8 t) (carry V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

theorem hin (c : Dev nD) : iprop(Pipeline.scopedRest spec1 c ∗ ∃ r, prngReg c r) ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ iprop(Pipeline.scopedRest spec1 c ∗ ∃ r, prngReg c r) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), rest_split, owns_whole]
  iintro ⟨⟨HS, HR⟩, Hg⟩
  isplitl [HS HR]
  · isplitl [HS]
    · iexists _; iexact HS
    iexact HR
  iexact Hg

end D1

end Cert.KernelIdeal.Hand

end
-- ==== Proof.Run.lean ====
/- The program run: both scans' regions between the host operations, and every buffer of the host at the end. -/
module

public import proofs.«01_k».proof.Proof.Dat0
public import proofs.«01_k».proof.Proof.Dat1
public import proofs.«01_k».proof.Proof.Gen.KernelIdeal.Regions
public import Idealize.ShloMosaic.Lib.Pipeline.RegionArrays

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄G" => MT nD τ sig Unit (Elt F) ℕ (UR sig nD τ) ℕ

theorem upd3_0 (f : Valuation τ sig (Elt F)) (v0 : (Proc.devRef .tc main_v29_0 : DevRef τ sig).ty.Contents (Elt F)) (v1 : (Proc.devRef .tc main_v29_1 : DevRef τ sig).ty.Contents (Elt F)) (v2 : (Proc.devRef .tc main_v29_2 : DevRef τ sig).ty.Contents (Elt F)) :
    (Function.update (Function.update (Function.update (f) main_v29_0 v0) main_v29_1 v1) main_v29_2 v2 : Valuation τ sig (Elt F)) (Proc.devRef .tc main_v29_0) = v0 := by
  simp only [Function.update_of_ne (StableHlo.devRef_ne_of_ne (by decide : (main_v29_0 : Ref sig .tc) ≠ main_v29_1)), Function.update_of_ne (StableHlo.devRef_ne_of_ne (by decide : (main_v29_0 : Ref sig .tc) ≠ main_v29_2)), Function.update_self]
theorem upd3_1 (f : Valuation τ sig (Elt F)) (v0 : (Proc.devRef .tc main_v29_0 : DevRef τ sig).ty.Contents (Elt F)) (v1 : (Proc.devRef .tc main_v29_1 : DevRef τ sig).ty.Contents (Elt F)) (v2 : (Proc.devRef .tc main_v29_2 : DevRef τ sig).ty.Contents (Elt F)) :
    (Function.update (Function.update (Function.update (f) main_v29_0 v0) main_v29_1 v1) main_v29_2 v2 : Valuation τ sig (Elt F)) (Proc.devRef .tc main_v29_1) = v1 := by
  simp only [Function.update_of_ne (StableHlo.devRef_ne_of_ne (by decide : (main_v29_1 : Ref sig .tc) ≠ main_v29_2)), Function.update_self]
theorem upd3_2 (f : Valuation τ sig (Elt F)) (v0 : (Proc.devRef .tc main_v29_0 : DevRef τ sig).ty.Contents (Elt F)) (v1 : (Proc.devRef .tc main_v29_1 : DevRef τ sig).ty.Contents (Elt F)) (v2 : (Proc.devRef .tc main_v29_2 : DevRef τ sig).ty.Contents (Elt F)) :
    (Function.update (Function.update (Function.update (f) main_v29_0 v0) main_v29_1 v1) main_v29_2 v2 : Valuation τ sig (Elt F)) (Proc.devRef .tc main_v29_2) = v2 := by
  simp only [Function.update_self]
theorem upd6_0 (f : Valuation τ sig (Elt F)) (v0 : (Proc.devRef .tc main_v34_0 : DevRef τ sig).ty.Contents (Elt F)) (v1 : (Proc.devRef .tc main_v34_1 : DevRef τ sig).ty.Contents (Elt F)) (v2 : (Proc.devRef .tc main_v34_2 : DevRef τ sig).ty.Contents (Elt F)) (v3 : (Proc.devRef .tc main_v34_3 : DevRef τ sig).ty.Contents (Elt F)) (v4 : (Proc.devRef .tc main_v34_4 : DevRef τ sig).ty.Contents (Elt F)) (v5 : (Proc.devRef .tc main_v34_5 : DevRef τ sig).ty.Contents (Elt F)) :
    (Function.update (Function.update (Function.update (Function.update (Function.update (Function.update (f) main_v34_0 v0) main_v34_1 v1) main_v34_2 v2) main_v34_3 v3) main_v34_4 v4) main_v34_5 v5 : Valuation τ sig (Elt F)) (Proc.devRef .tc main_v34_0) = v0 := by
  simp only [Function.update_of_ne (StableHlo.devRef_ne_of_ne (by decide : (main_v34_0 : Ref sig .tc) ≠ main_v34_1)), Function.update_of_ne (StableHlo.devRef_ne_of_ne (by decide : (main_v34_0 : Ref sig .tc) ≠ main_v34_2)), Function.update_of_ne (StableHlo.devRef_ne_of_ne (by decide : (main_v34_0 : Ref sig .tc) ≠ main_v34_3)), Function.update_of_ne (StableHlo.devRef_ne_of_ne (by decide : (main_v34_0 : Ref sig .tc) ≠ main_v34_4)), Function.update_of_ne (StableHlo.devRef_ne_of_ne (by decide : (main_v34_0 : Ref sig .tc) ≠ main_v34_5)), Function.update_self]
theorem upd6_1 (f : Valuation τ sig (Elt F)) (v0 : (Proc.devRef .tc main_v34_0 : DevRef τ sig).ty.Contents (Elt F)) (v1 : (Proc.devRef .tc main_v34_1 : DevRef τ sig).ty.Contents (Elt F)) (v2 : (Proc.devRef .tc main_v34_2 : DevRef τ sig).ty.Contents (Elt F)) (v3 : (Proc.devRef .tc main_v34_3 : DevRef τ sig).ty.Contents (Elt F)) (v4 : (Proc.devRef .tc main_v34_4 : DevRef τ sig).ty.Contents (Elt F)) (v5 : (Proc.devRef .tc main_v34_5 : DevRef τ sig).ty.Contents (Elt F)) :
    (Function.update (Function.update (Function.update (Function.update (Function.update (Function.update (f) main_v34_0 v0) main_v34_1 v1) main_v34_2 v2) main_v34_3 v3) main_v34_4 v4) main_v34_5 v5 : Valuation τ sig (Elt F)) (Proc.devRef .tc main_v34_1) = v1 := by
  simp only [Function.update_of_ne (StableHlo.devRef_ne_of_ne (by decide : (main_v34_1 : Ref sig .tc) ≠ main_v34_2)), Function.update_of_ne (StableHlo.devRef_ne_of_ne (by decide : (main_v34_1 : Ref sig .tc) ≠ main_v34_3)), Function.update_of_ne (StableHlo.devRef_ne_of_ne (by decide : (main_v34_1 : Ref sig .tc) ≠ main_v34_4)), Function.update_of_ne (StableHlo.devRef_ne_of_ne (by decide : (main_v34_1 : Ref sig .tc) ≠ main_v34_5)), Function.update_self]
theorem upd6_2 (f : Valuation τ sig (Elt F)) (v0 : (Proc.devRef .tc main_v34_0 : DevRef τ sig).ty.Contents (Elt F)) (v1 : (Proc.devRef .tc main_v34_1 : DevRef τ sig).ty.Contents (Elt F)) (v2 : (Proc.devRef .tc main_v34_2 : DevRef τ sig).ty.Contents (Elt F)) (v3 : (Proc.devRef .tc main_v34_3 : DevRef τ sig).ty.Contents (Elt F)) (v4 : (Proc.devRef .tc main_v34_4 : DevRef τ sig).ty.Contents (Elt F)) (v5 : (Proc.devRef .tc main_v34_5 : DevRef τ sig).ty.Contents (Elt F)) :
    (Function.update (Function.update (Function.update (Function.update (Function.update (Function.update (f) main_v34_0 v0) main_v34_1 v1) main_v34_2 v2) main_v34_3 v3) main_v34_4 v4) main_v34_5 v5 : Valuation τ sig (Elt F)) (Proc.devRef .tc main_v34_2) = v2 := by
  simp only [Function.update_of_ne (StableHlo.devRef_ne_of_ne (by decide : (main_v34_2 : Ref sig .tc) ≠ main_v34_3)), Function.update_of_ne (StableHlo.devRef_ne_of_ne (by decide : (main_v34_2 : Ref sig .tc) ≠ main_v34_4)), Function.update_of_ne (StableHlo.devRef_ne_of_ne (by decide : (main_v34_2 : Ref sig .tc) ≠ main_v34_5)), Function.update_self]
theorem upd6_3 (f : Valuation τ sig (Elt F)) (v0 : (Proc.devRef .tc main_v34_0 : DevRef τ sig).ty.Contents (Elt F)) (v1 : (Proc.devRef .tc main_v34_1 : DevRef τ sig).ty.Contents (Elt F)) (v2 : (Proc.devRef .tc main_v34_2 : DevRef τ sig).ty.Contents (Elt F)) (v3 : (Proc.devRef .tc main_v34_3 : DevRef τ sig).ty.Contents (Elt F)) (v4 : (Proc.devRef .tc main_v34_4 : DevRef τ sig).ty.Contents (Elt F)) (v5 : (Proc.devRef .tc main_v34_5 : DevRef τ sig).ty.Contents (Elt F)) :
    (Function.update (Function.update (Function.update (Function.update (Function.update (Function.update (f) main_v34_0 v0) main_v34_1 v1) main_v34_2 v2) main_v34_3 v3) main_v34_4 v4) main_v34_5 v5 : Valuation τ sig (Elt F)) (Proc.devRef .tc main_v34_3) = v3 := by
  simp only [Function.update_of_ne (StableHlo.devRef_ne_of_ne (by decide : (main_v34_3 : Ref sig .tc) ≠ main_v34_4)), Function.update_of_ne (StableHlo.devRef_ne_of_ne (by decide : (main_v34_3 : Ref sig .tc) ≠ main_v34_5)), Function.update_self]
theorem upd6_4 (f : Valuation τ sig (Elt F)) (v0 : (Proc.devRef .tc main_v34_0 : DevRef τ sig).ty.Contents (Elt F)) (v1 : (Proc.devRef .tc main_v34_1 : DevRef τ sig).ty.Contents (Elt F)) (v2 : (Proc.devRef .tc main_v34_2 : DevRef τ sig).ty.Contents (Elt F)) (v3 : (Proc.devRef .tc main_v34_3 : DevRef τ sig).ty.Contents (Elt F)) (v4 : (Proc.devRef .tc main_v34_4 : DevRef τ sig).ty.Contents (Elt F)) (v5 : (Proc.devRef .tc main_v34_5 : DevRef τ sig).ty.Contents (Elt F)) :
    (Function.update (Function.update (Function.update (Function.update (Function.update (Function.update (f) main_v34_0 v0) main_v34_1 v1) main_v34_2 v2) main_v34_3 v3) main_v34_4 v4) main_v34_5 v5 : Valuation τ sig (Elt F)) (Proc.devRef .tc main_v34_4) = v4 := by
  simp only [Function.update_of_ne (StableHlo.devRef_ne_of_ne (by decide : (main_v34_4 : Ref sig .tc) ≠ main_v34_5)), Function.update_self]
theorem upd6_5 (f : Valuation τ sig (Elt F)) (v0 : (Proc.devRef .tc main_v34_0 : DevRef τ sig).ty.Contents (Elt F)) (v1 : (Proc.devRef .tc main_v34_1 : DevRef τ sig).ty.Contents (Elt F)) (v2 : (Proc.devRef .tc main_v34_2 : DevRef τ sig).ty.Contents (Elt F)) (v3 : (Proc.devRef .tc main_v34_3 : DevRef τ sig).ty.Contents (Elt F)) (v4 : (Proc.devRef .tc main_v34_4 : DevRef τ sig).ty.Contents (Elt F)) (v5 : (Proc.devRef .tc main_v34_5 : DevRef τ sig).ty.Contents (Elt F)) :
    (Function.update (Function.update (Function.update (Function.update (Function.update (Function.update (f) main_v34_0 v0) main_v34_1 v1) main_v34_2 v2) main_v34_3 v3) main_v34_4 v4) main_v34_5 v5 : Valuation τ sig (Elt F)) (Proc.devRef .tc main_v34_5) = v5 := by
  simp only [Function.update_self]

variable (m : (ℓ : Loc nD τ sig) → Buf (Elt F) ℓ)

/-- What the forward scan finds. -/
def Ve0 (c : Dev nD) (b : Ref sig .tc) : Buf (Elt F) ((c : Thread nD τ).loc b) := V1 m c (Proc.devRef .tc b)
/-- What result 0 of scan 0 ends at. -/
def o6 (c : Dev nD) : (Proc.devRef .tc main_v29_0 : DevRef τ sig).ty.Contents (Elt F) := (D0.dat (Ve0 m) c).arrAt 6 cfg0.N
/-- What result 1 of scan 0 ends at. -/
def o7 (c : Dev nD) : (Proc.devRef .tc main_v29_1 : DevRef τ sig).ty.Contents (Elt F) := (D0.dat (Ve0 m) c).arrAt 7 cfg0.N
/-- What result 2 of scan 0 ends at. -/
def o8 (c : Dev nD) : (Proc.devRef .tc main_v29_2 : DevRef τ sig).ty.Contents (Elt F) := (D0.dat (Ve0 m) c).arrAt 8 cfg0.N
/-- The buffers after the forward scan. -/
def W2 (c : Dev nD) : Valuation τ sig (Elt F) :=
  Function.update (Function.update (Function.update (V1 m c) main_v29_0 (o6 m c)) main_v29_1 (o7 m c)) main_v29_2 (o8 m c)
/-- What the forward scan leaves. -/
def outs1 : Outs (F := F) := fun _ r c => W2 m c (Proc.devRef .tc r)
/-- What the backward scan finds. -/
def Ve1 (c : Dev nD) (b : Ref sig .tc) : Buf (Elt F) ((c : Thread nD τ).loc b) := V3 m (outs1 m) c (Proc.devRef .tc b)
/-- What result 0 of scan 1 ends at. -/
def o9 (c : Dev nD) : (Proc.devRef .tc main_v34_0 : DevRef τ sig).ty.Contents (Elt F) := (D1.dat (Ve1 m) c).arrAt 9 cfg1.N
/-- What result 1 of scan 1 ends at. -/
def o10 (c : Dev nD) : (Proc.devRef .tc main_v34_1 : DevRef τ sig).ty.Contents (Elt F) := (D1.dat (Ve1 m) c).arrAt 10 cfg1.N
/-- What result 2 of scan 1 ends at. -/
def o11 (c : Dev nD) : (Proc.devRef .tc main_v34_2 : DevRef τ sig).ty.Contents (Elt F) := (D1.dat (Ve1 m) c).arrAt 11 cfg1.N
/-- What result 3 of scan 1 ends at. -/
def o12 (c : Dev nD) : (Proc.devRef .tc main_v34_3 : DevRef τ sig).ty.Contents (Elt F) := (D1.dat (Ve1 m) c).arrAt 12 cfg1.N
/-- What result 4 of scan 1 ends at. -/
def o13 (c : Dev nD) : (Proc.devRef .tc main_v34_4 : DevRef τ sig).ty.Contents (Elt F) := (D1.dat (Ve1 m) c).arrAt 13 cfg1.N
/-- What result 5 of scan 1 ends at. -/
def o14 (c : Dev nD) : (Proc.devRef .tc main_v34_5 : DevRef τ sig).ty.Contents (Elt F) := (D1.dat (Ve1 m) c).arrAt 14 cfg1.N
/-- The buffers after the backward scan. -/
def W4 (c : Dev nD) : Valuation τ sig (Elt F) :=
  Function.update (Function.update (Function.update (Function.update (Function.update (Function.update (V3 m (outs1 m) c) main_v34_0 (o9 m c)) main_v34_1 (o10 m c)) main_v34_2 (o11 m c)) main_v34_3 (o12 m c)) main_v34_4 (o13 m c)) main_v34_5 (o14 m c)
/-- What the scans leave. -/
def outs : Outs (F := F) := fun J r c => match J with
  | 2 => W2 m c (Proc.devRef .tc r)
  | _ => W4 m c (Proc.devRef .tc r)

theorem V3_outs (c : Dev nD) : V3 m (outs m) c = V3 m (outs1 m) c := rfl

theorem outs_2 (r : Ref sig .tc) (c : Dev nD) : outs m 2 r c = W2 m c (Proc.devRef .tc r) := rfl
theorem outs_2_0 (c : Dev nD) : outs m 2 main_v29_0 c = o6 m c :=
  (outs_2 m main_v29_0 c).trans (upd3_0 (V1 m c) (o6 m c) (o7 m c) (o8 m c))
theorem V2_at_0 (c : Dev nD) : V2 m (outs m) c (Proc.devRef .tc main_v29_0) = outs m 2 main_v29_0 c :=
  upd3_0 (V1 m c) (outs m 2 main_v29_0 c) (outs m 2 main_v29_1 c) (outs m 2 main_v29_2 c)
theorem outs_2_1 (c : Dev nD) : outs m 2 main_v29_1 c = o7 m c :=
  (outs_2 m main_v29_1 c).trans (upd3_1 (V1 m c) (o6 m c) (o7 m c) (o8 m c))
theorem V2_at_1 (c : Dev nD) : V2 m (outs m) c (Proc.devRef .tc main_v29_1) = outs m 2 main_v29_1 c :=
  upd3_1 (V1 m c) (outs m 2 main_v29_0 c) (outs m 2 main_v29_1 c) (outs m 2 main_v29_2 c)
theorem outs_2_2 (c : Dev nD) : outs m 2 main_v29_2 c = o8 m c :=
  (outs_2 m main_v29_2 c).trans (upd3_2 (V1 m c) (o6 m c) (o7 m c) (o8 m c))
theorem V2_at_2 (c : Dev nD) : V2 m (outs m) c (Proc.devRef .tc main_v29_2) = outs m 2 main_v29_2 c :=
  upd3_2 (V1 m c) (outs m 2 main_v29_0 c) (outs m 2 main_v29_1 c) (outs m 2 main_v29_2 c)
theorem outs_4 (r : Ref sig .tc) (c : Dev nD) : outs m 4 r c = W4 m c (Proc.devRef .tc r) := rfl
theorem outs_4_0 (c : Dev nD) : outs m 4 main_v34_0 c = o9 m c :=
  (outs_4 m main_v34_0 c).trans (upd6_0 (V3 m (outs1 m) c) (o9 m c) (o10 m c) (o11 m c) (o12 m c) (o13 m c) (o14 m c))
theorem V4_at_0 (c : Dev nD) : V4 m (outs m) c (Proc.devRef .tc main_v34_0) = outs m 4 main_v34_0 c :=
  upd6_0 (V3 m (outs m) c) (outs m 4 main_v34_0 c) (outs m 4 main_v34_1 c) (outs m 4 main_v34_2 c) (outs m 4 main_v34_3 c) (outs m 4 main_v34_4 c) (outs m 4 main_v34_5 c)
theorem outs_4_1 (c : Dev nD) : outs m 4 main_v34_1 c = o10 m c :=
  (outs_4 m main_v34_1 c).trans (upd6_1 (V3 m (outs1 m) c) (o9 m c) (o10 m c) (o11 m c) (o12 m c) (o13 m c) (o14 m c))
theorem V4_at_1 (c : Dev nD) : V4 m (outs m) c (Proc.devRef .tc main_v34_1) = outs m 4 main_v34_1 c :=
  upd6_1 (V3 m (outs m) c) (outs m 4 main_v34_0 c) (outs m 4 main_v34_1 c) (outs m 4 main_v34_2 c) (outs m 4 main_v34_3 c) (outs m 4 main_v34_4 c) (outs m 4 main_v34_5 c)
theorem outs_4_2 (c : Dev nD) : outs m 4 main_v34_2 c = o11 m c :=
  (outs_4 m main_v34_2 c).trans (upd6_2 (V3 m (outs1 m) c) (o9 m c) (o10 m c) (o11 m c) (o12 m c) (o13 m c) (o14 m c))
theorem V4_at_2 (c : Dev nD) : V4 m (outs m) c (Proc.devRef .tc main_v34_2) = outs m 4 main_v34_2 c :=
  upd6_2 (V3 m (outs m) c) (outs m 4 main_v34_0 c) (outs m 4 main_v34_1 c) (outs m 4 main_v34_2 c) (outs m 4 main_v34_3 c) (outs m 4 main_v34_4 c) (outs m 4 main_v34_5 c)
theorem outs_4_3 (c : Dev nD) : outs m 4 main_v34_3 c = o12 m c :=
  (outs_4 m main_v34_3 c).trans (upd6_3 (V3 m (outs1 m) c) (o9 m c) (o10 m c) (o11 m c) (o12 m c) (o13 m c) (o14 m c))
theorem V4_at_3 (c : Dev nD) : V4 m (outs m) c (Proc.devRef .tc main_v34_3) = outs m 4 main_v34_3 c :=
  upd6_3 (V3 m (outs m) c) (outs m 4 main_v34_0 c) (outs m 4 main_v34_1 c) (outs m 4 main_v34_2 c) (outs m 4 main_v34_3 c) (outs m 4 main_v34_4 c) (outs m 4 main_v34_5 c)
theorem outs_4_4 (c : Dev nD) : outs m 4 main_v34_4 c = o13 m c :=
  (outs_4 m main_v34_4 c).trans (upd6_4 (V3 m (outs1 m) c) (o9 m c) (o10 m c) (o11 m c) (o12 m c) (o13 m c) (o14 m c))
theorem V4_at_4 (c : Dev nD) : V4 m (outs m) c (Proc.devRef .tc main_v34_4) = outs m 4 main_v34_4 c :=
  upd6_4 (V3 m (outs m) c) (outs m 4 main_v34_0 c) (outs m 4 main_v34_1 c) (outs m 4 main_v34_2 c) (outs m 4 main_v34_3 c) (outs m 4 main_v34_4 c) (outs m 4 main_v34_5 c)
theorem outs_4_5 (c : Dev nD) : outs m 4 main_v34_5 c = o14 m c :=
  (outs_4 m main_v34_5 c).trans (upd6_5 (V3 m (outs1 m) c) (o9 m c) (o10 m c) (o11 m c) (o12 m c) (o13 m c) (o14 m c))
theorem V4_at_5 (c : Dev nD) : V4 m (outs m) c (Proc.devRef .tc main_v34_5) = outs m 4 main_v34_5 c :=
  upd6_5 (V3 m (outs m) c) (outs m 4 main_v34_0 c) (outs m 4 main_v34_1 c) (outs m 4 main_v34_2 c) (outs m 4 main_v34_3 c) (outs m 4 main_v34_4 c) (outs m 4 main_v34_5 c)

/-- The proof data of the two pipelines. -/
def pdats : (p : Fin 2) → (c : Dev nD) → Dat τ (Elt F) Unit ℕ (UR sig nD τ) ℕ (cfgs p) c
  | ⟨0, _⟩ => fun c => D0.dat (Ve0 m) c
  | ⟨1, _⟩ => fun c => D1.dat (Ve1 m) c
  | ⟨_ + 2, h⟩ => absurd h (Nat.not_lt.2 (Nat.le_add_left _ _))

/-- One level, at every cell of the TensorCores. -/
abbrev LL : GSem nD τ sig → Finset Unit := fun g => if g.1.2 = .tc then {()} else ∅
abbrev lv : GSem nD τ sig → Unit → ℕ := fun _ _ => 0
abbrev D00 : Dev nD → CellTallies nD τ sig Unit := fun _ => 0

theorem cut (p : Fin 2) : Pipeline.LevelCut (pcfgs (F := F)) adm () LL lv p D00 (fun _ => 0) where
  hι c w s := by show () ∈ (if (c : Thread nD τ).2 = .tc then ({()} : Finset Unit) else ∅); rw [if_pos rfl]; exact Finset.mem_singleton_self _
  hιb c w s := le_refl _
  hD c g i h := absurd h (Nat.lt_irrefl 0)

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)
theorem rest0_eq (c : Dev nD) : ∀ b ∈ Pipeline.ucRefs τ sig \ Pipeline.arrRefs (τ := τ) spec0, V2 m (outs m) c b = V1 m c b := fun b hb => by
  have hn : b ∉ Pipeline.arrRefs (τ := τ) spec0 := (Finset.mem_sdiff.mp hb).2
  have h_0 : b ≠ Proc.devRef .tc main_v29_0 := by rintro rfl; exact hn (arr0_mem 6)
  have h_1 : b ≠ Proc.devRef .tc main_v29_1 := by rintro rfl; exact hn (arr0_mem 7)
  have h_2 : b ≠ Proc.devRef .tc main_v29_2 := by rintro rfl; exact hn (arr0_mem 8)
  simp only [V2, Function.update_of_ne h_0, Function.update_of_ne h_1, Function.update_of_ne h_2]

-- a library definition stated over `pin pcs a p` unifies with the pinned configuration only when unification may unfold plain
-- definitions in a metavariable's type
set_option backward.isDefEq.respectTransparency.types false in
/-- The region's record: its arrays in at the contents before it and out at those after it. -/
def R0 : RegionSeg (pcfgs (F := F)) adm (pdats m) () defs₀ Variants.none LL lv 0 :=
  Pipeline.RegionSeg.ofHeld (pcfgs (F := F)) adm (pdats m) () defs₀ Variants.none LL lv 0 D00
    (fun c => iprop(∃ r, prngReg c r)) (fun c => iprop(∃ r, prngReg c r))
    launch0.toP rfl
    (fun c => (D0.body_obligation (Ve0 m) c).loose) (fun _ _ => rfl) (fun _ => rfl)
    (fun c => (pdats m 0 c).share_full fun _ => rfl) (fun c => D0.hin (Ve0 m) c) (fun c => D0.hout (Ve0 m) c) (fun _ => 0) (cut 0)
    (fun c => StableHlo.held (c : Thread nD τ) (Pipeline.ucRefs τ sig \ Pipeline.arrRefs (τ := τ) spec0) (V1 m c))
    (V1 m) (V2 m (outs m)) (fun c w => rfl)
    (fun c => fun | 0 => ((pdats m 0 c).arrAt_in 0 rfl _).trans ((D0.A_eq (Ve0 m) c 0).trans (V2_of m (outs m) c (Pipeline.arrRef spec0 0) (by decide)).symm) | 1 => ((pdats m 0 c).arrAt_in 1 rfl _).trans ((D0.A_eq (Ve0 m) c 1).trans (V2_of m (outs m) c (Pipeline.arrRef spec0 1) (by decide)).symm) | 2 => ((pdats m 0 c).arrAt_in 2 rfl _).trans ((D0.A_eq (Ve0 m) c 2).trans (V2_of m (outs m) c (Pipeline.arrRef spec0 2) (by decide)).symm) | 3 => ((pdats m 0 c).arrAt_in 3 rfl _).trans ((D0.A_eq (Ve0 m) c 3).trans (V2_of m (outs m) c (Pipeline.arrRef spec0 3) (by decide)).symm) | 4 => ((pdats m 0 c).arrAt_in 4 rfl _).trans ((D0.A_eq (Ve0 m) c 4).trans (V2_of m (outs m) c (Pipeline.arrRef spec0 4) (by decide)).symm) | 5 => ((pdats m 0 c).arrAt_in 5 rfl _).trans ((D0.A_eq (Ve0 m) c 5).trans (V2_of m (outs m) c (Pipeline.arrRef spec0 5) (by decide)).symm) | 6 => (outs_2_0 m c).symm.trans (V2_at_0 m c).symm | 7 => (outs_2_1 m c).symm.trans (V2_at_1 m c).symm | 8 => (outs_2_2 m c).symm.trans (V2_at_2 m c).symm | ⟨_ + 9, h⟩ => absurd h (Nat.not_lt.2 (Nat.le_add_left _ _)))

/-- What rides beside the buffers: the generator's register and nothing owed. -/
abbrev E0 (c : Dev nD) : sProp 𝕄G := iprop((∃ r, prngReg c r) ∗ (∃ W, owes (c : Thread nD τ) (D00 c) W))

theorem hpre0 (c : Dev nD) : iprop(StableHlo.held (c : Thread nD τ) (Pipeline.ucRefs τ sig) (V1 m c) ∗ E0 c) ⊢ (R0 m).pre c := by
  show _ ⊢ iprop(StableHlo.held (c : Thread nD τ) (Pipeline.arrRefs (τ := τ) spec0) (V1 m c) ∗ (∃ r, prngReg c r)
    ∗ StableHlo.held (c : Thread nD τ) (Pipeline.ucRefs τ sig \ Pipeline.arrRefs (τ := τ) spec0) (V1 m c) ∗ (∃ W, owes (c : Thread nD τ) (D00 c) W))
  rw [StableHlo.held_sub_split (c : Thread nD τ) arr0_S (V1 m c)]
  iintro ⟨⟨Ha, Hr⟩, Hp, HO⟩
  isplitl [Ha]; · iexact Ha
  isplitl [Hp]; · iexact Hp
  isplitl [Hr]; · iexact Hr
  iexact HO

theorem hpost0 (c : Dev nD) : (R0 m).post c ⊢ iprop(StableHlo.held (c : Thread nD τ) (Pipeline.ucRefs τ sig) (V2 m (outs m) c) ∗ E0 c) := by
  show iprop(StableHlo.held (c : Thread nD τ) (Pipeline.arrRefs (τ := τ) spec0) (V2 m (outs m) c) ∗ (∃ r, prngReg c r)
    ∗ StableHlo.held (c : Thread nD τ) (Pipeline.ucRefs τ sig \ Pipeline.arrRefs (τ := τ) spec0) (V1 m c) ∗ (∃ W, owes (c : Thread nD τ) (D00 c) W)) ⊢ _
  rw [StableHlo.held_sub_split (c : Thread nD τ) arr0_S (V2 m (outs m) c),
    StableHlo.held_congr (c : Thread nD τ) (S := Pipeline.ucRefs τ sig \ Pipeline.arrRefs (τ := τ) spec0) (rest0_eq m c)]
  iintro ⟨Ha, Hp, Hr, HO⟩
  isplitl [Ha Hr]; · isplitl [Ha] <;> iassumption
  isplitl [Hp]; · iexact Hp
  iexact HO

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)
theorem rest1_eq (c : Dev nD) : ∀ b ∈ Pipeline.ucRefs τ sig \ Pipeline.arrRefs (τ := τ) spec1, V4 m (outs m) c b = V3 m (outs m) c b := fun b hb => by
  have hn : b ∉ Pipeline.arrRefs (τ := τ) spec1 := (Finset.mem_sdiff.mp hb).2
  have h_0 : b ≠ Proc.devRef .tc main_v34_0 := by rintro rfl; exact hn (arr1_mem 9)
  have h_1 : b ≠ Proc.devRef .tc main_v34_1 := by rintro rfl; exact hn (arr1_mem 10)
  have h_2 : b ≠ Proc.devRef .tc main_v34_2 := by rintro rfl; exact hn (arr1_mem 11)
  have h_3 : b ≠ Proc.devRef .tc main_v34_3 := by rintro rfl; exact hn (arr1_mem 12)
  have h_4 : b ≠ Proc.devRef .tc main_v34_4 := by rintro rfl; exact hn (arr1_mem 13)
  have h_5 : b ≠ Proc.devRef .tc main_v34_5 := by rintro rfl; exact hn (arr1_mem 14)
  simp only [V4, Function.update_of_ne h_0, Function.update_of_ne h_1, Function.update_of_ne h_2, Function.update_of_ne h_3, Function.update_of_ne h_4, Function.update_of_ne h_5]

-- a library definition stated over `pin pcs a p` unifies with the pinned configuration only when unification may unfold plain
-- definitions in a metavariable's type
set_option backward.isDefEq.respectTransparency.types false in
/-- The region's record: its arrays in at the contents before it and out at those after it. -/
def R1 : RegionSeg (pcfgs (F := F)) adm (pdats m) () defs₀ Variants.none LL lv 1 :=
  Pipeline.RegionSeg.ofHeld (pcfgs (F := F)) adm (pdats m) () defs₀ Variants.none LL lv 1 D00
    (fun c => iprop(∃ r, prngReg c r)) (fun c => iprop(∃ r, prngReg c r))
    launch1.toP rfl
    (fun c => (D1.body_obligation (Ve1 m) c).loose) (fun _ _ => rfl) (fun _ => rfl)
    (fun c => (pdats m 1 c).share_full fun _ => rfl) (fun c => D1.hin (Ve1 m) c) (fun c => D1.hout (Ve1 m) c) (fun _ => 0) (cut 1)
    (fun c => StableHlo.held (c : Thread nD τ) (Pipeline.ucRefs τ sig \ Pipeline.arrRefs (τ := τ) spec1) (V3 m (outs m) c))
    (V3 m (outs m)) (V4 m (outs m)) (fun c w => rfl)
    (fun c => fun | 0 => ((pdats m 1 c).arrAt_in 0 rfl _).trans ((D1.A_eq (Ve1 m) c 0).trans (V4_of m (outs m) c (Pipeline.arrRef spec1 0) (by decide)).symm) | 1 => ((pdats m 1 c).arrAt_in 1 rfl _).trans ((D1.A_eq (Ve1 m) c 1).trans (V4_of m (outs m) c (Pipeline.arrRef spec1 1) (by decide)).symm) | 2 => ((pdats m 1 c).arrAt_in 2 rfl _).trans ((D1.A_eq (Ve1 m) c 2).trans (V4_of m (outs m) c (Pipeline.arrRef spec1 2) (by decide)).symm) | 3 => ((pdats m 1 c).arrAt_in 3 rfl _).trans ((D1.A_eq (Ve1 m) c 3).trans (V4_of m (outs m) c (Pipeline.arrRef spec1 3) (by decide)).symm) | 4 => ((pdats m 1 c).arrAt_in 4 rfl _).trans ((D1.A_eq (Ve1 m) c 4).trans (V4_of m (outs m) c (Pipeline.arrRef spec1 4) (by decide)).symm) | 5 => ((pdats m 1 c).arrAt_in 5 rfl _).trans ((D1.A_eq (Ve1 m) c 5).trans (V4_of m (outs m) c (Pipeline.arrRef spec1 5) (by decide)).symm) | 6 => ((pdats m 1 c).arrAt_in 6 rfl _).trans ((D1.A_eq (Ve1 m) c 6).trans (V4_of m (outs m) c (Pipeline.arrRef spec1 6) (by decide)).symm) | 7 => ((pdats m 1 c).arrAt_in 7 rfl _).trans ((D1.A_eq (Ve1 m) c 7).trans (V4_of m (outs m) c (Pipeline.arrRef spec1 7) (by decide)).symm) | 8 => ((pdats m 1 c).arrAt_in 8 rfl _).trans ((D1.A_eq (Ve1 m) c 8).trans (V4_of m (outs m) c (Pipeline.arrRef spec1 8) (by decide)).symm) | 9 => (outs_4_0 m c).symm.trans (V4_at_0 m c).symm | 10 => (outs_4_1 m c).symm.trans (V4_at_1 m c).symm | 11 => (outs_4_2 m c).symm.trans (V4_at_2 m c).symm | 12 => (outs_4_3 m c).symm.trans (V4_at_3 m c).symm | 13 => (outs_4_4 m c).symm.trans (V4_at_4 m c).symm | 14 => (outs_4_5 m c).symm.trans (V4_at_5 m c).symm | ⟨_ + 15, h⟩ => absurd h (Nat.not_lt.2 (Nat.le_add_left _ _)))

/-- What rides beside the buffers: the generator's register and nothing owed. -/
abbrev E1 (c : Dev nD) : sProp 𝕄G := iprop((∃ r, prngReg c r) ∗ (∃ W, owes (c : Thread nD τ) (D00 c) W))

theorem hpre1 (c : Dev nD) : iprop(StableHlo.held (c : Thread nD τ) (Pipeline.ucRefs τ sig) (V3 m (outs m) c) ∗ E1 c) ⊢ (R1 m).pre c := by
  show _ ⊢ iprop(StableHlo.held (c : Thread nD τ) (Pipeline.arrRefs (τ := τ) spec1) (V3 m (outs m) c) ∗ (∃ r, prngReg c r)
    ∗ StableHlo.held (c : Thread nD τ) (Pipeline.ucRefs τ sig \ Pipeline.arrRefs (τ := τ) spec1) (V3 m (outs m) c) ∗ (∃ W, owes (c : Thread nD τ) (D00 c) W))
  rw [StableHlo.held_sub_split (c : Thread nD τ) arr1_S (V3 m (outs m) c)]
  iintro ⟨⟨Ha, Hr⟩, Hp, HO⟩
  isplitl [Ha]; · iexact Ha
  isplitl [Hp]; · iexact Hp
  isplitl [Hr]; · iexact Hr
  iexact HO

theorem hpost1 (c : Dev nD) : (R1 m).post c ⊢ iprop(StableHlo.held (c : Thread nD τ) (Pipeline.ucRefs τ sig) (V4 m (outs m) c) ∗ E1 c) := by
  show iprop(StableHlo.held (c : Thread nD τ) (Pipeline.arrRefs (τ := τ) spec1) (V4 m (outs m) c) ∗ (∃ r, prngReg c r)
    ∗ StableHlo.held (c : Thread nD τ) (Pipeline.ucRefs τ sig \ Pipeline.arrRefs (τ := τ) spec1) (V3 m (outs m) c) ∗ (∃ W, owes (c : Thread nD τ) (D00 c) W)) ⊢ _
  rw [StableHlo.held_sub_split (c : Thread nD τ) arr1_S (V4 m (outs m) c),
    StableHlo.held_congr (c : Thread nD τ) (S := Pipeline.ucRefs τ sig \ Pipeline.arrRefs (τ := τ) spec1) (rest1_eq m c)]
  iintro ⟨Ha, Hp, Hr, HO⟩
  isplitl [Ha Hr]; · isplitl [Ha] <;> iassumption
  isplitl [Hp]; · iexact Hp
  iexact HO

variable (ρ : Dev nD → PrngReg)

set_option backward.isDefEq.respectTransparency.types false in
/-- Every execution ends with each of the host's buffers at the last contents and every semaphore at zero. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = V5 m (outs m) c b) ∧ r.2.sem = fun _ => 0) := by
  refine Pipeline.θ_run_regions_kit_dev_sems (pcfgs (F := F)) adm (pdats m) () cellOf_inj emb₁ defs₀ Variants.none LL lv m ρ main
    (segs m (outs m) Variants.none LL lv (fun _ => E0) () (pdats m) (R0 m) (R1 m))
    (fun c Q => by
      rewrite [main_chain c, Seg.run_eq_chain,
        show (segs m (outs m) Variants.none LL lv (fun _ => E0) () (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄G)
            ⊢ BI.own (emb₁ (initOf (Pipeline.cells cfgs cellOf_inj) (Pipeline.launchToks cfgs cellOf_inj))) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ E0 c))
    (Tₙ := fun c => StableHlo.held (c : Thread nD τ) (Pipeline.ucRefs τ sig) (V5 m (outs m) c))
    (hch := fun c => ⟨.rfl, hpre0 m c, hpost0 m c, hpre1 m c, hpost1 m c, sep_mono .rfl (by iintro ⟨-, HO⟩; iexact HO)⟩)
    (hinit := by
      refine Pipeline.initEach LL lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V5 m (outs m) c b)
    (hfin := fun c s' => by
      iintro ⟨Hh, HSI⟩
      unfold StableHlo.held
      imodintro
      iapply (pointsTo_read_all (Pipeline.ucRefs τ sig) (fun b => ((c : Thread nD τ).1, b)) (V5 m (outs m) c) s')
      isplitl [Hh] <;> iassumption)
    (hQ := fun _ h hz => ⟨h, funext fun g => hz g (.inr (regions_no_unscoped g.2))⟩)

/-- Every execution ends with the arguments as they were and every semaphore at zero. -/
theorem frame_args : θ_run defs (onTc (τ := τ) (main (F := F))) ⟨m, fun _ => 0, ρ⟩ (fun r => (∀ c : Dev nD,

r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
)
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (V5_main_arg0 m (outs m) c),
    (h.1 c (Proc.devRef .tc main_arg1) (Finset.mem_filter.mpr ⟨StableHlo.devRef_mem_tcRefs main_arg1, by decide⟩)).trans (V5_main_arg1 m (outs m) c),
    (h.1 c (Proc.devRef .tc main_arg2) (Finset.mem_filter.mpr ⟨StableHlo.devRef_mem_tcRefs main_arg2, by decide⟩)).trans (V5_main_arg2 m (outs m) c),
    (h.1 c (Proc.devRef .tc main_arg3) (Finset.mem_filter.mpr ⟨StableHlo.devRef_mem_tcRefs main_arg3, by decide⟩)).trans (V5_main_arg3 m (outs m) c),
    (h.1 c (Proc.devRef .tc main_arg4) (Finset.mem_filter.mpr ⟨StableHlo.devRef_mem_tcRefs main_arg4, by decide⟩)).trans (V5_main_arg4 m (outs m) c),
    (h.1 c (Proc.devRef .tc main_arg5) (Finset.mem_filter.mpr ⟨StableHlo.devRef_mem_tcRefs main_arg5, by decide⟩)).trans (V5_main_arg5 m (outs m) c),
    (h.1 c (Proc.devRef .tc main_arg6) (Finset.mem_filter.mpr ⟨StableHlo.devRef_mem_tcRefs main_arg6, by decide⟩)).trans (V5_main_arg6 m (outs m) c)⟩, h.2⟩) (run_main m ρ)

end Cert.KernelIdeal.Hand

end
-- ==== Proof.Same.lean ====
/- The program as compiled and its idealization, which no rule changed, are one program: the same host function and the same two
   kernels, under two names. -/
module

public import proofs.«01_k».proof.Kernel
public import proofs.«01_k».proof.KernelIdeal

public section
set_option maxHeartbeats 0
open Idealize.ShloMosaic
namespace Cert.Same
variable {F : FTy → Type} [FloatOps F] [hk : Cert.Kernel.Facts] [hi : Cert.KernelIdeal.Facts]

theorem main_eq : (Cert.Kernel.main (F := F)) = Cert.KernelIdeal.main (F := F) := rfl

theorem defs₀_eq : (Cert.Kernel.defs₀ (F := F)) = Cert.KernelIdeal.defs₀ (F := F) :=
  congrArg (Defs.onTc (τ := Cert.KernelIdeal.τ) (sig := Cert.KernelIdeal.sig)) (funext fun l => funext fun a => match l, a with
    | 0, (t, s) => rfl
    | 1, (t, s) => rfl
    | ⟨_ + 2, h⟩, _ => absurd h (Nat.not_lt.2 (Nat.le_add_left _ _)))

theorem defs_eq : (Cert.Kernel.defs (F := F)) = Cert.KernelIdeal.defs (F := F) := by
  show Pipeline.defs (Cert.Kernel.pcfgs (F := F)) (Cert.Kernel.defs₀ (F := F)) = _
  rw [defs₀_eq]
  rfl

end Cert.Same

end
-- ==== Proof.FfnVal.lean ====
/- The feed-forward sublayer, forward and backward, as sums of products. -/
module

public import Idealize.ShloMosaic.Lib.Pointwise
public import Idealize.ShloMosaic.PureOps.Ideal

@[expose] public section

noncomputable section

namespace Cert.Ffn

open Idealize.ShloMosaic

/-- A matrix of tokens or model channels by model channels. -/
abbrev Sq : Type := (⟨2, ![4096, 4096]⟩ : Shape).Idx → EReal
/-- A matrix with the hidden channels as columns. -/
abbrev Wide : Type := (⟨2, ![4096, 11008]⟩ : Shape).Idx → EReal
/-- A matrix with the hidden channels as rows. -/
abbrev Tall : Type := (⟨2, ![11008, 4096]⟩ : Shape).Idx → EReal

/-- The logistic function. -/
def sg (x : EReal) : EReal := Ideal.div 1 (1 + Ideal.exp (0 - x))

/-- A product of the tokens with a weight. -/
def pre (u : Sq) (w : Wide) : Wide := fun i => ∑ k : Fin 4096, u (ix2 (i 0) k) * w (ix2 k (i 1))
/-- The hidden activations. -/
def act (u : Sq) (wg wu : Wide) : Wide := fun i => pre u wg i * sg (pre u wg i) * pre u wu i
/-- The sublayer's result, its input added. -/
def out (u : Sq) (wg wu : Wide) (wd : Tall) (h : Sq) : Sq := fun i =>
  (∑ k : Fin 11008, act u wg wu (ix2 (i 0) k) * wd (ix2 k (i 1))) + h i
/-- The gradient of the hidden activations. -/
def dact (wd : Tall) (dh : Sq) : Wide := fun i => ∑ k : Fin 4096, dh (ix2 (i 0) k) * wd (ix2 (i 1) k)
/-- The gradient of the gate. -/
def dgate (u : Sq) (wg wu : Wide) (wd : Tall) (dh : Sq) : Wide := fun i =>
  dact wd dh i * pre u wu i * sg (pre u wg i) * (1 + pre u wg i * (1 - sg (pre u wg i)))
/-- The gradient of the factor the gate multiplies. -/
def dup (u : Sq) (wg : Wide) (wd : Tall) (dh : Sq) : Wide := fun i => dact wd dh i * pre u wg i * sg (pre u wg i)
/-- A weight's gradient: hidden gradients against the sublayer's input. -/
def gw (u : Sq) (g : Wide) : Wide := fun i => ∑ k : Fin 4096, g (ix2 k (i 1)) * u (ix2 k (i 0))
/-- The gradient of the down weight. -/
def gd (a : Wide) (dh : Sq) : Tall := fun i => ∑ k : Fin 4096, a (ix2 k (i 0)) * dh (ix2 k (i 1))
/-- One path's gradient of the sublayer's input. -/
def back (g w : Wide) : Sq := fun i => ∑ k : Fin 11008, g (ix2 (i 0) k) * w (ix2 (i 1) k)

end Cert.Ffn

end

end
-- ==== Proof.FfnA.lean ====
/- The gate and up products of the feed-forward sublayer. -/
module

public import proofs.«01_k».proof.Proof.FfnVal
public import proofs.«01_k».proof.Proof.Gen.Kernel2Ideal.Frame
public import Idealize.ShloMosaic.Lib.Pipeline.ValueKit
public import Idealize.ShloMosaic.Lib.Pointwise

@[expose] public section

set_option maxHeartbeats 4000000

noncomputable section

namespace Cert.Kernel2Ideal.Hand

open Cert.Kernel2Ideal.Gen
open Idealize.ShloMosaic Idealize.ShloMosaic.TcCoe

open Cert.Ffn (sg)

variable (V : (c : Dev nD) → (b : Ref sig .tc) → Buf (Elt Ideal) ((c : Thread nD τ).loc b))

theorem i0_0 : ∀ t : Fin cfg0.N, win0_0.index t = ![(grid0.coords t 0).val, 0] := (by decide +kernel : ∀ t : Fin grid0.N, _)
theorem i0_1 : ∀ t : Fin cfg0.N, win0_1.index t = ![(grid0.coords t 1).val, 0] := (by decide +kernel : ∀ t : Fin grid0.N, _)
theorem i0_2 : ∀ t : Fin cfg0.N, win0_2.index t = ![(grid0.coords t 0).val, (grid0.coords t 1).val] := (by decide +kernel : ∀ t : Fin grid0.N, _)

/-- What the call leaves in its window 2's array. -/
theorem val0_2 (c : Dev nD) (A : S4096x4096.Idx → EReal) (B : S11008x4096.Idx → EReal)
    (hA : V c main_v0 = A) (hB : V c main_v2 = B)  :
    (dat0 (F := Ideal) V c).arrAt 2 cfg0.N = fun i : S4096x11008.Idx => ∑ k : Fin 4096, A (ix2 (i 0) k) * B (ix2 (i 1) k) := by
  refine (dat0 (F := Ideal) V c).arrAt_eq_of_covers 2 _ (by decide +kernel) fun t hf y => ?_
  blk_simp
  rw [after0_2]
  frame_out
  unfold k0_pay1
  pointwise
  blk_simp [iblk0, hA, hB]
  have eA : ∀ x : Fin 4096, (win0_0.blk t).view.emb (ix2 (y 0) x) = ix2 ((win0_2.blk t).view.emb y 0) x := fun x => by blk_ext [i0_0, i0_2]
  have eB : ∀ x : Fin 4096, (win0_1.blk t).view.emb (ix2 (y 1) x) = ix2 ((win0_2.blk t).view.emb y 1) x := fun x => by blk_ext [i0_1, i0_2]
  simp only [eA, eB]
  rfl
theorem i1_0 : ∀ t : Fin cfg1.N, win1_0.index t = ![(grid1.coords t 0).val, 0] := (by decide +kernel : ∀ t : Fin grid1.N, _)
theorem i1_1 : ∀ t : Fin cfg1.N, win1_1.index t = ![(grid1.coords t 1).val, 0] := (by decide +kernel : ∀ t : Fin grid1.N, _)
theorem i1_2 : ∀ t : Fin cfg1.N, win1_2.index t = ![(grid1.coords t 0).val, (grid1.coords t 1).val] := (by decide +kernel : ∀ t : Fin grid1.N, _)
theorem i1_3 : ∀ t : Fin cfg1.N, win1_3.index t = ![(grid1.coords t 0).val, (grid1.coords t 1).val] := (by decide +kernel : ∀ t : Fin grid1.N, _)
theorem i1_4 : ∀ t : Fin cfg1.N, win1_4.index t = ![(grid1.coords t 0).val, (grid1.coords t 1).val] := (by decide +kernel : ∀ t : Fin grid1.N, _)

/-- What the call leaves in its window 3's array. -/
theorem val1_3 (c : Dev nD) (A : S4096x4096.Idx → EReal) (B : S11008x4096.Idx → EReal) (X0 : S4096x11008.Idx → EReal)
    (hA : V c main_v0 = A) (hB : V c main_v4 = B) (hX0 : V c main_v7 = X0) :
    (dat1 (F := Ideal) V c).arrAt 3 cfg1.N = fun i : S4096x11008.Idx => ∑ k : Fin 4096, A (ix2 (i 0) k) * B (ix2 (i 1) k) := by
  refine (dat1 (F := Ideal) V c).arrAt_eq_of_covers 3 _ (by decide +kernel) fun t hf y => ?_
  blk_simp
  rw [after1_3]
  frame_out
  unfold k1_pay1
  pointwise
  blk_simp [iblk1, hA, hB, hX0]
  have eA : ∀ x : Fin 4096, (win1_0.blk t).view.emb (ix2 (y 0) x) = ix2 ((win1_3.blk t).view.emb y 0) x := fun x => by blk_ext [i1_0, i1_3]
  have eB : ∀ x : Fin 4096, (win1_1.blk t).view.emb (ix2 (y 1) x) = ix2 ((win1_3.blk t).view.emb y 1) x := fun x => by blk_ext [i1_1, i1_3]
  have e0 : (win1_2.blk t).view.emb y = (win1_3.blk t).view.emb y := by blk_ext [i1_2, i1_3]
  simp only [eA, eB, e0]
  rfl

/-- What the call leaves in its window 4's array. -/
theorem val1_4 (c : Dev nD) (A : S4096x4096.Idx → EReal) (B : S11008x4096.Idx → EReal) (X0 : S4096x11008.Idx → EReal)
    (hA : V c main_v0 = A) (hB : V c main_v4 = B) (hX0 : V c main_v7 = X0) :
    (dat1 (F := Ideal) V c).arrAt 4 cfg1.N = fun i : S4096x11008.Idx => X0 i * sg (X0 i) * (∑ k : Fin 4096, A (ix2 (i 0) k) * B (ix2 (i 1) k)) := by
  refine (dat1 (F := Ideal) V c).arrAt_eq_of_covers 4 _ (by decide +kernel) fun t hf y => ?_
  blk_simp
  rw [after1_4]
  frame_out
  unfold k1_pay2 k1_pay1
  pointwise
  blk_simp [iblk1, hA, hB, hX0]
  have eA : ∀ x : Fin 4096, (win1_0.blk t).view.emb (ix2 (y 0) x) = ix2 ((win1_4.blk t).view.emb y 0) x := fun x => by blk_ext [i1_0, i1_4]
  have eB : ∀ x : Fin 4096, (win1_1.blk t).view.emb (ix2 (y 1) x) = ix2 ((win1_4.blk t).view.emb y 1) x := fun x => by blk_ext [i1_1, i1_4]
  have e0 : (win1_2.blk t).view.emb y = (win1_4.blk t).view.emb y := by blk_ext [i1_2, i1_4]
  simp only [eA, eB, e0]
  rfl

end Cert.Kernel2Ideal.Hand

end
-- ==== Proof.FfnB.lean ====
/- The down product of the feed-forward sublayer and the first weight gradients, call by call. -/
module

public import proofs.«01_k».proof.Proof.Gen.Kernel2Ideal.Frame
public import Idealize.ShloMosaic.Lib.Pipeline.ValueKit
public import Idealize.ShloMosaic.Lib.Pointwise

@[expose] public section

set_option maxHeartbeats 4000000

noncomputable section

namespace Cert.Kernel2Ideal.Hand

open Cert.Kernel2Ideal.Gen
open Idealize.ShloMosaic Idealize.ShloMosaic.TcCoe

variable (V : (c : Dev nD) → (b : Ref sig .tc) → Buf (Elt Ideal) ((c : Thread nD τ).loc b))

theorem i2_0 : ∀ t : Fin cfg2.N, win2_0.index t = ![(grid2.coords t 0).val, 0] := (by decide +kernel : ∀ t : Fin grid2.N, _)
theorem i2_1 : ∀ t : Fin cfg2.N, win2_1.index t = ![0, (grid2.coords t 1).val] := (by decide +kernel : ∀ t : Fin grid2.N, _)
theorem i2_2 : ∀ t : Fin cfg2.N, win2_2.index t = ![(grid2.coords t 0).val, (grid2.coords t 1).val] := (by decide +kernel : ∀ t : Fin grid2.N, _)
theorem i2_3 : ∀ t : Fin cfg2.N, win2_3.index t = ![(grid2.coords t 0).val, (grid2.coords t 1).val] := (by decide +kernel : ∀ t : Fin grid2.N, _)

/-- What the call leaves in its window 3's array. -/
theorem val2_3 (c : Dev nD) (A : S4096x11008.Idx → EReal) (B : S11008x4096.Idx → EReal) (X0 : S4096x4096.Idx → EReal)
    (hA : V c main_v8_1 = A) (hB : V c main_v5 = B) (hX0 : V c main_arg4 = X0) :
    (dat2 (F := Ideal) V c).arrAt 3 cfg2.N = fun i : S4096x4096.Idx => (∑ k : Fin 11008, A (ix2 (i 0) k) * B (ix2 k (i 1))) + X0 i := by
  refine (dat2 (F := Ideal) V c).arrAt_eq_of_covers 3 _ (by decide +kernel) fun t hf y => ?_
  blk_simp
  rw [after2_3]
  frame_out
  unfold k2_pay1
  pointwise
  blk_simp [iblk2, hA, hB, hX0]
  have eA : ∀ x : Fin 11008, (win2_0.blk t).view.emb (ix2 (y 0) x) = ix2 ((win2_3.blk t).view.emb y 0) x := fun x => by blk_ext [i2_0, i2_3]
  have eB : ∀ x : Fin 11008, (win2_1.blk t).view.emb (ix2 x (y 1)) = ix2 x ((win2_3.blk t).view.emb y 1) := fun x => by blk_ext [i2_1, i2_3]
  have e0 : (win2_2.blk t).view.emb y = (win2_3.blk t).view.emb y := by blk_ext [i2_2, i2_3]
  simp only [eA, eB, e0]
  rfl
theorem i4_0 : ∀ t : Fin cfg4.N, win4_0.index t = ![0, (grid4.coords t 1).val] := (by decide +kernel : ∀ t : Fin grid4.N, _)
theorem i4_1 : ∀ t : Fin cfg4.N, win4_1.index t = ![0, (grid4.coords t 0).val] := (by decide +kernel : ∀ t : Fin grid4.N, _)
theorem i4_2 : ∀ t : Fin cfg4.N, win4_2.index t = ![(grid4.coords t 1).val, (grid4.coords t 0).val] := (by decide +kernel : ∀ t : Fin grid4.N, _)

/-- What the call leaves in its window 2's array. -/
theorem val4_2 (c : Dev nD) (A : S4096x11008.Idx → EReal) (B : S4096x4096.Idx → EReal)
    (hA : V c main_v8_1 = A) (hB : V c main_v6 = B)  :
    (dat4 (F := Ideal) V c).arrAt 2 cfg4.N = fun i : S11008x4096.Idx => ∑ k : Fin 4096, A (ix2 k (i 0)) * B (ix2 k (i 1)) := by
  refine (dat4 (F := Ideal) V c).arrAt_eq_of_covers 2 _ (by decide +kernel) fun t hf y => ?_
  blk_simp
  rw [after4_2]
  frame_out
  unfold k4_pay1
  pointwise
  blk_simp [iblk4, hA, hB]
  have eA : ∀ x : Fin 4096, (win4_0.blk t).view.emb (ix2 x (y 0)) = ix2 x ((win4_2.blk t).view.emb y 0) := fun x => by blk_ext [i4_0, i4_2]
  have eB : ∀ x : Fin 4096, (win4_1.blk t).view.emb (ix2 x (y 1)) = ix2 x ((win4_2.blk t).view.emb y 1) := fun x => by blk_ext [i4_1, i4_2]
  simp only [eA, eB]
  rfl
theorem i5_0 : ∀ t : Fin cfg5.N, win5_0.index t = ![0, (grid5.coords t 1).val] := (by decide +kernel : ∀ t : Fin grid5.N, _)
theorem i5_1 : ∀ t : Fin cfg5.N, win5_1.index t = ![0, (grid5.coords t 0).val] := (by decide +kernel : ∀ t : Fin grid5.N, _)
theorem i5_2 : ∀ t : Fin cfg5.N, win5_2.index t = ![(grid5.coords t 1).val, (grid5.coords t 0).val] := (by decide +kernel : ∀ t : Fin grid5.N, _)

/-- What the call leaves in its window 2's array. -/
theorem val5_2 (c : Dev nD) (A : S4096x11008.Idx → EReal) (B : S4096x4096.Idx → EReal)
    (hA : V c main_v10_0 = A) (hB : V c main_v0 = B)  :
    (dat5 (F := Ideal) V c).arrAt 2 cfg5.N = fun i : S11008x4096.Idx => ∑ k : Fin 4096, A (ix2 k (i 0)) * B (ix2 k (i 1)) := by
  refine (dat5 (F := Ideal) V c).arrAt_eq_of_covers 2 _ (by decide +kernel) fun t hf y => ?_
  blk_simp
  rw [after5_2]
  frame_out
  unfold k5_pay1
  pointwise
  blk_simp [iblk5, hA, hB]
  have eA : ∀ x : Fin 4096, (win5_0.blk t).view.emb (ix2 x (y 0)) = ix2 x ((win5_2.blk t).view.emb y 0) := fun x => by blk_ext [i5_0, i5_2]
  have eB : ∀ x : Fin 4096, (win5_1.blk t).view.emb (ix2 x (y 1)) = ix2 x ((win5_2.blk t).view.emb y 1) := fun x => by blk_ext [i5_1, i5_2]
  simp only [eA, eB]
  rfl

end Cert.Kernel2Ideal.Hand

end
-- ==== Proof.FfnC.lean ====
/- The product that gives the gradient of the sublayer's activations. -/
module

public import proofs.«01_k».proof.Proof.FfnVal
public import proofs.«01_k».proof.Proof.Gen.Kernel2Ideal.Frame
public import Idealize.ShloMosaic.Lib.Pipeline.ValueKit
public import Idealize.ShloMosaic.Lib.Pointwise

@[expose] public section

set_option maxHeartbeats 4000000

noncomputable section

namespace Cert.Kernel2Ideal.Hand

open Cert.Kernel2Ideal.Gen
open Idealize.ShloMosaic Idealize.ShloMosaic.TcCoe

open Cert.Ffn (sg)

variable (V : (c : Dev nD) → (b : Ref sig .tc) → Buf (Elt Ideal) ((c : Thread nD τ).loc b))

theorem i3_0 : ∀ t : Fin cfg3.N, win3_0.index t = ![(grid3.coords t 0).val, 0] := (by decide +kernel : ∀ t : Fin grid3.N, _)
theorem i3_1 : ∀ t : Fin cfg3.N, win3_1.index t = ![(grid3.coords t 1).val, 0] := (by decide +kernel : ∀ t : Fin grid3.N, _)
theorem i3_2 : ∀ t : Fin cfg3.N, win3_2.index t = ![(grid3.coords t 0).val, (grid3.coords t 1).val] := (by decide +kernel : ∀ t : Fin grid3.N, _)
theorem i3_3 : ∀ t : Fin cfg3.N, win3_3.index t = ![(grid3.coords t 0).val, (grid3.coords t 1).val] := (by decide +kernel : ∀ t : Fin grid3.N, _)
theorem i3_4 : ∀ t : Fin cfg3.N, win3_4.index t = ![(grid3.coords t 0).val, (grid3.coords t 1).val] := (by decide +kernel : ∀ t : Fin grid3.N, _)
theorem i3_5 : ∀ t : Fin cfg3.N, win3_5.index t = ![(grid3.coords t 0).val, (grid3.coords t 1).val] := (by decide +kernel : ∀ t : Fin grid3.N, _)

/-- What the call leaves in its window 4's array. -/
theorem val3_4 (c : Dev nD) (A : S4096x4096.Idx → EReal) (B : S11008x4096.Idx → EReal) (X0 : S4096x11008.Idx → EReal) (X1 : S4096x11008.Idx → EReal)
    (hA : V c main_v6 = A) (hB : V c main_v5 = B) (hX0 : V c main_v7 = X0) (hX1 : V c main_v8_0 = X1) :
    (dat3 (F := Ideal) V c).arrAt 4 cfg3.N = fun i : S4096x11008.Idx => (∑ k : Fin 4096, A (ix2 (i 0) k) * B (ix2 (i 1) k)) * X1 i * sg (X0 i) * (1 + X0 i * (1 - sg (X0 i))) := by
  refine (dat3 (F := Ideal) V c).arrAt_eq_of_covers 4 _ (by decide +kernel) fun t hf y => ?_
  blk_simp
  rw [after3_4]
  frame_out
  unfold k3_pay4 k3_pay3 k3_pay2 k3_pay1
  pointwise
  blk_simp [iblk3, hA, hB, hX0, hX1]
  have eA : ∀ x : Fin 4096, (win3_0.blk t).view.emb (ix2 (y 0) x) = ix2 ((win3_4.blk t).view.emb y 0) x := fun x => by blk_ext [i3_0, i3_4]
  have eB : ∀ x : Fin 4096, (win3_1.blk t).view.emb (ix2 (y 1) x) = ix2 ((win3_4.blk t).view.emb y 1) x := fun x => by blk_ext [i3_1, i3_4]
  have e0 : (win3_2.blk t).view.emb y = (win3_4.blk t).view.emb y := by blk_ext [i3_2, i3_4]
  have e1 : (win3_3.blk t).view.emb y = (win3_4.blk t).view.emb y := by blk_ext [i3_3, i3_4]
  simp only [eA, eB, e0, e1]
  rfl

/-- What the call leaves in its window 5's array. -/
theorem val3_5 (c : Dev nD) (A : S4096x4096.Idx → EReal) (B : S11008x4096.Idx → EReal) (X0 : S4096x11008.Idx → EReal) (X1 : S4096x11008.Idx → EReal)
    (hA : V c main_v6 = A) (hB : V c main_v5 = B) (hX0 : V c main_v7 = X0) (hX1 : V c main_v8_0 = X1) :
    (dat3 (F := Ideal) V c).arrAt 5 cfg3.N = fun i : S4096x11008.Idx => (∑ k : Fin 4096, A (ix2 (i 0) k) * B (ix2 (i 1) k)) * X0 i * sg (X0 i) := by
  refine (dat3 (F := Ideal) V c).arrAt_eq_of_covers 5 _ (by decide +kernel) fun t hf y => ?_
  blk_simp
  rw [after3_5]
  frame_out
  unfold k3_pay5 k3_pay3 k3_pay2 k3_pay1
  pointwise
  blk_simp [iblk3, hA, hB, hX0, hX1]
  have eA : ∀ x : Fin 4096, (win3_0.blk t).view.emb (ix2 (y 0) x) = ix2 ((win3_5.blk t).view.emb y 0) x := fun x => by blk_ext [i3_0, i3_5]
  have eB : ∀ x : Fin 4096, (win3_1.blk t).view.emb (ix2 (y 1) x) = ix2 ((win3_5.blk t).view.emb y 1) x := fun x => by blk_ext [i3_1, i3_5]
  have e0 : (win3_2.blk t).view.emb y = (win3_5.blk t).view.emb y := by blk_ext [i3_2, i3_5]
  have e1 : (win3_3.blk t).view.emb y = (win3_5.blk t).view.emb y := by blk_ext [i3_3, i3_5]
  simp only [eA, eB, e0, e1]
  rfl

end Cert.Kernel2Ideal.Hand

end
-- ==== Proof.FfnD.lean ====
/- The other products of the feed-forward sublayer's gradients, call by call. -/
module

public import proofs.«01_k».proof.Proof.Gen.Kernel2Ideal.Frame
public import Idealize.ShloMosaic.Lib.Pipeline.ValueKit
public import Idealize.ShloMosaic.Lib.Pointwise

@[expose] public section

set_option maxHeartbeats 4000000

noncomputable section

namespace Cert.Kernel2Ideal.Hand

open Cert.Kernel2Ideal.Gen
open Idealize.ShloMosaic Idealize.ShloMosaic.TcCoe

variable (V : (c : Dev nD) → (b : Ref sig .tc) → Buf (Elt Ideal) ((c : Thread nD τ).loc b))

theorem i6_0 : ∀ t : Fin cfg6.N, win6_0.index t = ![0, (grid6.coords t 1).val] := (by decide +kernel : ∀ t : Fin grid6.N, _)
theorem i6_1 : ∀ t : Fin cfg6.N, win6_1.index t = ![0, (grid6.coords t 0).val] := (by decide +kernel : ∀ t : Fin grid6.N, _)
theorem i6_2 : ∀ t : Fin cfg6.N, win6_2.index t = ![(grid6.coords t 1).val, (grid6.coords t 0).val] := (by decide +kernel : ∀ t : Fin grid6.N, _)

/-- What the call leaves in its window 2's array. -/
theorem val6_2 (c : Dev nD) (A : S4096x11008.Idx → EReal) (B : S4096x4096.Idx → EReal)
    (hA : V c main_v10_1 = A) (hB : V c main_v0 = B)  :
    (dat6 (F := Ideal) V c).arrAt 2 cfg6.N = fun i : S11008x4096.Idx => ∑ k : Fin 4096, A (ix2 k (i 0)) * B (ix2 k (i 1)) := by
  refine (dat6 (F := Ideal) V c).arrAt_eq_of_covers 2 _ (by decide +kernel) fun t hf y => ?_
  blk_simp
  rw [after6_2]
  frame_out
  unfold k6_pay1
  pointwise
  blk_simp [iblk6, hA, hB]
  have eA : ∀ x : Fin 4096, (win6_0.blk t).view.emb (ix2 x (y 0)) = ix2 x ((win6_2.blk t).view.emb y 0) := fun x => by blk_ext [i6_0, i6_2]
  have eB : ∀ x : Fin 4096, (win6_1.blk t).view.emb (ix2 x (y 1)) = ix2 x ((win6_2.blk t).view.emb y 1) := fun x => by blk_ext [i6_1, i6_2]
  simp only [eA, eB]
  rfl
theorem i7_0 : ∀ t : Fin cfg7.N, win7_0.index t = ![(grid7.coords t 0).val, 0] := (by decide +kernel : ∀ t : Fin grid7.N, _)
theorem i7_1 : ∀ t : Fin cfg7.N, win7_1.index t = ![0, (grid7.coords t 1).val] := (by decide +kernel : ∀ t : Fin grid7.N, _)
theorem i7_2 : ∀ t : Fin cfg7.N, win7_2.index t = ![(grid7.coords t 0).val, (grid7.coords t 1).val] := (by decide +kernel : ∀ t : Fin grid7.N, _)

/-- What the call leaves in its window 2's array. -/
theorem val7_2 (c : Dev nD) (A : S4096x11008.Idx → EReal) (B : S11008x4096.Idx → EReal)
    (hA : V c main_v10_0 = A) (hB : V c main_v2 = B)  :
    (dat7 (F := Ideal) V c).arrAt 2 cfg7.N = fun i : S4096x4096.Idx => ∑ k : Fin 11008, A (ix2 (i 0) k) * B (ix2 k (i 1)) := by
  refine (dat7 (F := Ideal) V c).arrAt_eq_of_covers 2 _ (by decide +kernel) fun t hf y => ?_
  blk_simp
  rw [after7_2]
  frame_out
  unfold k7_pay1
  pointwise
  blk_simp [iblk7, hA, hB]
  have eA : ∀ x : Fin 11008, (win7_0.blk t).view.emb (ix2 (y 0) x) = ix2 ((win7_2.blk t).view.emb y 0) x := fun x => by blk_ext [i7_0, i7_2]
  have eB : ∀ x : Fin 11008, (win7_1.blk t).view.emb (ix2 x (y 1)) = ix2 x ((win7_2.blk t).view.emb y 1) := fun x => by blk_ext [i7_1, i7_2]
  simp only [eA, eB]
  rfl
theorem i8_0 : ∀ t : Fin cfg8.N, win8_0.index t = ![(grid8.coords t 0).val, 0] := (by decide +kernel : ∀ t : Fin grid8.N, _)
theorem i8_1 : ∀ t : Fin cfg8.N, win8_1.index t = ![0, (grid8.coords t 1).val] := (by decide +kernel : ∀ t : Fin grid8.N, _)
theorem i8_2 : ∀ t : Fin cfg8.N, win8_2.index t = ![(grid8.coords t 0).val, (grid8.coords t 1).val] := (by decide +kernel : ∀ t : Fin grid8.N, _)
theorem i8_3 : ∀ t : Fin cfg8.N, win8_3.index t = ![(grid8.coords t 0).val, (grid8.coords t 1).val] := (by decide +kernel : ∀ t : Fin grid8.N, _)

/-- What the call leaves in its window 3's array. -/
theorem val8_3 (c : Dev nD) (A : S4096x11008.Idx → EReal) (B : S11008x4096.Idx → EReal) (X0 : S4096x4096.Idx → EReal)
    (hA : V c main_v10_1 = A) (hB : V c main_v4 = B) (hX0 : V c main_v14 = X0) :
    (dat8 (F := Ideal) V c).arrAt 3 cfg8.N = fun i : S4096x4096.Idx => (∑ k : Fin 11008, A (ix2 (i 0) k) * B (ix2 k (i 1))) + X0 i := by
  refine (dat8 (F := Ideal) V c).arrAt_eq_of_covers 3 _ (by decide +kernel) fun t hf y => ?_
  blk_simp
  rw [after8_3]
  frame_out
  unfold k8_pay1
  pointwise
  blk_simp [iblk8, hA, hB, hX0]
  have eA : ∀ x : Fin 11008, (win8_0.blk t).view.emb (ix2 (y 0) x) = ix2 ((win8_3.blk t).view.emb y 0) x := fun x => by blk_ext [i8_0, i8_3]
  have eB : ∀ x : Fin 11008, (win8_1.blk t).view.emb (ix2 x (y 1)) = ix2 x ((win8_3.blk t).view.emb y 1) := fun x => by blk_ext [i8_1, i8_3]
  have e0 : (win8_2.blk t).view.emb y = (win8_3.blk t).view.emb y := by blk_ext [i8_2, i8_3]
  simp only [eA, eB, e0]
  rfl

end Cert.Kernel2Ideal.Hand

end
-- ==== Proof.FfnRun.lean ====
/- What the feed-forward sublayer's calls leave, from call to call, and the run of the whole. -/
module

public import proofs.«01_k».proof.Proof.FfnA
public import proofs.«01_k».proof.Proof.FfnB
public import proofs.«01_k».proof.Proof.FfnC
public import proofs.«01_k».proof.Proof.FfnD

@[expose] public section

set_option maxHeartbeats 4000000

noncomputable section

namespace Cert.Kernel2Ideal.Hand

open Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ffn

local notation "𝕄" => MT nD τ sig Unit (Elt Ideal) ℕ (UR sig nD τ) ℕ

variable (m : (ℓ : Loc nD τ sig) → Buf (Elt Ideal) ℓ) (ρ : Dev nD → PrngReg)

/-- The sublayer's input. -/
abbrev a0 (c : Dev nD) : Sq := m ((c.tc : Thread nD τ).loc main_arg0)
/-- The gate weight. -/
abbrev a1 (c : Dev nD) : Wide := m ((c.tc : Thread nD τ).loc main_arg1)
/-- The up weight. -/
abbrev a2 (c : Dev nD) : Wide := m ((c.tc : Thread nD τ).loc main_arg2)
/-- The down weight. -/
abbrev a3 (c : Dev nD) : Tall := m ((c.tc : Thread nD τ).loc main_arg3)
/-- The residual. -/
abbrev a4 (c : Dev nD) : Sq := m ((c.tc : Thread nD τ).loc main_arg4)
/-- The gradient of the result. -/
abbrev a5 (c : Dev nD) : Sq := m ((c.tc : Thread nD τ).loc main_arg5)
/-- A wide matrix transposed. -/
def tr (w : Wide) : Tall := fun i => w (ix2 (i 1) (i 0))
/-- The same, of a weight gradient. -/
def tw (w : Wide) : Tall := fun i => w (ix2 (i 1) (i 0))

theorem trans_eq (w : Wide) : (transpose S11008x4096 [1, 0] w transposes_S4096x11008_S11008x4096_1_0 : Tall) = tr w := by
  funext i
  refine transpose_apply [1, 0] w transposes_S4096x11008_S11008x4096_1_0 i (ix2 (i 1) (i 0)) fun b => ?_
  match b with
  | ⟨0, _⟩ => rfl
  | ⟨1, _⟩ => rfl
theorem trans_tw (w : Wide) : (transpose S4096x11008 [1, 0] (tw w) transposes_S11008x4096_S4096x11008_1_0 : Wide) = w := by
  funext i
  refine (transpose_apply [1, 0] (tw w) transposes_S11008x4096_S4096x11008_1_0 i (ix2 (i 1) (i 0)) fun b => ?_).trans ?_
  · match b with
    | ⟨0, _⟩ => rfl
    | ⟨1, _⟩ => rfl
  · exact congrArg w (by blk_ext [])

theorem k1_v0 (c : Dev nD) : (W1 m ρ c (Proc.devRef .tc main_v0) : Sq) = a0 m c := by
  show StableHlo.after hostOps0 _ _ = _
  simp only [hostOps0]
  after_results_simp
  rfl

theorem k1_v5 (c : Dev nD) : (W1 m ρ c (Proc.devRef .tc main_v5) : Tall) = a3 m c := by
  show StableHlo.after hostOps0 _ _ = _
  simp only [hostOps0]
  after_results_simp
  rfl

theorem k1_v6 (c : Dev nD) : (W1 m ρ c (Proc.devRef .tc main_v6) : Sq) = a5 m c := by
  show StableHlo.after hostOps0 _ _ = _
  simp only [hostOps0]
  after_results_simp
  rfl

theorem k1_v2 (c : Dev nD) : (W1 m ρ c (Proc.devRef .tc main_v2) : Tall) = tr (a1 m c) := by
  show StableHlo.after hostOps0 _ _ = _
  simp only [hostOps0]
  after_results_simp
  exact trans_eq (a1 m c)

theorem k1_v4 (c : Dev nD) : (W1 m ρ c (Proc.devRef .tc main_v4) : Tall) = tr (a2 m c) := by
  show StableHlo.after hostOps0 _ _ = _
  simp only [hostOps0]
  after_results_simp
  exact trans_eq (a2 m c)

theorem k1_arg4 (c : Dev nD) : (W1 m ρ c (Proc.devRef .tc main_arg4) : Sq) = a4 m c := W1_args m ρ c main_arg4 (by decide)

theorem k2_v7 (c : Dev nD) : (W2 m ρ c (Proc.devRef .tc main_v7) : Wide) = pre (a0 m c) (a1 m c) :=
  (W2_arr m ρ c 2).trans ((val0_2 (V1 m ρ) c _ _ (k1_v0 m ρ c) (k1_v2 m ρ c)).trans rfl)

theorem k2_v0 (c : Dev nD) : (W2 m ρ c (Proc.devRef .tc main_v0) : Sq) = a0 m c := (W2_of m ρ c main_v0 (by decide +kernel)).trans (k1_v0 m ρ c)

theorem k2_v4 (c : Dev nD) : (W2 m ρ c (Proc.devRef .tc main_v4) : Tall) = tr (a2 m c) := (W2_of m ρ c main_v4 (by decide +kernel)).trans (k1_v4 m ρ c)

theorem k3_v8_0 (c : Dev nD) : (W3 m ρ c (Proc.devRef .tc main_v8_0) : Wide) = pre (a0 m c) (a2 m c) :=
  (W3_arr m ρ c 3).trans ((val1_3 (V2 m ρ) c _ _ _ (k2_v0 m ρ c) (k2_v4 m ρ c) (k2_v7 m ρ c)).trans rfl)

theorem k3_v8_1 (c : Dev nD) : (W3 m ρ c (Proc.devRef .tc main_v8_1) : Wide) = act (a0 m c) (a1 m c) (a2 m c) :=
  (W3_arr m ρ c 4).trans ((val1_4 (V2 m ρ) c _ _ _ (k2_v0 m ρ c) (k2_v4 m ρ c) (k2_v7 m ρ c)).trans rfl)

theorem k2_v5 (c : Dev nD) : (W2 m ρ c (Proc.devRef .tc main_v5) : Tall) = a3 m c := (W2_of m ρ c main_v5 (by decide +kernel)).trans (k1_v5 m ρ c)

theorem k3_v5 (c : Dev nD) : (W3 m ρ c (Proc.devRef .tc main_v5) : Tall) = a3 m c := (W3_of m ρ c main_v5 (by decide +kernel)).trans (k2_v5 m ρ c)

theorem k2_arg4 (c : Dev nD) : (W2 m ρ c (Proc.devRef .tc main_arg4) : Sq) = a4 m c := (W2_of m ρ c main_arg4 (by decide +kernel)).trans (k1_arg4 m ρ c)

theorem k3_arg4 (c : Dev nD) : (W3 m ρ c (Proc.devRef .tc main_arg4) : Sq) = a4 m c := (W3_of m ρ c main_arg4 (by decide +kernel)).trans (k2_arg4 m ρ c)

theorem k4_v9 (c : Dev nD) : (W4 m ρ c (Proc.devRef .tc main_v9) : Sq) = out (a0 m c) (a1 m c) (a2 m c) (a3 m c) (a4 m c) :=
  (W4_arr m ρ c 3).trans ((val2_3 (V3 m ρ) c _ _ _ (k3_v8_1 m ρ c) (k3_v5 m ρ c) (k3_arg4 m ρ c)).trans rfl)

theorem k2_v6 (c : Dev nD) : (W2 m ρ c (Proc.devRef .tc main_v6) : Sq) = a5 m c := (W2_of m ρ c main_v6 (by decide +kernel)).trans (k1_v6 m ρ c)

theorem k3_v6 (c : Dev nD) : (W3 m ρ c (Proc.devRef .tc main_v6) : Sq) = a5 m c := (W3_of m ρ c main_v6 (by decide +kernel)).trans (k2_v6 m ρ c)

theorem k4_v6 (c : Dev nD) : (W4 m ρ c (Proc.devRef .tc main_v6) : Sq) = a5 m c := (W4_of m ρ c main_v6 (by decide +kernel)).trans (k3_v6 m ρ c)

theorem k4_v5 (c : Dev nD) : (W4 m ρ c (Proc.devRef .tc main_v5) : Tall) = a3 m c := (W4_of m ρ c main_v5 (by decide +kernel)).trans (k3_v5 m ρ c)

theorem k3_v7 (c : Dev nD) : (W3 m ρ c (Proc.devRef .tc main_v7) : Wide) = pre (a0 m c) (a1 m c) := (W3_of m ρ c main_v7 (by decide +kernel)).trans (k2_v7 m ρ c)

theorem k4_v7 (c : Dev nD) : (W4 m ρ c (Proc.devRef .tc main_v7) : Wide) = pre (a0 m c) (a1 m c) := (W4_of m ρ c main_v7 (by decide +kernel)).trans (k3_v7 m ρ c)

theorem k4_v8_0 (c : Dev nD) : (W4 m ρ c (Proc.devRef .tc main_v8_0) : Wide) = pre (a0 m c) (a2 m c) := (W4_of m ρ c main_v8_0 (by decide +kernel)).trans (k3_v8_0 m ρ c)

theorem k5_v10_0 (c : Dev nD) : (W5 m ρ c (Proc.devRef .tc main_v10_0) : Wide) = dgate (a0 m c) (a1 m c) (a2 m c) (a3 m c) (a5 m c) :=
  (W5_arr m ρ c 4).trans ((val3_4 (V4 m ρ) c _ _ _ _ (k4_v6 m ρ c) (k4_v5 m ρ c) (k4_v7 m ρ c) (k4_v8_0 m ρ c)).trans rfl)

theorem k5_v10_1 (c : Dev nD) : (W5 m ρ c (Proc.devRef .tc main_v10_1) : Wide) = dup (a0 m c) (a1 m c) (a3 m c) (a5 m c) :=
  (W5_arr m ρ c 5).trans ((val3_5 (V4 m ρ) c _ _ _ _ (k4_v6 m ρ c) (k4_v5 m ρ c) (k4_v7 m ρ c) (k4_v8_0 m ρ c)).trans rfl)

theorem k4_v8_1 (c : Dev nD) : (W4 m ρ c (Proc.devRef .tc main_v8_1) : Wide) = act (a0 m c) (a1 m c) (a2 m c) := (W4_of m ρ c main_v8_1 (by decide +kernel)).trans (k3_v8_1 m ρ c)

theorem k5_v8_1 (c : Dev nD) : (W5 m ρ c (Proc.devRef .tc main_v8_1) : Wide) = act (a0 m c) (a1 m c) (a2 m c) := (W5_of m ρ c main_v8_1 (by decide +kernel)).trans (k4_v8_1 m ρ c)

theorem k5_v6 (c : Dev nD) : (W5 m ρ c (Proc.devRef .tc main_v6) : Sq) = a5 m c := (W5_of m ρ c main_v6 (by decide +kernel)).trans (k4_v6 m ρ c)

theorem k6_v11 (c : Dev nD) : (W6 m ρ c (Proc.devRef .tc main_v11) : Tall) = gd (act (a0 m c) (a1 m c) (a2 m c)) (a5 m c) :=
  (W6_arr m ρ c 2).trans ((val4_2 (V5 m ρ) c _ _ (k5_v8_1 m ρ c) (k5_v6 m ρ c)).trans rfl)

theorem k6_v10_0 (c : Dev nD) : (W6 m ρ c (Proc.devRef .tc main_v10_0) : Wide) = dgate (a0 m c) (a1 m c) (a2 m c) (a3 m c) (a5 m c) := (W6_of m ρ c main_v10_0 (by decide +kernel)).trans (k5_v10_0 m ρ c)

theorem k3_v0 (c : Dev nD) : (W3 m ρ c (Proc.devRef .tc main_v0) : Sq) = a0 m c := (W3_of m ρ c main_v0 (by decide +kernel)).trans (k2_v0 m ρ c)

theorem k4_v0 (c : Dev nD) : (W4 m ρ c (Proc.devRef .tc main_v0) : Sq) = a0 m c := (W4_of m ρ c main_v0 (by decide +kernel)).trans (k3_v0 m ρ c)

theorem k5_v0 (c : Dev nD) : (W5 m ρ c (Proc.devRef .tc main_v0) : Sq) = a0 m c := (W5_of m ρ c main_v0 (by decide +kernel)).trans (k4_v0 m ρ c)

theorem k6_v0 (c : Dev nD) : (W6 m ρ c (Proc.devRef .tc main_v0) : Sq) = a0 m c := (W6_of m ρ c main_v0 (by decide +kernel)).trans (k5_v0 m ρ c)

theorem k7_v12 (c : Dev nD) : (W7 m ρ c (Proc.devRef .tc main_v12) : Tall) = tw (gw (a0 m c) (dgate (a0 m c) (a1 m c) (a2 m c) (a3 m c) (a5 m c))) :=
  (W7_arr m ρ c 2).trans ((val5_2 (V6 m ρ) c _ _ (k6_v10_0 m ρ c) (k6_v0 m ρ c)).trans rfl)

theorem k6_v10_1 (c : Dev nD) : (W6 m ρ c (Proc.devRef .tc main_v10_1) : Wide) = dup (a0 m c) (a1 m c) (a3 m c) (a5 m c) := (W6_of m ρ c main_v10_1 (by decide +kernel)).trans (k5_v10_1 m ρ c)

theorem k7_v10_1 (c : Dev nD) : (W7 m ρ c (Proc.devRef .tc main_v10_1) : Wide) = dup (a0 m c) (a1 m c) (a3 m c) (a5 m c) := (W7_of m ρ c main_v10_1 (by decide +kernel)).trans (k6_v10_1 m ρ c)

theorem k7_v0 (c : Dev nD) : (W7 m ρ c (Proc.devRef .tc main_v0) : Sq) = a0 m c := (W7_of m ρ c main_v0 (by decide +kernel)).trans (k6_v0 m ρ c)

theorem k8_v13 (c : Dev nD) : (W8 m ρ c (Proc.devRef .tc main_v13) : Tall) = tw (gw (a0 m c) (dup (a0 m c) (a1 m c) (a3 m c) (a5 m c))) :=
  (W8_arr m ρ c 2).trans ((val6_2 (V7 m ρ) c _ _ (k7_v10_1 m ρ c) (k7_v0 m ρ c)).trans rfl)

theorem k7_v10_0 (c : Dev nD) : (W7 m ρ c (Proc.devRef .tc main_v10_0) : Wide) = dgate (a0 m c) (a1 m c) (a2 m c) (a3 m c) (a5 m c) := (W7_of m ρ c main_v10_0 (by decide +kernel)).trans (k6_v10_0 m ρ c)

theorem k8_v10_0 (c : Dev nD) : (W8 m ρ c (Proc.devRef .tc main_v10_0) : Wide) = dgate (a0 m c) (a1 m c) (a2 m c) (a3 m c) (a5 m c) := (W8_of m ρ c main_v10_0 (by decide +kernel)).trans (k7_v10_0 m ρ c)

theorem k2_v2 (c : Dev nD) : (W2 m ρ c (Proc.devRef .tc main_v2) : Tall) = tr (a1 m c) := (W2_of m ρ c main_v2 (by decide +kernel)).trans (k1_v2 m ρ c)

theorem k3_v2 (c : Dev nD) : (W3 m ρ c (Proc.devRef .tc main_v2) : Tall) = tr (a1 m c) := (W3_of m ρ c main_v2 (by decide +kernel)).trans (k2_v2 m ρ c)

theorem k4_v2 (c : Dev nD) : (W4 m ρ c (Proc.devRef .tc main_v2) : Tall) = tr (a1 m c) := (W4_of m ρ c main_v2 (by decide +kernel)).trans (k3_v2 m ρ c)

theorem k5_v2 (c : Dev nD) : (W5 m ρ c (Proc.devRef .tc main_v2) : Tall) = tr (a1 m c) := (W5_of m ρ c main_v2 (by decide +kernel)).trans (k4_v2 m ρ c)

theorem k6_v2 (c : Dev nD) : (W6 m ρ c (Proc.devRef .tc main_v2) : Tall) = tr (a1 m c) := (W6_of m ρ c main_v2 (by decide +kernel)).trans (k5_v2 m ρ c)

theorem k7_v2 (c : Dev nD) : (W7 m ρ c (Proc.devRef .tc main_v2) : Tall) = tr (a1 m c) := (W7_of m ρ c main_v2 (by decide +kernel)).trans (k6_v2 m ρ c)

theorem k8_v2 (c : Dev nD) : (W8 m ρ c (Proc.devRef .tc main_v2) : Tall) = tr (a1 m c) := (W8_of m ρ c main_v2 (by decide +kernel)).trans (k7_v2 m ρ c)

theorem k9_v14 (c : Dev nD) : (W9 m ρ c (Proc.devRef .tc main_v14) : Sq) = back (dgate (a0 m c) (a1 m c) (a2 m c) (a3 m c) (a5 m c)) (a1 m c) :=
  (W9_arr m ρ c 2).trans ((val7_2 (V8 m ρ) c _ _ (k8_v10_0 m ρ c) (k8_v2 m ρ c)).trans rfl)

theorem k8_v10_1 (c : Dev nD) : (W8 m ρ c (Proc.devRef .tc main_v10_1) : Wide) = dup (a0 m c) (a1 m c) (a3 m c) (a5 m c) := (W8_of m ρ c main_v10_1 (by decide +kernel)).trans (k7_v10_1 m ρ c)

theorem k9_v10_1 (c : Dev nD) : (W9 m ρ c (Proc.devRef .tc main_v10_1) : Wide) = dup (a0 m c) (a1 m c) (a3 m c) (a5 m c) := (W9_of m ρ c main_v10_1 (by decide +kernel)).trans (k8_v10_1 m ρ c)

theorem k3_v4 (c : Dev nD) : (W3 m ρ c (Proc.devRef .tc main_v4) : Tall) = tr (a2 m c) := (W3_of m ρ c main_v4 (by decide +kernel)).trans (k2_v4 m ρ c)

theorem k4_v4 (c : Dev nD) : (W4 m ρ c (Proc.devRef .tc main_v4) : Tall) = tr (a2 m c) := (W4_of m ρ c main_v4 (by decide +kernel)).trans (k3_v4 m ρ c)

theorem k5_v4 (c : Dev nD) : (W5 m ρ c (Proc.devRef .tc main_v4) : Tall) = tr (a2 m c) := (W5_of m ρ c main_v4 (by decide +kernel)).trans (k4_v4 m ρ c)

theorem k6_v4 (c : Dev nD) : (W6 m ρ c (Proc.devRef .tc main_v4) : Tall) = tr (a2 m c) := (W6_of m ρ c main_v4 (by decide +kernel)).trans (k5_v4 m ρ c)

theorem k7_v4 (c : Dev nD) : (W7 m ρ c (Proc.devRef .tc main_v4) : Tall) = tr (a2 m c) := (W7_of m ρ c main_v4 (by decide +kernel)).trans (k6_v4 m ρ c)

theorem k8_v4 (c : Dev nD) : (W8 m ρ c (Proc.devRef .tc main_v4) : Tall) = tr (a2 m c) := (W8_of m ρ c main_v4 (by decide +kernel)).trans (k7_v4 m ρ c)

theorem k9_v4 (c : Dev nD) : (W9 m ρ c (Proc.devRef .tc main_v4) : Tall) = tr (a2 m c) := (W9_of m ρ c main_v4 (by decide +kernel)).trans (k8_v4 m ρ c)

theorem k10_v15 (c : Dev nD) : (W10 m ρ c (Proc.devRef .tc main_v15) : Sq) = (fun i => back (dup (a0 m c) (a1 m c) (a3 m c) (a5 m c)) (a2 m c) i + back (dgate (a0 m c) (a1 m c) (a2 m c) (a3 m c) (a5 m c)) (a1 m c) i) :=
  (W10_arr m ρ c 3).trans ((val8_3 (V9 m ρ) c _ _ _ (k9_v10_1 m ρ c) (k9_v4 m ρ c) (k9_v14 m ρ c)).trans rfl)

theorem k5_v9 (c : Dev nD) : (W5 m ρ c (Proc.devRef .tc main_v9) : Sq) = out (a0 m c) (a1 m c) (a2 m c) (a3 m c) (a4 m c) := (W5_of m ρ c main_v9 (by decide +kernel)).trans (k4_v9 m ρ c)

theorem k6_v9 (c : Dev nD) : (W6 m ρ c (Proc.devRef .tc main_v9) : Sq) = out (a0 m c) (a1 m c) (a2 m c) (a3 m c) (a4 m c) := (W6_of m ρ c main_v9 (by decide +kernel)).trans (k5_v9 m ρ c)

theorem k7_v9 (c : Dev nD) : (W7 m ρ c (Proc.devRef .tc main_v9) : Sq) = out (a0 m c) (a1 m c) (a2 m c) (a3 m c) (a4 m c) := (W7_of m ρ c main_v9 (by decide +kernel)).trans (k6_v9 m ρ c)

theorem k8_v9 (c : Dev nD) : (W8 m ρ c (Proc.devRef .tc main_v9) : Sq) = out (a0 m c) (a1 m c) (a2 m c) (a3 m c) (a4 m c) := (W8_of m ρ c main_v9 (by decide +kernel)).trans (k7_v9 m ρ c)

theorem k9_v9 (c : Dev nD) : (W9 m ρ c (Proc.devRef .tc main_v9) : Sq) = out (a0 m c) (a1 m c) (a2 m c) (a3 m c) (a4 m c) := (W9_of m ρ c main_v9 (by decide +kernel)).trans (k8_v9 m ρ c)

theorem k10_v9 (c : Dev nD) : (W10 m ρ c (Proc.devRef .tc main_v9) : Sq) = out (a0 m c) (a1 m c) (a2 m c) (a3 m c) (a4 m c) := (W10_of m ρ c main_v9 (by decide +kernel)).trans (k9_v9 m ρ c)

theorem k8_v12 (c : Dev nD) : (W8 m ρ c (Proc.devRef .tc main_v12) : Tall) = tw (gw (a0 m c) (dgate (a0 m c) (a1 m c) (a2 m c) (a3 m c) (a5 m c))) := (W8_of m ρ c main_v12 (by decide +kernel)).trans (k7_v12 m ρ c)

theorem k9_v12 (c : Dev nD) : (W9 m ρ c (Proc.devRef .tc main_v12) : Tall) = tw (gw (a0 m c) (dgate (a0 m c) (a1 m c) (a2 m c) (a3 m c) (a5 m c))) := (W9_of m ρ c main_v12 (by decide +kernel)).trans (k8_v12 m ρ c)

theorem k10_v12 (c : Dev nD) : (W10 m ρ c (Proc.devRef .tc main_v12) : Tall) = tw (gw (a0 m c) (dgate (a0 m c) (a1 m c) (a2 m c) (a3 m c) (a5 m c))) := (W10_of m ρ c main_v12 (by decide +kernel)).trans (k9_v12 m ρ c)

theorem k9_v13 (c : Dev nD) : (W9 m ρ c (Proc.devRef .tc main_v13) : Tall) = tw (gw (a0 m c) (dup (a0 m c) (a1 m c) (a3 m c) (a5 m c))) := (W9_of m ρ c main_v13 (by decide +kernel)).trans (k8_v13 m ρ c)

theorem k10_v13 (c : Dev nD) : (W10 m ρ c (Proc.devRef .tc main_v13) : Tall) = tw (gw (a0 m c) (dup (a0 m c) (a1 m c) (a3 m c) (a5 m c))) := (W10_of m ρ c main_v13 (by decide +kernel)).trans (k9_v13 m ρ c)

theorem k7_v11 (c : Dev nD) : (W7 m ρ c (Proc.devRef .tc main_v11) : Tall) = gd (act (a0 m c) (a1 m c) (a2 m c)) (a5 m c) := (W7_of m ρ c main_v11 (by decide +kernel)).trans (k6_v11 m ρ c)

theorem k8_v11 (c : Dev nD) : (W8 m ρ c (Proc.devRef .tc main_v11) : Tall) = gd (act (a0 m c) (a1 m c) (a2 m c)) (a5 m c) := (W8_of m ρ c main_v11 (by decide +kernel)).trans (k7_v11 m ρ c)

theorem k9_v11 (c : Dev nD) : (W9 m ρ c (Proc.devRef .tc main_v11) : Tall) = gd (act (a0 m c) (a1 m c) (a2 m c)) (a5 m c) := (W9_of m ρ c main_v11 (by decide +kernel)).trans (k8_v11 m ρ c)

theorem k10_v11 (c : Dev nD) : (W10 m ρ c (Proc.devRef .tc main_v11) : Tall) = gd (act (a0 m c) (a1 m c) (a2 m c)) (a5 m c) := (W10_of m ρ c main_v11 (by decide +kernel)).trans (k9_v11 m ρ c)

theorem k11_v9 (c : Dev nD) : (W11 m ρ c (Proc.devRef .tc main_v9) : Sq) = out (a0 m c) (a1 m c) (a2 m c) (a3 m c) (a4 m c) := (W11_of m ρ c main_v9 (by decide +kernel)).trans (k10_v9 m ρ c)

theorem k11_v15 (c : Dev nD) : (W11 m ρ c (Proc.devRef .tc main_v15) : Sq) = (fun i => back (dup (a0 m c) (a1 m c) (a3 m c) (a5 m c)) (a2 m c) i + back (dgate (a0 m c) (a1 m c) (a2 m c) (a3 m c) (a5 m c)) (a1 m c) i) := (W11_of m ρ c main_v15 (by decide +kernel)).trans (k10_v15 m ρ c)

theorem k11_v17 (c : Dev nD) : (W11 m ρ c (Proc.devRef .tc main_v17) : Wide) = gw (a0 m c) (dgate (a0 m c) (a1 m c) (a2 m c) (a3 m c) (a5 m c)) := by
  show StableHlo.after hostOps9 _ _ = _
  simp only [hostOps9]
  after_results_simp
  refine Eq.trans ?_ (trans_tw _)
  exact congrArg (fun w : Tall => (transpose S4096x11008 [1, 0] w transposes_S11008x4096_S4096x11008_1_0 : Wide)) (k10_v12 m ρ c)

theorem k11_v19 (c : Dev nD) : (W11 m ρ c (Proc.devRef .tc main_v19) : Wide) = gw (a0 m c) (dup (a0 m c) (a1 m c) (a3 m c) (a5 m c)) := by
  show StableHlo.after hostOps9 _ _ = _
  simp only [hostOps9]
  after_results_simp
  refine Eq.trans ?_ (trans_tw _)
  exact congrArg (fun w : Tall => (transpose S4096x11008 [1, 0] w transposes_S11008x4096_S4096x11008_1_0 : Wide)) (k10_v13 m ρ c)

theorem k11_v20 (c : Dev nD) : (W11 m ρ c (Proc.devRef .tc main_v20) : Tall) = gd (act (a0 m c) (a1 m c) (a2 m c)) (a5 m c) := by
  show StableHlo.after hostOps9 _ _ = _
  simp only [hostOps9]
  after_results_simp
  exact k10_v11 m ρ c

set_option backward.isDefEq.respectTransparency.types false in
/-- Run from any memory, the program ends with every result at its sums of products, its arguments unchanged. -/
theorem run_ffn : θ_run defs (onTc (τ := τ) (main (F := Ideal))) ⟨m, fun _ => 0, ρ⟩ (fun r => ∀ c : Dev nD,
      r.2.mem ((c.tc : Thread nD τ).loc main_v9) = (out (a0 m c) (a1 m c) (a2 m c) (a3 m c) (a4 m c) : Sq)
      ∧ r.2.mem ((c.tc : Thread nD τ).loc main_v15) = ((fun i => back (dup (a0 m c) (a1 m c) (a3 m c) (a5 m c)) (a2 m c) i + back (dgate (a0 m c) (a1 m c) (a2 m c) (a3 m c) (a5 m c)) (a1 m c) i) : Sq)
      ∧ r.2.mem ((c.tc : Thread nD τ).loc main_v17) = (gw (a0 m c) (dgate (a0 m c) (a1 m c) (a2 m c) (a3 m c) (a5 m c)) : Wide)
      ∧ r.2.mem ((c.tc : Thread nD τ).loc main_v19) = (gw (a0 m c) (dup (a0 m c) (a1 m c) (a3 m c) (a5 m c)) : Wide)
      ∧ r.2.mem ((c.tc : Thread nD τ).loc main_v20) = (gd (act (a0 m c) (a1 m c) (a2 m c)) (a5 m c) : Tall)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨(h c _ (mem_uc main_v9 (by decide))).trans (k11_v9 m ρ c),
       (h c _ (mem_uc main_v15 (by decide))).trans (k11_v15 m ρ c),
       (h c _ (mem_uc main_v17 (by decide))).trans (k11_v17 m ρ c),
       (h c _ (mem_uc main_v19 (by decide))).trans (k11_v19 m ρ c),
       (h c _ (mem_uc main_v20 (by decide))).trans (k11_v20 m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.Kernel2Ideal.Hand

end

end
-- ==== Proof.FfnRef.lean ====
/- The reference's feed-forward sublayer, read as the same sums of products. -/
module

public import proofs.«01_k».proof.Proof.FfnVal
public import proofs.«01_k».proof.Proof.Gen.Reference2Ideal.Run
public import proofs.«01_k».proof.Proof.Gen.Reference2Ideal.Read
public import Idealize.ShloMosaic.Lib.IdealHost

@[expose] public section

set_option maxHeartbeats 1000000

noncomputable section

namespace Cert.Reference2Ideal.Hand

open Idealize.ShloMosaic Idealize.ShloMosaic.TcCoe
open Cert.Ffn Cert.Reference2Ideal.Read

variable (u : Sq) (wg wu : Wide) (wd : Tall) (h dh : Sq)

/-- The logistic function of a real number is a real number. -/
theorem sg_real (x : ℝ) : ∃ s : ℝ, sg (x : EReal) = s := by
  have h0 : (0 : EReal) - (x : EReal) = ((-x : ℝ) : EReal) := by
    rw [← EReal.coe_zero, ← EReal.coe_sub, zero_sub]
  have h1 : (1 : EReal) + Ideal.exp ((-x : ℝ) : EReal) = ((1 + Real.exp (-x) : ℝ) : EReal) := by
    rw [Ideal.exp_coe, EReal.coe_add, EReal.coe_one]
  have h2 : (1 + Real.exp (-x) : ℝ) ≠ 0 := by positivity
  refine ⟨1 / (1 + Real.exp (-x)), ?_⟩
  unfold sg
  rw [h0, h1, Ideal.div_coe h2, one_mul]

/-- A finite sum of products of real numbers is a real number. -/
theorem sum_real {n : ℕ} (f g : Fin n → EReal) (hf : ∀ k, ∃ r : ℝ, f k = r) (hg : ∀ k, ∃ r : ℝ, g k = r) :
    ∃ r : ℝ, ∑ k, f k * g k = r := by
  refine Finset.sum_induction _ (fun x : EReal => ∃ r : ℝ, x = r) ?_ ⟨0, EReal.coe_zero.symm⟩ ?_
  · rintro _ _ ⟨a, rfl⟩ ⟨b, rfl⟩
    exact ⟨a + b, (EReal.coe_add a b).symm⟩
  · intro k _
    obtain ⟨a, ha⟩ := hf k
    obtain ⟨b, hb⟩ := hg k
    exact ⟨a * b, by rw [ha, hb, EReal.coe_mul]⟩

/-- The two spellings of the gradient of `x * logistic x` agree on real numbers. -/
theorem silu_real (p g : EReal) (hp : ∃ r : ℝ, p = r) (hg : ∃ r : ℝ, g = r) :
    p * sg g + g * p * (sg g * (1 - sg g)) = p * sg g * (1 + g * (1 - sg g)) := by
  obtain ⟨p, rfl⟩ := hp
  obtain ⟨g, rfl⟩ := hg
  obtain ⟨s, hs⟩ := sg_real g
  rw [hs, ← EReal.coe_one, ← EReal.coe_sub, ← EReal.coe_mul, ← EReal.coe_mul, ← EReal.coe_mul, ← EReal.coe_mul,
    ← EReal.coe_mul, ← EReal.coe_add, ← EReal.coe_add, ← EReal.coe_mul]
  exact congrArg _ (by ring)

theorem one_bits : Ideal.ofBits .f32 0x3F800000#32 = 1 := by
  simp [Ideal.ofBits, Ideal.ieee, -EReal.coe_mul]
  norm_num

theorem inf_bits : Ideal.ofBits .f32 0x7F800000#32 = ⊤ := by
  simp [Ideal.ofBits, Ideal.ieee]

theorem ix2_ext {n0 n1 : ℕ} (i j : (⟨2, ![n0, n1]⟩ : Shape).Idx) (h0 : i 0 = j 0) (h1 : i 1 = j 1) : i = j := by
  funext a
  match a with
  | ⟨0, _⟩ => exact h0
  | ⟨1, _⟩ => exact h1

theorem v0_eq : (val_main_v0 (F := Ideal) u wg : Wide) = pre u wg := by
  funext i
  rw [val_main_v0_apply]
  exact Finset.sum_congr rfl fun k _ => congrArg₂ (· * ·) (congrArg u (ix2_ext _ _ rfl rfl)) (congrArg wg (ix2_ext _ _ rfl rfl))

theorem v2_eq : (val_main_v2 (F := Ideal) u wu : Wide) = pre u wu := by
  funext i
  rw [val_main_v2_apply]
  exact Finset.sum_congr rfl fun k _ => congrArg₂ (· * ·) (congrArg u (ix2_ext _ _ rfl rfl)) (congrArg wu (ix2_ext _ _ rfl rfl))

theorem v8_eq : (val_main_v8 (F := Ideal) wd dh : Wide) = dact wd dh := by
  funext i
  rw [val_main_v8_apply]
  exact Finset.sum_congr rfl fun k _ => congrArg₂ (· * ·) (congrArg dh (ix2_ext _ _ rfl rfl)) (congrArg wd (ix2_ext _ _ rfl rfl))

/-- The reference's logistic function. -/
theorem s_eq (i : (⟨2, ![4096, 11008]⟩ : Shape).Idx) : (val_main_v1_2 (F := Ideal) u wg i : EReal) = sg (pre u wg i) := by
  show Ideal.div (Ideal.ofBits .f32 0x3F800000#32)
    (Ideal.ofBits .f32 0x3F800000#32 + Ideal.exp (-(val_main_v0 (F := Ideal) u wg i))) = _
  rw [one_bits, v0_eq]
  unfold sg
  rw [zero_sub]

theorem v3_eq : (val_main_v3 (F := Ideal) u wg wu : Wide) = act u wg wu := by
  funext i
  show (val_main_v0 (F := Ideal) u wg i : EReal) * val_main_v1_2 (F := Ideal) u wg i * val_main_v2 (F := Ideal) u wu i = _
  rw [s_eq, v0_eq, v2_eq]
  rfl

theorem v5_eq : (val_main_v5 (F := Ideal) u wg wu wd h : Sq) = out u wg wu wd h := by
  funext i
  show (h i : EReal) + val_main_v4 (F := Ideal) u wg wu wd i = _
  rw [val_main_v4_apply, v3_eq, add_comm]
  exact congrArg (· + h i) (Finset.sum_congr rfl fun k _ => congrArg₂ (· * ·) (congrArg (act u wg wu) (ix2_ext _ _ rfl rfl)) (congrArg wd (ix2_ext _ _ rfl rfl)))

theorem v7_eq : (val_main_v7 (F := Ideal) u wg wu dh : Tall) = gd (act u wg wu) dh := by
  funext i
  rw [val_main_v7_apply, val_main_v6_apply, v3_eq]
  exact Finset.sum_congr rfl fun k _ => (mul_comm _ _).trans (congrArg₂ (· * ·) (congrArg (act u wg wu) (ix2_ext _ _ rfl rfl)) (congrArg dh (ix2_ext _ _ rfl rfl)))

theorem v9_eq : (val_main_v9 (F := Ideal) u wg wd dh : Wide) = dup u wg wd dh := by
  funext i
  show (val_main_v0 (F := Ideal) u wg i : EReal) * val_main_v1_2 (F := Ideal) u wg i * val_main_v8 (F := Ideal) wd dh i = _
  rw [s_eq, v0_eq, v8_eq, mul_comm, ← mul_assoc]
  rfl

theorem v12_eq : (val_main_v12 (F := Ideal) u wg wd dh : Wide) = gw u (dup u wg wd dh) := by
  funext i
  rw [val_main_v12_apply, val_main_v11_apply, v9_eq]
  exact Finset.sum_congr rfl fun k _ => congrArg₂ (· * ·) (congrArg (dup u wg wd dh) (ix2_ext _ _ rfl rfl)) (congrArg u (ix2_ext _ _ rfl rfl))

variable (hu : ∀ i, ∃ r : ℝ, u i = r) (hg : ∀ i, ∃ r : ℝ, wg i = r) (hw : ∀ i, ∃ r : ℝ, wu i = r)
  (hd : ∀ i, ∃ r : ℝ, wd i = r) (hh : ∀ i, ∃ r : ℝ, dh i = r)

include hu hg hw hd hh in
theorem v14_eq : (val_main_v14 (F := Ideal) u wg wu wd dh : Wide) = dgate u wg wu wd dh := by
  funext i
  show ((val_main_v8 (F := Ideal) wd dh i : EReal) * val_main_v2 (F := Ideal) u wu i) * val_main_v1_2 (F := Ideal) u wg i
    + val_main_v0 (F := Ideal) u wg i * ((val_main_v8 (F := Ideal) wd dh i : EReal) * val_main_v2 (F := Ideal) u wu i)
      * (val_main_v1_2 (F := Ideal) u wg i * (Ideal.ofBits .f32 0x3F800000#32 - val_main_v1_2 (F := Ideal) u wg i)) = _
  rw [s_eq, v0_eq, v2_eq, v8_eq, one_bits]
  obtain ⟨a, ha⟩ := sum_real (fun k : Fin 4096 => dh (ix2 (i 0) k)) (fun k => wd (ix2 (i 1) k)) (fun _ => hh _) (fun _ => hd _)
  obtain ⟨b, hb⟩ := sum_real (fun k : Fin 4096 => u (ix2 (i 0) k)) (fun k => wu (ix2 k (i 1))) (fun _ => hu _) (fun _ => hw _)
  exact silu_real (dact wd dh i * pre u wu i) (pre u wg i)
    ⟨a * b, (congrArg₂ (· * ·) ha hb).trans (EReal.coe_mul a b).symm⟩
    (sum_real (fun k : Fin 4096 => u (ix2 (i 0) k)) (fun k => wg (ix2 k (i 1))) (fun _ => hu _) (fun _ => hg _))

include hu hg hw hd hh in
theorem v16_eq : (val_main_v16 (F := Ideal) u wg wu wd dh : Wide) = gw u (dgate u wg wu wd dh) := by
  funext i
  rw [val_main_v16_apply, val_main_v15_apply, v14_eq u wg wu wd dh hu hg hw hd hh]
  exact Finset.sum_congr rfl fun k _ => congrArg₂ (· * ·) (congrArg (dgate u wg wu wd dh) (ix2_ext _ _ rfl rfl)) (congrArg u (ix2_ext _ _ rfl rfl))

include hu hg hw hd hh in
theorem v18_eq : (val_main_v18 (F := Ideal) u wg wu wd dh : Sq)
    = fun i => back (dup u wg wd dh) wu i + back (dgate u wg wu wd dh) wg i := by
  funext i
  show (val_main_v13 (F := Ideal) u wg wu wd dh i : EReal) + val_main_v17 (F := Ideal) u wg wu wd dh i = _
  rw [val_main_v13_apply, val_main_v17_apply, v14_eq u wg wu wd dh hu hg hw hd hh, v9_eq]
  exact congrArg₂ (· + ·)
    (Finset.sum_congr rfl fun k _ => congrArg₂ (· * ·) (congrArg (dup u wg wd dh) (ix2_ext _ _ rfl rfl)) (congrArg wu (ix2_ext _ _ rfl rfl)))
    (Finset.sum_congr rfl fun k _ => congrArg₂ (· * ·) (congrArg (dgate u wg wu wd dh) (ix2_ext _ _ rfl rfl)) (congrArg wg (ix2_ext _ _ rfl rfl)))

end Cert.Reference2Ideal.Hand

end

end
-- ==== Proof.FfnPre.lean ====
/- What the precondition says: every number the gradients are made of is a real number. -/
module

public import proofs.«01_k».proof.Proof.Gen.Pre_finite
public import proofs.«01_k».proof.Proof.FfnRef
public import Idealize.ShloMosaic.Lib.ReduceAll

@[expose] public section

noncomputable section

namespace Cert.Pre_finite.Hand

open Idealize.ShloMosaic
open Cert.Ffn Cert.Pre_finite

local instance : Cert.Pre_finite.Facts := Cert.Pre_finite.Gen.facts

theorem and_one (x y : BitVec 1) (h : x &&& y = 1#1) : x = 1#1 ∧ y = 1#1 := by
  revert x y; decide

/-- A number whose magnitude is below infinity is real. -/
theorem real_of_lt (x : EReal) (h : Ideal.cmp .olt (max x (-x)) (Ideal.ofBits .f32 0x7F800000#32) = 1#1) : ∃ r : ℝ, x = r := by
  rw [Cert.Reference2Ideal.Hand.inf_bits] at h
  have hlt : max x (-x) < ⊤ := by
    by_contra hn
    simp [Ideal.cmp, hn] at h
  induction x with
  | bot => simp at hlt
  | top => simp at hlt
  | coe r => exact ⟨r, rfl⟩

theorem real_of_pre (u : Sq) (wg wu : Wide) (wd : Tall) (h dh : Sq)
    (hp : (fn (F := Ideal) u wg wu wd h dh) = (fun _ => 1#1)) :
    (∀ i, ∃ r : ℝ, u i = r) ∧ (∀ i, ∃ r : ℝ, wg i = r) ∧ (∀ i, ∃ r : ℝ, wu i = r) ∧ (∀ i, ∃ r : ℝ, wd i = r)
      ∧ (∀ i, ∃ r : ℝ, dh i = r) := by
  haveI : Subsingleton S_.Idx := ⟨fun a b => funext fun i => i.elim0⟩
  have e := congrFun hp (fun a => a.elim0)
  obtain ⟨e, e5⟩ := and_one _ _ e
  obtain ⟨e, e4⟩ := and_one _ _ e
  obtain ⟨e, e3⟩ := and_one _ _ e
  obtain ⟨e1, e2⟩ := and_one _ _ e
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i), fun i => real_of_lt _ (Host.reduce_andi_all _ _ _ _ _ e4 i),
    fun i => real_of_lt _ (Host.reduce_andi_all _ _ _ _ _ e5 i)⟩

end Cert.Pre_finite.Hand

end

end
-- ==== Proof.FfnClaim.lean ====
/- The feed-forward sublayer: the version's nine calls against the plain sublayer and its derivative. -/
module

public import proofs.«01_k».proof.Defs
public import proofs.«01_k».proof.Proof.FfnRun
public import proofs.«01_k».proof.Proof.FfnPre

@[expose] public section

set_option maxHeartbeats 1000000

noncomputable section

namespace Cert.Ffn

open Idealize.ShloMosaic Idealize.ShloMosaic.TcCoe
open Cert.Kernel2Ideal.Hand Cert.Reference2Ideal.Hand Cert.Reference2Ideal.Read

theorem algebraic : Cert.algebraic_Kernel2Ideal_Reference2Ideal_pre_finite := by
  intro m g m' g' hpre hagree
  refine ⟨fun c => out (a0 m c) (a1 m c) (a2 m c) (a3 m c) (a4 m c),
    fun c i => back (dup (a0 m c) (a1 m c) (a3 m c) (a5 m c)) (a2 m c) i
      + back (dgate (a0 m c) (a1 m c) (a2 m c) (a3 m c) (a5 m c)) (a1 m c) i,
    fun c => gw (a0 m c) (dgate (a0 m c) (a1 m c) (a2 m c) (a3 m c) (a5 m c)),
    fun c => gw (a0 m c) (dup (a0 m c) (a1 m c) (a3 m c) (a5 m c)),
    fun c => gd (act (a0 m c) (a1 m c) (a2 m c)) (a5 m c), run_ffn m g, ?_⟩
  refine (θ_run Cert.Reference2Ideal.defs _ _).mono (fun r h c => ?_) (Cert.Reference2Ideal.Value.run (F := Ideal) m' g')
  obtain ⟨h1, h2, h3, h4, h5, ha⟩ := h c
  obtain ⟨g0, g1, g2, g3, g4, g5⟩ := hagree c
  obtain ⟨hu, hg, hw, hd, hh⟩ := Cert.Pre_finite.Hand.real_of_pre (a0 m c) (a1 m c) (a2 m c) (a3 m c) (a4 m c) (a5 m c) (hpre c)
  rw [g0, g1, g2, g3, g4] at h1
  rw [g0, g1, g2, g3, g5] at h2 h3
  rw [g0, g1, g3, g5] at h4
  rw [g0, g1, g2, g5] at h5
  exact ⟨h1.trans ((val_main_v5_eq _ _ _ _ _).trans (v5_eq _ _ _ _ _)),
    h2.trans ((val_main_v18_eq _ _ _ _ _).trans (v18_eq _ _ _ _ _ hu hg hw hd hh)),
    h3.trans ((val_main_v16_eq _ _ _ _ _).trans (v16_eq _ _ _ _ _ hu hg hw hd hh)),
    h4.trans ((val_main_v12_eq _ _ _ _).trans (v12_eq _ _ _ _)),
    h5.trans ((val_main_v7_eq _ _ _ _).trans (v7_eq _ _ _ _)), ha⟩

end Cert.Ffn

end

end
-- ==== Proof.MmFn.lean ====
/- Products of matrices, as plain sums. -/
module

public import Idealize.ShloMosaic.Lib.Pointwise

@[expose] public section

noncomputable section

namespace Cert.Mm

open Idealize.ShloMosaic

/-- A matrix of extended reals. -/
abbrev Mat (a b : ℕ) := (⟨2, ![a, b]⟩ : Shape).Idx → EReal

variable {m k n : ℕ}

/-- The product of two matrices. -/
def nn (A : Mat m k) (B : Mat k n) : Mat m n := fun i => ∑ x : Fin k, A (ix2 (i 0) x) * B (ix2 x (i 1))
/-- The product with the second matrix transposed. -/
def nt (A : Mat m k) (B : Mat n k) : Mat m n := fun i => ∑ x : Fin k, A (ix2 (i 0) x) * B (ix2 (i 1) x)
/-- The product with the first matrix transposed. -/
def tn (A : Mat k m) (B : Mat k n) : Mat m n := fun i => ∑ x : Fin k, A (ix2 x (i 0)) * B (ix2 x (i 1))
/-- A matrix transposed. -/
def tr (A : Mat m n) : Mat n m := fun i => A (ix2 (i 1) (i 0))
/-- The upper half of a weight's rows. -/
def top (W : Mat 4096 4096) : Mat 2048 4096 := fun i => W (ix2 ⟨(i 0).val, Nat.lt_trans (i 0).isLt (by decide)⟩ (i 1))
/-- The lower half of a weight's rows. -/
def bot (W : Mat 4096 4096) : Mat 2048 4096 := fun i => W (ix2 ⟨2048 + (i 0).val, Nat.add_lt_add_left (i 0).isLt 2048⟩ (i 1))

theorem trans_eq (w : Mat m n) (h : (⟨2, ![m, n]⟩ : Shape).Transposes [1, 0] ⟨2, ![n, m]⟩) :
    (transpose ⟨2, ![n, m]⟩ [1, 0] w h : Mat n m) = tr w := by
  funext i
  refine transpose_apply [1, 0] w h i (ix2 (i 1) (i 0)) fun b => ?_
  match b with
  | ⟨0, _⟩ => rfl
  | ⟨1, _⟩ => rfl

theorem top_eq (w : Mat 4096 4096) (h : (⟨2, ![4096, 4096]⟩ : Shape).Slices ![0, 0] ⟨2, ![2048, 4096]⟩) :
    (extractStridedSlice ⟨2, ![2048, 4096]⟩ ![0, 0] w h : Mat 2048 4096) = top w := by
  funext i
  refine extractStridedSlice_apply ![0, 0] w h i (ix2 ⟨(i 0).val, _⟩ (i 1)) fun a => ?_
  match a with
  | ⟨0, _⟩ => exact (Nat.zero_add _).symm
  | ⟨1, _⟩ => exact (Nat.zero_add _).symm

theorem bot_eq (w : Mat 4096 4096) (h : (⟨2, ![4096, 4096]⟩ : Shape).Slices ![2048, 0] ⟨2, ![2048, 4096]⟩) :
    (extractStridedSlice ⟨2, ![2048, 4096]⟩ ![2048, 0] w h : Mat 2048 4096) = bot w := by
  funext i
  refine extractStridedSlice_apply ![2048, 0] w h i (ix2 ⟨2048 + (i 0).val, _⟩ (i 1)) fun a => ?_
  match a with
  | ⟨0, _⟩ => rfl
  | ⟨1, _⟩ => exact (Nat.zero_add _).symm

theorem ix2_ext {n0 n1 : ℕ} (i j : (⟨2, ![n0, n1]⟩ : Shape).Idx) (h0 : i 0 = j 0) (h1 : i 1 = j 1) : i = j := by
  funext a
  match a with
  | ⟨0, _⟩ => exact h0
  | ⟨1, _⟩ => exact h1

end Cert.Mm

end

end
-- ==== Proof.InA.lean ====
/- The products of the input projection and the first weight gradient, call by call. -/
module

public import proofs.«01_k».proof.Proof.Gen.Kernel3Ideal.Frame
public import Idealize.ShloMosaic.Lib.Pipeline.ValueKit
public import Idealize.ShloMosaic.Lib.Pointwise

@[expose] public section

set_option maxHeartbeats 4000000

noncomputable section

namespace Cert.Kernel3Ideal.Hand

open Cert.Kernel3Ideal.Gen
open Idealize.ShloMosaic Idealize.ShloMosaic.TcCoe

variable (V : (c : Dev nD) → (b : Ref sig .tc) → Buf (Elt Ideal) ((c : Thread nD τ).loc b))

theorem i0_0 : ∀ t : Fin cfg0.N, win0_0.index t = ![(grid0.coords t 0).val, 0] := (by decide +kernel : ∀ t : Fin grid0.N, _)
theorem i0_1 : ∀ t : Fin cfg0.N, win0_1.index t = ![(grid0.coords t 1).val, 0] := (by decide +kernel : ∀ t : Fin grid0.N, _)
theorem i0_2 : ∀ t : Fin cfg0.N, win0_2.index t = ![(grid0.coords t 0).val, (grid0.coords t 1).val] := (by decide +kernel : ∀ t : Fin grid0.N, _)

/-- What the call leaves in its result array. -/
theorem val0 (c : Dev nD) (A : S4096x4096.Idx → EReal) (B : S6144x4096.Idx → EReal)
    (hA : V c main_v0 = A) (hB : V c main_v2 = B) :
    (dat0 (F := Ideal) V c).arrAt 2 cfg0.N = fun i : S4096x6144.Idx => ∑ x : Fin 4096, A (ix2 (i 0) x) * B (ix2 (i 1) x) := by
  refine (dat0 (F := Ideal) V c).arrAt_eq_of_covers 2 _ (by decide +kernel) fun t hf y => ?_
  blk_simp
  rw [after0_2]
  frame_out
  unfold k0_pay1
  pointwise
  blk_simp [iblk0, hA, hB]
  have eA : ∀ x : Fin 4096, (win0_0.blk t).view.emb (ix2 (y 0) x) = ix2 (((win0_2.blk t).view.emb y) 0) x := fun x => by blk_ext [i0_0, i0_2]
  have eB : ∀ x : Fin 4096, (win0_1.blk t).view.emb (ix2 (y 1) x) = ix2 (((win0_2.blk t).view.emb y) 1) x := fun x => by blk_ext [i0_1, i0_2]
  simp only [eA, eB]
  rfl
theorem i1_0 : ∀ t : Fin cfg1.N, win1_0.index t = ![(grid1.coords t 0).val, 0] := (by decide +kernel : ∀ t : Fin grid1.N, _)
theorem i1_1 : ∀ t : Fin cfg1.N, win1_1.index t = ![(grid1.coords t 1).val, 0] := (by decide +kernel : ∀ t : Fin grid1.N, _)
theorem i1_2 : ∀ t : Fin cfg1.N, win1_2.index t = ![(grid1.coords t 0).val, (grid1.coords t 1).val] := (by decide +kernel : ∀ t : Fin grid1.N, _)

/-- What the call leaves in its result array. -/
theorem val1 (c : Dev nD) (A : S4096x4096.Idx → EReal) (B : S4096x4096.Idx → EReal)
    (hA : V c main_v0 = A) (hB : V c main_v4 = B) :
    (dat1 (F := Ideal) V c).arrAt 2 cfg1.N = fun i : S4096x4096.Idx => ∑ x : Fin 4096, A (ix2 (i 0) x) * B (ix2 (i 1) x) := by
  refine (dat1 (F := Ideal) V c).arrAt_eq_of_covers 2 _ (by decide +kernel) fun t hf y => ?_
  blk_simp
  rw [after1_2]
  frame_out
  unfold k1_pay1
  pointwise
  blk_simp [iblk1, hA, hB]
  have eA : ∀ x : Fin 4096, (win1_0.blk t).view.emb (ix2 (y 0) x) = ix2 (((win1_2.blk t).view.emb y) 0) x := fun x => by blk_ext [i1_0, i1_2]
  have eB : ∀ x : Fin 4096, (win1_1.blk t).view.emb (ix2 (y 1) x) = ix2 (((win1_2.blk t).view.emb y) 1) x := fun x => by blk_ext [i1_1, i1_2]
  simp only [eA, eB]
  rfl
theorem i2_0 : ∀ t : Fin cfg2.N, win2_0.index t = ![(grid2.coords t 0).val, 0] := (by decide +kernel : ∀ t : Fin grid2.N, _)
theorem i2_1 : ∀ t : Fin cfg2.N, win2_1.index t = ![(grid2.coords t 1).val, 0] := (by decide +kernel : ∀ t : Fin grid2.N, _)
theorem i2_2 : ∀ t : Fin cfg2.N, win2_2.index t = ![(grid2.coords t 0).val, (grid2.coords t 1).val] := (by decide +kernel : ∀ t : Fin grid2.N, _)

/-- What the call leaves in its result array. -/
theorem val2 (c : Dev nD) (A : S4096x4096.Idx → EReal) (B : S512x4096.Idx → EReal)
    (hA : V c main_v0 = A) (hB : V c main_v6 = B) :
    (dat2 (F := Ideal) V c).arrAt 2 cfg2.N = fun i : S4096x512.Idx => ∑ x : Fin 4096, A (ix2 (i 0) x) * B (ix2 (i 1) x) := by
  refine (dat2 (F := Ideal) V c).arrAt_eq_of_covers 2 _ (by decide +kernel) fun t hf y => ?_
  blk_simp
  rw [after2_2]
  frame_out
  unfold k2_pay1
  pointwise
  blk_simp [iblk2, hA, hB]
  have eA : ∀ x : Fin 4096, (win2_0.blk t).view.emb (ix2 (y 0) x) = ix2 (((win2_2.blk t).view.emb y) 0) x := fun x => by blk_ext [i2_0, i2_2]
  have eB : ∀ x : Fin 4096, (win2_1.blk t).view.emb (ix2 (y 1) x) = ix2 (((win2_2.blk t).view.emb y) 1) x := fun x => by blk_ext [i2_1, i2_2]
  simp only [eA, eB]
  rfl
theorem i3_0 : ∀ t : Fin cfg3.N, win3_0.index t = ![0, (grid3.coords t 0).val] := (by decide +kernel : ∀ t : Fin grid3.N, _)
theorem i3_1 : ∀ t : Fin cfg3.N, win3_1.index t = ![0, (grid3.coords t 1).val] := (by decide +kernel : ∀ t : Fin grid3.N, _)
theorem i3_2 : ∀ t : Fin cfg3.N, win3_2.index t = ![(grid3.coords t 0).val, (grid3.coords t 1).val] := (by decide +kernel : ∀ t : Fin grid3.N, _)

/-- What the call leaves in its result array. -/
theorem val3 (c : Dev nD) (A : S4096x6144.Idx → EReal) (B : S4096x4096.Idx → EReal)
    (hA : V c main_v7 = A) (hB : V c main_v0 = B) :
    (dat3 (F := Ideal) V c).arrAt 2 cfg3.N = fun i : S6144x4096.Idx => ∑ x : Fin 4096, A (ix2 x (i 0)) * B (ix2 x (i 1)) := by
  refine (dat3 (F := Ideal) V c).arrAt_eq_of_covers 2 _ (by decide +kernel) fun t hf y => ?_
  blk_simp
  rw [after3_2]
  frame_out
  unfold k3_pay1
  pointwise
  blk_simp [iblk3, hA, hB]
  have eA : ∀ x : Fin 4096, (win3_0.blk t).view.emb (ix2 x (y 0)) = ix2 x (((win3_2.blk t).view.emb y) 0) := fun x => by blk_ext [i3_0, i3_2]
  have eB : ∀ x : Fin 4096, (win3_1.blk t).view.emb (ix2 x (y 1)) = ix2 x (((win3_2.blk t).view.emb y) 1) := fun x => by blk_ext [i3_1, i3_2]
  simp only [eA, eB]
  rfl

end Cert.Kernel3Ideal.Hand

end

end
-- ==== Proof.InB.lean ====
/- The other products of the input projection's gradients, call by call. -/
module

public import proofs.«01_k».proof.Proof.Gen.Kernel3Ideal.Frame
public import Idealize.ShloMosaic.Lib.Pipeline.ValueKit
public import Idealize.ShloMosaic.Lib.Pointwise

@[expose] public section

set_option maxHeartbeats 4000000

noncomputable section

namespace Cert.Kernel3Ideal.Hand

open Cert.Kernel3Ideal.Gen
open Idealize.ShloMosaic Idealize.ShloMosaic.TcCoe

variable (V : (c : Dev nD) → (b : Ref sig .tc) → Buf (Elt Ideal) ((c : Thread nD τ).loc b))

theorem i4_0 : ∀ t : Fin cfg4.N, win4_0.index t = ![0, (grid4.coords t 0).val] := (by decide +kernel : ∀ t : Fin grid4.N, _)
theorem i4_1 : ∀ t : Fin cfg4.N, win4_1.index t = ![0, (grid4.coords t 1).val] := (by decide +kernel : ∀ t : Fin grid4.N, _)
theorem i4_2 : ∀ t : Fin cfg4.N, win4_2.index t = ![(grid4.coords t 0).val, (grid4.coords t 1).val] := (by decide +kernel : ∀ t : Fin grid4.N, _)

/-- What the call leaves in its result array. -/
theorem val4 (c : Dev nD) (A : S4096x4096.Idx → EReal) (B : S4096x4096.Idx → EReal)
    (hA : V c main_v8 = A) (hB : V c main_v0 = B) :
    (dat4 (F := Ideal) V c).arrAt 2 cfg4.N = fun i : S4096x4096.Idx => ∑ x : Fin 4096, A (ix2 x (i 0)) * B (ix2 x (i 1)) := by
  refine (dat4 (F := Ideal) V c).arrAt_eq_of_covers 2 _ (by decide +kernel) fun t hf y => ?_
  blk_simp
  rw [after4_2]
  frame_out
  unfold k4_pay1
  pointwise
  blk_simp [iblk4, hA, hB]
  have eA : ∀ x : Fin 4096, (win4_0.blk t).view.emb (ix2 x (y 0)) = ix2 x (((win4_2.blk t).view.emb y) 0) := fun x => by blk_ext [i4_0, i4_2]
  have eB : ∀ x : Fin 4096, (win4_1.blk t).view.emb (ix2 x (y 1)) = ix2 x (((win4_2.blk t).view.emb y) 1) := fun x => by blk_ext [i4_1, i4_2]
  simp only [eA, eB]
  rfl
theorem i5_0 : ∀ t : Fin cfg5.N, win5_0.index t = ![0, (grid5.coords t 0).val] := (by decide +kernel : ∀ t : Fin grid5.N, _)
theorem i5_1 : ∀ t : Fin cfg5.N, win5_1.index t = ![0, (grid5.coords t 1).val] := (by decide +kernel : ∀ t : Fin grid5.N, _)
theorem i5_2 : ∀ t : Fin cfg5.N, win5_2.index t = ![(grid5.coords t 0).val, (grid5.coords t 1).val] := (by decide +kernel : ∀ t : Fin grid5.N, _)

/-- What the call leaves in its result array. -/
theorem val5 (c : Dev nD) (A : S4096x512.Idx → EReal) (B : S4096x4096.Idx → EReal)
    (hA : V c main_v9 = A) (hB : V c main_v0 = B) :
    (dat5 (F := Ideal) V c).arrAt 2 cfg5.N = fun i : S512x4096.Idx => ∑ x : Fin 4096, A (ix2 x (i 0)) * B (ix2 x (i 1)) := by
  refine (dat5 (F := Ideal) V c).arrAt_eq_of_covers 2 _ (by decide +kernel) fun t hf y => ?_
  blk_simp
  rw [after5_2]
  frame_out
  unfold k5_pay1
  pointwise
  blk_simp [iblk5, hA, hB]
  have eA : ∀ x : Fin 4096, (win5_0.blk t).view.emb (ix2 x (y 0)) = ix2 x (((win5_2.blk t).view.emb y) 0) := fun x => by blk_ext [i5_0, i5_2]
  have eB : ∀ x : Fin 4096, (win5_1.blk t).view.emb (ix2 x (y 1)) = ix2 x (((win5_2.blk t).view.emb y) 1) := fun x => by blk_ext [i5_1, i5_2]
  simp only [eA, eB]
  rfl
theorem i6_0 : ∀ t : Fin cfg6.N, win6_0.index t = ![(grid6.coords t 0).val, 0] := (by decide +kernel : ∀ t : Fin grid6.N, _)
theorem i6_1 : ∀ t : Fin cfg6.N, win6_1.index t = ![0, (grid6.coords t 1).val] := (by decide +kernel : ∀ t : Fin grid6.N, _)
theorem i6_2 : ∀ t : Fin cfg6.N, win6_2.index t = ![(grid6.coords t 0).val, (grid6.coords t 1).val] := (by decide +kernel : ∀ t : Fin grid6.N, _)
theorem i6_3 : ∀ t : Fin cfg6.N, win6_3.index t = ![(grid6.coords t 0).val, (grid6.coords t 1).val] := (by decide +kernel : ∀ t : Fin grid6.N, _)

/-- What the call leaves in its result array. -/
theorem val6 (c : Dev nD) (A : S4096x4096.Idx → EReal) (B : S4096x4096.Idx → EReal) (X : S4096x4096.Idx → EReal)
    (hA : V c main_v8 = A) (hB : V c main_v4 = B) (hX : V c main_arg7 = X) :
    (dat6 (F := Ideal) V c).arrAt 3 cfg6.N = fun i : S4096x4096.Idx => (∑ x : Fin 4096, A (ix2 (i 0) x) * B (ix2 x (i 1))) + X i := by
  refine (dat6 (F := Ideal) V c).arrAt_eq_of_covers 3 _ (by decide +kernel) fun t hf y => ?_
  blk_simp
  rw [after6_3]
  frame_out
  unfold k6_pay1
  pointwise
  blk_simp [iblk6, hA, hB, hX]
  have eA : ∀ x : Fin 4096, (win6_0.blk t).view.emb (ix2 (y 0) x) = ix2 (((win6_3.blk t).view.emb y) 0) x := fun x => by blk_ext [i6_0, i6_3]
  have eB : ∀ x : Fin 4096, (win6_1.blk t).view.emb (ix2 x (y 1)) = ix2 x (((win6_3.blk t).view.emb y) 1) := fun x => by blk_ext [i6_1, i6_3]
  have eX : (win6_2.blk t).view.emb y = (win6_3.blk t).view.emb y := by blk_ext [i6_2, i6_3]
  simp only [eA, eB, eX]
  rfl
theorem i7_0 : ∀ t : Fin cfg7.N, win7_0.index t = ![(grid7.coords t 0).val, 0] := (by decide +kernel : ∀ t : Fin grid7.N, _)
theorem i7_1 : ∀ t : Fin cfg7.N, win7_1.index t = ![0, (grid7.coords t 1).val] := (by decide +kernel : ∀ t : Fin grid7.N, _)
theorem i7_2 : ∀ t : Fin cfg7.N, win7_2.index t = ![(grid7.coords t 0).val, (grid7.coords t 1).val] := (by decide +kernel : ∀ t : Fin grid7.N, _)
theorem i7_3 : ∀ t : Fin cfg7.N, win7_3.index t = ![(grid7.coords t 0).val, (grid7.coords t 1).val] := (by decide +kernel : ∀ t : Fin grid7.N, _)

/-- What the call leaves in its result array. -/
theorem val7 (c : Dev nD) (A : S4096x512.Idx → EReal) (B : S512x4096.Idx → EReal) (X : S4096x4096.Idx → EReal)
    (hA : V c main_v9 = A) (hB : V c main_v6 = B) (hX : V c main_v16 = X) :
    (dat7 (F := Ideal) V c).arrAt 3 cfg7.N = fun i : S4096x4096.Idx => (∑ x : Fin 512, A (ix2 (i 0) x) * B (ix2 x (i 1))) + X i := by
  refine (dat7 (F := Ideal) V c).arrAt_eq_of_covers 3 _ (by decide +kernel) fun t hf y => ?_
  blk_simp
  rw [after7_3]
  frame_out
  unfold k7_pay1
  pointwise
  blk_simp [iblk7, hA, hB, hX]
  have eA : ∀ x : Fin 512, (win7_0.blk t).view.emb (ix2 (y 0) x) = ix2 (((win7_3.blk t).view.emb y) 0) x := fun x => by blk_ext [i7_0, i7_3]
  have eB : ∀ x : Fin 512, (win7_1.blk t).view.emb (ix2 x (y 1)) = ix2 x (((win7_3.blk t).view.emb y) 1) := fun x => by blk_ext [i7_1, i7_3]
  have eX : (win7_2.blk t).view.emb y = (win7_3.blk t).view.emb y := by blk_ext [i7_2, i7_3]
  simp only [eA, eB, eX]
  rfl

end Cert.Kernel3Ideal.Hand

end

end
-- ==== Proof.InRun.lean ====
/- What the input projection's calls leave, from call to call, and the run of the whole. -/
module

public import proofs.«01_k».proof.Proof.MmFn
public import proofs.«01_k».proof.Proof.InA
public import proofs.«01_k».proof.Proof.InB

@[expose] public section

set_option maxHeartbeats 4000000

noncomputable section

namespace Cert.Kernel3Ideal.Hand

open Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Mm

local notation "𝕄" => MT nD τ sig Unit (Elt Ideal) ℕ (UR sig nD τ) ℕ

variable (m : (ℓ : Loc nD τ sig) → Buf (Elt Ideal) ℓ) (ρ : Dev nD → PrngReg)

/-- The sublayer's input. -/
abbrev a0 (c : Dev nD) : Mat 4096 4096 := m ((c.tc : Thread nD τ).loc main_arg0)
/-- The recurrence's three weights, side by side. -/
abbrev a1 (c : Dev nD) : Mat 4096 6144 := m ((c.tc : Thread nD τ).loc main_arg1)
/-- The weights of the two gated branches, side by side. -/
abbrev a2 (c : Dev nD) : Mat 4096 4096 := m ((c.tc : Thread nD τ).loc main_arg2)
/-- The low-rank weights, side by side. -/
abbrev a3 (c : Dev nD) : Mat 4096 512 := m ((c.tc : Thread nD τ).loc main_arg3)
/-- The gradient of the first product. -/
abbrev a4 (c : Dev nD) : Mat 4096 6144 := m ((c.tc : Thread nD τ).loc main_arg4)
/-- The gradient of the second product. -/
abbrev a5 (c : Dev nD) : Mat 4096 4096 := m ((c.tc : Thread nD τ).loc main_arg5)
/-- The gradient of the third product. -/
abbrev a6 (c : Dev nD) : Mat 4096 512 := m ((c.tc : Thread nD τ).loc main_arg6)
/-- The gradient of the input from the first product. -/
abbrev a7 (c : Dev nD) : Mat 4096 4096 := m ((c.tc : Thread nD τ).loc main_arg7)

theorem k1_v0 (c : Dev nD) : (W1 m ρ c (Proc.devRef .tc main_v0) : Mat 4096 4096) = a0 m c := by
  show StableHlo.after hostOps0 _ _ = _
  simp only [hostOps0]
  after_results_simp
  rfl

theorem k1_v2 (c : Dev nD) : (W1 m ρ c (Proc.devRef .tc main_v2) : Mat 6144 4096) = tr (a1 m c) := by
  show StableHlo.after hostOps0 _ _ = _
  simp only [hostOps0]
  after_results_simp
  exact trans_eq _ _

theorem k1_v4 (c : Dev nD) : (W1 m ρ c (Proc.devRef .tc main_v4) : Mat 4096 4096) = tr (a2 m c) := by
  show StableHlo.after hostOps0 _ _ = _
  simp only [hostOps0]
  after_results_simp
  exact trans_eq _ _

theorem k1_v6 (c : Dev nD) : (W1 m ρ c (Proc.devRef .tc main_v6) : Mat 512 4096) = tr (a3 m c) := by
  show StableHlo.after hostOps0 _ _ = _
  simp only [hostOps0]
  after_results_simp
  exact trans_eq _ _

theorem k1_v7 (c : Dev nD) : (W1 m ρ c (Proc.devRef .tc main_v7) : Mat 4096 6144) = a4 m c := by
  show StableHlo.after hostOps0 _ _ = _
  simp only [hostOps0]
  after_results_simp
  rfl

theorem k1_v8 (c : Dev nD) : (W1 m ρ c (Proc.devRef .tc main_v8) : Mat 4096 4096) = a5 m c := by
  show StableHlo.after hostOps0 _ _ = _
  simp only [hostOps0]
  after_results_simp
  rfl

theorem k1_v9 (c : Dev nD) : (W1 m ρ c (Proc.devRef .tc main_v9) : Mat 4096 512) = a6 m c := by
  show StableHlo.after hostOps0 _ _ = _
  simp only [hostOps0]
  after_results_simp
  rfl

theorem k1_arg7 (c : Dev nD) : (W1 m ρ c (Proc.devRef .tc main_arg7) : Mat 4096 4096) = a7 m c := W1_args m ρ c main_arg7 (by decide)

theorem k2_v10 (c : Dev nD) : (W2 m ρ c (Proc.devRef .tc main_v10) : Mat 4096 6144) = nn (a0 m c) (a1 m c) :=
  (W2_arr m ρ c 2).trans ((val0 (V1 m ρ) c _ _ (k1_v0 m ρ c) (k1_v2 m ρ c)).trans rfl)

theorem k2_v0 (c : Dev nD) : (W2 m ρ c (Proc.devRef .tc main_v0) : Mat 4096 4096) = a0 m c := (W2_of m ρ c main_v0 (by decide +kernel)).trans (k1_v0 m ρ c)

theorem k2_v4 (c : Dev nD) : (W2 m ρ c (Proc.devRef .tc main_v4) : Mat 4096 4096) = tr (a2 m c) := (W2_of m ρ c main_v4 (by decide +kernel)).trans (k1_v4 m ρ c)

theorem k3_v11 (c : Dev nD) : (W3 m ρ c (Proc.devRef .tc main_v11) : Mat 4096 4096) = nn (a0 m c) (a2 m c) :=
  (W3_arr m ρ c 2).trans ((val1 (V2 m ρ) c _ _ (k2_v0 m ρ c) (k2_v4 m ρ c)).trans rfl)

theorem k3_v0 (c : Dev nD) : (W3 m ρ c (Proc.devRef .tc main_v0) : Mat 4096 4096) = a0 m c := (W3_of m ρ c main_v0 (by decide +kernel)).trans (k2_v0 m ρ c)

theorem k2_v6 (c : Dev nD) : (W2 m ρ c (Proc.devRef .tc main_v6) : Mat 512 4096) = tr (a3 m c) := (W2_of m ρ c main_v6 (by decide +kernel)).trans (k1_v6 m ρ c)

theorem k3_v6 (c : Dev nD) : (W3 m ρ c (Proc.devRef .tc main_v6) : Mat 512 4096) = tr (a3 m c) := (W3_of m ρ c main_v6 (by decide +kernel)).trans (k2_v6 m ρ c)

theorem k4_v12 (c : Dev nD) : (W4 m ρ c (Proc.devRef .tc main_v12) : Mat 4096 512) = nn (a0 m c) (a3 m c) :=
  (W4_arr m ρ c 2).trans ((val2 (V3 m ρ) c _ _ (k3_v0 m ρ c) (k3_v6 m ρ c)).trans rfl)

theorem k2_v7 (c : Dev nD) : (W2 m ρ c (Proc.devRef .tc main_v7) : Mat 4096 6144) = a4 m c := (W2_of m ρ c main_v7 (by decide +kernel)).trans (k1_v7 m ρ c)

theorem k3_v7 (c : Dev nD) : (W3 m ρ c (Proc.devRef .tc main_v7) : Mat 4096 6144) = a4 m c := (W3_of m ρ c main_v7 (by decide +kernel)).trans (k2_v7 m ρ c)

theorem k4_v7 (c : Dev nD) : (W4 m ρ c (Proc.devRef .tc main_v7) : Mat 4096 6144) = a4 m c := (W4_of m ρ c main_v7 (by decide +kernel)).trans (k3_v7 m ρ c)

theorem k4_v0 (c : Dev nD) : (W4 m ρ c (Proc.devRef .tc main_v0) : Mat 4096 4096) = a0 m c := (W4_of m ρ c main_v0 (by decide +kernel)).trans (k3_v0 m ρ c)

theorem k5_v13 (c : Dev nD) : (W5 m ρ c (Proc.devRef .tc main_v13) : Mat 6144 4096) = tn (a4 m c) (a0 m c) :=
  (W5_arr m ρ c 2).trans ((val3 (V4 m ρ) c _ _ (k4_v7 m ρ c) (k4_v0 m ρ c)).trans rfl)

theorem k2_v8 (c : Dev nD) : (W2 m ρ c (Proc.devRef .tc main_v8) : Mat 4096 4096) = a5 m c := (W2_of m ρ c main_v8 (by decide +kernel)).trans (k1_v8 m ρ c)

theorem k3_v8 (c : Dev nD) : (W3 m ρ c (Proc.devRef .tc main_v8) : Mat 4096 4096) = a5 m c := (W3_of m ρ c main_v8 (by decide +kernel)).trans (k2_v8 m ρ c)

theorem k4_v8 (c : Dev nD) : (W4 m ρ c (Proc.devRef .tc main_v8) : Mat 4096 4096) = a5 m c := (W4_of m ρ c main_v8 (by decide +kernel)).trans (k3_v8 m ρ c)

theorem k5_v8 (c : Dev nD) : (W5 m ρ c (Proc.devRef .tc main_v8) : Mat 4096 4096) = a5 m c := (W5_of m ρ c main_v8 (by decide +kernel)).trans (k4_v8 m ρ c)

theorem k5_v0 (c : Dev nD) : (W5 m ρ c (Proc.devRef .tc main_v0) : Mat 4096 4096) = a0 m c := (W5_of m ρ c main_v0 (by decide +kernel)).trans (k4_v0 m ρ c)

theorem k6_v14 (c : Dev nD) : (W6 m ρ c (Proc.devRef .tc main_v14) : Mat 4096 4096) = tn (a5 m c) (a0 m c) :=
  (W6_arr m ρ c 2).trans ((val4 (V5 m ρ) c _ _ (k5_v8 m ρ c) (k5_v0 m ρ c)).trans rfl)

theorem k2_v9 (c : Dev nD) : (W2 m ρ c (Proc.devRef .tc main_v9) : Mat 4096 512) = a6 m c := (W2_of m ρ c main_v9 (by decide +kernel)).trans (k1_v9 m ρ c)

theorem k3_v9 (c : Dev nD) : (W3 m ρ c (Proc.devRef .tc main_v9) : Mat 4096 512) = a6 m c := (W3_of m ρ c main_v9 (by decide +kernel)).trans (k2_v9 m ρ c)

theorem k4_v9 (c : Dev nD) : (W4 m ρ c (Proc.devRef .tc main_v9) : Mat 4096 512) = a6 m c := (W4_of m ρ c main_v9 (by decide +kernel)).trans (k3_v9 m ρ c)

theorem k5_v9 (c : Dev nD) : (W5 m ρ c (Proc.devRef .tc main_v9) : Mat 4096 512) = a6 m c := (W5_of m ρ c main_v9 (by decide +kernel)).trans (k4_v9 m ρ c)

theorem k6_v9 (c : Dev nD) : (W6 m ρ c (Proc.devRef .tc main_v9) : Mat 4096 512) = a6 m c := (W6_of m ρ c main_v9 (by decide +kernel)).trans (k5_v9 m ρ c)

theorem k6_v0 (c : Dev nD) : (W6 m ρ c (Proc.devRef .tc main_v0) : Mat 4096 4096) = a0 m c := (W6_of m ρ c main_v0 (by decide +kernel)).trans (k5_v0 m ρ c)

theorem k7_v15 (c : Dev nD) : (W7 m ρ c (Proc.devRef .tc main_v15) : Mat 512 4096) = tn (a6 m c) (a0 m c) :=
  (W7_arr m ρ c 2).trans ((val5 (V6 m ρ) c _ _ (k6_v9 m ρ c) (k6_v0 m ρ c)).trans rfl)

theorem k6_v8 (c : Dev nD) : (W6 m ρ c (Proc.devRef .tc main_v8) : Mat 4096 4096) = a5 m c := (W6_of m ρ c main_v8 (by decide +kernel)).trans (k5_v8 m ρ c)

theorem k7_v8 (c : Dev nD) : (W7 m ρ c (Proc.devRef .tc main_v8) : Mat 4096 4096) = a5 m c := (W7_of m ρ c main_v8 (by decide +kernel)).trans (k6_v8 m ρ c)

theorem k3_v4 (c : Dev nD) : (W3 m ρ c (Proc.devRef .tc main_v4) : Mat 4096 4096) = tr (a2 m c) := (W3_of m ρ c main_v4 (by decide +kernel)).trans (k2_v4 m ρ c)

theorem k4_v4 (c : Dev nD) : (W4 m ρ c (Proc.devRef .tc main_v4) : Mat 4096 4096) = tr (a2 m c) := (W4_of m ρ c main_v4 (by decide +kernel)).trans (k3_v4 m ρ c)

theorem k5_v4 (c : Dev nD) : (W5 m ρ c (Proc.devRef .tc main_v4) : Mat 4096 4096) = tr (a2 m c) := (W5_of m ρ c main_v4 (by decide +kernel)).trans (k4_v4 m ρ c)

theorem k6_v4 (c : Dev nD) : (W6 m ρ c (Proc.devRef .tc main_v4) : Mat 4096 4096) = tr (a2 m c) := (W6_of m ρ c main_v4 (by decide +kernel)).trans (k5_v4 m ρ c)

theorem k7_v4 (c : Dev nD) : (W7 m ρ c (Proc.devRef .tc main_v4) : Mat 4096 4096) = tr (a2 m c) := (W7_of m ρ c main_v4 (by decide +kernel)).trans (k6_v4 m ρ c)

theorem k2_arg7 (c : Dev nD) : (W2 m ρ c (Proc.devRef .tc main_arg7) : Mat 4096 4096) = a7 m c := (W2_of m ρ c main_arg7 (by decide +kernel)).trans (k1_arg7 m ρ c)

theorem k3_arg7 (c : Dev nD) : (W3 m ρ c (Proc.devRef .tc main_arg7) : Mat 4096 4096) = a7 m c := (W3_of m ρ c main_arg7 (by decide +kernel)).trans (k2_arg7 m ρ c)

theorem k4_arg7 (c : Dev nD) : (W4 m ρ c (Proc.devRef .tc main_arg7) : Mat 4096 4096) = a7 m c := (W4_of m ρ c main_arg7 (by decide +kernel)).trans (k3_arg7 m ρ c)

theorem k5_arg7 (c : Dev nD) : (W5 m ρ c (Proc.devRef .tc main_arg7) : Mat 4096 4096) = a7 m c := (W5_of m ρ c main_arg7 (by decide +kernel)).trans (k4_arg7 m ρ c)

theorem k6_arg7 (c : Dev nD) : (W6 m ρ c (Proc.devRef .tc main_arg7) : Mat 4096 4096) = a7 m c := (W6_of m ρ c main_arg7 (by decide +kernel)).trans (k5_arg7 m ρ c)

theorem k7_arg7 (c : Dev nD) : (W7 m ρ c (Proc.devRef .tc main_arg7) : Mat 4096 4096) = a7 m c := (W7_of m ρ c main_arg7 (by decide +kernel)).trans (k6_arg7 m ρ c)

theorem k8_v16 (c : Dev nD) : (W8 m ρ c (Proc.devRef .tc main_v16) : Mat 4096 4096) = (fun i => nt (a5 m c) (a2 m c) i + a7 m c i) :=
  (W8_arr m ρ c 3).trans ((val6 (V7 m ρ) c _ _ _ (k7_v8 m ρ c) (k7_v4 m ρ c) (k7_arg7 m ρ c)).trans rfl)

theorem k7_v9 (c : Dev nD) : (W7 m ρ c (Proc.devRef .tc main_v9) : Mat 4096 512) = a6 m c := (W7_of m ρ c main_v9 (by decide +kernel)).trans (k6_v9 m ρ c)

theorem k8_v9 (c : Dev nD) : (W8 m ρ c (Proc.devRef .tc main_v9) : Mat 4096 512) = a6 m c := (W8_of m ρ c main_v9 (by decide +kernel)).trans (k7_v9 m ρ c)

theorem k4_v6 (c : Dev nD) : (W4 m ρ c (Proc.devRef .tc main_v6) : Mat 512 4096) = tr (a3 m c) := (W4_of m ρ c main_v6 (by decide +kernel)).trans (k3_v6 m ρ c)

theorem k5_v6 (c : Dev nD) : (W5 m ρ c (Proc.devRef .tc main_v6) : Mat 512 4096) = tr (a3 m c) := (W5_of m ρ c main_v6 (by decide +kernel)).trans (k4_v6 m ρ c)

theorem k6_v6 (c : Dev nD) : (W6 m ρ c (Proc.devRef .tc main_v6) : Mat 512 4096) = tr (a3 m c) := (W6_of m ρ c main_v6 (by decide +kernel)).trans (k5_v6 m ρ c)

theorem k7_v6 (c : Dev nD) : (W7 m ρ c (Proc.devRef .tc main_v6) : Mat 512 4096) = tr (a3 m c) := (W7_of m ρ c main_v6 (by decide +kernel)).trans (k6_v6 m ρ c)

theorem k8_v6 (c : Dev nD) : (W8 m ρ c (Proc.devRef .tc main_v6) : Mat 512 4096) = tr (a3 m c) := (W8_of m ρ c main_v6 (by decide +kernel)).trans (k7_v6 m ρ c)

theorem k9_v17 (c : Dev nD) : (W9 m ρ c (Proc.devRef .tc main_v17) : Mat 4096 4096) = (fun i => nt (a6 m c) (a3 m c) i + (nt (a5 m c) (a2 m c) i + a7 m c i)) :=
  (W9_arr m ρ c 3).trans ((val7 (V8 m ρ) c _ _ _ (k8_v9 m ρ c) (k8_v6 m ρ c) (k8_v16 m ρ c)).trans rfl)

theorem k3_v10 (c : Dev nD) : (W3 m ρ c (Proc.devRef .tc main_v10) : Mat 4096 6144) = nn (a0 m c) (a1 m c) := (W3_of m ρ c main_v10 (by decide +kernel)).trans (k2_v10 m ρ c)

theorem k4_v10 (c : Dev nD) : (W4 m ρ c (Proc.devRef .tc main_v10) : Mat 4096 6144) = nn (a0 m c) (a1 m c) := (W4_of m ρ c main_v10 (by decide +kernel)).trans (k3_v10 m ρ c)

theorem k5_v10 (c : Dev nD) : (W5 m ρ c (Proc.devRef .tc main_v10) : Mat 4096 6144) = nn (a0 m c) (a1 m c) := (W5_of m ρ c main_v10 (by decide +kernel)).trans (k4_v10 m ρ c)

theorem k6_v10 (c : Dev nD) : (W6 m ρ c (Proc.devRef .tc main_v10) : Mat 4096 6144) = nn (a0 m c) (a1 m c) := (W6_of m ρ c main_v10 (by decide +kernel)).trans (k5_v10 m ρ c)

theorem k7_v10 (c : Dev nD) : (W7 m ρ c (Proc.devRef .tc main_v10) : Mat 4096 6144) = nn (a0 m c) (a1 m c) := (W7_of m ρ c main_v10 (by decide +kernel)).trans (k6_v10 m ρ c)

theorem k8_v10 (c : Dev nD) : (W8 m ρ c (Proc.devRef .tc main_v10) : Mat 4096 6144) = nn (a0 m c) (a1 m c) := (W8_of m ρ c main_v10 (by decide +kernel)).trans (k7_v10 m ρ c)

theorem k9_v10 (c : Dev nD) : (W9 m ρ c (Proc.devRef .tc main_v10) : Mat 4096 6144) = nn (a0 m c) (a1 m c) := (W9_of m ρ c main_v10 (by decide +kernel)).trans (k8_v10 m ρ c)

theorem k10_v10 (c : Dev nD) : (W10 m ρ c (Proc.devRef .tc main_v10) : Mat 4096 6144) = nn (a0 m c) (a1 m c) := (W10_of m ρ c main_v10 (by decide +kernel)).trans (k9_v10 m ρ c)

theorem k4_v11 (c : Dev nD) : (W4 m ρ c (Proc.devRef .tc main_v11) : Mat 4096 4096) = nn (a0 m c) (a2 m c) := (W4_of m ρ c main_v11 (by decide +kernel)).trans (k3_v11 m ρ c)

theorem k5_v11 (c : Dev nD) : (W5 m ρ c (Proc.devRef .tc main_v11) : Mat 4096 4096) = nn (a0 m c) (a2 m c) := (W5_of m ρ c main_v11 (by decide +kernel)).trans (k4_v11 m ρ c)

theorem k6_v11 (c : Dev nD) : (W6 m ρ c (Proc.devRef .tc main_v11) : Mat 4096 4096) = nn (a0 m c) (a2 m c) := (W6_of m ρ c main_v11 (by decide +kernel)).trans (k5_v11 m ρ c)

theorem k7_v11 (c : Dev nD) : (W7 m ρ c (Proc.devRef .tc main_v11) : Mat 4096 4096) = nn (a0 m c) (a2 m c) := (W7_of m ρ c main_v11 (by decide +kernel)).trans (k6_v11 m ρ c)

theorem k8_v11 (c : Dev nD) : (W8 m ρ c (Proc.devRef .tc main_v11) : Mat 4096 4096) = nn (a0 m c) (a2 m c) := (W8_of m ρ c main_v11 (by decide +kernel)).trans (k7_v11 m ρ c)

theorem k9_v11 (c : Dev nD) : (W9 m ρ c (Proc.devRef .tc main_v11) : Mat 4096 4096) = nn (a0 m c) (a2 m c) := (W9_of m ρ c main_v11 (by decide +kernel)).trans (k8_v11 m ρ c)

theorem k10_v11 (c : Dev nD) : (W10 m ρ c (Proc.devRef .tc main_v11) : Mat 4096 4096) = nn (a0 m c) (a2 m c) := (W10_of m ρ c main_v11 (by decide +kernel)).trans (k9_v11 m ρ c)

theorem k5_v12 (c : Dev nD) : (W5 m ρ c (Proc.devRef .tc main_v12) : Mat 4096 512) = nn (a0 m c) (a3 m c) := (W5_of m ρ c main_v12 (by decide +kernel)).trans (k4_v12 m ρ c)

theorem k6_v12 (c : Dev nD) : (W6 m ρ c (Proc.devRef .tc main_v12) : Mat 4096 512) = nn (a0 m c) (a3 m c) := (W6_of m ρ c main_v12 (by decide +kernel)).trans (k5_v12 m ρ c)

theorem k7_v12 (c : Dev nD) : (W7 m ρ c (Proc.devRef .tc main_v12) : Mat 4096 512) = nn (a0 m c) (a3 m c) := (W7_of m ρ c main_v12 (by decide +kernel)).trans (k6_v12 m ρ c)

theorem k8_v12 (c : Dev nD) : (W8 m ρ c (Proc.devRef .tc main_v12) : Mat 4096 512) = nn (a0 m c) (a3 m c) := (W8_of m ρ c main_v12 (by decide +kernel)).trans (k7_v12 m ρ c)

theorem k9_v12 (c : Dev nD) : (W9 m ρ c (Proc.devRef .tc main_v12) : Mat 4096 512) = nn (a0 m c) (a3 m c) := (W9_of m ρ c main_v12 (by decide +kernel)).trans (k8_v12 m ρ c)

theorem k10_v12 (c : Dev nD) : (W10 m ρ c (Proc.devRef .tc main_v12) : Mat 4096 512) = nn (a0 m c) (a3 m c) := (W10_of m ρ c main_v12 (by decide +kernel)).trans (k9_v12 m ρ c)

theorem k10_v17 (c : Dev nD) : (W10 m ρ c (Proc.devRef .tc main_v17) : Mat 4096 4096) = (fun i => nt (a6 m c) (a3 m c) i + (nt (a5 m c) (a2 m c) i + a7 m c i)) := (W10_of m ρ c main_v17 (by decide +kernel)).trans (k9_v17 m ρ c)

theorem k6_v13 (c : Dev nD) : (W6 m ρ c (Proc.devRef .tc main_v13) : Mat 6144 4096) = tn (a4 m c) (a0 m c) := (W6_of m ρ c main_v13 (by decide +kernel)).trans (k5_v13 m ρ c)

theorem k7_v13 (c : Dev nD) : (W7 m ρ c (Proc.devRef .tc main_v13) : Mat 6144 4096) = tn (a4 m c) (a0 m c) := (W7_of m ρ c main_v13 (by decide +kernel)).trans (k6_v13 m ρ c)

theorem k8_v13 (c : Dev nD) : (W8 m ρ c (Proc.devRef .tc main_v13) : Mat 6144 4096) = tn (a4 m c) (a0 m c) := (W8_of m ρ c main_v13 (by decide +kernel)).trans (k7_v13 m ρ c)

theorem k9_v13 (c : Dev nD) : (W9 m ρ c (Proc.devRef .tc main_v13) : Mat 6144 4096) = tn (a4 m c) (a0 m c) := (W9_of m ρ c main_v13 (by decide +kernel)).trans (k8_v13 m ρ c)

theorem k10_v19 (c : Dev nD) : (W10 m ρ c (Proc.devRef .tc main_v19) : Mat 4096 6144) = tr (tn (a4 m c) (a0 m c)) := by
  show StableHlo.after hostOps8 _ _ = _
  simp only [hostOps8]
  after_results_simp
  exact (congrArg (fun w : Mat 6144 4096 => (transpose S4096x6144 [1, 0] w transposes_S6144x4096_S4096x6144_1_0 : Mat 4096 6144)) (k9_v13 m ρ c)).trans (trans_eq _ _)

theorem k7_v14 (c : Dev nD) : (W7 m ρ c (Proc.devRef .tc main_v14) : Mat 4096 4096) = tn (a5 m c) (a0 m c) := (W7_of m ρ c main_v14 (by decide +kernel)).trans (k6_v14 m ρ c)

theorem k8_v14 (c : Dev nD) : (W8 m ρ c (Proc.devRef .tc main_v14) : Mat 4096 4096) = tn (a5 m c) (a0 m c) := (W8_of m ρ c main_v14 (by decide +kernel)).trans (k7_v14 m ρ c)

theorem k9_v14 (c : Dev nD) : (W9 m ρ c (Proc.devRef .tc main_v14) : Mat 4096 4096) = tn (a5 m c) (a0 m c) := (W9_of m ρ c main_v14 (by decide +kernel)).trans (k8_v14 m ρ c)

theorem k10_v21 (c : Dev nD) : (W10 m ρ c (Proc.devRef .tc main_v21) : Mat 4096 4096) = tr (tn (a5 m c) (a0 m c)) := by
  show StableHlo.after hostOps8 _ _ = _
  simp only [hostOps8]
  after_results_simp
  exact (congrArg (fun w : Mat 4096 4096 => (transpose S4096x4096 [1, 0] w transposes_S4096x4096_S4096x4096_1_0 : Mat 4096 4096)) (k9_v14 m ρ c)).trans (trans_eq _ _)

theorem k8_v15 (c : Dev nD) : (W8 m ρ c (Proc.devRef .tc main_v15) : Mat 512 4096) = tn (a6 m c) (a0 m c) := (W8_of m ρ c main_v15 (by decide +kernel)).trans (k7_v15 m ρ c)

theorem k9_v15 (c : Dev nD) : (W9 m ρ c (Proc.devRef .tc main_v15) : Mat 512 4096) = tn (a6 m c) (a0 m c) := (W9_of m ρ c main_v15 (by decide +kernel)).trans (k8_v15 m ρ c)

theorem k10_v23 (c : Dev nD) : (W10 m ρ c (Proc.devRef .tc main_v23) : Mat 4096 512) = tr (tn (a6 m c) (a0 m c)) := by
  show StableHlo.after hostOps8 _ _ = _
  simp only [hostOps8]
  after_results_simp
  exact (congrArg (fun w : Mat 512 4096 => (transpose S4096x512 [1, 0] w transposes_S512x4096_S4096x512_1_0 : Mat 4096 512)) (k9_v15 m ρ c)).trans (trans_eq _ _)

set_option backward.isDefEq.respectTransparency.types false in
/-- Run from any memory, the program ends with every result at its sums of products, its arguments unchanged. -/
theorem run_in : θ_run defs (onTc (τ := τ) (main (F := Ideal))) ⟨m, fun _ => 0, ρ⟩ (fun r => ∀ c : Dev nD,
      r.2.mem ((c.tc : Thread nD τ).loc main_v10) = (nn (a0 m c) (a1 m c) : Mat 4096 6144)
      ∧ r.2.mem ((c.tc : Thread nD τ).loc main_v11) = (nn (a0 m c) (a2 m c) : Mat 4096 4096)
      ∧ r.2.mem ((c.tc : Thread nD τ).loc main_v12) = (nn (a0 m c) (a3 m c) : Mat 4096 512)
      ∧ r.2.mem ((c.tc : Thread nD τ).loc main_v17) = ((fun i => nt (a6 m c) (a3 m c) i + (nt (a5 m c) (a2 m c) i + a7 m c i)) : Mat 4096 4096)
      ∧ r.2.mem ((c.tc : Thread nD τ).loc main_v19) = (tr (tn (a4 m c) (a0 m c)) : Mat 4096 6144)
      ∧ r.2.mem ((c.tc : Thread nD τ).loc main_v21) = (tr (tn (a5 m c) (a0 m c)) : Mat 4096 4096)
      ∧ r.2.mem ((c.tc : Thread nD τ).loc main_v23) = (tr (tn (a6 m c) (a0 m c)) : Mat 4096 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨(h c _ (mem_uc main_v10 (by decide))).trans (k10_v10 m ρ c),
       (h c _ (mem_uc main_v11 (by decide))).trans (k10_v11 m ρ c),
       (h c _ (mem_uc main_v12 (by decide))).trans (k10_v12 m ρ c),
       (h c _ (mem_uc main_v17 (by decide))).trans (k10_v17 m ρ c),
       (h c _ (mem_uc main_v19 (by decide))).trans (k10_v19 m ρ c),
       (h c _ (mem_uc main_v21 (by decide))).trans (k10_v21 m ρ c),
       (h c _ (mem_uc main_v23 (by decide))).trans (k10_v23 m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.Kernel3Ideal.Hand

end

end
-- ==== Proof.InRef.lean ====
/- The reference's input projection, read as the same sums of products. -/
module

public import proofs.«01_k».proof.Proof.MmFn
public import proofs.«01_k».proof.Proof.Gen.Reference3Ideal.Run
public import proofs.«01_k».proof.Proof.Gen.Reference3Ideal.Read

@[expose] public section

set_option maxHeartbeats 1000000

noncomputable section

namespace Cert.Reference3Ideal.Hand

open Idealize.ShloMosaic Idealize.ShloMosaic.TcCoe
open Cert.Mm Cert.Reference3Ideal.Read

variable (u : Mat 4096 4096) (w1 : Mat 4096 6144) (w2 : Mat 4096 4096) (w3 : Mat 4096 512)
  (d1 : Mat 4096 6144) (d2 : Mat 4096 4096) (d3 : Mat 4096 512) (e : Mat 4096 4096)

theorem v0_eq : (val_main_v0 (F := Ideal) u w1 : Mat 4096 6144) = nn u w1 := by
  funext i
  rw [val_main_v0_apply]
  exact Finset.sum_congr rfl fun k _ => congrArg₂ (· * ·) (congrArg u (ix2_ext _ _ rfl rfl)) (congrArg w1 (ix2_ext _ _ rfl rfl))

theorem v1_eq : (val_main_v1 (F := Ideal) u w2 : Mat 4096 4096) = nn u w2 := by
  funext i
  rw [val_main_v1_apply]
  exact Finset.sum_congr rfl fun k _ => congrArg₂ (· * ·) (congrArg u (ix2_ext _ _ rfl rfl)) (congrArg w2 (ix2_ext _ _ rfl rfl))

theorem v2_eq : (val_main_v2 (F := Ideal) u w3 : Mat 4096 512) = nn u w3 := by
  funext i
  rw [val_main_v2_apply]
  exact Finset.sum_congr rfl fun k _ => congrArg₂ (· * ·) (congrArg u (ix2_ext _ _ rfl rfl)) (congrArg w3 (ix2_ext _ _ rfl rfl))

theorem v4_eq : (val_main_v4 (F := Ideal) u d1 : Mat 4096 6144) = tr (tn d1 u) := by
  funext i
  rw [val_main_v4_apply, val_main_v3_apply]
  show _ = ∑ x : Fin 4096, d1 (ix2 x (i 1)) * u (ix2 x (i 0))
  exact Finset.sum_congr rfl fun k _ => congrArg₂ (· * ·) (congrArg d1 (ix2_ext _ _ rfl rfl)) (congrArg u (ix2_ext _ _ rfl rfl))

theorem v7_eq : (val_main_v7 (F := Ideal) u d2 : Mat 4096 4096) = tr (tn d2 u) := by
  funext i
  rw [val_main_v7_apply, val_main_v6_apply]
  show _ = ∑ x : Fin 4096, d2 (ix2 x (i 1)) * u (ix2 x (i 0))
  exact Finset.sum_congr rfl fun k _ => congrArg₂ (· * ·) (congrArg d2 (ix2_ext _ _ rfl rfl)) (congrArg u (ix2_ext _ _ rfl rfl))

theorem v10_eq : (val_main_v10 (F := Ideal) u d3 : Mat 4096 512) = tr (tn d3 u) := by
  funext i
  rw [val_main_v10_apply, val_main_v9_apply]
  show _ = ∑ x : Fin 4096, d3 (ix2 x (i 1)) * u (ix2 x (i 0))
  exact Finset.sum_congr rfl fun k _ => congrArg₂ (· * ·) (congrArg d3 (ix2_ext _ _ rfl rfl)) (congrArg u (ix2_ext _ _ rfl rfl))

theorem v13_eq : (val_main_v13 (F := Ideal) w2 w3 d2 d3 e : Mat 4096 4096)
    = fun i => nt d3 w3 i + (nt d2 w2 i + e i) := by
  funext i
  show ((e i : EReal) + val_main_v8 (F := Ideal) w2 d2 i) + val_main_v11 (F := Ideal) w3 d3 i = _
  rw [val_main_v8_apply, val_main_v11_apply, add_comm, add_comm (e i)]
  exact congrArg₂ (· + ·)
    (Finset.sum_congr rfl fun k _ => congrArg₂ (· * ·) (congrArg d3 (ix2_ext _ _ rfl rfl)) (congrArg w3 (ix2_ext _ _ rfl rfl)))
    (congrArg (· + e i) (Finset.sum_congr rfl fun k _ => congrArg₂ (· * ·) (congrArg d2 (ix2_ext _ _ rfl rfl)) (congrArg w2 (ix2_ext _ _ rfl rfl))))

end Cert.Reference3Ideal.Hand

end

end
-- ==== Proof.InClaim.lean ====
/- The input projection: the version's eight calls against the plain products and their derivatives. -/
module

public import proofs.«01_k».proof.Defs
public import proofs.«01_k».proof.Proof.InRun
public import proofs.«01_k».proof.Proof.InRef

@[expose] public section

set_option maxHeartbeats 1000000

noncomputable section

namespace Cert.Mm

open Idealize.ShloMosaic Idealize.ShloMosaic.TcCoe
open Cert.Kernel3Ideal.Hand Cert.Reference3Ideal.Hand Cert.Reference3Ideal.Read

theorem in_algebraic : Cert.algebraic_Kernel3Ideal_Reference3Ideal := by
  intro m g m' g' _ hagree
  refine ⟨fun c => nn (a0 m c) (a1 m c), fun c => nn (a0 m c) (a2 m c), fun c => nn (a0 m c) (a3 m c),
    fun c i => nt (a6 m c) (a3 m c) i + (nt (a5 m c) (a2 m c) i + a7 m c i),
    fun c => tr (tn (a4 m c) (a0 m c)), fun c => tr (tn (a5 m c) (a0 m c)), fun c => tr (tn (a6 m c) (a0 m c)), run_in m g, ?_⟩
  refine (θ_run Cert.Reference3Ideal.defs _ _).mono (fun r h c => ?_) (Cert.Reference3Ideal.Value.run (F := Ideal) m' g')
  obtain ⟨h1, h2, h3, h4, h5, h6, h7, ha⟩ := h c
  obtain ⟨g0, g1, g2, g3, g4, g5, g6, g7⟩ := hagree c
  rw [g0, g1] at h1
  rw [g0, g2] at h2
  rw [g0, g3] at h3
  rw [g7, g5, g2, g6, g3] at h4
  rw [g4, g0] at h5
  rw [g5, g0] at h6
  rw [g6, g0] at h7
  exact ⟨h1.trans ((val_main_v0_eq _ _).trans (v0_eq _ _)),
    h2.trans ((val_main_v1_eq _ _).trans (v1_eq _ _)),
    h3.trans ((val_main_v2_eq _ _).trans (v2_eq _ _)),
    h4.trans ((val_main_v13_eq _ _ _ _ _).trans (v13_eq _ _ _ _ _)),
    h5.trans ((val_main_v4_eq _ _).trans (v4_eq _ _)),
    h6.trans ((val_main_v7_eq _ _).trans (v7_eq _ _)),
    h7.trans ((val_main_v10_eq _ _).trans (v10_eq _ _)), ha⟩

end Cert.Mm

end

end
-- ==== Proof.OutA.lean ====
/- The products of the output projection, call by call. -/
module

public import proofs.«01_k».proof.Proof.Gen.Kernel4Ideal.Frame
public import Idealize.ShloMosaic.Lib.Pipeline.ValueKit
public import Idealize.ShloMosaic.Lib.Pointwise

@[expose] public section

set_option maxHeartbeats 4000000

noncomputable section

namespace Cert.Kernel4Ideal.Hand

open Cert.Kernel4Ideal.Gen
open Idealize.ShloMosaic Idealize.ShloMosaic.TcCoe

variable (V : (c : Dev nD) → (b : Ref sig .tc) → Buf (Elt Ideal) ((c : Thread nD τ).loc b))

theorem i0_0 : ∀ t : Fin cfg0.N, win0_0.index t = ![(grid0.coords t 0).val, 0] := (by decide +kernel : ∀ t : Fin grid0.N, _)
theorem i0_1 : ∀ t : Fin cfg0.N, win0_1.index t = ![0, (grid0.coords t 1).val] := (by decide +kernel : ∀ t : Fin grid0.N, _)
theorem i0_2 : ∀ t : Fin cfg0.N, win0_2.index t = ![(grid0.coords t 0).val, (grid0.coords t 1).val] := (by decide +kernel : ∀ t : Fin grid0.N, _)
theorem i0_3 : ∀ t : Fin cfg0.N, win0_3.index t = ![(grid0.coords t 0).val, (grid0.coords t 1).val] := (by decide +kernel : ∀ t : Fin grid0.N, _)

/-- What the call leaves in its result array. -/
theorem val0 (c : Dev nD) (A : S4096x2048.Idx → EReal) (B : S2048x4096.Idx → EReal) (X : S4096x4096.Idx → EReal)
    (hA : V c main_v0 = A) (hB : V c main_v4 = B) (hX : V c main_arg3 = X) :
    (dat0 (F := Ideal) V c).arrAt 3 cfg0.N = fun i : S4096x4096.Idx => (∑ x : Fin 2048, A (ix2 (i 0) x) * B (ix2 x (i 1))) + X i := by
  refine (dat0 (F := Ideal) V c).arrAt_eq_of_covers 3 _ (by decide +kernel) fun t hf y => ?_
  blk_simp
  rw [after0_3]
  frame_out
  unfold k0_pay1
  pointwise
  blk_simp [iblk0, hA, hB, hX]
  have eA : ∀ x : Fin 2048, (win0_0.blk t).view.emb (ix2 (y 0) x) = ix2 (((win0_3.blk t).view.emb y) 0) x := fun x => by blk_ext [i0_0, i0_3]
  have eB : ∀ x : Fin 2048, (win0_1.blk t).view.emb (ix2 x (y 1)) = ix2 x (((win0_3.blk t).view.emb y) 1) := fun x => by blk_ext [i0_1, i0_3]
  have eX : (win0_2.blk t).view.emb y = (win0_3.blk t).view.emb y := by blk_ext [i0_2, i0_3]
  simp only [eA, eB, eX]
  rfl
theorem i1_0 : ∀ t : Fin cfg1.N, win1_0.index t = ![(grid1.coords t 0).val, 0] := (by decide +kernel : ∀ t : Fin grid1.N, _)
theorem i1_1 : ∀ t : Fin cfg1.N, win1_1.index t = ![0, (grid1.coords t 1).val] := (by decide +kernel : ∀ t : Fin grid1.N, _)
theorem i1_2 : ∀ t : Fin cfg1.N, win1_2.index t = ![(grid1.coords t 0).val, (grid1.coords t 1).val] := (by decide +kernel : ∀ t : Fin grid1.N, _)
theorem i1_3 : ∀ t : Fin cfg1.N, win1_3.index t = ![(grid1.coords t 0).val, (grid1.coords t 1).val] := (by decide +kernel : ∀ t : Fin grid1.N, _)

/-- What the call leaves in its result array. -/
theorem val1 (c : Dev nD) (A : S4096x2048.Idx → EReal) (B : S2048x4096.Idx → EReal) (X : S4096x4096.Idx → EReal)
    (hA : V c main_v1 = A) (hB : V c main_v6 = B) (hX : V c main_v5 = X) :
    (dat1 (F := Ideal) V c).arrAt 3 cfg1.N = fun i : S4096x4096.Idx => (∑ x : Fin 2048, A (ix2 (i 0) x) * B (ix2 x (i 1))) + X i := by
  refine (dat1 (F := Ideal) V c).arrAt_eq_of_covers 3 _ (by decide +kernel) fun t hf y => ?_
  blk_simp
  rw [after1_3]
  frame_out
  unfold k1_pay1
  pointwise
  blk_simp [iblk1, hA, hB, hX]
  have eA : ∀ x : Fin 2048, (win1_0.blk t).view.emb (ix2 (y 0) x) = ix2 (((win1_3.blk t).view.emb y) 0) x := fun x => by blk_ext [i1_0, i1_3]
  have eB : ∀ x : Fin 2048, (win1_1.blk t).view.emb (ix2 x (y 1)) = ix2 x (((win1_3.blk t).view.emb y) 1) := fun x => by blk_ext [i1_1, i1_3]
  have eX : (win1_2.blk t).view.emb y = (win1_3.blk t).view.emb y := by blk_ext [i1_2, i1_3]
  simp only [eA, eB, eX]
  rfl
theorem i2_0 : ∀ t : Fin cfg2.N, win2_0.index t = ![(grid2.coords t 0).val, 0] := (by decide +kernel : ∀ t : Fin grid2.N, _)
theorem i2_1 : ∀ t : Fin cfg2.N, win2_1.index t = ![(grid2.coords t 1).val, 0] := (by decide +kernel : ∀ t : Fin grid2.N, _)
theorem i2_2 : ∀ t : Fin cfg2.N, win2_2.index t = ![(grid2.coords t 0).val, (grid2.coords t 1).val] := (by decide +kernel : ∀ t : Fin grid2.N, _)

/-- What the call leaves in its result array. -/
theorem val2 (c : Dev nD) (A : S4096x4096.Idx → EReal) (B : S4096x4096.Idx → EReal)
    (hA : V c main_v3 = A) (hB : V c main_v2 = B) :
    (dat2 (F := Ideal) V c).arrAt 2 cfg2.N = fun i : S4096x4096.Idx => ∑ x : Fin 4096, A (ix2 (i 0) x) * B (ix2 (i 1) x) := by
  refine (dat2 (F := Ideal) V c).arrAt_eq_of_covers 2 _ (by decide +kernel) fun t hf y => ?_
  blk_simp
  rw [after2_2]
  frame_out
  unfold k2_pay1
  pointwise
  blk_simp [iblk2, hA, hB]
  have eA : ∀ x : Fin 4096, (win2_0.blk t).view.emb (ix2 (y 0) x) = ix2 (((win2_2.blk t).view.emb y) 0) x := fun x => by blk_ext [i2_0, i2_2]
  have eB : ∀ x : Fin 4096, (win2_1.blk t).view.emb (ix2 (y 1) x) = ix2 (((win2_2.blk t).view.emb y) 1) x := fun x => by blk_ext [i2_1, i2_2]
  simp only [eA, eB]
  rfl
theorem i3_0 : ∀ t : Fin cfg3.N, win3_0.index t = ![0, (grid3.coords t 0).val] := (by decide +kernel : ∀ t : Fin grid3.N, _)
theorem i3_1 : ∀ t : Fin cfg3.N, win3_1.index t = ![0, (grid3.coords t 1).val] := (by decide +kernel : ∀ t : Fin grid3.N, _)
theorem i3_2 : ∀ t : Fin cfg3.N, win3_2.index t = ![(grid3.coords t 0).val, (grid3.coords t 1).val] := (by decide +kernel : ∀ t : Fin grid3.N, _)

/-- What the call leaves in its result array. -/
theorem val3 (c : Dev nD) (A : S4096x2048.Idx → EReal) (B : S4096x4096.Idx → EReal)
    (hA : V c main_v0 = A) (hB : V c main_v3 = B) :
    (dat3 (F := Ideal) V c).arrAt 2 cfg3.N = fun i : S2048x4096.Idx => ∑ x : Fin 4096, A (ix2 x (i 0)) * B (ix2 x (i 1)) := by
  refine (dat3 (F := Ideal) V c).arrAt_eq_of_covers 2 _ (by decide +kernel) fun t hf y => ?_
  blk_simp
  rw [after3_2]
  frame_out
  unfold k3_pay1
  pointwise
  blk_simp [iblk3, hA, hB]
  have eA : ∀ x : Fin 4096, (win3_0.blk t).view.emb (ix2 x (y 0)) = ix2 x (((win3_2.blk t).view.emb y) 0) := fun x => by blk_ext [i3_0, i3_2]
  have eB : ∀ x : Fin 4096, (win3_1.blk t).view.emb (ix2 x (y 1)) = ix2 x (((win3_2.blk t).view.emb y) 1) := fun x => by blk_ext [i3_1, i3_2]
  simp only [eA, eB]
  rfl
theorem i4_0 : ∀ t : Fin cfg4.N, win4_0.index t = ![0, (grid4.coords t 0).val] := (by decide +kernel : ∀ t : Fin grid4.N, _)
theorem i4_1 : ∀ t : Fin cfg4.N, win4_1.index t = ![0, (grid4.coords t 1).val] := (by decide +kernel : ∀ t : Fin grid4.N, _)
theorem i4_2 : ∀ t : Fin cfg4.N, win4_2.index t = ![(grid4.coords t 0).val, (grid4.coords t 1).val] := (by decide +kernel : ∀ t : Fin grid4.N, _)

/-- What the call leaves in its result array. -/
theorem val4 (c : Dev nD) (A : S4096x2048.Idx → EReal) (B : S4096x4096.Idx → EReal)
    (hA : V c main_v1 = A) (hB : V c main_v3 = B) :
    (dat4 (F := Ideal) V c).arrAt 2 cfg4.N = fun i : S2048x4096.Idx => ∑ x : Fin 4096, A (ix2 x (i 0)) * B (ix2 x (i 1)) := by
  refine (dat4 (F := Ideal) V c).arrAt_eq_of_covers 2 _ (by decide +kernel) fun t hf y => ?_
  blk_simp
  rw [after4_2]
  frame_out
  unfold k4_pay1
  pointwise
  blk_simp [iblk4, hA, hB]
  have eA : ∀ x : Fin 4096, (win4_0.blk t).view.emb (ix2 x (y 0)) = ix2 x (((win4_2.blk t).view.emb y) 0) := fun x => by blk_ext [i4_0, i4_2]
  have eB : ∀ x : Fin 4096, (win4_1.blk t).view.emb (ix2 x (y 1)) = ix2 x (((win4_2.blk t).view.emb y) 1) := fun x => by blk_ext [i4_1, i4_2]
  simp only [eA, eB]
  rfl

end Cert.Kernel4Ideal.Hand

end

end
-- ==== Proof.OutRun.lean ====
/- What the output projection's calls leave, from call to call, and the run of the whole. -/
module

public import proofs.«01_k».proof.Proof.MmFn
public import proofs.«01_k».proof.Proof.OutA

@[expose] public section

set_option maxHeartbeats 4000000

noncomputable section

namespace Cert.Kernel4Ideal.Hand

open Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Mm

local notation "𝕄" => MT nD τ sig Unit (Elt Ideal) ℕ (UR sig nD τ) ℕ

variable (m : (ℓ : Loc nD τ sig) → Buf (Elt Ideal) ℓ) (ρ : Dev nD → PrngReg)

/-- The recurrence's half of the input. -/
abbrev a0 (c : Dev nD) : Mat 4096 2048 := m ((c.tc : Thread nD τ).loc main_arg0)
/-- The other half of the input. -/
abbrev a1 (c : Dev nD) : Mat 4096 2048 := m ((c.tc : Thread nD τ).loc main_arg1)
/-- The weight. -/
abbrev a2 (c : Dev nD) : Mat 4096 4096 := m ((c.tc : Thread nD τ).loc main_arg2)
/-- The residual. -/
abbrev a3 (c : Dev nD) : Mat 4096 4096 := m ((c.tc : Thread nD τ).loc main_arg3)
/-- The gradient of the result. -/
abbrev a4 (c : Dev nD) : Mat 4096 4096 := m ((c.tc : Thread nD τ).loc main_arg4)

theorem k1_v0 (c : Dev nD) : (W1 m ρ c (Proc.devRef .tc main_v0) : Mat 4096 2048) = a0 m c := by
  show StableHlo.after hostOps0 _ _ = _
  simp only [hostOps0]
  after_results_simp
  rfl

theorem k1_v1 (c : Dev nD) : (W1 m ρ c (Proc.devRef .tc main_v1) : Mat 4096 2048) = a1 m c := by
  show StableHlo.after hostOps0 _ _ = _
  simp only [hostOps0]
  after_results_simp
  rfl

theorem k1_v2 (c : Dev nD) : (W1 m ρ c (Proc.devRef .tc main_v2) : Mat 4096 4096) = a2 m c := by
  show StableHlo.after hostOps0 _ _ = _
  simp only [hostOps0]
  after_results_simp
  rfl

theorem k1_v3 (c : Dev nD) : (W1 m ρ c (Proc.devRef .tc main_v3) : Mat 4096 4096) = a4 m c := by
  show StableHlo.after hostOps0 _ _ = _
  simp only [hostOps0]
  after_results_simp
  rfl

theorem k1_v4 (c : Dev nD) : (W1 m ρ c (Proc.devRef .tc main_v4) : Mat 2048 4096) = top (a2 m c) := by
  show StableHlo.after hostOps0 _ _ = _
  simp only [hostOps0]
  after_results_simp
  exact top_eq _ _

theorem k1_arg3 (c : Dev nD) : (W1 m ρ c (Proc.devRef .tc main_arg3) : Mat 4096 4096) = a3 m c := W1_args m ρ c main_arg3 (by decide)

theorem k2_v5 (c : Dev nD) : (W2 m ρ c (Proc.devRef .tc main_v5) : Mat 4096 4096) = (fun i => nn (a0 m c) (top (a2 m c)) i + a3 m c i) :=
  (W2_arr m ρ c 3).trans ((val0 (V1 m ρ) c _ _ _ (k1_v0 m ρ c) (k1_v4 m ρ c) (k1_arg3 m ρ c)).trans rfl)

theorem k2_v2 (c : Dev nD) : (W2 m ρ c (Proc.devRef .tc main_v2) : Mat 4096 4096) = a2 m c := (W2_of m ρ c main_v2 (by decide +kernel)).trans (k1_v2 m ρ c)

theorem k3_v6 (c : Dev nD) : (W3 m ρ c (Proc.devRef .tc main_v6) : Mat 2048 4096) = bot (a2 m c) := by
  show StableHlo.after hostOps1 _ _ = _
  simp only [hostOps1]
  after_results_simp
  exact (congrArg (fun w : Mat 4096 4096 => (extractStridedSlice S2048x4096 ![2048, 0] w slices_S4096x4096_S2048x4096_2048_0 : Mat 2048 4096)) (k2_v2 m ρ c)).trans (bot_eq _ _)

theorem k2_v1 (c : Dev nD) : (W2 m ρ c (Proc.devRef .tc main_v1) : Mat 4096 2048) = a1 m c := (W2_of m ρ c main_v1 (by decide +kernel)).trans (k1_v1 m ρ c)

theorem k3_v1 (c : Dev nD) : (W3 m ρ c (Proc.devRef .tc main_v1) : Mat 4096 2048) = a1 m c := (W3_of m ρ c main_v1 (by decide +kernel)).trans (k2_v1 m ρ c)

theorem k3_v5 (c : Dev nD) : (W3 m ρ c (Proc.devRef .tc main_v5) : Mat 4096 4096) = (fun i => nn (a0 m c) (top (a2 m c)) i + a3 m c i) := (W3_of m ρ c main_v5 (by decide +kernel)).trans (k2_v5 m ρ c)

theorem k4_v7 (c : Dev nD) : (W4 m ρ c (Proc.devRef .tc main_v7) : Mat 4096 4096) = (fun i => nn (a1 m c) (bot (a2 m c)) i + (nn (a0 m c) (top (a2 m c)) i + a3 m c i)) :=
  (W4_arr m ρ c 3).trans ((val1 (V3 m ρ) c _ _ _ (k3_v1 m ρ c) (k3_v6 m ρ c) (k3_v5 m ρ c)).trans rfl)

theorem k2_v3 (c : Dev nD) : (W2 m ρ c (Proc.devRef .tc main_v3) : Mat 4096 4096) = a4 m c := (W2_of m ρ c main_v3 (by decide +kernel)).trans (k1_v3 m ρ c)

theorem k3_v3 (c : Dev nD) : (W3 m ρ c (Proc.devRef .tc main_v3) : Mat 4096 4096) = a4 m c := (W3_of m ρ c main_v3 (by decide +kernel)).trans (k2_v3 m ρ c)

theorem k4_v3 (c : Dev nD) : (W4 m ρ c (Proc.devRef .tc main_v3) : Mat 4096 4096) = a4 m c := (W4_of m ρ c main_v3 (by decide +kernel)).trans (k3_v3 m ρ c)

theorem k3_v2 (c : Dev nD) : (W3 m ρ c (Proc.devRef .tc main_v2) : Mat 4096 4096) = a2 m c := (W3_of m ρ c main_v2 (by decide +kernel)).trans (k2_v2 m ρ c)

theorem k4_v2 (c : Dev nD) : (W4 m ρ c (Proc.devRef .tc main_v2) : Mat 4096 4096) = a2 m c := (W4_of m ρ c main_v2 (by decide +kernel)).trans (k3_v2 m ρ c)

theorem k5_v8 (c : Dev nD) : (W5 m ρ c (Proc.devRef .tc main_v8) : Mat 4096 4096) = nt (a4 m c) (a2 m c) :=
  (W5_arr m ρ c 2).trans ((val2 (V4 m ρ) c _ _ (k4_v3 m ρ c) (k4_v2 m ρ c)).trans rfl)

theorem k2_v0 (c : Dev nD) : (W2 m ρ c (Proc.devRef .tc main_v0) : Mat 4096 2048) = a0 m c := (W2_of m ρ c main_v0 (by decide +kernel)).trans (k1_v0 m ρ c)

theorem k3_v0 (c : Dev nD) : (W3 m ρ c (Proc.devRef .tc main_v0) : Mat 4096 2048) = a0 m c := (W3_of m ρ c main_v0 (by decide +kernel)).trans (k2_v0 m ρ c)

theorem k4_v0 (c : Dev nD) : (W4 m ρ c (Proc.devRef .tc main_v0) : Mat 4096 2048) = a0 m c := (W4_of m ρ c main_v0 (by decide +kernel)).trans (k3_v0 m ρ c)

theorem k5_v0 (c : Dev nD) : (W5 m ρ c (Proc.devRef .tc main_v0) : Mat 4096 2048) = a0 m c := (W5_of m ρ c main_v0 (by decide +kernel)).trans (k4_v0 m ρ c)

theorem k5_v3 (c : Dev nD) : (W5 m ρ c (Proc.devRef .tc main_v3) : Mat 4096 4096) = a4 m c := (W5_of m ρ c main_v3 (by decide +kernel)).trans (k4_v3 m ρ c)

theorem k6_v9 (c : Dev nD) : (W6 m ρ c (Proc.devRef .tc main_v9) : Mat 2048 4096) = tn (a0 m c) (a4 m c) :=
  (W6_arr m ρ c 2).trans ((val3 (V5 m ρ) c _ _ (k5_v0 m ρ c) (k5_v3 m ρ c)).trans rfl)

theorem k4_v1 (c : Dev nD) : (W4 m ρ c (Proc.devRef .tc main_v1) : Mat 4096 2048) = a1 m c := (W4_of m ρ c main_v1 (by decide +kernel)).trans (k3_v1 m ρ c)

theorem k5_v1 (c : Dev nD) : (W5 m ρ c (Proc.devRef .tc main_v1) : Mat 4096 2048) = a1 m c := (W5_of m ρ c main_v1 (by decide +kernel)).trans (k4_v1 m ρ c)

theorem k6_v1 (c : Dev nD) : (W6 m ρ c (Proc.devRef .tc main_v1) : Mat 4096 2048) = a1 m c := (W6_of m ρ c main_v1 (by decide +kernel)).trans (k5_v1 m ρ c)

theorem k6_v3 (c : Dev nD) : (W6 m ρ c (Proc.devRef .tc main_v3) : Mat 4096 4096) = a4 m c := (W6_of m ρ c main_v3 (by decide +kernel)).trans (k5_v3 m ρ c)

theorem k7_v10 (c : Dev nD) : (W7 m ρ c (Proc.devRef .tc main_v10) : Mat 2048 4096) = tn (a1 m c) (a4 m c) :=
  (W7_arr m ρ c 2).trans ((val4 (V6 m ρ) c _ _ (k6_v1 m ρ c) (k6_v3 m ρ c)).trans rfl)

theorem k5_v7 (c : Dev nD) : (W5 m ρ c (Proc.devRef .tc main_v7) : Mat 4096 4096) = (fun i => nn (a1 m c) (bot (a2 m c)) i + (nn (a0 m c) (top (a2 m c)) i + a3 m c i)) := (W5_of m ρ c main_v7 (by decide +kernel)).trans (k4_v7 m ρ c)

theorem k6_v7 (c : Dev nD) : (W6 m ρ c (Proc.devRef .tc main_v7) : Mat 4096 4096) = (fun i => nn (a1 m c) (bot (a2 m c)) i + (nn (a0 m c) (top (a2 m c)) i + a3 m c i)) := (W6_of m ρ c main_v7 (by decide +kernel)).trans (k5_v7 m ρ c)

theorem k7_v7 (c : Dev nD) : (W7 m ρ c (Proc.devRef .tc main_v7) : Mat 4096 4096) = (fun i => nn (a1 m c) (bot (a2 m c)) i + (nn (a0 m c) (top (a2 m c)) i + a3 m c i)) := (W7_of m ρ c main_v7 (by decide +kernel)).trans (k6_v7 m ρ c)

theorem k8_v7 (c : Dev nD) : (W8 m ρ c (Proc.devRef .tc main_v7) : Mat 4096 4096) = (fun i => nn (a1 m c) (bot (a2 m c)) i + (nn (a0 m c) (top (a2 m c)) i + a3 m c i)) := (W8_of m ρ c main_v7 (by decide +kernel)).trans (k7_v7 m ρ c)

theorem k6_v8 (c : Dev nD) : (W6 m ρ c (Proc.devRef .tc main_v8) : Mat 4096 4096) = nt (a4 m c) (a2 m c) := (W6_of m ρ c main_v8 (by decide +kernel)).trans (k5_v8 m ρ c)

theorem k7_v8 (c : Dev nD) : (W7 m ρ c (Proc.devRef .tc main_v8) : Mat 4096 4096) = nt (a4 m c) (a2 m c) := (W7_of m ρ c main_v8 (by decide +kernel)).trans (k6_v8 m ρ c)

theorem k8_v8 (c : Dev nD) : (W8 m ρ c (Proc.devRef .tc main_v8) : Mat 4096 4096) = nt (a4 m c) (a2 m c) := (W8_of m ρ c main_v8 (by decide +kernel)).trans (k7_v8 m ρ c)

theorem k7_v9 (c : Dev nD) : (W7 m ρ c (Proc.devRef .tc main_v9) : Mat 2048 4096) = tn (a0 m c) (a4 m c) := (W7_of m ρ c main_v9 (by decide +kernel)).trans (k6_v9 m ρ c)

theorem k8_v11 (c : Dev nD) : (W8 m ρ c (Proc.devRef .tc main_v11) : Mat 2048 4096) = tn (a0 m c) (a4 m c) := by
  show StableHlo.after hostOps5 _ _ = _
  simp only [hostOps5]
  after_results_simp
  exact k7_v9 m ρ c

theorem k8_v12 (c : Dev nD) : (W8 m ρ c (Proc.devRef .tc main_v12) : Mat 2048 4096) = tn (a1 m c) (a4 m c) := by
  show StableHlo.after hostOps5 _ _ = _
  simp only [hostOps5]
  after_results_simp
  exact k7_v10 m ρ c

set_option backward.isDefEq.respectTransparency.types false in
/-- Run from any memory, the program ends with every result at its sums of products, its arguments unchanged. -/
theorem run_out : θ_run defs (onTc (τ := τ) (main (F := Ideal))) ⟨m, fun _ => 0, ρ⟩ (fun r => ∀ c : Dev nD,
      r.2.mem ((c.tc : Thread nD τ).loc main_v7) = ((fun i => nn (a1 m c) (bot (a2 m c)) i + (nn (a0 m c) (top (a2 m c)) i + a3 m c i)) : Mat 4096 4096)
      ∧ r.2.mem ((c.tc : Thread nD τ).loc main_v8) = (nt (a4 m c) (a2 m c) : Mat 4096 4096)
      ∧ r.2.mem ((c.tc : Thread nD τ).loc main_v11) = (tn (a0 m c) (a4 m c) : Mat 2048 4096)
      ∧ r.2.mem ((c.tc : Thread nD τ).loc main_v12) = (tn (a1 m c) (a4 m c) : Mat 2048 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v7 (by decide))).trans (k8_v7 m ρ c),
       (h c _ (mem_uc main_v8 (by decide))).trans (k8_v8 m ρ c),
       (h c _ (mem_uc main_v11 (by decide))).trans (k8_v11 m ρ c),
       (h c _ (mem_uc main_v12 (by decide))).trans (k8_v12 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.Kernel4Ideal.Hand

end

end
-- ==== Proof.OutRef.lean ====
/- The reference's output projection, read as the same sums of products. -/
module

public import proofs.«01_k».proof.Proof.MmFn
public import proofs.«01_k».proof.Proof.Gen.Reference4Ideal.Run
public import proofs.«01_k».proof.Proof.Gen.Reference4Ideal.Read

@[expose] public section

set_option maxHeartbeats 1000000

noncomputable section

namespace Cert.Reference4Ideal.Hand

open Idealize.ShloMosaic Idealize.ShloMosaic.TcCoe
open Cert.Mm Cert.Reference4Ideal.Read

variable (ya yb : Mat 4096 2048) (w : Mat 4096 4096) (x dh : Mat 4096 4096)

/-- The left half of the joined columns. -/
theorem cat_left (i : (⟨2, ![4096, 4096]⟩ : Shape).Idx) (j : (⟨2, ![4096, 2048]⟩ : Shape).Idx)
    (h0 : (j 0).val = (i 0).val) (h1 : (j 1).val = (i 1).val) :
    (val_main_v0 (F := Ideal) ya yb i : EReal) = ya j := by
  unfold val_main_v0
  refine concatenate_pair_apply_left 1 ya yb _ i rfl j fun b => ?_
  match b with
  | ⟨0, _⟩ => exact h0
  | ⟨1, _⟩ => exact h1

/-- The right half. -/
theorem cat_right (i : (⟨2, ![4096, 4096]⟩ : Shape).Idx) (j : (⟨2, ![4096, 2048]⟩ : Shape).Idx)
    (h0 : (j 0).val = (i 0).val) (h1 : (j 1).val + 2048 = (i 1).val) :
    (val_main_v0 (F := Ideal) ya yb i : EReal) = yb j := by
  unfold val_main_v0
  refine concatenate_pair_apply_right 1 ya yb _ i rfl rfl j (fun b hb => ?_) h1
  match b, hb with
  | ⟨0, _⟩, _ => exact h0
  | ⟨1, _⟩, hb => exact absurd rfl hb

theorem v5_eq : (val_main_v5 (F := Ideal) ya yb w x : Mat 4096 4096)
    = fun i => nn yb (bot w) i + (nn ya (top w) i + x i) := by
  funext i
  show (x i : EReal) + val_main_v1 (F := Ideal) ya yb w i = _
  rw [val_main_v1_apply]
  refine (congrArg (x i + ·) (Fin.sum_univ_add (a := 2048) (b := 2048)
    (fun k : Fin (2048 + 2048) => (val_main_v0 (F := Ideal) ya yb (lidx_main_v1 i k) : EReal) * w (ridx_main_v1 i k)))).trans ?_
  rw [add_comm (nn yb (bot w) i), add_comm (nn ya (top w) i), add_assoc]
  exact congrArg (x i + ·) (congrArg₂ (· + ·)
    (Finset.sum_congr rfl fun k _ => congrArg₂ (· * ·) (cat_left ya yb _ _ rfl rfl) (congrArg w (ix2_ext _ _ rfl rfl)))
    (Finset.sum_congr rfl fun k _ => congrArg₂ (· * ·) (cat_right ya yb _ _ rfl (Nat.add_comm _ _)) (congrArg w (ix2_ext _ _ rfl rfl))))

theorem v4_eq : (val_main_v4 (F := Ideal) w dh : Mat 4096 4096) = nt dh w := by
  funext i
  rw [val_main_v4_apply]
  exact Finset.sum_congr rfl fun k _ => congrArg₂ (· * ·) (congrArg dh (ix2_ext _ _ rfl rfl)) (congrArg w (ix2_ext _ _ rfl rfl))

theorem v6_eq : (val_main_v6 (F := Ideal) ya yb dh : Mat 2048 4096) = tn ya dh := by
  funext i
  rw [val_main_v6_apply, val_main_v3_apply, val_main_v2_apply]
  exact Finset.sum_congr rfl fun k _ => (mul_comm _ _).trans
    (congrArg₂ (· * ·) (cat_left ya yb _ _ rfl rfl) (congrArg dh (ix2_ext _ _ rfl rfl)))

theorem v7_eq : (val_main_v7 (F := Ideal) ya yb dh : Mat 2048 4096) = tn yb dh := by
  funext i
  rw [val_main_v7_apply, val_main_v3_apply, val_main_v2_apply]
  exact Finset.sum_congr rfl fun k _ => (mul_comm _ _).trans
    (congrArg₂ (· * ·) (cat_right ya yb _ _ rfl (Nat.add_comm _ _)) (congrArg dh (ix2_ext _ _ rfl rfl)))

end Cert.Reference4Ideal.Hand

end

end
-- ==== Proof.OutClaim.lean ====
/- The output projection: the version's five calls against the plain product and its derivatives. -/
module

public import proofs.«01_k».proof.Defs
public import proofs.«01_k».proof.Proof.OutRun
public import proofs.«01_k».proof.Proof.OutRef

@[expose] public section

set_option maxHeartbeats 1000000

noncomputable section

namespace Cert.Mm

open Idealize.ShloMosaic Idealize.ShloMosaic.TcCoe
open Cert.Kernel4Ideal.Hand Cert.Reference4Ideal.Hand Cert.Reference4Ideal.Read

theorem out_algebraic : Cert.algebraic_Kernel4Ideal_Reference4Ideal := by
  intro m g m' g' _ hagree
  refine ⟨fun c i => nn (a1 m c) (bot (a2 m c)) i + (nn (a0 m c) (top (a2 m c)) i + a3 m c i),
    fun c => nt (a4 m c) (a2 m c), fun c => tn (a0 m c) (a4 m c), fun c => tn (a1 m c) (a4 m c), run_out m g, ?_⟩
  refine (θ_run Cert.Reference4Ideal.defs _ _).mono (fun r h c => ?_) (Cert.Reference4Ideal.Value.run (F := Ideal) m' g')
  obtain ⟨h1, h2, h3, h4, ha⟩ := h c
  obtain ⟨g0, g1, g2, g3, g4⟩ := hagree c
  rw [g3, g0, g1, g2] at h1
  rw [g4, g2] at h2
  rw [g4, g0, g1] at h3 h4
  exact ⟨h1.trans ((val_main_v5_eq _ _ _ _).trans (v5_eq _ _ _ _)),
    h2.trans ((val_main_v4_eq _ _).trans (v4_eq _ _)),
    h3.trans ((val_main_v6_eq _ _ _).trans (v6_eq _ _ _)),
    h4.trans ((val_main_v7_eq _ _ _).trans (v7_eq _ _ _)), ha⟩

end Cert.Mm

end

end
-- ==== Proof.Small.lean ====
/- The small weights' update against the plain rule. -/
module

public import proofs.«01_k».proof.Defs
public import proofs.«01_k».proof.Proof.Gen.Kernel5Ideal.Value
public import proofs.«01_k».proof.Proof.Gen.Reference5Ideal.Run
public import Idealize.ShloMosaic.Lib.Tactic.ValueTie

@[expose] public section

set_option maxHeartbeats 4000000

noncomputable section

namespace Cert.Small

open Idealize.ShloMosaic Idealize.ShloMosaic.TcCoe

theorem algebraic : Cert.algebraic_Kernel5Ideal_Reference5Ideal := by
  intro m ρ m' ρ' _ hagree
  refine ⟨_, _, _, Cert.Kernel5Ideal.Value.run (F := Ideal) m ρ, ?_⟩
  refine (θ_run Cert.Reference5Ideal.defs _ _).mono (fun _ h c => ?_) (Cert.Reference5Ideal.Value.run (F := Ideal) m' ρ')
  obtain ⟨h1, h2, h3, ha⟩ := h c
  refine ⟨?_, ?_, ?_, ha⟩
  · rw [h1]; simp only [hagree c]; value_tie Cert.Kernel5Ideal
  · rw [h2]; simp only [hagree c]; value_tie Cert.Kernel5Ideal
  · rw [h3]; simp only [hagree c]; value_tie Cert.Kernel5Ideal

end Cert.Small

end

end
-- ==== Proof.Du1.lean ====
/- The product of the gradient with the first column group of the input projection's weight, accumulated in two steps. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxHeartbeats 4000000

noncomputable section

namespace Cert.Kernel6Ideal.Hand

open Cert.Kernel6Ideal.Gen
open Idealize.ShloMosaic Idealize.ShloMosaic.TcCoe

variable (m : (ℓ : Loc nD τ sig) → Buf (Elt Ideal) ℓ)

theorem j0 : ∀ t : Fin cfg0.N, t.val % 2 = 0 → win0_0.index t = ![t.val / 16, 0] := (by decide +kernel : ∀ t : Fin grid0.N, _)
theorem j1 : ∀ t : Fin cfg0.N, t.val % 2 = 0 → win0_1.index t = ![0, t.val / 2 % 8] := (by decide +kernel : ∀ t : Fin grid0.N, _)
theorem l0 : ∀ t : Fin cfg0.N, t.val % 2 = 1 → win0_0.index t = ![t.val / 16, 1] := (by decide +kernel : ∀ t : Fin grid0.N, _)
theorem l1 : ∀ t : Fin cfg0.N, t.val % 2 = 1 → win0_1.index t = ![1, t.val / 2 % 8] := (by decide +kernel : ∀ t : Fin grid0.N, _)
theorem j2 : ∀ t : Fin cfg0.N, win0_2.index t = ![t.val / 16, t.val / 2 % 8] := (by decide +kernel : ∀ t : Fin grid0.N, _)

/-- What an even point leaves in the accumulator. -/
theorem acc_even (c : Dev nD) (t : Fin cfg0.N) (X : S1024x3072.Idx → EReal) (Y : S3072x512.Idx → EReal)
    (hX : iblk m c 0 t = X) (hY : iblk m c 1 t = Y) (h0 : t.val % 2 = 0) (y : S1024x512.Idx) :
    (outsAt0 (F := Ideal) m c t.val t.isLt).2 y = ∑ x : Fin 3072, X (ix2 (y 0) x) * Y (ix2 x (y 1)) := by
  rw [outsAt0_A m c t h0 (by omega) (by omega)]
  unfold sout0_A_0
  frame_out
  unfold k0_pay2 k0_pay1
  pointwise
  subst hX hY
  rfl

/-- What the call leaves in its result array. -/
theorem val (c : Dev nD) (A : S4096x6144.Idx → EReal) (B : S6144x4096.Idx → EReal)
    (hA : V m c main_v2 = A) (hB : V m c main_v1 = B) :
    (dats (F := Ideal) m 0 c).arrAt 2 cfg0.N = fun i : S4096x4096.Idx => ∑ x : Fin 6144, A (ix2 (i 0) x) * B (ix2 x (i 1)) := by
  refine (dats (F := Ideal) m 0 c).arrAt_eq_of_covers 2 _ (by decide +kernel) fun t hf y => ?_
  have hm : t.val % 2 = 1 := (flush0_2 t).mp hf
  blk_simp
  rw [after0_2, outsAt0_B m c t (by omega) hm hm]
  frame_out
  unfold k0_pay3 k0_pay1
  pointwise
  simp only [read_unread_whole]
  have hlt : t.val < 64 := lt_of_lt_of_eq t.isLt N_0
  have hs : t.val - 1 < cfg0.N := Nat.lt_of_le_of_lt (Nat.sub_le _ _) t.isLt
  have hp : (⟨t.val - 1, hs⟩ : Fin cfg0.N).val % 2 = 0 := by dsimp only; omega
  refine (congrArg (· + _) (acc_even m c ⟨t.val - 1, hs⟩ _ _ rfl rfl hp y)).trans ?_
  rw [show (∑ x : Fin 6144, A (ix2 (((win0_2.blk t).view.emb y) 0) x) * B (ix2 x (((win0_2.blk t).view.emb y) 1)))
    = _ from Fin.sum_univ_add (a := 3072) (b := 3072) _]
  blk_simp [iblk, hA, hB]
  have eA : ∀ x : Fin 3072, (win0_0.blk ⟨t.val - 1, hs⟩).view.emb (ix2 (y 0) x) = ix2 (((win0_2.blk t).view.emb y) 0) (Fin.castAdd 3072 x) :=
    fun x => by blk_ext [j0 ⟨t.val - 1, hs⟩ hp, j2]; rfl
  have eB : ∀ x : Fin 3072, (win0_1.blk ⟨t.val - 1, hs⟩).view.emb (ix2 x (y 1)) = ix2 (Fin.castAdd 3072 x) (((win0_2.blk t).view.emb y) 1) :=
    fun x => by blk_ext [j1 ⟨t.val - 1, hs⟩ hp, j2]; rfl
  have fA : ∀ x : Fin 3072, (win0_0.blk t).view.emb (ix2 (y 0) x) = ix2 (((win0_2.blk t).view.emb y) 0) (Fin.natAdd 3072 x) :=
    fun x => by blk_ext [l0 t hm, j2]; rfl
  have fB : ∀ x : Fin 3072, (win0_1.blk t).view.emb (ix2 x (y 1)) = ix2 (Fin.natAdd 3072 x) (((win0_2.blk t).view.emb y) 1) :=
    fun x => by blk_ext [l1 t hm, j2]; rfl
  simp only [eA, eB, fA, fB]
  rfl

theorem V_v1 (c : Dev nD) : (V m c main_v1 : S6144x4096.Idx → EReal)
    = transpose S6144x4096 [1, 0] (m ((c.tc : Thread nD τ).loc main_arg1) : S4096x6144.Idx → EReal) transposes_S4096x6144_S6144x4096_1_0 := by
  show StableHlo.after hostOps0 _ _ = _
  simp only [hostOps0]
  after_results_simp
  rfl

theorem V_v2 (c : Dev nD) : (V m c main_v2 : S4096x6144.Idx → EReal) = m ((c.tc : Thread nD τ).loc main_arg0) := by
  show StableHlo.after hostOps0 _ _ = _
  simp only [hostOps0]
  after_results_simp
  rfl

/-- The gradient of the product. -/
abbrev b0 (c : Dev nD) : S4096x6144.Idx → EReal := m ((c.tc : Thread nD τ).loc main_arg0)
/-- The weight. -/
abbrev b1 (c : Dev nD) : S4096x6144.Idx → EReal := m ((c.tc : Thread nD τ).loc main_arg1)

/-- The call's result, of the program's arguments. -/
theorem result (c : Dev nD) : Cert.Kernel6Ideal.Value.G2 (F := Ideal) m c = fun i : S4096x4096.Idx =>
    ∑ x : Fin 6144, b0 m c (ix2 (i 0) x) * b1 m c (ix2 (i 1) x) := by
  refine ((Cert.Kernel6Ideal.Value.final2 m c).symm.trans (val m c _ _ (V_v2 m c) (V_v1 m c))).trans ?_
  funext i
  refine Finset.sum_congr rfl fun x _ => congrArg (fun z : EReal => b0 m c (ix2 (i 0) x) * z) ?_
  refine transpose_apply [1, 0] _ transposes_S4096x6144_S6144x4096_1_0 (ix2 x (i 1)) (ix2 (i 1) x) fun b => ?_
  match b with
  | ⟨0, _⟩ => rfl
  | ⟨1, _⟩ => rfl

end Cert.Kernel6Ideal.Hand

namespace Cert.Du1

open Idealize.ShloMosaic Idealize.ShloMosaic.TcCoe Idealize.SL.Sem

theorem algebraic : Cert.algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  rw [Cert.Kernel6Ideal.Hand.result]
  funext i
  pointwise

end Cert.Du1

end

end
-- ==== Proof.lean ====
module

public import proofs.«01_k».proof.Defs
public import proofs.«01_k».proof.Proof.Gen.Kernel
public import proofs.«01_k».proof.Proof.Gen.KernelIdeal
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_finite
public import proofs.«01_k».proof.Proof.Run
public import proofs.«01_k».proof.Proof.Same
public import proofs.«01_k».proof.Proof.FfnClaim
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference3Ideal.Read
public import proofs.«01_k».proof.Proof.Gen.Reference4Ideal.Read
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Reference6Ideal.Run
public import proofs.«01_k».proof.Proof.InClaim
public import proofs.«01_k».proof.Proof.OutClaim
public import proofs.«01_k».proof.Proof.Small
public import proofs.«01_k».proof.Proof.Du1

public section
open Idealize.ShloMosaic
namespace Cert.Proof

set_option maxHeartbeats 4000000 in
theorem frame_k : Cert.quiescent_Kernel := fun m ρ _ => by
  rw [Cert.Same.defs_eq, Cert.Same.main_eq]
  exact Cert.KernelIdeal.Hand.frame_args (F := Bits) m ρ
theorem frame_ki : Cert.quiescent_KernelIdeal := fun m ρ _ => Cert.KernelIdeal.Hand.frame_args (F := Ideal) m ρ
theorem frame_r2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)
theorem frame_r2_finite : Cert.quiescent_Reference2Ideal_pre_finite := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)
theorem frame_r4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)
theorem frame_r5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)
theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Everything the certificate states. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts, Cert.Kernel6Ideal.Gen.facts,
    Cert.Reference6Ideal.Gen.facts, Cert.Pre_finite.Gen.facts,
    frame_k, frame_ki, fun m ρ _ => Cert.Kernel2.Gen.frame m ρ, fun m ρ _ => Cert.Kernel2Ideal.Gen.frame m ρ,
    fun m ρ _ => Cert.Kernel2Ideal.Gen.frame m ρ, frame_r2, frame_r2_finite,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    trivial, trivial, Cert.Ffn.algebraic, trivial, Cert.Mm.in_algebraic, trivial, Cert.Mm.out_algebraic, trivial, Cert.Small.algebraic,
    trivial, Cert.Du1.algebraic⟩

end Cert.Proof

end
